-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)) (v6 : (c : Dev Cert.Kernel4Ideal.nD) → Buf (Elt Ideal) ((c.tc : Thread Cert.Kernel4Ideal.nD Cert.Kernel4Ideal.τ).loc Cert.Kernel4Ideal.main_v8_6)) (v7 : (c : Dev Cert.Kernel4Ideal.nD) → Buf (Elt Ideal) ((c.tc : Thread Cert.Kernel4Ideal.nD Cert.Kernel4Ideal.τ).loc Cert.Kernel4Ideal.main_v8_7)) (v8 : (c : Dev Cert.Kernel4Ideal.nD) → Buf (Elt Ideal) ((c.tc : Thread Cert.Kernel4Ideal.nD Cert.Kernel4Ideal.τ).loc Cert.Kernel4Ideal.main_v8_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_v8_6) = v6 c
          ∧ r.2.mem ((c.tc : Thread Cert.Kernel4Ideal.nD Cert.Kernel4Ideal.τ).loc Cert.Kernel4Ideal.main_v8_7) = v7 c
          ∧ r.2.mem ((c.tc : Thread Cert.Kernel4Ideal.nD Cert.Kernel4Ideal.τ).loc Cert.Kernel4Ideal.main_v8_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v34) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_v36) = v6 c
          ∧ r.2.mem ((c.tc : Thread Cert.Reference4Ideal.nD Cert.Reference4Ideal.τ).loc Cert.Reference4Ideal.main_v37) = v7 c
          ∧ r.2.mem ((c.tc : Thread Cert.Reference4Ideal.nD Cert.Reference4Ideal.τ).loc Cert.Reference4Ideal.main_v38) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v8_4)) (v5 : (c : Dev Cert.Kernel6Ideal.nD) → Buf (Elt Ideal) ((c.tc : Thread Cert.Kernel6Ideal.nD Cert.Kernel6Ideal.τ).loc Cert.Kernel6Ideal.main_v8_5)) (v6 : (c : Dev Cert.Kernel6Ideal.nD) → Buf (Elt Ideal) ((c.tc : Thread Cert.Kernel6Ideal.nD Cert.Kernel6Ideal.τ).loc Cert.Kernel6Ideal.main_v8_6)) (v7 : (c : Dev Cert.Kernel6Ideal.nD) → Buf (Elt Ideal) ((c.tc : Thread Cert.Kernel6Ideal.nD Cert.Kernel6Ideal.τ).loc Cert.Kernel6Ideal.main_v8_7)) (v8 : (c : Dev Cert.Kernel6Ideal.nD) → Buf (Elt Ideal) ((c.tc : Thread Cert.Kernel6Ideal.nD Cert.Kernel6Ideal.τ).loc Cert.Kernel6Ideal.main_v8_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v8_4) = v4 c
          ∧ r.2.mem ((c.tc : Thread Cert.Kernel6Ideal.nD Cert.Kernel6Ideal.τ).loc Cert.Kernel6Ideal.main_v8_5) = v5 c
          ∧ r.2.mem ((c.tc : Thread Cert.Kernel6Ideal.nD Cert.Kernel6Ideal.τ).loc Cert.Kernel6Ideal.main_v8_6) = v6 c
          ∧ r.2.mem ((c.tc : Thread Cert.Kernel6Ideal.nD Cert.Kernel6Ideal.τ).loc Cert.Kernel6Ideal.main_v8_7) = v7 c
          ∧ r.2.mem ((c.tc : Thread Cert.Kernel6Ideal.nD Cert.Kernel6Ideal.τ).loc Cert.Kernel6Ideal.main_v8_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v35) = v2 c
          ∧ r.2.mem ((c.tc : Thread Cert.Reference6Ideal.nD Cert.Reference6Ideal.τ).loc Cert.Reference6Ideal.main_v36) = v3 c
          ∧ r.2.mem ((c.tc : Thread Cert.Reference6Ideal.nD Cert.Reference6Ideal.τ).loc Cert.Reference6Ideal.main_v37) = v4 c
          ∧ r.2.mem ((c.tc : Thread Cert.Reference6Ideal.nD Cert.Reference6Ideal.τ).loc Cert.Reference6Ideal.main_v38) = v5 c
          ∧ r.2.mem ((c.tc : Thread Cert.Reference6Ideal.nD Cert.Reference6Ideal.τ).loc Cert.Reference6Ideal.main_v39) = v6 c
          ∧ r.2.mem ((c.tc : Thread Cert.Reference6Ideal.nD Cert.Reference6Ideal.τ).loc Cert.Reference6Ideal.main_v40) = v7 c
          ∧ r.2.mem ((c.tc : Thread Cert.Reference6Ideal.nD Cert.Reference6Ideal.τ).loc Cert.Reference6Ideal.main_v41) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)) (v3 : (c : Dev Cert.Kernel9Ideal.nD) → Buf (Elt Ideal) ((c.tc : Thread Cert.Kernel9Ideal.nD Cert.Kernel9Ideal.τ).loc Cert.Kernel9Ideal.main_v8_3)) (v4 : (c : Dev Cert.Kernel9Ideal.nD) → Buf (Elt Ideal) ((c.tc : Thread Cert.Kernel9Ideal.nD Cert.Kernel9Ideal.τ).loc Cert.Kernel9Ideal.main_v8_4)) (v5 : (c : Dev Cert.Kernel9Ideal.nD) → Buf (Elt Ideal) ((c.tc : Thread Cert.Kernel9Ideal.nD Cert.Kernel9Ideal.τ).loc Cert.Kernel9Ideal.main_v8_5)) (v6 : (c : Dev Cert.Kernel9Ideal.nD) → Buf (Elt Ideal) ((c.tc : Thread Cert.Kernel9Ideal.nD Cert.Kernel9Ideal.τ).loc Cert.Kernel9Ideal.main_v8_6)) (v7 : (c : Dev Cert.Kernel9Ideal.nD) → Buf (Elt Ideal) ((c.tc : Thread Cert.Kernel9Ideal.nD Cert.Kernel9Ideal.τ).loc Cert.Kernel9Ideal.main_v8_7)) (v8 : (c : Dev Cert.Kernel9Ideal.nD) → Buf (Elt Ideal) ((c.tc : Thread Cert.Kernel9Ideal.nD Cert.Kernel9Ideal.τ).loc Cert.Kernel9Ideal.main_v8_8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_v8_3) = v3 c
          ∧ r.2.mem ((c.tc : Thread Cert.Kernel9Ideal.nD Cert.Kernel9Ideal.τ).loc Cert.Kernel9Ideal.main_v8_4) = v4 c
          ∧ r.2.mem ((c.tc : Thread Cert.Kernel9Ideal.nD Cert.Kernel9Ideal.τ).loc Cert.Kernel9Ideal.main_v8_5) = v5 c
          ∧ r.2.mem ((c.tc : Thread Cert.Kernel9Ideal.nD Cert.Kernel9Ideal.τ).loc Cert.Kernel9Ideal.main_v8_6) = v6 c
          ∧ r.2.mem ((c.tc : Thread Cert.Kernel9Ideal.nD Cert.Kernel9Ideal.τ).loc Cert.Kernel9Ideal.main_v8_7) = v7 c
          ∧ r.2.mem ((c.tc : Thread Cert.Kernel9Ideal.nD Cert.Kernel9Ideal.τ).loc Cert.Kernel9Ideal.main_v8_8) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_v33) = v3 c
          ∧ r.2.mem ((c.tc : Thread Cert.Reference9Ideal.nD Cert.Reference9Ideal.τ).loc Cert.Reference9Ideal.main_v34) = v4 c
          ∧ r.2.mem ((c.tc : Thread Cert.Reference9Ideal.nD Cert.Reference9Ideal.τ).loc Cert.Reference9Ideal.main_v35) = v5 c
          ∧ r.2.mem ((c.tc : Thread Cert.Reference9Ideal.nD Cert.Reference9Ideal.τ).loc Cert.Reference9Ideal.main_v36) = v6 c
          ∧ r.2.mem ((c.tc : Thread Cert.Reference9Ideal.nD Cert.Reference9Ideal.τ).loc Cert.Reference9Ideal.main_v37) = v7 c
          ∧ r.2.mem ((c.tc : Thread Cert.Reference9Ideal.nD Cert.Reference9Ideal.τ).loc Cert.Reference9Ideal.main_v38) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)) (v2 : (c : Dev Cert.Kernel10Ideal.nD) → Buf (Elt Ideal) ((c.tc : Thread Cert.Kernel10Ideal.nD Cert.Kernel10Ideal.τ).loc Cert.Kernel10Ideal.main_v11_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_v11_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v27) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v43) = v0 c
          ∧ r.2.mem ((c.tc : Thread Cert.Reference12Ideal.nD Cert.Reference12Ideal.τ).loc Cert.Reference12Ideal.main_v44) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8x2048x256 : Shape := ⟨3, ![8, 2048, 256]⟩
abbrev S8x2048x512 : Shape := ⟨3, ![8, 2048, 512]⟩
abbrev S8x2048x128 : Shape := ⟨3, ![8, 2048, 128]⟩
abbrev S8x2x128x256 : Shape := ⟨4, ![8, 2, 128, 256]⟩
abbrev S16x256 : Shape := ⟨2, ![16, 256]⟩
abbrev S256 : Shape := ⟨1, ![256]⟩
abbrev S512 : Shape := ⟨1, ![512]⟩
abbrev S_ : Shape := ⟨0, ![]⟩
abbrev S2x128x256 : Shape := ⟨3, ![2, 128, 256]⟩
abbrev S1 : Shape := ⟨1, ![1]⟩
abbrev S2 : Shape := ⟨1, ![2]⟩
abbrev S1x256 : Shape := ⟨2, ![1, 256]⟩
abbrev S2x256 : Shape := ⟨2, ![2, 256]⟩
abbrev S2x1x256 : Shape := ⟨3, ![2, 1, 256]⟩
abbrev S1x512 : Shape := ⟨2, ![1, 512]⟩
abbrev S1x2048x256 : Shape := ⟨3, ![1, 2048, 256]⟩
abbrev S1x2048x512 : Shape := ⟨3, ![1, 2048, 512]⟩
abbrev S1x2048x128 : Shape := ⟨3, ![1, 2048, 128]⟩
abbrev S1x2x128x256 : Shape := ⟨4, ![1, 2, 128, 256]⟩
abbrev S2x2048x512 : Shape := ⟨3, ![2, 2048, 512]⟩
abbrev S64x64 : Shape := ⟨2, ![64, 64]⟩
abbrev S256x64 : Shape := ⟨2, ![256, 64]⟩
abbrev S1x64x128 : Shape := ⟨3, ![1, 64, 128]⟩
abbrev S64x128 : Shape := ⟨2, ![64, 128]⟩
abbrev S1x128x256 : Shape := ⟨3, ![1, 128, 256]⟩
abbrev S128x256 : Shape := ⟨2, ![128, 256]⟩
abbrev S64x256 : Shape := ⟨2, ![64, 256]⟩
abbrev S1x1x256 : Shape := ⟨3, ![1, 1, 256]⟩
abbrev S1x64x256 : Shape := ⟨3, ![1, 64, 256]⟩
abbrev S1x64x512 : Shape := ⟨3, ![1, 64, 512]⟩
abbrev S64x512 : Shape := ⟨2, ![64, 512]⟩
abbrev S256x256 : Shape := ⟨2, ![256, 256]⟩
abbrev S256x128 : Shape := ⟨2, ![256, 128]⟩
abbrev S512x256 : Shape := ⟨2, ![512, 256]⟩
abbrev S1x256x512 : Shape := ⟨3, ![1, 256, 512]⟩
abbrev S256x512 : Shape := ⟨2, ![256, 512]⟩
abbrev S1x128 : Shape := ⟨2, ![1, 128]⟩
abbrev S256x1 : Shape := ⟨2, ![256, 1]⟩
abbrev S1x256x128 : Shape := ⟨3, ![1, 256, 128]⟩

abbrev nBuf : Space → Nat
  | .hbm => 32
  | .vmem => 19
  | .smem => 0
  | _ => 0

abbrev bufTy : (tb : Table) → Fin (tcTables nBuf tb) → BufTy
  | .hbm, ⟨0, _⟩ => ⟨S8x2048x256, .bf16⟩
  | .hbm, ⟨1, _⟩ => ⟨S8x2048x512, .bf16⟩
  | .hbm, ⟨2, _⟩ => ⟨S8x2048x128, .bf16⟩
  | .hbm, ⟨3, _⟩ => ⟨S8x2048x256, .bf16⟩
  | .hbm, ⟨4, _⟩ => ⟨S8x2048x512, .bf16⟩
  | .hbm, ⟨5, _⟩ => ⟨S8x2x128x256, .f32⟩
  | .hbm, ⟨6, _⟩ => ⟨S16x256, .f32⟩
  | .hbm, ⟨7, _⟩ => ⟨S256, .f32⟩
  | .hbm, ⟨8, _⟩ => ⟨S16x256, .f32⟩
  | .hbm, ⟨9, _⟩ => ⟨S256, .f32⟩
  | .hbm, ⟨10, _⟩ => ⟨S512, .f32⟩
  | .hbm, ⟨11, _⟩ => ⟨S_, .f32⟩
  | .hbm, ⟨12, _⟩ => ⟨S2x128x256, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S2x128x256, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S2x128x256, .f32⟩
  | .hbm, ⟨25, _⟩ => ⟨S2x128x256, .bf16⟩
  | .hbm, ⟨26, _⟩ => ⟨S1x256, .f32⟩
  | .hbm, ⟨27, _⟩ => ⟨S1x256, .f32⟩
  | .hbm, ⟨28, _⟩ => ⟨S2x256, .f32⟩
  | .hbm, ⟨29, _⟩ => ⟨S2x1x256, .f32⟩
  | .hbm, ⟨30, _⟩ => ⟨S1x512, .f32⟩
  | .hbm, ⟨31, _⟩ => ⟨S8x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x128x256, .bf16⟩
  | .local _ .vmem, ⟨7, _⟩ => ⟨S2x1x256, .f32⟩
  | .local _ .vmem, ⟨8, _⟩ => ⟨S1x2x128x256, .f32⟩
  | .local _ .vmem, ⟨9, _⟩ => ⟨S1x2x128x256, .f32⟩
  | .local _ .vmem, ⟨10, _⟩ => ⟨S1x2048x256, .bf16⟩
  | .local _ .vmem, ⟨11, _⟩ => ⟨S1x2048x256, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x512, .f32⟩
  | .local _ .vmem, ⟨15, _⟩ => ⟨S1x2048x512, .bf16⟩
  | .local _ .vmem, ⟨16, _⟩ => ⟨S1x2048x512, .bf16⟩
  | .local _ .vmem, ⟨17, _⟩ => ⟨S2x128x256, .f32⟩
  | .local _ .vmem, ⟨18, _⟩ => ⟨S2x2048x512, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_21 : BitVec 32 := 0#32
  let c32_i32 : BitVec 32 := 32#32
  let v70 : BitVec 32 := Scalar.addi c0_i32_21 c32_i32
  let c1_i32_22 : BitVec 32 := 1#32
  ⟨c0_i32_21, v70, c1_i32_22⟩
def k0_mult1 (k0_t1 : Fin k0_t1_loop.trips) : BitVec 32 :=
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  v72
def k0_off1 (k0_t1 : Fin k0_t1_loop.trips) : Fin 3 → Nat :=
  let c0_28 : Index := 0#32
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  let v73 : BitVec 32 := v72
  let v74 : Index := Scalar.indexCast v73
  let c0_29 : Index := 0#32
  ![0, v74.toNat, 0]
def k0_off2 (k0_t1 : Fin k0_t1_loop.trips) : Fin 3 → Nat :=
  let c0_42 : Index := 0#32
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  let v73 : BitVec 32 := v72
  let v102 : Index := Scalar.indexCast v73
  let c0_43 : Index := 0#32
  ![0, v102.toNat, 0]
def k0_off3 (k0_t1 : Fin k0_t1_loop.trips) : Fin 3 → Nat :=
  let c0_44 : Index := 0#32
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  let v73 : BitVec 32 := v72
  let v106 : Index := Scalar.indexCast v73
  let c0_45 : Index := 0#32
  ![0, v106.toNat, 0]
def k0_off4 (k0_t1 : Fin k0_t1_loop.trips) : Fin 3 → Nat :=
  let c0_58 : Index := 0#32
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  let v73 : BitVec 32 := v72
  let v170 : Index := Scalar.indexCast v73
  let c0_59 : Index := 0#32
  ![0, v170.toNat, 0]
def k0_off5 (k0_t1 : Fin k0_t1_loop.trips) : Fin 3 → Nat :=
  let c0_61 : Index := 0#32
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  let v73 : BitVec 32 := v72
  let v179 : Index := Scalar.indexCast v73
  let c128 : Index := 128#32
  ![0, v179.toNat, 128]
def k0_off6 (k0_t1 : Fin k0_t1_loop.trips) : Fin 3 → Nat :=
  let c0_63 : Index := 0#32
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  let v73 : BitVec 32 := v72
  let v188 : Index := Scalar.indexCast v73
  let c256 : Index := 256#32
  ![0, v188.toNat, 256]
def k0_off7 (k0_t1 : Fin k0_t1_loop.trips) : Fin 3 → Nat :=
  let c0_65 : Index := 0#32
  let c0_i32_21 : BitVec 32 := 0#32
  let c1_i32_22 : BitVec 32 := 1#32
  let arg13 : BitVec 32 := Scf.iv c0_i32_21 c1_i32_22 k0_t1
  let c64_i32_27 : BitVec 32 := 64#32
  let v72 : BitVec 32 := Scalar.muli arg13 c64_i32_27
  let v73 : BitVec 32 := v72
  let v197 : Index := Scalar.indexCast v73
  let c384 : Index := 384#32
  ![0, v197.toNat, 384]
def k0_mult2 (k0_t1 : Fin k0_t1_loop.trips) : BitVec 32 :=
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  v232
def k0_off8 (k0_t1 : Fin k0_t1_loop.trips) : Fin 3 → Nat :=
  let c0_72 : Index := 0#32
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  let v233 : BitVec 32 := v232
  let v234 : Index := Scalar.indexCast v233
  let c0_73 : Index := 0#32
  ![0, v234.toNat, 0]
def k0_off9 (k0_t1 : Fin k0_t1_loop.trips) : Fin 3 → Nat :=
  let c0_85 : Index := 0#32
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  let v233 : BitVec 32 := v232
  let v262 : Index := Scalar.indexCast v233
  let c0_86 : Index := 0#32
  ![0, v262.toNat, 0]
def k0_off10 (k0_t1 : Fin k0_t1_loop.trips) : Fin 3 → Nat :=
  let c0_87 : Index := 0#32
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  let v233 : BitVec 32 := v232
  let v266 : Index := Scalar.indexCast v233
  let c0_88 : Index := 0#32
  ![0, v266.toNat, 0]
def k0_off11 (k0_t1 : Fin k0_t1_loop.trips) : Fin 3 → Nat :=
  let c1_101 : Index := 1#32
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  let v233 : BitVec 32 := v232
  let v330 : Index := Scalar.indexCast v233
  let c0_102 : Index := 0#32
  ![1, v330.toNat, 0]
def k0_off12 (k0_t1 : Fin k0_t1_loop.trips) : Fin 3 → Nat :=
  let c1_104 : Index := 1#32
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  let v233 : BitVec 32 := v232
  let v339 : Index := Scalar.indexCast v233
  let c128_105 : Index := 128#32
  ![1, v339.toNat, 128]
def k0_off13 (k0_t1 : Fin k0_t1_loop.trips) : Fin 3 → Nat :=
  let c1_107 : Index := 1#32
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  let v233 : BitVec 32 := v232
  let v348 : Index := Scalar.indexCast v233
  let c256_108 : Index := 256#32
  ![1, v348.toNat, 256]
def k0_off14 (k0_t1 : Fin k0_t1_loop.trips) : Fin 3 → Nat :=
  let c1_110 : Index := 1#32
  let c31_i32 : BitVec 32 := 31#32
  let c0_i32_21 : BitVec 32 := 0#32
  let c1_i32_22 : BitVec 32 := 1#32
  let arg13 : BitVec 32 := Scf.iv c0_i32_21 c1_i32_22 k0_t1
  let v231 : BitVec 32 := Scalar.subi c31_i32 arg13
  let c64_i32_71 : BitVec 32 := 64#32
  let v232 : BitVec 32 := Scalar.muli v231 c64_i32_71
  let v233 : BitVec 32 := v232
  let v357 : Index := Scalar.indexCast v233
  let c384_111 : Index := 384#32
  ![1, v357.toNat, 384]
@[reducible] def k0_t2_loop : Scf.Loop 32 :=
  let c0_i32_24 : BitVec 32 := 0#32
  let c8_i32 : BitVec 32 := 8#32
  let v71 : BitVec 32 := Scalar.addi c0_i32_24 c8_i32
  let c1_i32_25 : BitVec 32 := 1#32
  ⟨c0_i32_24, v71, c1_i32_25⟩
def k0_mult3 (k0_t2 : Fin k0_t2_loop.trips) : BitVec 32 :=
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  v72
def k0_off15 (k0_t2 : Fin k0_t2_loop.trips) : Fin 3 → Nat :=
  let c0_27 : Index := 0#32
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  let v73 : BitVec 32 := v72
  let v74 : Index := Scalar.indexCast v73
  let c0_28 : Index := 0#32
  ![0, v74.toNat, 0]
def k0_off16 (k0_t2 : Fin k0_t2_loop.trips) : Fin 3 → Nat :=
  let c1 : Index := 1#32
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  let v73 : BitVec 32 := v72
  let v77 : Index := Scalar.indexCast v73
  let c0_29 : Index := 0#32
  ![1, v77.toNat, 0]
def k0_off17 (k0_t2 : Fin k0_t2_loop.trips) : Fin 3 → Nat :=
  let c0_30 : Index := 0#32
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  let v73 : BitVec 32 := v72
  let v81 : Index := Scalar.indexCast v73
  let c0_31 : Index := 0#32
  ![0, v81.toNat, 0]
def k0_off18 (k0_t2 : Fin k0_t2_loop.trips) : Fin 3 → Nat :=
  let c0_39 : Index := 0#32
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  let v73 : BitVec 32 := v72
  let v109 : Index := Scalar.indexCast v73
  let c0_40 : Index := 0#32
  ![0, v109.toNat, 0]
def k0_off19 (k0_t2 : Fin k0_t2_loop.trips) : Fin 3 → Nat :=
  let c0_45 : Index := 0#32
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  let v73 : BitVec 32 := v72
  let v131 : Index := Scalar.indexCast v73
  let c128_46 : Index := 128#32
  ![0, v131.toNat, 128]
def k0_off20 (k0_t2 : Fin k0_t2_loop.trips) : Fin 3 → Nat :=
  let c0_51 : Index := 0#32
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  let v73 : BitVec 32 := v72
  let v153 : Index := Scalar.indexCast v73
  let c256_52 : Index := 256#32
  ![0, v153.toNat, 256]
def k0_off21 (k0_t2 : Fin k0_t2_loop.trips) : Fin 3 → Nat :=
  let c0_57 : Index := 0#32
  let c0_i32_24 : BitVec 32 := 0#32
  let c1_i32_25 : BitVec 32 := 1#32
  let arg13 : BitVec 32 := Scf.iv c0_i32_24 c1_i32_25 k0_t2
  let c256_i32 : BitVec 32 := 256#32
  let v72 : BitVec 32 := Scalar.muli arg13 c256_i32
  let v73 : BitVec 32 := v72
  let v175 : Index := Scalar.indexCast v73
  let c384_58 : Index := 384#32
  ![0, v175.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x2048x256 : Shape := ⟨3, ![8, 2048, 256]⟩
abbrev S8x2048x512 : Shape := ⟨3, ![8, 2048, 512]⟩
abbrev S8x2048x128 : Shape := ⟨3, ![8, 2048, 128]⟩
abbrev S8x2x128x256 : Shape := ⟨4, ![8, 2, 128, 256]⟩
abbrev S16x256 : Shape := ⟨2, ![16, 256]⟩
abbrev S256 : Shape := ⟨1, ![256]⟩
abbrev S512 : Shape := ⟨1, ![512]⟩
abbrev S8x2048x16 : Shape := ⟨3, ![8, 2048, 16]⟩
abbrev S8x2048x4x64 : Shape := ⟨4, ![8, 2048, 4, 64]⟩
abbrev S8x2048x4x128 : Shape := ⟨4, ![8, 2048, 4, 128]⟩
abbrev S_ : Shape := ⟨0, ![]⟩
abbrev S8x1x128x256 : Shape := ⟨4, ![8, 1, 128, 256]⟩
abbrev S8x128x256 : Shape := ⟨3, ![8, 128, 256]⟩
abbrev S8x128x4x64 : Shape := ⟨4, ![8, 128, 4, 64]⟩
abbrev S8x4x64x128 : Shape := ⟨4, ![8, 4, 64, 128]⟩
abbrev S1x1x256 : Shape := ⟨3, ![1, 1, 256]⟩
abbrev S16x2048x256 : Shape := ⟨3, ![16, 2048, 256]⟩
abbrev S16x2048x4x64 : Shape := ⟨4, ![16, 2048, 4, 64]⟩
abbrev S16x2048x4x128 : Shape := ⟨4, ![16, 2048, 4, 128]⟩
abbrev S16x4x64x128 : Shape := ⟨4, ![16, 4, 64, 128]⟩
abbrev S64x64 : Shape := ⟨2, ![64, 64]⟩
abbrev S16x32x64x4x64 : Shape := ⟨5, ![16, 32, 64, 4, 64]⟩
abbrev S32x16x64x4x64 : Shape := ⟨5, ![32, 16, 64, 4, 64]⟩
abbrev S16x32x64x4x128 : Shape := ⟨5, ![16, 32, 64, 4, 128]⟩
abbrev S32x16x64x4x128 : Shape := ⟨5, ![32, 16, 64, 4, 128]⟩
abbrev S1x16x64x4x64 : Shape := ⟨5, ![1, 16, 64, 4, 64]⟩
abbrev S16x64x4x64 : Shape := ⟨4, ![16, 64, 4, 64]⟩
abbrev S1x16x64x4x128 : Shape := ⟨5, ![1, 16, 64, 4, 128]⟩
abbrev S16x64x4x128 : Shape := ⟨4, ![16, 64, 4, 128]⟩
abbrev S16x1x4x64 : Shape := ⟨4, ![16, 1, 4, 64]⟩
abbrev S16x4x64 : Shape := ⟨3, ![16, 4, 64]⟩
abbrev S16x4x64x64 : Shape := ⟨4, ![16, 4, 64, 64]⟩
abbrev S16x4x128x64 : Shape := ⟨4, ![16, 4, 128, 64]⟩
abbrev S16x4x64x1 : Shape := ⟨4, ![16, 4, 64, 1]⟩
abbrev S8x2048x4 : Shape := ⟨3, ![8, 2048, 4]⟩
abbrev S8x2048x4x1 : Shape := ⟨4, ![8, 2048, 4, 1]⟩
abbrev S4x128 : Shape := ⟨2, ![4, 128]⟩
abbrev S1x1x4x128 : Shape := ⟨4, ![1, 1, 4, 128]⟩

abbrev nBuf : Space → Nat
  | .hbm => 196
  | .vmem => 0
  | .smem => 0
  | _ => 0

abbrev hbmTy0_0 (i : Nat) : BufTy := match i % 128 with
  | 0 => ⟨S8x2048x256, .bf16⟩
  | 1 => ⟨S8x2048x512, .bf16⟩
  | 2 => ⟨S8x2048x128, .bf16⟩
  | 3 => ⟨S8x2048x256, .bf16⟩
  | 4 => ⟨S8x2048x512, .bf16⟩
  | 5 => ⟨S8x2x128x256, .f32⟩
  | 6 => ⟨S16x256, .f32⟩
  | 7 => ⟨S256, .f32⟩
  | 8 => ⟨S16x256, .f32⟩
  | 9 => ⟨S256, .f32⟩
  | 10 => ⟨S512, .f32⟩
  | 11 => ⟨S8x2048x256, .f32⟩
  | 12 => ⟨S8x2048x512, .f32⟩
  | 13 => ⟨S8x2048x128, .f32⟩
  | 14 => ⟨S8x2048x256, .f32⟩
  | 15 => ⟨S8x2048x16, .f32⟩
  | 16 => ⟨S8x2048x16, .f32⟩
  | 17 => ⟨S8x2048x4x64, .f32⟩
  | 18 => ⟨S8x2048x4x128, .f32⟩
  | 19 => ⟨S8x2048x4x64, .f32⟩
  | 20 => ⟨S_, .f32⟩
  | 21 => ⟨S8x2048x4x64, .f32⟩
  | 22 => ⟨S8x2048x4x64, .f32⟩
  | 23 => ⟨S8x1x128x256, .f32⟩
  | 24 => ⟨S8x128x256, .f32⟩
  | 25 => ⟨S8x128x4x64, .f32⟩
  | 26 => ⟨S8x4x64x128, .f32⟩
  | 27 => ⟨S8x1x128x256, .f32⟩
  | 28 => ⟨S8x128x256, .f32⟩
  | 29 => ⟨S8x128x4x64, .f32⟩
  | 30 => ⟨S8x4x64x128, .f32⟩
  | 31 => ⟨S8x2048x256, .f32⟩
  | 32 => ⟨S1x1x256, .f32⟩
  | 33 => ⟨S8x2048x256, .f32⟩
  | 34 => ⟨S8x2048x256, .f32⟩
  | 35 => ⟨S8x2048x256, .f32⟩
  | 36 => ⟨S1x1x256, .f32⟩
  | 37 => ⟨S8x2048x256, .f32⟩
  | 38 => ⟨S8x2048x256, .f32⟩
  | 39 => ⟨S8x2048x256, .f32⟩
  | 40 => ⟨S16x2048x256, .f32⟩
  | 41 => ⟨S16x2048x256, .f32⟩
  | 42 => ⟨S16x2048x256, .f32⟩
  | 43 => ⟨S16x2048x256, .f32⟩
  | 44 => ⟨S16x2048x256, .f32⟩
  | 45 => ⟨S_, .f32⟩
  | 46 => ⟨S16x2048x256, .f32⟩
  | 47 => ⟨S16x2048x256, .f32⟩
  | 48 => ⟨S16x2048x4x64, .f32⟩
  | 49 => ⟨S8x2048x4x64, .f32⟩
  | 50 => ⟨S16x2048x4x64, .f32⟩
  | 51 => ⟨S8x2048x4x64, .f32⟩
  | 52 => ⟨S16x2048x4x64, .f32⟩
  | 53 => ⟨S8x2048x4x128, .f32⟩
  | 54 => ⟨S16x2048x4x128, .f32⟩
  | 55 => ⟨S16x4x64x128, .f32⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S16x32x64x4x64, .f32⟩
  | 68 => ⟨S32x16x64x4x64, .f32⟩
  | 69 => ⟨S16x32x64x4x64, .f32⟩
  | 70 => ⟨S32x16x64x4x64, .f32⟩
  | 71 => ⟨S16x32x64x4x128, .f32⟩
  | 72 => ⟨S32x16x64x4x128, .f32⟩
  | 73 => ⟨S16x32x64x4x64, .f32⟩
  | 74 => ⟨S32x16x64x4x64, .f32⟩
  | 75 => ⟨S_, .f32⟩
  | 76 => ⟨S32x16x64x4x128, .f32⟩
  | 77 => ⟨S_, .i32⟩
  | 78 => ⟨S32x16x64x4x64, .f32⟩
  | 79 => ⟨S32x16x64x4x64, .f32⟩
  | 80 => ⟨S32x16x64x4x128, .f32⟩
  | 81 => ⟨S32x16x64x4x64, .f32⟩
  | 82 => ⟨S64x64, .i1⟩
  | 83 => ⟨S_, .i32⟩
  | 84 => ⟨S16x4x64x128, .f32⟩
  | 85 => ⟨S32x16x64x4x128, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x16x64x4x64, .f32⟩
  | 93 => ⟨S16x64x4x64, .f32⟩
  | 94 => ⟨S_, .i32⟩
  | 95 => ⟨S_, .i32⟩
  | 96 => ⟨S_, .i32⟩
  | 97 => ⟨S_, .i32⟩
  | 98 => ⟨S1x16x64x4x64, .f32⟩
  | 99 => ⟨S16x64x4x64, .f32⟩
  | 100 => ⟨S_, .i32⟩
  | 101 => ⟨S_, .i32⟩
  | 102 => ⟨S_, .i32⟩
  | 103 => ⟨S_, .i32⟩
  | 104 => ⟨S1x16x64x4x128, .f32⟩
  | 105 => ⟨S16x64x4x128, .f32⟩
  | 106 => ⟨S_, .i32⟩
  | 107 => ⟨S_, .i32⟩
  | 108 => ⟨S_, .i32⟩
  | 109 => ⟨S_, .i32⟩
  | 110 => ⟨S1x16x64x4x64, .f32⟩
  | 111 => ⟨S16x64x4x64, .f32⟩
  | 112 => ⟨S_, .f32⟩
  | 113 => ⟨S_, .f32⟩
  | 114 => ⟨S16x64x4x64, .f32⟩
  | 115 => ⟨S16x1x4x64, .f32⟩
  | 116 => ⟨S16x4x64, .f32⟩
  | 117 => ⟨S16x1x4x64, .f32⟩
  | 118 => ⟨S16x4x64, .f32⟩
  | 119 => ⟨S16x1x4x64, .f32⟩
  | 120 => ⟨S16x64x4x64, .f32⟩
  | 121 => ⟨S16x64x4x64, .f32⟩
  | 122 => ⟨S16x64x4x64, .f32⟩
  | 123 => ⟨S16x64x4x64, .f32⟩
  | 124 => ⟨S16x64x4x64, .f32⟩
  | 125 => ⟨S16x64x4x64, .f32⟩
  | 126 => ⟨S16x64x4x64, .f32⟩
  | 127 => ⟨S16x64x4x64, .f32⟩
  | _ => ⟨S8x2048x256, .bf16⟩

abbrev hbmTy0_1 (i : Nat) : BufTy := match i % 128 with
  | 0 => ⟨S16x4x64x64, .f32⟩
  | 1 => ⟨S_, .f32⟩
  | 2 => ⟨S_, .f32⟩
  | 3 => ⟨S16x4x64x64, .i1⟩
  | 4 => ⟨S16x4x64x64, .f32⟩
  | 5 => ⟨S16x4x64x64, .f32⟩
  | 6 => ⟨S16x4x128x64, .f32⟩
  | 7 => ⟨S16x64x4x128, .f32⟩
  | 8 => ⟨S16x64x4x64, .f32⟩
  | 9 => ⟨S16x64x4x64, .f32⟩
  | 10 => ⟨S16x4x128x64, .f32⟩
  | 11 => ⟨S16x64x4x128, .f32⟩
  | 12 => ⟨S16x1x4x64, .f32⟩
  | 13 => ⟨S16x64x4x64, .f32⟩
  | 14 => ⟨S16x64x4x64, .f32⟩
  | 15 => ⟨S16x64x4x64, .f32⟩
  | 16 => ⟨S16x64x4x64, .f32⟩
  | 17 => ⟨S16x4x64x128, .f32⟩
  | 18 => ⟨S16x4x64, .f32⟩
  | 19 => ⟨S16x4x64x1, .f32⟩
  | 20 => ⟨S16x4x64x128, .f32⟩
  | 21 => ⟨S16x4x64x128, .f32⟩
  | 22 => ⟨S16x4x64x128, .f32⟩
  | 23 => ⟨S16x64x4x128, .f32⟩
  | 24 => ⟨S1x16x64x4x128, .f32⟩
  | 25 => ⟨S_, .i32⟩
  | 26 => ⟨S_, .i32⟩
  | 27 => ⟨S_, .i32⟩
  | 28 => ⟨S_, .i32⟩
  | 29 => ⟨S32x16x64x4x128, .f32⟩
  | 30 => ⟨S_, .i32⟩
  | 31 => ⟨S_, .i32⟩
  | 32 => ⟨S16x32x64x4x128, .f32⟩
  | 33 => ⟨S16x2048x4x128, .f32⟩
  | 34 => ⟨S8x2048x4x128, .f32⟩
  | 35 => ⟨S8x2048x4x128, .f32⟩
  | 36 => ⟨S8x2048x4x128, .f32⟩
  | 37 => ⟨S8x2048x4x128, .f32⟩
  | 38 => ⟨S8x2048x4x128, .f32⟩
  | 39 => ⟨S_, .f32⟩
  | 40 => ⟨S8x2048x4, .f32⟩
  | 41 => ⟨S8x2048x4x1, .f32⟩
  | 42 => ⟨S_, .f32⟩
  | 43 => ⟨S8x2048x4x1, .f32⟩
  | 44 => ⟨S8x2048x4x1, .f32⟩
  | 45 => ⟨S_, .f32⟩
  | 46 => ⟨S8x2048x4x1, .f32⟩
  | 47 => ⟨S8x2048x4x1, .f32⟩
  | 48 => ⟨S8x2048x4x1, .f32⟩
  | 49 => ⟨S8x2048x4x128, .f32⟩
  | 50 => ⟨S8x2048x4x128, .f32⟩
  | 51 => ⟨S4x128, .f32⟩
  | 52 => ⟨S1x1x4x128, .f32⟩
  | 53 => ⟨S8x2048x4x128, .f32⟩
  | 54 => ⟨S8x2048x4x128, .f32⟩
  | 55 => ⟨S8x2048x512, .f32⟩
  | 56 => ⟨S8x2048x512, .f32⟩
  | 57 => ⟨S8x2048x512, .f32⟩
  | 58 => ⟨S8x2048x512, .f32⟩
  | 59 => ⟨S_, .f32⟩
  | 60 => ⟨S8x2048x512, .f32⟩
  | 61 => ⟨S8x2048x512, .f32⟩
  | 62 => ⟨S_, .f32⟩
  | 63 => ⟨S8x2048x512, .f32⟩
  | 64 => ⟨S8x2048x512, .f32⟩
  | 65 => ⟨S8x2048x512, .f32⟩
  | 66 => ⟨S8x2048x512, .f32⟩
  | 67 => ⟨S8x2048x512, .bf16⟩
  | _ => ⟨S8x2048x256, .bf16⟩

abbrev hbmTy (i : Nat) : BufTy := match i / 128 with
  | 0 => hbmTy0_0 i
  | 1 => hbmTy0_1 i
  | _ => ⟨S8x2048x256, .bf16⟩

abbrev bufTy : (tb : Table) → Fin (tcTables nBuf tb) → BufTy
  | .hbm, ⟨i, _⟩ => hbmTy i
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_v43 : Ref sig .tc := ⟨.hbm, 57, rfl⟩
abbrev main_call4_v0 : Ref sig .tc := ⟨.hbm, 58, rfl⟩
abbrev main_call4_c : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_c_0 : Ref sig .tc := ⟨.hbm, 64, rfl⟩
abbrev main_call4_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_1 : Ref sig .tc := ⟨.hbm, 75, rfl⟩
abbrev main_v53 : Ref sig .tc := ⟨.hbm, 76, rfl⟩
abbrev main_c_2 : Ref sig .tc := ⟨.hbm, 77, rfl⟩
abbrev main_v54_0 : Ref sig .tc := ⟨.hbm, 78, rfl⟩
abbrev main_v54_1 : Ref sig .tc := ⟨.hbm, 79, rfl⟩
abbrev main_v54_2 : Ref sig .tc := ⟨.hbm, 80, rfl⟩
abbrev main_v54_3 : Ref sig .tc := ⟨.hbm, 81, rfl⟩
abbrev main_v54_4 : Ref sig .tc := ⟨.hbm, 82, rfl⟩
abbrev main_v54_5 : Ref sig .tc := ⟨.hbm, 83, rfl⟩
abbrev main_v54_6 : Ref sig .tc := ⟨.hbm, 84, rfl⟩
abbrev main_v54_7 : Ref sig .tc := ⟨.hbm, 85, rfl⟩
abbrev main_while0c_c_13 : Ref sig .tc := ⟨.hbm, 86, rfl⟩
abbrev main_while0c_v80 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_c_2 : Ref sig .tc := ⟨.hbm, 91, rfl⟩
abbrev main_while0b_call5_v0 : Ref sig .tc := ⟨.hbm, 92, rfl⟩
abbrev main_while0b_v80 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_call6_c_1 : Ref sig .tc := ⟨.hbm, 96, rfl⟩
abbrev main_while0b_call6_c_2 : Ref sig .tc := ⟨.hbm, 97, rfl⟩
abbrev main_while0b_call6_v0 : Ref sig .tc := ⟨.hbm, 98, rfl⟩
abbrev main_while0b_v81 : Ref sig .tc := ⟨.hbm, 99, rfl⟩
abbrev main_while0b_call7_c : Ref sig .tc := ⟨.hbm, 100, rfl⟩
abbrev main_while0b_call7_c_0 : Ref sig .tc := ⟨.hbm, 101, rfl⟩
abbrev main_while0b_call7_c_1 : Ref sig .tc := ⟨.hbm, 102, rfl⟩
abbrev main_while0b_call7_c_2 : Ref sig .tc := ⟨.hbm, 103, rfl⟩
abbrev main_while0b_call7_v0 : Ref sig .tc := ⟨.hbm, 104, rfl⟩
abbrev main_while0b_v82 : Ref sig .tc := ⟨.hbm, 105, rfl⟩
abbrev main_while0b_call8_c : Ref sig .tc := ⟨.hbm, 106, rfl⟩
abbrev main_while0b_call8_c_0 : Ref sig .tc := ⟨.hbm, 107, rfl⟩
abbrev main_while0b_call8_c_1 : Ref sig .tc := ⟨.hbm, 108, rfl⟩
abbrev main_while0b_call8_c_2 : Ref sig .tc := ⟨.hbm, 109, rfl⟩
abbrev main_while0b_call8_v0 : Ref sig .tc := ⟨.hbm, 110, rfl⟩
abbrev main_while0b_v83 : Ref sig .tc := ⟨.hbm, 111, rfl⟩
abbrev main_while0b_call9_call0_cst : Ref sig .tc := ⟨.hbm, 112, rfl⟩
abbrev main_while0b_call9_call0_v0 : Ref sig .tc := ⟨.hbm, 113, rfl⟩
abbrev main_while0b_v84 : Ref sig .tc := ⟨.hbm, 114, rfl⟩
abbrev main_while0b_v85 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_v92 : Ref sig .tc := ⟨.hbm, 122, rfl⟩
abbrev main_while0b_v93 : Ref sig .tc := ⟨.hbm, 123, rfl⟩
abbrev main_while0b_v94 : Ref sig .tc := ⟨.hbm, 124, rfl⟩
abbrev main_while0b_v95 : Ref sig .tc := ⟨.hbm, 125, rfl⟩
abbrev main_while0b_v96 : Ref sig .tc := ⟨.hbm, 126, rfl⟩
abbrev main_while0b_v97 : Ref sig .tc := ⟨.hbm, 127, rfl⟩
abbrev main_while0b_v98 : Ref sig .tc := ⟨.hbm, 128, rfl⟩
abbrev main_while0b_cst_13 : Ref sig .tc := ⟨.hbm, 129, rfl⟩
abbrev main_while0b_call10_v0 : Ref sig .tc := ⟨.hbm, 130, rfl⟩
abbrev main_while0b_call10_v1 : Ref sig .tc := ⟨.hbm, 131, rfl⟩
abbrev main_while0b_call10_v2 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_v112 : Ref sig .tc := ⟨.hbm, 146, rfl⟩
abbrev main_while0b_v113 : Ref sig .tc := ⟨.hbm, 147, rfl⟩
abbrev main_while0b_v114 : Ref sig .tc := ⟨.hbm, 148, rfl⟩
abbrev main_while0b_v115 : Ref sig .tc := ⟨.hbm, 149, rfl⟩
abbrev main_while0b_v116 : Ref sig .tc := ⟨.hbm, 150, rfl⟩
abbrev main_while0b_v117 : Ref sig .tc := ⟨.hbm, 151, rfl⟩
abbrev main_while0b_call11_v0 : Ref sig .tc := ⟨.hbm, 152, rfl⟩
abbrev main_while0b_call11_c : Ref sig .tc := ⟨.hbm, 153, rfl⟩
abbrev main_while0b_call11_c_0 : Ref sig .tc := ⟨.hbm, 154, rfl⟩
abbrev main_while0b_call11_c_1 : Ref sig .tc := ⟨.hbm, 155, rfl⟩
abbrev main_while0b_call11_c_2 : Ref sig .tc := ⟨.hbm, 156, rfl⟩
abbrev main_while0b_v118 : Ref sig .tc := ⟨.hbm, 157, rfl⟩
abbrev main_while0b_c_14 : Ref sig .tc := ⟨.hbm, 158, rfl⟩
abbrev main_while0b_v119 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_cst_3 : Ref sig .tc := ⟨.hbm, 167, rfl⟩
abbrev main_v62 : Ref sig .tc := ⟨.hbm, 168, rfl⟩
abbrev main_v63 : Ref sig .tc := ⟨.hbm, 169, rfl⟩
abbrev main_cst_4 : Ref sig .tc := ⟨.hbm, 170, rfl⟩
abbrev main_v64 : Ref sig .tc := ⟨.hbm, 171, rfl⟩
abbrev main_v65 : Ref sig .tc := ⟨.hbm, 172, rfl⟩
abbrev main_cst_5 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_call13_v0 : Ref sig .tc := ⟨.hbm, 185, rfl⟩
abbrev main_call13_v1 : Ref sig .tc := ⟨.hbm, 186, rfl⟩
abbrev main_call13_cst : Ref sig .tc := ⟨.hbm, 187, rfl⟩
abbrev main_call13_v2 : Ref sig .tc := ⟨.hbm, 188, rfl⟩
abbrev main_call13_v3 : Ref sig .tc := ⟨.hbm, 189, rfl⟩
abbrev main_call13_cst_0 : Ref sig .tc := ⟨.hbm, 190, rfl⟩
abbrev main_call13_v4 : Ref sig .tc := ⟨.hbm, 191, rfl⟩
abbrev main_call13_v5 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S8x1x1024 : Shape := ⟨3, ![8, 1, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S8x1x1024 : Shape := ⟨3, ![8, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x5632, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel3.lean ====
abbrev S8x2048x512 : Shape := ⟨3, ![8, 2048, 512]⟩
abbrev S8x2048x256 : Shape := ⟨3, ![8, 2048, 256]⟩
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S1x1024 : Shape := ⟨2, ![1, 1024]⟩
abbrev S1x512x512 : Shape := ⟨3, ![1, 512, 512]⟩
abbrev S1x512x256 : Shape := ⟨3, ![1, 512, 256]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x512, .bf16⟩
  | .hbm, ⟨1, _⟩ => ⟨S8x2048x256, .bf16⟩
  | .hbm, ⟨2, _⟩ => ⟨S8x2048x256, .bf16⟩
  | .hbm, ⟨3, _⟩ => ⟨S8x2048x1024, .f32⟩
  | .hbm, ⟨4, _⟩ => ⟨S8x1x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S8x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x2048x512 : Shape := ⟨3, ![8, 2048, 512]⟩
abbrev S8x2048x256 : Shape := ⟨3, ![8, 2048, 256]⟩
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x256, .bf16⟩
  | .hbm, ⟨2, _⟩ => ⟨S8x2048x256, .bf16⟩
  | .hbm, ⟨3, _⟩ => ⟨S8x2048x1024, .f32⟩
  | .hbm, ⟨4, _⟩ => ⟨S8x1x1024, .f32⟩
  | .hbm, ⟨5, _⟩ => ⟨S1024, .f32⟩
  | .hbm, ⟨6, _⟩ => ⟨S1024x1024, .f32⟩
  | .hbm, ⟨7, _⟩ => ⟨S8x2048x1024, .bf16⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x1x1024 : Shape := ⟨3, ![8, 1, 1024]⟩
abbrev S1024 : Shape := ⟨1, ![1024]⟩
abbrev S1024x2592 : Shape := ⟨2, ![1024, 2592]⟩
abbrev S1024x768 : Shape := ⟨2, ![1024, 768]⟩
abbrev S1024x1792 : Shape := ⟨2, ![1024, 1792]⟩
abbrev S1024x2560 : Shape := ⟨2, ![1024, 2560]⟩
abbrev S1024x32 : Shape := ⟨2, ![1024, 32]⟩
abbrev S_ : Shape := ⟨0, ![]⟩
abbrev S1024x128 : Shape := ⟨2, ![1024, 128]⟩
abbrev S1024x2688 : Shape := ⟨2, ![1024, 2688]⟩
abbrev S1x1024 : Shape := ⟨2, ![1, 1024]⟩
abbrev S8x2048x256 : Shape := ⟨3, ![8, 2048, 256]⟩
abbrev S8x2048x512 : Shape := ⟨3, ![8, 2048, 512]⟩
abbrev S8x2048x128 : Shape := ⟨3, ![8, 2048, 128]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩
abbrev S512x128 : Shape := ⟨2, ![512, 128]⟩

abbrev nBuf : Space → Nat
  | .hbm => 24
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S1024x768, .f32⟩
  | .hbm, ⟨6, _⟩ => ⟨S1024x1792, .f32⟩
  | .hbm, ⟨7, _⟩ => ⟨S1024x2560, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x2688, .f32⟩
  | .hbm, ⟨13, _⟩ => ⟨S1024x2688, .bf16⟩
  | .hbm, ⟨14, _⟩ => ⟨S1x1024, .f32⟩
  | .hbm, ⟨15, _⟩ => ⟨S8x2048x256, .bf16⟩
  | .hbm, ⟨16, _⟩ => ⟨S8x2048x512, .bf16⟩
  | .hbm, ⟨17, _⟩ => ⟨S8x2048x256, .bf16⟩
  | .hbm, ⟨18, _⟩ => ⟨S8x2048x512, .bf16⟩
  | .hbm, ⟨19, _⟩ => ⟨S8x2048x256, .bf16⟩
  | .hbm, ⟨20, _⟩ => ⟨S8x2048x256, .bf16⟩
  | .hbm, ⟨21, _⟩ => ⟨S8x2048x256, .bf16⟩
  | .hbm, ⟨22, _⟩ => ⟨S8x2048x256, .bf16⟩
  | .hbm, ⟨23, _⟩ => ⟨S8x2048x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2688, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x128, .bf16⟩
  | .local _ .vmem, ⟨25, _⟩ => ⟨S1x512x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev main_v8_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S8x2048x1024 : Shape := ⟨3, ![8, 2048, 1024]⟩
abbrev S8x1x1024 : Shape := ⟨3, ![8, 1, 1024]⟩
abbrev S1024 : Shape := ⟨1, ![1024]⟩
abbrev S1024x2592 : Shape := ⟨2, ![1024, 2592]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2592 : Shape := ⟨3, ![8, 2048, 2592]⟩
abbrev S8x2048x256 : Shape := ⟨3, ![8, 2048, 256]⟩
abbrev S8x2048x512 : Shape := ⟨3, ![8, 2048, 512]⟩
abbrev S8x2048x32 : Shape := ⟨3, ![8, 2048, 32]⟩
abbrev S8x2048x128 : Shape := ⟨3, ![8, 2048, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x2592, .f32⟩
  | .hbm, ⟨29, _⟩ => ⟨S8x2048x256, .f32⟩
  | .hbm, ⟨30, _⟩ => ⟨S8x2048x512, .f32⟩
  | .hbm, ⟨31, _⟩ => ⟨S8x2048x32, .f32⟩
  | .hbm, ⟨32, _⟩ => ⟨S8x2048x256, .f32⟩
  | .hbm, ⟨33, _⟩ => ⟨S8x2048x512, .f32⟩
  | .hbm, ⟨34, _⟩ => ⟨S8x2048x256, .f32⟩
  | .hbm, ⟨35, _⟩ => ⟨S8x2048x256, .f32⟩
  | .hbm, ⟨36, _⟩ => ⟨S8x2048x256, .f32⟩
  | .hbm, ⟨37, _⟩ => ⟨S8x2048x256, .f32⟩
  | .hbm, ⟨38, _⟩ => ⟨S_, .i32⟩
  | .hbm, ⟨39, _⟩ => ⟨S_, .f32⟩
  | .hbm, ⟨40, _⟩ => ⟨S8x2048x128, .f32⟩
  | .hbm, ⟨41, _⟩ => ⟨S8x2048x256, .bf16⟩
  | .hbm, ⟨42, _⟩ => ⟨S8x2048x512, .bf16⟩
  | .hbm, ⟨43, _⟩ => ⟨S8x2048x256, .bf16⟩
  | .hbm, ⟨44, _⟩ => ⟨S8x2048x512, .bf16⟩
  | .hbm, ⟨45, _⟩ => ⟨S8x2048x256, .bf16⟩
  | .hbm, ⟨46, _⟩ => ⟨S8x2048x256, .bf16⟩
  | .hbm, ⟨47, _⟩ => ⟨S8x2048x256, .bf16⟩
  | .hbm, ⟨48, _⟩ => ⟨S8x2048x256, .bf16⟩
  | .hbm, ⟨49, _⟩ => ⟨S8x2048x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel5.lean ====
abbrev S8x2048x512 : Shape := ⟨3, ![8, 2048, 512]⟩
abbrev S8x2048x256 : Shape := ⟨3, ![8, 2048, 256]⟩
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S1x512x512 : Shape := ⟨3, ![1, 512, 512]⟩
abbrev S1x512x256 : Shape := ⟨3, ![1, 512, 256]⟩
abbrev S1x512x1024 : Shape := ⟨3, ![1, 512, 1024]⟩
abbrev S512x1024 : Shape := ⟨2, ![512, 1024]⟩
abbrev S1x1x1024 : Shape := ⟨3, ![1, 1, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S8x2048x256, .bf16⟩
  | .hbm, ⟨2, _⟩ => ⟨S8x2048x256, .bf16⟩
  | .hbm, ⟨3, _⟩ => ⟨S8x2048x1024, .f32⟩
  | .hbm, ⟨4, _⟩ => ⟨S8x1x1024, .f32⟩
  | .hbm, ⟨5, _⟩ => ⟨S1024, .f32⟩
  | .hbm, ⟨6, _⟩ => ⟨S1024x1024, .f32⟩
  | .hbm, ⟨7, _⟩ => ⟨S2048x1024, .f32⟩
  | .hbm, ⟨8, _⟩ => ⟨S1024x1024, .bf16⟩
  | .hbm, ⟨9, _⟩ => ⟨S1x1024, .f32⟩
  | .hbm, ⟨10, _⟩ => ⟨S8x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x2048x512 : Shape := ⟨3, ![8, 2048, 512]⟩
abbrev S8x2048x256 : Shape := ⟨3, ![8, 2048, 256]⟩
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S2048x1024 : Shape := ⟨2, ![2048, 1024]⟩
abbrev S1x2048x1024 : Shape := ⟨3, ![1, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x256, .bf16⟩
  | .hbm, ⟨2, _⟩ => ⟨S8x2048x256, .bf16⟩
  | .hbm, ⟨3, _⟩ => ⟨S8x2048x1024, .f32⟩
  | .hbm, ⟨4, _⟩ => ⟨S8x1x1024, .f32⟩
  | .hbm, ⟨5, _⟩ => ⟨S1024, .f32⟩
  | .hbm, ⟨6, _⟩ => ⟨S1024x1024, .f32⟩
  | .hbm, ⟨7, _⟩ => ⟨S2048x1024, .f32⟩
  | .hbm, ⟨8, _⟩ => ⟨S1x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .bf16⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x1x1024 : Shape := ⟨3, ![8, 1, 1024]⟩
abbrev S1024 : Shape := ⟨1, ![1024]⟩
abbrev S1024x2592 : Shape := ⟨2, ![1024, 2592]⟩
abbrev S2048x1024 : Shape := ⟨2, ![2048, 1024]⟩
abbrev S1024x768 : Shape := ⟨2, ![1024, 768]⟩
abbrev S1024x1792 : Shape := ⟨2, ![1024, 1792]⟩
abbrev S1024x2560 : Shape := ⟨2, ![1024, 2560]⟩
abbrev S1024x32 : Shape := ⟨2, ![1024, 32]⟩
abbrev S_ : Shape := ⟨0, ![]⟩
abbrev S1024x128 : Shape := ⟨2, ![1024, 128]⟩
abbrev S1024x2688 : Shape := ⟨2, ![1024, 2688]⟩
abbrev S1x1024 : Shape := ⟨2, ![1, 1024]⟩
abbrev S8x2048x256 : Shape := ⟨3, ![8, 2048, 256]⟩
abbrev S8x2048x512 : Shape := ⟨3, ![8, 2048, 512]⟩
abbrev S8x2048x128 : Shape := ⟨3, ![8, 2048, 128]⟩
abbrev S1x512x1024 : Shape := ⟨3, ![1, 512, 1024]⟩
abbrev S512x1024 : Shape := ⟨2, ![512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩
abbrev S512x128 : Shape := ⟨2, ![512, 128]⟩

abbrev nBuf : Space → Nat
  | .hbm => 25
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S2048x1024, .f32⟩
  | .hbm, ⟨6, _⟩ => ⟨S1024x768, .f32⟩
  | .hbm, ⟨7, _⟩ => ⟨S1024x1792, .f32⟩
  | .hbm, ⟨8, _⟩ => ⟨S1024x2560, .f32⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x2688, .f32⟩
  | .hbm, ⟨14, _⟩ => ⟨S1024x2688, .bf16⟩
  | .hbm, ⟨15, _⟩ => ⟨S1x1024, .f32⟩
  | .hbm, ⟨16, _⟩ => ⟨S8x2048x256, .bf16⟩
  | .hbm, ⟨17, _⟩ => ⟨S8x2048x512, .bf16⟩
  | .hbm, ⟨18, _⟩ => ⟨S8x2048x256, .bf16⟩
  | .hbm, ⟨19, _⟩ => ⟨S8x2048x512, .bf16⟩
  | .hbm, ⟨20, _⟩ => ⟨S8x2048x256, .bf16⟩
  | .hbm, ⟨21, _⟩ => ⟨S8x2048x256, .bf16⟩
  | .hbm, ⟨22, _⟩ => ⟨S8x2048x256, .bf16⟩
  | .hbm, ⟨23, _⟩ => ⟨S8x2048x256, .bf16⟩
  | .hbm, ⟨24, _⟩ => ⟨S8x2048x128, .bf16⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2688, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x128, .bf16⟩
  | .local _ .vmem, ⟨27, _⟩ => ⟨S1x512x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev main_v8_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2688 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference6Ideal.lean ====
abbrev S8x2048x1024 : Shape := ⟨3, ![8, 2048, 1024]⟩
abbrev S8x1x1024 : Shape := ⟨3, ![8, 1, 1024]⟩
abbrev S1024 : Shape := ⟨1, ![1024]⟩
abbrev S1024x2592 : Shape := ⟨2, ![1024, 2592]⟩
abbrev S2048x1024 : Shape := ⟨2, ![2048, 1024]⟩
abbrev S1x2048x1024 : Shape := ⟨3, ![1, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2592 : Shape := ⟨3, ![8, 2048, 2592]⟩
abbrev S8x2048x256 : Shape := ⟨3, ![8, 2048, 256]⟩
abbrev S8x2048x512 : Shape := ⟨3, ![8, 2048, 512]⟩
abbrev S8x2048x32 : Shape := ⟨3, ![8, 2048, 32]⟩
abbrev S8x2048x128 : Shape := ⟨3, ![8, 2048, 128]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S2048x1024, .f32⟩
  | .hbm, ⟨6, _⟩ => ⟨S1x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x2592, .f32⟩
  | .hbm, ⟨33, _⟩ => ⟨S8x2048x256, .f32⟩
  | .hbm, ⟨34, _⟩ => ⟨S8x2048x512, .f32⟩
  | .hbm, ⟨35, _⟩ => ⟨S8x2048x32, .f32⟩
  | .hbm, ⟨36, _⟩ => ⟨S8x2048x256, .f32⟩
  | .hbm, ⟨37, _⟩ => ⟨S8x2048x512, .f32⟩
  | .hbm, ⟨38, _⟩ => ⟨S8x2048x256, .f32⟩
  | .hbm, ⟨39, _⟩ => ⟨S8x2048x256, .f32⟩
  | .hbm, ⟨40, _⟩ => ⟨S8x2048x256, .f32⟩
  | .hbm, ⟨41, _⟩ => ⟨S8x2048x256, .f32⟩
  | .hbm, ⟨42, _⟩ => ⟨S_, .i32⟩
  | .hbm, ⟨43, _⟩ => ⟨S_, .f32⟩
  | .hbm, ⟨44, _⟩ => ⟨S8x2048x128, .f32⟩
  | .hbm, ⟨45, _⟩ => ⟨S8x2048x256, .bf16⟩
  | .hbm, ⟨46, _⟩ => ⟨S8x2048x512, .bf16⟩
  | .hbm, ⟨47, _⟩ => ⟨S8x2048x256, .bf16⟩
  | .hbm, ⟨48, _⟩ => ⟨S8x2048x512, .bf16⟩
  | .hbm, ⟨49, _⟩ => ⟨S8x2048x256, .bf16⟩
  | .hbm, ⟨50, _⟩ => ⟨S8x2048x256, .bf16⟩
  | .hbm, ⟨51, _⟩ => ⟨S8x2048x256, .bf16⟩
  | .hbm, ⟨52, _⟩ => ⟨S8x2048x256, .bf16⟩
  | .hbm, ⟨53, _⟩ => ⟨S8x2048x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel7.lean ====
abbrev S8x256x1024 : Shape := ⟨3, ![8, 256, 1024]⟩
abbrev S8x1x1024 : Shape := ⟨3, ![8, 1, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x256x1024, .f32⟩
  | .local _ .vmem, ⟨13, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8x256x1024 : Shape := ⟨3, ![8, 256, 1024]⟩
abbrev S8x1x1024 : Shape := ⟨3, ![8, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x5632 : Shape := ⟨3, ![8, 256, 5632]⟩
abbrev S8x256x2816 : Shape := ⟨3, ![8, 256, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x256x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x5632, .f32⟩
  | .hbm, ⟨32, _⟩ => ⟨S8x256x2816, .f32⟩
  | .hbm, ⟨33, _⟩ => ⟨S8x256x2816, .f32⟩
  | .hbm, ⟨34, _⟩ => ⟨S8x256x2816, .f32⟩
  | .hbm, ⟨35, _⟩ => ⟨S8x256x2816, .f32⟩
  | .hbm, ⟨36, _⟩ => ⟨S_, .f32⟩
  | .hbm, ⟨37, _⟩ => ⟨S8x256x2816, .f32⟩
  | .hbm, ⟨38, _⟩ => ⟨S8x256x2816, .f32⟩
  | .hbm, ⟨39, _⟩ => ⟨S_, .f32⟩
  | .hbm, ⟨40, _⟩ => ⟨S8x256x2816, .f32⟩
  | .hbm, ⟨41, _⟩ => ⟨S8x256x2816, .f32⟩
  | .hbm, ⟨42, _⟩ => ⟨S8x256x2816, .f32⟩
  | .hbm, ⟨43, _⟩ => ⟨S8x256x2816, .f32⟩
  | .hbm, ⟨44, _⟩ => ⟨S8x256x1024, .f32⟩
  | .hbm, ⟨45, _⟩ => ⟨S8x256x1024, .f32⟩
  | .hbm, ⟨46, _⟩ => ⟨S_, .f32⟩
  | .hbm, ⟨47, _⟩ => ⟨S8x256, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S_, .f32⟩
  | .hbm, ⟨53, _⟩ => ⟨S8x256x1, .f32⟩
  | .hbm, ⟨54, _⟩ => ⟨S8x256x1, .f32⟩
  | .hbm, ⟨55, _⟩ => ⟨S8x256x1, .f32⟩
  | .hbm, ⟨56, _⟩ => ⟨S8x256x1024, .f32⟩
  | .hbm, ⟨57, _⟩ => ⟨S8x256x1024, .f32⟩
  | .hbm, ⟨58, _⟩ => ⟨S1x1x1024, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel8.lean ====
abbrev S8x256x512 : Shape := ⟨3, ![8, 256, 512]⟩
abbrev S8x256x256 : Shape := ⟨3, ![8, 256, 256]⟩
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S1x1024 : Shape := ⟨2, ![1, 1024]⟩
abbrev S1x256x512 : Shape := ⟨3, ![1, 256, 512]⟩
abbrev S1x256x256 : Shape := ⟨3, ![1, 256, 256]⟩
abbrev S1x256x1024 : Shape := ⟨3, ![1, 256, 1024]⟩
abbrev S1x1x1024 : Shape := ⟨3, ![1, 1, 1024]⟩
abbrev S256x512 : Shape := ⟨2, ![256, 512]⟩
abbrev S512x1024 : Shape := ⟨2, ![512, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S8x256x512, .bf16⟩
  | .hbm, ⟨1, _⟩ => ⟨S8x256x256, .bf16⟩
  | .hbm, ⟨2, _⟩ => ⟨S8x256x256, .bf16⟩
  | .hbm, ⟨3, _⟩ => ⟨S8x256x1024, .f32⟩
  | .hbm, ⟨4, _⟩ => ⟨S8x1x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S8x256x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x256x1024, .f32⟩
  | .local _ .vmem, ⟨13, _⟩ => ⟨S1x256x1024, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S8x256x512 : Shape := ⟨3, ![8, 256, 512]⟩
abbrev S8x256x256 : Shape := ⟨3, ![8, 256, 256]⟩
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S8x256x256, .bf16⟩
  | .hbm, ⟨2, _⟩ => ⟨S8x256x256, .bf16⟩
  | .hbm, ⟨3, _⟩ => ⟨S8x256x1024, .f32⟩
  | .hbm, ⟨4, _⟩ => ⟨S8x1x1024, .f32⟩
  | .hbm, ⟨5, _⟩ => ⟨S1024, .f32⟩
  | .hbm, ⟨6, _⟩ => ⟨S1024x1024, .f32⟩
  | .hbm, ⟨7, _⟩ => ⟨S8x256x1024, .bf16⟩
  | .hbm, ⟨8, _⟩ => ⟨S8x256x1024, .f32⟩
  | .hbm, ⟨9, _⟩ => ⟨S8x256x1024, .f32⟩
  | .hbm, ⟨10, _⟩ => ⟨S8x256x1024, .f32⟩
  | .hbm, ⟨11, _⟩ => ⟨S_, .f32⟩
  | .hbm, ⟨12, _⟩ => ⟨S8x256, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S8x256x1, .f32⟩
  | .hbm, ⟨21, _⟩ => ⟨S8x256x1024, .f32⟩
  | .hbm, ⟨22, _⟩ => ⟨S8x256x1024, .f32⟩
  | .hbm, ⟨23, _⟩ => ⟨S1x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel9.lean ====
abbrev S8x256x1024 : Shape := ⟨3, ![8, 256, 1024]⟩
abbrev S8x1x1024 : Shape := ⟨3, ![8, 1, 1024]⟩
abbrev S1024 : Shape := ⟨1, ![1024]⟩
abbrev S1024x2592 : Shape := ⟨2, ![1024, 2592]⟩
abbrev S1024x768 : Shape := ⟨2, ![1024, 768]⟩
abbrev S1024x1792 : Shape := ⟨2, ![1024, 1792]⟩
abbrev S1024x2560 : Shape := ⟨2, ![1024, 2560]⟩
abbrev S1024x32 : Shape := ⟨2, ![1024, 32]⟩
abbrev S_ : Shape := ⟨0, ![]⟩
abbrev S1024x128 : Shape := ⟨2, ![1024, 128]⟩
abbrev S1024x2688 : Shape := ⟨2, ![1024, 2688]⟩
abbrev S1x1024 : Shape := ⟨2, ![1, 1024]⟩
abbrev S8x256x256 : Shape := ⟨3, ![8, 256, 256]⟩
abbrev S8x256x512 : Shape := ⟨3, ![8, 256, 512]⟩
abbrev S8x256x128 : Shape := ⟨3, ![8, 256, 128]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x512 : Shape := ⟨3, ![1, 256, 512]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1024x512 : Shape := ⟨2, ![1024, 512]⟩
abbrev S256x512 : Shape := ⟨2, ![256, 512]⟩
abbrev S256x128 : Shape := ⟨2, ![256, 128]⟩

abbrev nBuf : Space → Nat
  | .hbm => 24
  | .vmem => 26
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S1024x768, .f32⟩
  | .hbm, ⟨6, _⟩ => ⟨S1024x1792, .f32⟩
  | .hbm, ⟨7, _⟩ => ⟨S1024x2560, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x2688, .f32⟩
  | .hbm, ⟨13, _⟩ => ⟨S1024x2688, .bf16⟩
  | .hbm, ⟨14, _⟩ => ⟨S1x1024, .f32⟩
  | .hbm, ⟨15, _⟩ => ⟨S8x256x256, .bf16⟩
  | .hbm, ⟨16, _⟩ => ⟨S8x256x512, .bf16⟩
  | .hbm, ⟨17, _⟩ => ⟨S8x256x256, .bf16⟩
  | .hbm, ⟨18, _⟩ => ⟨S8x256x512, .bf16⟩
  | .hbm, ⟨19, _⟩ => ⟨S8x256x256, .bf16⟩
  | .hbm, ⟨20, _⟩ => ⟨S8x256x256, .bf16⟩
  | .hbm, ⟨21, _⟩ => ⟨S8x256x256, .bf16⟩
  | .hbm, ⟨22, _⟩ => ⟨S8x256x256, .bf16⟩
  | .hbm, ⟨23, _⟩ => ⟨S8x256x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2688, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x256, .bf16⟩
  | .local _ .vmem, ⟨24, _⟩ => ⟨S1x256x128, .bf16⟩
  | .local _ .vmem, ⟨25, _⟩ => ⟨S1x256x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev main_v8_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference9Ideal.lean ====
abbrev S8x256x1024 : Shape := ⟨3, ![8, 256, 1024]⟩
abbrev S8x1x1024 : Shape := ⟨3, ![8, 1, 1024]⟩
abbrev S1024 : Shape := ⟨1, ![1024]⟩
abbrev S1024x2592 : Shape := ⟨2, ![1024, 2592]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2592 : Shape := ⟨3, ![8, 256, 2592]⟩
abbrev S8x256x256 : Shape := ⟨3, ![8, 256, 256]⟩
abbrev S8x256x512 : Shape := ⟨3, ![8, 256, 512]⟩
abbrev S8x256x32 : Shape := ⟨3, ![8, 256, 32]⟩
abbrev S8x256x128 : Shape := ⟨3, ![8, 256, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x2592, .f32⟩
  | .hbm, ⟨29, _⟩ => ⟨S8x256x256, .f32⟩
  | .hbm, ⟨30, _⟩ => ⟨S8x256x512, .f32⟩
  | .hbm, ⟨31, _⟩ => ⟨S8x256x32, .f32⟩
  | .hbm, ⟨32, _⟩ => ⟨S8x256x256, .f32⟩
  | .hbm, ⟨33, _⟩ => ⟨S8x256x512, .f32⟩
  | .hbm, ⟨34, _⟩ => ⟨S8x256x256, .f32⟩
  | .hbm, ⟨35, _⟩ => ⟨S8x256x256, .f32⟩
  | .hbm, ⟨36, _⟩ => ⟨S8x256x256, .f32⟩
  | .hbm, ⟨37, _⟩ => ⟨S8x256x256, .f32⟩
  | .hbm, ⟨38, _⟩ => ⟨S_, .i32⟩
  | .hbm, ⟨39, _⟩ => ⟨S_, .f32⟩
  | .hbm, ⟨40, _⟩ => ⟨S8x256x128, .f32⟩
  | .hbm, ⟨41, _⟩ => ⟨S8x256x256, .bf16⟩
  | .hbm, ⟨42, _⟩ => ⟨S8x256x512, .bf16⟩
  | .hbm, ⟨43, _⟩ => ⟨S8x256x256, .bf16⟩
  | .hbm, ⟨44, _⟩ => ⟨S8x256x512, .bf16⟩
  | .hbm, ⟨45, _⟩ => ⟨S8x256x256, .bf16⟩
  | .hbm, ⟨46, _⟩ => ⟨S8x256x256, .bf16⟩
  | .hbm, ⟨47, _⟩ => ⟨S8x256x256, .bf16⟩
  | .hbm, ⟨48, _⟩ => ⟨S8x256x256, .bf16⟩
  | .hbm, ⟨49, _⟩ => ⟨S8x256x128, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel10.lean ====
abbrev S8x256x1024 : Shape := ⟨3, ![8, 256, 1024]⟩
abbrev S8x1x1024 : Shape := ⟨3, ![8, 1, 1024]⟩
abbrev S1024 : Shape := ⟨1, ![1024]⟩
abbrev S1024x2592 : Shape := ⟨2, ![1024, 2592]⟩
abbrev S1024x768 : Shape := ⟨2, ![1024, 768]⟩
abbrev S1024x1792 : Shape := ⟨2, ![1024, 1792]⟩
abbrev S1024x2560 : Shape := ⟨2, ![1024, 2560]⟩
abbrev S1024x32 : Shape := ⟨2, ![1024, 32]⟩
abbrev S_ : Shape := ⟨0, ![]⟩
abbrev S1024x128 : Shape := ⟨2, ![1024, 128]⟩
abbrev S1024x2688 : Shape := ⟨2, ![1024, 2688]⟩
abbrev S1x1024 : Shape := ⟨2, ![1, 1024]⟩
abbrev S1024x896 : Shape := ⟨2, ![1024, 896]⟩
abbrev S8x256x256 : Shape := ⟨3, ![8, 256, 256]⟩
abbrev S8x256x512 : Shape := ⟨3, ![8, 256, 512]⟩
abbrev S8x256x128 : Shape := ⟨3, ![8, 256, 128]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x512 : Shape := ⟨3, ![1, 256, 512]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1024x512 : Shape := ⟨2, ![1024, 512]⟩
abbrev S256x512 : Shape := ⟨2, ![256, 512]⟩
abbrev S256x128 : Shape := ⟨2, ![256, 128]⟩

abbrev nBuf : Space → Nat
  | .hbm => 21
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S1024x768, .f32⟩
  | .hbm, ⟨6, _⟩ => ⟨S1024x1792, .f32⟩
  | .hbm, ⟨7, _⟩ => ⟨S1024x2560, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x2688, .f32⟩
  | .hbm, ⟨13, _⟩ => ⟨S1024x2688, .bf16⟩
  | .hbm, ⟨14, _⟩ => ⟨S1x1024, .f32⟩
  | .hbm, ⟨15, _⟩ => ⟨S1024x768, .bf16⟩
  | .hbm, ⟨16, _⟩ => ⟨S1024x128, .bf16⟩
  | .hbm, ⟨17, _⟩ => ⟨S1024x896, .bf16⟩
  | .hbm, ⟨18, _⟩ => ⟨S8x256x256, .bf16⟩
  | .hbm, ⟨19, _⟩ => ⟨S8x256x512, .bf16⟩
  | .hbm, ⟨20, _⟩ => ⟨S8x256x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x896, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x128, .bf16⟩
  | .local _ .vmem, ⟨13, _⟩ => ⟨S1x256x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S8x256x1024 : Shape := ⟨3, ![8, 256, 1024]⟩
abbrev S8x1x1024 : Shape := ⟨3, ![8, 1, 1024]⟩
abbrev S1024 : Shape := ⟨1, ![1024]⟩
abbrev S1024x2592 : Shape := ⟨2, ![1024, 2592]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x800 : Shape := ⟨2, ![1024, 800]⟩
abbrev S8x256x800 : Shape := ⟨3, ![8, 256, 800]⟩
abbrev S8x256x256 : Shape := ⟨3, ![8, 256, 256]⟩
abbrev S8x256x512 : Shape := ⟨3, ![8, 256, 512]⟩
abbrev S8x256x32 : Shape := ⟨3, ![8, 256, 32]⟩
abbrev S8x256x128 : Shape := ⟨3, ![8, 256, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2592, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x800, .f32⟩
  | .hbm, ⟨29, _⟩ => ⟨S8x256x800, .f32⟩
  | .hbm, ⟨30, _⟩ => ⟨S8x256x256, .f32⟩
  | .hbm, ⟨31, _⟩ => ⟨S8x256x512, .f32⟩
  | .hbm, ⟨32, _⟩ => ⟨S8x256x32, .f32⟩
  | .hbm, ⟨33, _⟩ => ⟨S_, .i32⟩
  | .hbm, ⟨34, _⟩ => ⟨S_, .f32⟩
  | .hbm, ⟨35, _⟩ => ⟨S8x256x128, .f32⟩
  | .hbm, ⟨36, _⟩ => ⟨S8x256x256, .bf16⟩
  | .hbm, ⟨37, _⟩ => ⟨S8x256x512, .bf16⟩
  | .hbm, ⟨38, _⟩ => ⟨S8x256x128, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel11.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel12.lean ====
abbrev S8x2048x256 : Shape := ⟨3, ![8, 2048, 256]⟩
abbrev S3x256 : Shape := ⟨2, ![3, 256]⟩
abbrev S256 : Shape := ⟨1, ![256]⟩
abbrev S256x512 : Shape := ⟨2, ![256, 512]⟩
abbrev S2048x4096 : Shape := ⟨2, ![2048, 4096]⟩
abbrev S1x256 : Shape := ⟨2, ![1, 256]⟩
abbrev S1x2048x256 : Shape := ⟨3, ![1, 2048, 256]⟩
abbrev S4096x256 : Shape := ⟨2, ![4096, 256]⟩
abbrev S2048x256 : Shape := ⟨2, ![2048, 256]⟩
abbrev S2048x512 : Shape := ⟨2, ![2048, 512]⟩
abbrev S512x4096 : Shape := ⟨2, ![512, 4096]⟩
abbrev S512x256 : Shape := ⟨2, ![512, 256]⟩
abbrev S1x512x256 : Shape := ⟨3, ![1, 512, 256]⟩

abbrev nBuf : Space → Nat
  | .hbm => 11
  | .vmem => 17
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x256, .bf16⟩
  | .hbm, ⟨3, _⟩ => ⟨S8x2048x256, .bf16⟩
  | .hbm, ⟨4, _⟩ => ⟨S3x256, .f32⟩
  | .hbm, ⟨5, _⟩ => ⟨S256, .f32⟩
  | .hbm, ⟨6, _⟩ => ⟨S256x512, .bf16⟩
  | .hbm, ⟨7, _⟩ => ⟨S2048x4096, .bf16⟩
  | .hbm, ⟨8, _⟩ => ⟨S1x256, .f32⟩
  | .hbm, ⟨9, _⟩ => ⟨S8x2048x256, .bf16⟩
  | .hbm, ⟨10, _⟩ => ⟨S8x2048x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S3x256, .f32⟩
  | .local _ .vmem, ⟨9, _⟩ => ⟨S1x256, .f32⟩
  | .local _ .vmem, ⟨10, _⟩ => ⟨S256x512, .bf16⟩
  | .local _ .vmem, ⟨11, _⟩ => ⟨S2048x4096, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S4096x256, .bf16⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S8x2048x256 : Shape := ⟨3, ![8, 2048, 256]⟩
abbrev S3x256 : Shape := ⟨2, ![3, 256]⟩
abbrev S256 : Shape := ⟨1, ![256]⟩
abbrev S256x512 : Shape := ⟨2, ![256, 512]⟩
abbrev S2048x4096 : Shape := ⟨2, ![2048, 4096]⟩
abbrev S2048x2048 : Shape := ⟨2, ![2048, 2048]⟩
abbrev S256x256 : Shape := ⟨2, ![256, 256]⟩
abbrev S8x256x2048 : Shape := ⟨3, ![8, 256, 2048]⟩
abbrev S_ : Shape := ⟨0, ![]⟩
abbrev S8x2050x256 : Shape := ⟨3, ![8, 2050, 256]⟩
abbrev S1x256 : Shape := ⟨2, ![1, 256]⟩
abbrev S1x1x256 : Shape := ⟨3, ![1, 1, 256]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x256, .bf16⟩
  | .hbm, ⟨3, _⟩ => ⟨S8x2048x256, .bf16⟩
  | .hbm, ⟨4, _⟩ => ⟨S3x256, .f32⟩
  | .hbm, ⟨5, _⟩ => ⟨S256, .f32⟩
  | .hbm, ⟨6, _⟩ => ⟨S256x512, .bf16⟩
  | .hbm, ⟨7, _⟩ => ⟨S2048x4096, .bf16⟩
  | .hbm, ⟨8, _⟩ => ⟨S8x2048x256, .f32⟩
  | .hbm, ⟨9, _⟩ => ⟨S256x512, .f32⟩
  | .hbm, ⟨10, _⟩ => ⟨S2048x4096, .f32⟩
  | .hbm, ⟨11, _⟩ => ⟨S2048x2048, .f32⟩
  | .hbm, ⟨12, _⟩ => ⟨S256x256, .f32⟩
  | .hbm, ⟨13, _⟩ => ⟨S8x2048x256, .f32⟩
  | .hbm, ⟨14, _⟩ => ⟨S8x256x2048, .f32⟩
  | .hbm, ⟨15, _⟩ => ⟨S8x2048x256, .f32⟩
  | .hbm, ⟨16, _⟩ => ⟨S2048x2048, .f32⟩
  | .hbm, ⟨17, _⟩ => ⟨S256x256, .f32⟩
  | .hbm, ⟨18, _⟩ => ⟨S8x2048x256, .f32⟩
  | .hbm, ⟨19, _⟩ => ⟨S8x256x2048, .f32⟩
  | .hbm, ⟨20, _⟩ => ⟨S8x2048x256, .f32⟩
  | .hbm, ⟨21, _⟩ => ⟨S8x2048x256, .f32⟩
  | .hbm, ⟨22, _⟩ => ⟨S8x2048x256, .f32⟩
  | .hbm, ⟨23, _⟩ => ⟨S8x2048x256, .f32⟩
  | .hbm, ⟨24, _⟩ => ⟨S8x2048x256, .f32⟩
  | .hbm, ⟨25, _⟩ => ⟨S8x2048x256, .f32⟩
  | .hbm, ⟨26, _⟩ => ⟨S_, .i32⟩
  | .hbm, ⟨27, _⟩ => ⟨S_, .f32⟩
  | .hbm, ⟨28, _⟩ => ⟨S8x2050x256, .f32⟩
  | .hbm, ⟨29, _⟩ => ⟨S1x256, .f32⟩
  | .hbm, ⟨30, _⟩ => ⟨S256, .f32⟩
  | .hbm, ⟨31, _⟩ => ⟨S8x2048x256, .f32⟩
  | .hbm, ⟨32, _⟩ => ⟨S1x1x256, .f32⟩
  | .hbm, ⟨33, _⟩ => ⟨S8x2048x256, .f32⟩
  | .hbm, ⟨34, _⟩ => ⟨S8x2048x256, .f32⟩
  | .hbm, ⟨35, _⟩ => ⟨S1x256, .f32⟩
  | .hbm, ⟨36, _⟩ => ⟨S256, .f32⟩
  | .hbm, ⟨37, _⟩ => ⟨S8x2048x256, .f32⟩
  | .hbm, ⟨38, _⟩ => ⟨S1x1x256, .f32⟩
  | .hbm, ⟨39, _⟩ => ⟨S8x2048x256, .f32⟩
  | .hbm, ⟨40, _⟩ => ⟨S8x2048x256, .f32⟩
  | .hbm, ⟨41, _⟩ => ⟨S8x2048x256, .f32⟩
  | .hbm, ⟨42, _⟩ => ⟨S1x256, .f32⟩
  | .hbm, ⟨43, _⟩ => ⟨S256, .f32⟩
  | .hbm, ⟨44, _⟩ => ⟨S8x2048x256, .f32⟩
  | .hbm, ⟨45, _⟩ => ⟨S1x1x256, .f32⟩
  | .hbm, ⟨46, _⟩ => ⟨S8x2048x256, .f32⟩
  | .hbm, ⟨47, _⟩ => ⟨S8x2048x256, .f32⟩
  | .hbm, ⟨48, _⟩ => ⟨S8x2048x256, .f32⟩
  | .hbm, ⟨49, _⟩ => ⟨S1x1x256, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x256, .bf16⟩
  | .hbm, ⟨54, _⟩ => ⟨S8x2048x256, .bf16⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Proof.KernelIdealFrame.lean ====
/- The frame of the idealized attention kernel: it runs, leaves its arguments unchanged and every semaphore counter at zero.
   What it leaves in its result is not named here. -/
module

public import proofs.«01_k».proof.Proof.Gen.KernelIdeal.Frame.Runs
public import Idealize.ShloMosaic.Lib.Claim

@[expose] public section

-- membership in a rectangle of production extents (`View.cover_of_tiled`): the elaborator's structural look
-- recurses once per coordinate of the long axes
set_option maxRecDepth 16384

noncomputable section

namespace Cert.KernelIdealFrame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x2048x256 .bf16) (harg1 : arg1.IsWhole) (arg2 : Memref sig .tc .vmem S1x2048x512 .bf16) (harg2 : arg2.IsWhole) (arg3 : Memref sig .tc .vmem S1x2048x128 .bf16) (harg3 : arg3.IsWhole) (arg4 : Memref sig .tc .vmem S2x128x256 .bf16) (harg4 : arg4.IsWhole) (arg5 : Memref sig .tc .vmem S2x1x256 .f32) (harg5 : arg5.IsWhole) (arg6 : Memref sig .tc .vmem S1x2x128x256 .f32) (harg6 : arg6.IsWhole) (arg7 : Memref sig .tc .vmem S1x2048x256 .bf16) (harg7 : arg7.IsWhole) (arg8 : Memref sig .tc .vmem S1x2048x512 .bf16) (harg8 : arg8.IsWhole) (arg9 : Memref sig .tc .vmem S1x512 .f32) (harg9 : arg9.IsWhole) (arg10 : Memref sig .tc .vmem S1x2048x512 .bf16) (harg10 : arg10.IsWhole) (arg11 : Memref sig .tc .vmem S2x128x256 .f32) (harg11 : arg11.IsWhole) (arg12 : Memref sig .tc .vmem S2x2048x512 .f32) (harg12 : arg12.IsWhole)
    (x0 : Vec F S1x2048x256 .bf16) (x1 : Vec F S1x2048x512 .bf16) (x2 : Vec F S1x2048x128 .bf16) (x3 : Vec F S2x128x256 .bf16) (x4 : Vec F S2x1x256 .f32) (x5 : Vec F S1x2x128x256 .f32) (x6 : Vec F S1x2048x256 .bf16) (x7 : Vec F S1x2048x512 .bf16) (x8 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12) K := by
    intro E K
    simp only [cc0_gla_eq_skeleton]; unfold cc0_gla_skel
    simp only [k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 6 rfl).trans ((hA c 6).trans (V_main_arg3 m c)),
      (Pipeline.RDat.FramePost.arr_in h c 7 rfl).trans ((hA c 7).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The pipeline's proof data -/

/-- The output windows this certificate FORGETS (9): nothing reads what the kernel leaves in them, so nothing
    of it is named (Lib/Pipeline/Dat.lean `Dat.toRForget`). -/
def forgets0 : Fin 10 → Bool := fun w => w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdealFrame

end
-- ==== Proof.KernelFrame.lean ====
/- The frame of the attention kernel: it runs, leaves its arguments unchanged and every semaphore counter at zero. The kernel is, at any
   number type, the program its idealization is, so the frame is the idealized kernel's. -/
module

public import proofs.«01_k».proof.Proof.KernelIdealFrame
public import proofs.«01_k».proof.Proof.Gen.Kernel.Frame.Runs

@[expose] public section

noncomputable section

namespace Cert.KernelFrame

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The bodies of the two programs are the same. -/
theorem bodies_eq : Cert.Kernel.defs₀ (F := F) = Cert.KernelIdeal.defs₀ (F := F) := by
  unfold Cert.Kernel.defs₀ Cert.KernelIdeal.defs₀
  congr 1
  funext l a
  match l, a with
  | 0, (t, s) => rfl
theorem defs_eq : Cert.Kernel.defs (F := F) = Cert.KernelIdeal.defs (F := F) := by
  unfold Cert.Kernel.defs Cert.KernelIdeal.defs
  exact congrArg _ bodies_eq

/-- The two main functions are the same. -/
theorem main_eq : Cert.Kernel.main (F := F) = Cert.KernelIdeal.main (F := F) := by rfl

/-- The frame, at any number type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  rw [defs_eq, main_eq]
  exact Cert.KernelIdealFrame.frame m ρ

end Cert.KernelFrame

end
-- ==== Proof.GlaIdx.lean ====
/- The attention's channels and the heads' rows. -/
module

public import Idealize.ShloMosaic.Lib.Pointwise

@[expose] public section

noncomputable section

namespace Cert.GlaSpec

open Idealize.ShloMosaic
open scoped BigOperators

/-- The channel `d` of head `h` among the 256 key channels. -/
def col (h : Fin 4) (d : Fin 64) : Fin 256 := ⟨h.val * 64 + d.val, by omega⟩
/-- The channel `e` of head `h` among the 512 value channels. -/
def vcol (h : Fin 4) (e : Fin 128) : Fin 512 := ⟨h.val * 128 + e.val, by omega⟩
/-- The row `i` of head `h` in the heads' rows one under the other. -/
def hrow (h : Fin 4) (i : Fin 64) : Fin 256 := ⟨h.val * 64 + i.val, by omega⟩
/-- The head of a key channel. -/
def headOf (c : Fin 256) : Fin 4 := ⟨c.val / 64, by omega⟩

theorem headOf_col (h : Fin 4) (d : Fin 64) : headOf (col h d) = h := by
  apply Fin.ext; simp only [headOf, col]; omega

end Cert.GlaSpec

end
-- ==== Proof.GlaMask.lean ====
/- The masks of the attention kernel, entry by entry. -/
module

public import proofs.«01_k».proof.Proof.Gen.KernelIdeal.Skeleton
public import proofs.«01_k».proof.Proof.GlaIdx
public import Idealize.ShloMosaic.Lib.Pointwise
public import Idealize.ShloMosaic.Lib.Pipeline.ValueKit

@[expose] public section

set_option maxRecDepth 16384

noncomputable section

namespace Cert.GlaPay

open Idealize.ShloMosaic Idealize.ShloMosaic.TcCoe Idealize.SL.Sem
open Cert.KernelIdeal Cert.KernelIdeal.Gen Cert.GlaSpec
open scoped BigOperators

/-- The masks of the four heads' channels. -/
def m0 : IVec S1x256 1 := k0_pay2 k0_pay60 k0_pay61 k0_pay62
def m1 : IVec S1x256 1 := k0_pay3 k0_pay60 k0_pay61 k0_pay62
def m2 : IVec S1x256 1 := k0_pay4 k0_pay60 k0_pay61 k0_pay62
def m3 : IVec S1x256 1 := k0_pay5 k0_pay60 k0_pay61 k0_pay62

theorem m0_eq (c : Fin 256) : m0 (ix2 0 c) = if headOf c = 0 then 1#1 else 0#1 := by
  revert c; decide +kernel
theorem m1_eq (c : Fin 256) : m1 (ix2 0 c) = if headOf c = 1 then 1#1 else 0#1 := by
  revert c; decide +kernel
theorem m2_eq (c : Fin 256) : m2 (ix2 0 c) = if headOf c = 2 then 1#1 else 0#1 := by
  revert c; decide +kernel
theorem m3_eq (c : Fin 256) : m3 (ix2 0 c) = if headOf c = 3 then 1#1 else 0#1 := by
  revert c; decide +kernel

/-- The masks of the scores: rows up to a row, and rows from a row on. -/
theorem pay7_eq (h : Fin 4) (i j : Fin 64) : k0_pay7 (ix2 (hrow h i) j) = if j ≤ i then 1#1 else 0#1 := by
  revert h i j; decide +kernel
theorem pay8_eq (h : Fin 4) (i j : Fin 64) : k0_pay8 (ix2 (hrow h i) j) = if i ≤ j then 1#1 else 0#1 := by
  revert h i j; decide +kernel

end Cert.GlaPay

end
-- ==== Proof.FfnSpec.lean ====
/- The feed-forward sublayer on one row of the sequence, over the extended reals. -/
module

public import Idealize.ShloMosaic.PureOps.Ideal
public import Idealize.ShloMosaic.PureOps.Ideal.Laws

@[expose] public section

noncomputable section

namespace Cert.FfnSpec

open Idealize.ShloMosaic
open scoped BigOperators

/-- The number of channels, 1024, as the programs write it. -/
def width : EReal := Ideal.ofBits .f32 0x44800000#32
/-- The small constant under the root of the normalisation, as the programs write it. -/
def eps : EReal := Ideal.ofBits .f32 0x358637BD#32

/-- The reciprocal root mean square of a row. -/
def scaleOf (x : Fin 1024 → EReal) : EReal := Ideal.rsqrt (Ideal.div (∑ k, x k * x k) width + eps)

/-- A row divided by its root mean square and multiplied by the gains `g`. -/
def rms (x g : Fin 1024 → EReal) (j : Fin 1024) : EReal := x j * scaleOf x * g j

/-- The normalised row, modulated by a scale and a shift per channel. -/
def modulated (x g sc sh : Fin 1024 → EReal) (j : Fin 1024) : EReal := rms x g j * (1 + sc j) + sh j

/-- `a · logistic a` as a quotient. -/
def silu (a : EReal) : EReal := Ideal.div a (1 + Ideal.exp (-a))

/-- One hidden unit: the gate column through silu, times the value column. -/
def hidden (h : Fin 1024 → EReal) (wa wu : Fin 1024 → EReal) : EReal :=
  silu (∑ d, h d * wa d) * ∑ d, h d * wu d

/-- The network's output before its normalisation: the hidden units through the second matrix. -/
def inner (h : Fin 1024 → EReal) (wa wu : Fin 1024 → Fin 2816 → EReal) (wo : Fin 2816 → Fin 1024 → EReal) (c : Fin 1024) : EReal :=
  ∑ k : Fin 2816, hidden h (fun d => wa d k) (fun d => wu d k) * wo k c

/-- The sublayer's row: the input plus the gated, normalised output of the network. -/
def out (x gpre gpost sh sc gate : Fin 1024 → EReal) (wa wu : Fin 1024 → Fin 2816 → EReal) (wo : Fin 2816 → Fin 1024 → EReal)
    (c : Fin 1024) : EReal :=
  x c + gate c * rms (inner (modulated x gpre sc sh) wa wu wo) gpost c

/-- A quotient by `1 + exp a` is the product with the reciprocal. -/
theorem div_eq_mul_div_one (a b : EReal) : Ideal.div a (1 + Ideal.exp b) = a * Ideal.div 1 (1 + Ideal.exp b) := by
  have h0 : (0 : EReal) ≤ Ideal.exp b := by
    induction b with
    | bot => exact le_refl (0 : EReal)
    | top => exact (le_top : (0 : EReal) ≤ ⊤)
    | coe r => exact EReal.coe_nonneg.mpr (Real.exp_pos r).le
  have h : (1 : EReal) + Ideal.exp b ≠ 0 := by
    have : (0 : EReal) < 1 + Ideal.exp b := lt_of_lt_of_le zero_lt_one (le_add_of_nonneg_right h0)
    exact this.ne'
  simp only [Ideal.div, if_neg h, one_mul]

/-- The reference's spelling of silu. -/
theorem mul_logistic (a : EReal) : a * Ideal.logistic a = silu a := by
  unfold silu Ideal.logistic
  exact (div_eq_mul_div_one a (-a)).symm

/-- The sum over the 2816 hidden units taken in two runs. -/
theorem sum_two_runs (f : Fin 2816 → EReal) :
    (∑ k : Fin 1536, f ⟨k.val, by omega⟩) + (∑ k : Fin 1280, f ⟨1536 + k.val, by omega⟩) = ∑ k : Fin 2816, f k :=
  (Fin.sum_univ_add (a := 1536) (b := 1280) f).symm

end Cert.FfnSpec

end
-- ==== Proof.GlaSpec.lean ====
/- The gated linear attention of one chunk of rows: the functions both programs compute. -/
module

public import Idealize.ShloMosaic.Lib.Pointwise
public import proofs.«01_k».proof.Proof.FfnSpec
public import proofs.«01_k».proof.Proof.GlaIdx

@[expose] public section

noncomputable section

namespace Cert.GlaSpec

open Idealize.ShloMosaic
open scoped BigOperators

/-- The log-decay of a gate's pre-activation: a sixteenth of the logarithm of its logistic. -/
def gate (z : EReal) : EReal :=
  (min z 0 - Ideal.log1p (Ideal.exp (0 - max z (-z)))) * Ideal.ofBits .f32 0x3D800000#32

/-- The decay's logarithm summed over the rows up to each one; `p i j` says that row `j` is not after row `i`. -/
def cum (p : Fin 64 → Fin 64 → Prop) [DecidableRel p] (l : Fin 64 → Fin 256 → EReal) (i : Fin 64) (c : Fin 256) : EReal :=
  ∑ j : Fin 64, if p i j then l j c else 0

/-- The state after the chunk. -/
def next (last : Fin 64) (g k : Fin 64 → Fin 256 → EReal) (v : Fin 64 → Fin 512 → EReal) (S : Fin 128 → Fin 256 → EReal)
    (e : Fin 128) (c : Fin 256) : EReal :=
  Ideal.exp (g last c) * S e c + ∑ j : Fin 64, v j (vcol (headOf c) e) * (k j c * Ideal.exp (g last c - g j c))

/-- The scores of a head's rows within the chunk. -/
def score (p : Fin 64 → Fin 64 → Prop) [DecidableRel p] (mid : Fin 64) (g q k : Fin 64 → Fin 256 → EReal) (h : Fin 4)
    (i j : Fin 64) : EReal :=
  if p i j then ∑ d : Fin 64, (q i (col h d) * Ideal.exp (g i (col h d) - g mid (col h d)))
    * (k j (col h d) * Ideal.exp (g mid (col h d) - g j (col h d))) else 0

/-- The rows a head gives: those within the chunk and those of the state before it. -/
def rows (p : Fin 64 → Fin 64 → Prop) [DecidableRel p] (mid : Fin 64) (g q k : Fin 64 → Fin 256 → EReal)
    (v : Fin 64 → Fin 512 → EReal) (S : Fin 128 → Fin 256 → EReal) (h : Fin 4) (i : Fin 64) (e : Fin 128) : EReal :=
  (∑ j : Fin 64, score p mid g q k h i j * v j (vcol h e))
    + ∑ d : Fin 64, (q i (col h d) * Ideal.exp (g i (col h d))) * S e (col h d)

/-- A sum over all channels of what is zero off a head is the sum over the head's channels. -/
theorem sum_head (h : Fin 4) (f g : Fin 256 → EReal) :
    (∑ c : Fin 256, (if headOf c = h then f c else 0) * g c) = ∑ d : Fin 64, f (col h d) * g (col h d) := by
  have e : (∑ c : Fin 256, (if headOf c = h then f c else 0) * g c) =
      ∑ x : Fin 4 × Fin 64, (if x.1 = h then f (col x.1 x.2) else 0) * g (col x.1 x.2) := by
    refine (Fintype.sum_equiv (finProdFinEquiv (m := 4) (n := 64)) _ _ fun x => ?_).symm
    have hx : (finProdFinEquiv x : Fin (4 * 64)) = col x.1 x.2 := by
      apply Fin.ext; simp only [finProdFinEquiv_apply_val, col]; omega
    rw [show (finProdFinEquiv x : Fin 256) = col x.1 x.2 from hx, headOf_col]
  rw [e, Fintype.sum_prod_type, Finset.sum_eq_single h]
  · simp
  · intro b _ hb; simp [hb]
  · intro hh; exact absurd (Finset.mem_univ h) hh

/-- Splitting a logarithm into two parts adds nothing: the second part is what the first leaves. -/
theorem add_sub_self {x : EReal} (h : x ≠ ⊤) : x + (x - x) = x := by
  induction x using EReal.rec with
  | bot => simp
  | coe r => rw [EReal.sub_self (EReal.coe_ne_top r) (EReal.coe_ne_bot r), add_zero]
  | top => exact absurd rfl h

/-- The scale of the gate's logarithm. -/
theorem sixteenth : Ideal.ofBits .f32 0x3D800000#32 = ((1 / 16 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num

/-- The gate in the reference's form. -/
def gateRef (z : EReal) : EReal := Ideal.div (-Ideal.log1p (Ideal.exp (-z))) (Ideal.ofBits .f32 0x41800000#32)

theorem log1p_exp (r : ℝ) : Ideal.log1p (Ideal.exp (r : EReal)) = ((Real.log (1 + Real.exp r) : ℝ) : EReal) := by
  have h : ¬ (1 + Real.exp r ≤ 0) := by have := Real.exp_pos r; linarith
  change Ideal.log ((1 : EReal) + ((Real.exp r : ℝ) : EReal)) = _
  rw [show (1 : EReal) + ((Real.exp r : ℝ) : EReal) = ((1 + Real.exp r : ℝ) : EReal) by push_cast; rfl]
  change (if 1 + Real.exp r ≤ 0 then (⊥ : EReal) else ((Real.log (1 + Real.exp r) : ℝ) : EReal)) = _
  rw [if_neg h]

theorem log1p_zero : Ideal.log1p 0 = 0 := by
  change Ideal.log ((1 : EReal) + 0) = 0
  rw [add_zero, show (1 : EReal) = ((1 : ℝ) : EReal) by norm_cast]
  change (if (1 : ℝ) ≤ 0 then (⊥ : EReal) else ((Real.log 1 : ℝ) : EReal)) = _
  rw [if_neg (by norm_num), Real.log_one]; rfl

theorem gate_bot : gate ⊥ = ⊥ := by
  unfold gate
  rw [sixteenth, show max (⊥ : EReal) (-⊥) = ⊤ by simp, show (0 : EReal) - ⊤ = ⊥ by simp, show Ideal.exp ⊥ = 0 from rfl, log1p_zero]
  rw [show min (⊥ : EReal) 0 = ⊥ by simp, sub_zero]
  exact EReal.bot_mul_coe_of_pos (by norm_num)
theorem gate_top : gate ⊤ = 0 := by
  unfold gate
  rw [show max (⊤ : EReal) (-⊤) = ⊤ by simp, show (0 : EReal) - ⊤ = ⊥ by simp, show Ideal.exp ⊥ = 0 from rfl, log1p_zero]
  simp
theorem gate_coe (r : ℝ) : gate r = (((min r 0 - Real.log (1 + Real.exp (-|r|))) * (1 / 16) : ℝ) : EReal) := by
  unfold gate
  rw [sixteenth, show max (r : EReal) (-r) = ((|r| : ℝ) : EReal) by
    rw [← EReal.coe_neg, abs_eq_max_neg]; exact (EReal.coe_strictMono.monotone.map_max).symm,
    show (0 : EReal) - ((|r| : ℝ) : EReal) = ((-|r| : ℝ) : EReal) by rw [zero_sub, EReal.coe_neg], log1p_exp,
    show min (r : EReal) 0 = ((min r 0 : ℝ) : EReal) from (EReal.coe_strictMono.monotone.map_min).symm]
  push_cast; rfl

/-- The gate is at most zero, so never positive infinity. -/
theorem gate_ne_top (z : EReal) : gate z ≠ ⊤ := by
  induction z using EReal.rec with
  | bot => rw [gate_bot]; exact bot_ne_top
  | top => rw [gate_top]; exact EReal.zero_ne_top
  | coe r => rw [gate_coe]; exact EReal.coe_ne_top _

theorem gateRef_eq (z : EReal) : gateRef z = gate z := by
  have h16 : ((16 : ℝ) : EReal) ≠ 0 := by norm_cast
  have hi : ((16 : ℝ) : EReal)⁻¹ = ((1 / 16 : ℝ) : EReal) := by rw [← EReal.coe_inv]; norm_num
  unfold gateRef Ideal.div
  rw [sixteen, if_neg h16, hi]
  induction z using EReal.rec with
  | bot =>
    rw [gate_bot, show -(⊥ : EReal) = ⊤ by simp, show Ideal.exp ⊤ = ⊤ from rfl, show Ideal.log1p ⊤ = ⊤ from rfl,
      show -(⊤ : EReal) = ⊥ by simp]
    exact EReal.bot_mul_coe_of_pos (by norm_num)
  | top => rw [gate_top, show -(⊤ : EReal) = ⊥ by simp, show Ideal.exp ⊥ = 0 from rfl, log1p_zero]; simp
  | coe r =>
    rw [gate_coe, ← EReal.coe_neg, log1p_exp, ← EReal.coe_neg, ← EReal.coe_mul]
    congr 2
    rcases le_total 0 r with h | h
    · rw [min_eq_right h, abs_of_nonneg h]; ring
    · rw [min_eq_left h, abs_of_nonpos h, neg_neg]
      have e1 := Real.exp_pos r
      have e2 : 1 + Real.exp (-r) = (1 + Real.exp r) * Real.exp (-r) := by
        rw [add_mul, ← Real.exp_add]; simp [add_comm]
      rw [e2, Real.log_mul (by positivity) (Real.exp_pos _).ne', Real.log_exp]; ring

theorem cum_split (p : Fin 64 → Fin 64 → Prop) [DecidableRel p] (l : Fin 64 → Fin 256 → EReal) (hl : ∀ j c, l j c ≠ ⊤)
    (i : Fin 64) (c : Fin 256) :
    (∑ j : Fin 64, (if p i j then 1 else 0) * l j c) + (∑ j : Fin 64, (if p i j then 1 else 0) * (l j c - l j c)) = cum p l i c := by
  rw [← Finset.sum_add_distrib]
  refine Finset.sum_congr rfl fun j _ => ?_
  by_cases h : p i j
  · simp only [if_pos h, one_mul]; exact add_sub_self (hl j c)
  · simp only [if_neg h, zero_mul, add_zero]

end Cert.GlaSpec

end
-- ==== Proof.GlaPay.lean ====
/- The values one turn of the attention kernel's loop writes, entry by entry. -/
module

public import proofs.«01_k».proof.Proof.GlaMask
public import proofs.«01_k».proof.Proof.GlaSpec

@[expose] public section

set_option maxRecDepth 16384

noncomputable section

namespace Cert.GlaPay

open Idealize.ShloMosaic Idealize.ShloMosaic.TcCoe Idealize.SL.Sem
open Cert.KernelIdeal Cert.KernelIdeal.Gen Cert.GlaSpec
open scoped BigOperators

/-- The heads' rows one under the other, each with the other heads' channels zero. -/
def stackV (x : FVec Ideal S64x256 .bf16) : FVec Ideal S256x256 .bf16 :=
  concatenate S256x256 0 [⟨S64x256, select (broadcastTo S64x256 (shapeCast S1x256 m0 shapeCasts_S1x256_S1x256) broadcasts_S1x256_S64x256) x (broadcast S64x256 (Scalar.ofBits .bf16 0x0000#16))⟩,
    ⟨S64x256, select (broadcastTo S64x256 (shapeCast S1x256 m1 shapeCasts_S1x256_S1x256) broadcasts_S1x256_S64x256) x (broadcast S64x256 (Scalar.ofBits .bf16 0x0000#16))⟩,
    ⟨S64x256, select (broadcastTo S64x256 (shapeCast S1x256 m2 shapeCasts_S1x256_S1x256) broadcasts_S1x256_S64x256) x (broadcast S64x256 (Scalar.ofBits .bf16 0x0000#16))⟩,
    ⟨S64x256, select (broadcastTo S64x256 (shapeCast S1x256 m3 shapeCasts_S1x256_S1x256) broadcasts_S1x256_S64x256) x (broadcast S64x256 (Scalar.ofBits .bf16 0x0000#16))⟩]
    concatenates_S64x256_S64x256_S64x256_S64x256_S256x256_d0

theorem stackV_eq (x : FVec Ideal S64x256 .bf16) (h : Fin 4) (i : Fin 64) (c : Fin 256) :
    stackV x (ix2 (hrow h i) c) = if headOf c = h then x (ix2 i c) else 0 := by
  unfold stackV
  generalize e0 : m0 = a0
  generalize e1 : m1 = a1
  generalize e2 : m2 = a2
  generalize e3 : m3 = a3
  pointwise
  subst e0 e1 e2 e3
  rw [m0_eq, m1_eq, m2_eq, m3_eq]
  have hs (b : Fin 4) (y : EReal) : Scalar.select (if headOf c = b then 1#1 else 0#1) y 0 = if headOf c = b then y else 0 := by
    by_cases hb : headOf c = b <;> simp [hb, Scalar.select]
  simp only [hs]
  match h with
  | 0 =>
    rw [dif_pos (by simp only [hrow]; omega)]
    congr 3
    apply Fin.ext; simp only [hrow]; simp
  | 1 =>
    rw [dif_neg (by simp only [hrow]; omega), dif_pos (by simp only [hrow]; omega)]
    congr 3
    apply Fin.ext; simp only [hrow]; omega
  | 2 =>
    rw [dif_neg (by simp only [hrow]; omega), dif_neg (by simp only [hrow]; omega), dif_pos (by simp only [hrow]; omega)]
    congr 3
    apply Fin.ext; simp only [hrow]; omega
  | 3 =>
    rw [dif_neg (by simp only [hrow]; omega), dif_neg (by simp only [hrow]; omega), dif_neg (by simp only [hrow]; omega)]
    congr 3
    apply Fin.ext; simp only [hrow]; omega

/-- The masked scores of the heads' rows. -/
def scoreV (mk : IVec S256x64 1) (st : FVec Ideal S256x256 .bf16) (kg : FVec Ideal S64x256 .bf16) : FVec Ideal S256x64 .bf16 :=
  truncf .bf16 (select mk (matmul dot_S256x256_S64x256_S256x64_1_1_0_0_n_n none st kg (constant S256x64 .f32 0x00000000#32))
    (broadcast S256x64 (Scalar.ofBits .f32 0x00000000#32))) bitsLt_bf16_f32

theorem scoreV_eq (mk : IVec S256x64 1) (x kg : FVec Ideal S64x256 .bf16) (h : Fin 4) (i j : Fin 64) :
    scoreV mk (stackV x) kg (ix2 (hrow h i) j) =
      if mk (ix2 (hrow h i) j) = 1#1 then ∑ d : Fin 64, x (ix2 i (col h d)) * kg (ix2 j (col h d)) else 0 := by
  unfold scoreV
  have e : (fun c : Fin 256 => stackV x (ix2 (hrow h i) c) * kg (ix2 j c)) =
      fun c => (if headOf c = h then x (ix2 i c) else 0) * kg (ix2 j c) := funext fun c => by rw [stackV_eq]
  have e2 := sum_head h (fun c => x (ix2 i c)) (fun c => kg (ix2 j c))
  generalize stackV x = s at *
  pointwise
  rw [← e2, ← e]
  unfold Scalar.select
  rfl

/-- The heads' rows of the state. -/
def interV (st : FVec Ideal S256x256 .bf16) (S : FVec Ideal S128x256 .f32) : FVec Ideal S256x128 .f32 :=
  matmul dot_S256x256_S128x256_S256x128_1_1_0_0_n_n none st (truncf .bf16 S bitsLt_bf16_f32) (constant S256x128 .f32 0x00000000#32)

theorem interV_eq (x : FVec Ideal S64x256 .bf16) (S : FVec Ideal S128x256 .f32) (h : Fin 4) (i : Fin 64) (e : Fin 128) :
    interV (stackV x) S (ix2 (hrow h i) e) = ∑ d : Fin 64, x (ix2 i (col h d)) * S (ix2 e (col h d)) := by
  unfold interV
  have e1 : (fun c : Fin 256 => stackV x (ix2 (hrow h i) c) * S (ix2 e c)) =
      fun c => (if headOf c = h then x (ix2 i c) else 0) * S (ix2 e c) := funext fun c => by rw [stackV_eq]
  have e2 := sum_head h (fun c => x (ix2 i c)) (fun c => S (ix2 e c))
  generalize stackV x = s at *
  pointwise
  rw [← e2, ← e1]

/-- A head's rows given, from the scores and the rows of the state. -/
def headV (h : Fin 4) (s : FVec Ideal S256x64 .bf16) (o : FVec Ideal S256x128 .f32) (v : FVec Ideal S64x512 .bf16) (i : Fin 64)
    (e : Fin 128) : EReal :=
  (∑ j : Fin 64, s (ix2 (hrow h i) j) * v (ix2 j (vcol h e))) + o (ix2 (hrow h i) e)

theorem pay47_eq (v : FVec Ideal S64x512 .bf16) (s : FVec Ideal S256x64 .bf16) (o : FVec Ideal S256x128 .f32) (i : Fin 64) (e : Fin 128) :
    k0_pay47 v s o (ix3 0 i e) = headV 2 s o v i e := by
  unfold k0_pay47 headV
  pointwise
  rfl
theorem pay48_eq (v : FVec Ideal S64x512 .bf16) (s : FVec Ideal S256x64 .bf16) (o : FVec Ideal S256x128 .f32) (i : Fin 64) (e : Fin 128) :
    k0_pay48 v s o (ix3 0 i e) = headV 3 s o v i e := by
  unfold k0_pay48 headV
  pointwise
  rfl
theorem pay21_eq (v : FVec Ideal S64x512 .bf16) (S : FVec Ideal S128x256 .f32) (q : FVec Ideal S256x256 .bf16) (s : FVec Ideal S256x64 .f32) (i : Fin 64) (e : Fin 128) :
    k0_pay21 v S q s (ix3 0 i e) = headV 0 s (interV q S) v i e := by
  unfold k0_pay21 headV
  generalize hz : k0_pay20 S q = z
  rw [show interV q S = z from hz]
  unfold k0_pay19
  rw [show (fun j : Fin 64 => s (ix2 (hrow 0 i) j) * v (ix2 j (vcol 0 e))) =
      fun j => s (ix2 ⟨i.val, by omega⟩ j) * v (ix2 j ⟨e.val, by omega⟩) from funext fun j => by
        rw [show hrow 0 i = ⟨i.val, by omega⟩ from Fin.ext (by simp [hrow]),
          show vcol 0 e = ⟨e.val, by omega⟩ from Fin.ext (by simp [vcol])],
    show hrow 0 i = ⟨i.val, by omega⟩ from Fin.ext (by simp [hrow])]
  pointwise
theorem pay22_eq (v : FVec Ideal S64x512 .bf16) (S : FVec Ideal S128x256 .f32) (q : FVec Ideal S256x256 .bf16) (s : FVec Ideal S256x64 .f32) (i : Fin 64) (e : Fin 128) :
    k0_pay22 v S q s (ix3 0 i e) = headV 1 s (interV q S) v i e := by
  unfold k0_pay22 headV
  generalize hz : k0_pay20 S q = z
  rw [show interV q S = z from hz]
  unfold k0_pay19
  pointwise
  rfl
theorem pay23_eq (v : FVec Ideal S64x512 .bf16) (S : FVec Ideal S128x256 .f32) (q : FVec Ideal S256x256 .bf16) (s : FVec Ideal S256x64 .f32) (i : Fin 64) (e : Fin 128) :
    k0_pay23 v S q s (ix3 0 i e) = headV 2 s (interV q S) v i e := by
  unfold k0_pay23 headV
  generalize hz : k0_pay20 S q = z
  rw [show interV q S = z from hz]
  unfold k0_pay19
  pointwise
  rfl
theorem pay24_eq (v : FVec Ideal S64x512 .bf16) (S : FVec Ideal S128x256 .f32) (q : FVec Ideal S256x256 .bf16) (s : FVec Ideal S256x64 .f32) (i : Fin 64) (e : Fin 128) :
    k0_pay24 v S q s (ix3 0 i e) = headV 3 s (interV q S) v i e := by
  unfold k0_pay24 headV
  generalize hz : k0_pay20 S q = z
  rw [show interV q S = z from hz]
  unfold k0_pay19
  pointwise
  rfl

/-- The new state. -/
def stateV (gl : FVec Ideal S1x256 .f32) (v : FVec Ideal S64x512 .bf16) (S : FVec Ideal S128x256 .f32) (ku : FVec Ideal S64x256 .f32) :
    FVec Ideal S128x256 .f32 :=
  let o := matmul dot_S64x512_S64x256_S512x256_0_0_1_1_n_n none v (truncf .bf16 ku bitsLt_bf16_f32) (constant S512x256 .f32 0x00000000#32)
  let a0 := select (broadcastTo S128x256 (shapeCast S1x256 m0 shapeCasts_S1x256_S1x256) broadcasts_S1x256_S128x256)
    (extractStridedSlice S128x256 ![0, 0] o slices_S512x256_o0_0_S128x256) (broadcast S128x256 (Scalar.ofBits .f32 0x00000000#32))
  let a1 := select (broadcastTo S128x256 (shapeCast S1x256 m1 shapeCasts_S1x256_S1x256) broadcasts_S1x256_S128x256)
    (extractStridedSlice S128x256 ![128, 0] o slices_S512x256_o128_0_S128x256) a0
  let a2 := select (broadcastTo S128x256 (shapeCast S1x256 m2 shapeCasts_S1x256_S1x256) broadcasts_S1x256_S128x256)
    (extractStridedSlice S128x256 ![256, 0] o slices_S512x256_o256_0_S128x256) a1
  let a3 := select (broadcastTo S128x256 (shapeCast S1x256 m3 shapeCasts_S1x256_S1x256) broadcasts_S1x256_S128x256)
    (extractStridedSlice S128x256 ![384, 0] o slices_S512x256_o384_0_S128x256) a2
  addf (mulf (broadcastTo S128x256 (exp gl) broadcasts_S1x256_S128x256) S) a3

theorem stateV_eq (gl : FVec Ideal S1x256 .f32) (v : FVec Ideal S64x512 .bf16) (S : FVec Ideal S128x256 .f32) (ku : FVec Ideal S64x256 .f32)
    (e : Fin 128) (c : Fin 256) :
    stateV gl v S ku (ix2 e c) = Ideal.exp (gl (ix2 0 c)) * S (ix2 e c) + ∑ j : Fin 64, v (ix2 j (vcol (headOf c) e)) * ku (ix2 j c) := by
  unfold stateV
  generalize e0 : m0 = a0
  generalize e1 : m1 = a1
  generalize e2 : m2 = a2
  generalize e3 : m3 = a3
  pointwise
  subst e0 e1 e2 e3
  rw [m0_eq, m1_eq, m2_eq, m3_eq]
  have hs (b : Fin 4) (y z : EReal) : Scalar.select (if headOf c = b then 1#1 else 0#1) y z = if headOf c = b then y else z := by
    by_cases hb : headOf c = b <;> simp [hb, Scalar.select]
  simp only [hs]
  congr 1
  have h4 : headOf c = 0 ∨ headOf c = 1 ∨ headOf c = 2 ∨ headOf c = 3 := by
    generalize headOf c = b; revert b; decide
  rcases h4 with hb | hb | hb | hb <;> rw [hb] <;> simp [vcol] <;> rfl

theorem pay58_eq (i j : Fin 64) : k0_pay58 (F := Ideal) (ix2 i j) = if j ≤ i then 1 else 0 := by
  have hm : cmpi .sge (iota .tc S64x64 32 [0] iota_S64x64_d0_w32) (iota .tc S64x64 32 [1] iota_S64x64_d1_w32) (ix2 i j) =
      if j ≤ i then 1#1 else 0#1 := by
    revert i j; decide +kernel
  unfold k0_pay58
  generalize cmpi .sge (iota .tc S64x64 32 [0] iota_S64x64_d0_w32) (iota .tc S64x64 32 [1] iota_S64x64_d1_w32) = z at *
  pointwise
  rw [hm]
  by_cases h : j ≤ i <;> simp [h, Scalar.select]
theorem pay59_eq (i j : Fin 64) : k0_pay59 (F := Ideal) (ix2 i j) = if i ≤ j then 1 else 0 := by
  have hm : cmpi .sle (iota .tc S64x64 32 [0] iota_S64x64_d0_w32) (iota .tc S64x64 32 [1] iota_S64x64_d1_w32) (ix2 i j) =
      if i ≤ j then 1#1 else 0#1 := by
    revert i j; decide +kernel
  unfold k0_pay59
  generalize cmpi .sle (iota .tc S64x64 32 [0] iota_S64x64_d0_w32) (iota .tc S64x64 32 [1] iota_S64x64_d1_w32) = z at *
  pointwise
  rw [hm]
  by_cases h : i ≤ j <;> simp [h, Scalar.select]

/-- The gate's pre-activation. -/
def pre (lr : FVec Ideal S1x64x128 .bf16) (wd : FVec Ideal S1x128x256 .bf16) (b : FVec Ideal S1x1x256 .f32) (j : Fin 64) (c : Fin 256) : EReal :=
  (∑ r : Fin 128, lr (ix3 0 j r) * wd (ix3 0 r c)) + b (ix3 0 0 c)

theorem pay27_eq (lr : FVec Ideal S1x64x128 .bf16) (wd : FVec Ideal S1x128x256 .bf16) (b : FVec Ideal S1x1x256 .f32) (j : Fin 64) (c : Fin 256) :
    k0_pay27 (F := Ideal) lr wd b (ix2 j c) = pre lr wd b j c := by
  unfold k0_pay27 pre
  pointwise

/-- The decay's logarithm, given the matrix that sums it. -/
theorem pay30_eq (tri : FVec Ideal S64x64 .bf16) (z : FVec Ideal S64x256 .f32) (p : Fin 64 → Fin 64 → Prop) [DecidableRel p]
    (ht : ∀ i j, tri (ix2 i j) = if p i j then 1 else 0) (i : Fin 64) (c : Fin 256) :
    k0_pay30 tri (minimumf z (broadcast S64x256 (Scalar.ofBits .f32 0x00000000#32))) (absf z) (ix2 i c) =
      cum p (fun j c => gate (z (ix2 j c))) i c := by
  rw [← cum_split p (fun j c => gate (z (ix2 j c))) (fun j c => gate_ne_top _)]
  rw [show (fun j : Fin 64 => (if p i j then (1 : EReal) else 0) * gate (z (ix2 j c))) = fun j => tri (ix2 i j) * gate (z (ix2 j c)) from
    funext fun j => by rw [ht],
    show (fun j : Fin 64 => (if p i j then (1 : EReal) else 0) * (gate (z (ix2 j c)) - gate (z (ix2 j c)))) =
      fun j => tri (ix2 i j) * (gate (z (ix2 j c)) - gate (z (ix2 j c))) from funext fun j => by rw [ht]]
  unfold k0_pay30 gate
  pointwise
  rfl

theorem pay11_pay30 (tri : FVec Ideal S64x64 .bf16) (lr : FVec Ideal S1x64x128 .bf16) (wd : FVec Ideal S1x128x256 .bf16) (b : FVec Ideal S1x1x256 .f32) :
    k0_pay11 tri lr wd b = k0_pay30 tri (minimumf (k0_pay27 lr wd b) (broadcast S64x256 (Scalar.ofBits .f32 0x00000000#32))) (absf (k0_pay27 lr wd b)) := by
  rfl

/-- The queries, scaled. -/
theorem pay16_eq (x : FVec Ideal S1x64x256 .bf16) (i : Fin 64) (c : Fin 256) :
    k0_pay16 (F := Ideal) x (ix2 i c) = x (ix3 0 i c) * Ideal.ofBits .f32 0x3E000000#32 := by
  unfold k0_pay16
  pointwise
theorem pay13_eq (x : FVec Ideal S1x64x256 .bf16) (i : Fin 64) (c : Fin 256) : k0_pay13 (F := Ideal) x (ix2 i c) = x (ix3 0 i c) := by
  unfold k0_pay13
  pointwise
theorem pay14_eq (x : FVec Ideal S1x64x512 .bf16) (i : Fin 64) (c : Fin 512) : k0_pay14 x (ix2 i c) = x (ix3 0 i c) := by
  unfold k0_pay14
  pointwise
theorem pay15_eq (x : FVec Ideal S1x128x256 .f32) (i : Fin 128) (c : Fin 256) : k0_pay15 x (ix2 i c) = x (ix3 0 i c) := by
  unfold k0_pay15
  pointwise

/-- The forward turn. -/
abbrev fwd (i j : Fin 64) : Prop := j ≤ i
/-- The backward turn. -/
abbrev bwd (i j : Fin 64) : Prop := i ≤ j

/-- The chunk's decay of the forward turn. -/
def gF (lr : FVec Ideal S1x64x128 .bf16) (wd : FVec Ideal S1x128x256 .bf16) (b : FVec Ideal S1x1x256 .f32) (i : Fin 64) (c : Fin 256) : EReal :=
  cum fwd (fun j c => gate (pre lr wd b j c)) i c
/-- The chunk's decay of the backward turn. -/
def gB (lr : FVec Ideal S1x64x128 .bf16) (wd : FVec Ideal S1x128x256 .bf16) (b : FVec Ideal S1x1x256 .f32) (i : Fin 64) (c : Fin 256) : EReal :=
  cum bwd (fun j c => gate (pre lr wd b j c)) i c

theorem pay11_eq (lr : FVec Ideal S1x64x128 .bf16) (wd : FVec Ideal S1x128x256 .bf16) (b : FVec Ideal S1x1x256 .f32) (i : Fin 64) (c : Fin 256) :
    k0_pay11 (F := Ideal) k0_pay58 lr wd b (ix2 i c) = gF lr wd b i c := by
  rw [pay11_pay30, pay30_eq k0_pay58 _ fwd pay58_eq]
  simp only [pay27_eq]; rfl
theorem pay30B_eq (lr : FVec Ideal S1x64x128 .bf16) (wd : FVec Ideal S1x128x256 .bf16) (b : FVec Ideal S1x1x256 .f32) (i : Fin 64) (c : Fin 256) :
    k0_pay30 (F := Ideal) k0_pay59 (k0_pay28 lr wd b) (k0_pay29 lr wd b) (ix2 i c) = gB lr wd b i c := by
  refine (pay30_eq k0_pay59 (k0_pay27 lr wd b) bwd pay59_eq i c).trans ?_
  simp only [pay27_eq]; rfl

/-- The rows of a block of queries, scaled. -/
def qs (x : FVec Ideal S1x64x256 .bf16) (i : Fin 64) (c : Fin 256) : EReal := x (ix3 0 i c) * Ideal.ofBits .f32 0x3E000000#32
/-- The rows of a block of keys. -/
def ks (x : FVec Ideal S1x64x256 .bf16) (i : Fin 64) (c : Fin 256) : EReal := x (ix3 0 i c)
/-- The rows of a block of values. -/
def vs (x : FVec Ideal S1x64x512 .bf16) (i : Fin 64) (c : Fin 512) : EReal := x (ix3 0 i c)
/-- The state's rows. -/
def ss (x : FVec Ideal S1x128x256 .f32) (i : Fin 128) (c : Fin 256) : EReal := x (ix3 0 i c)

/-- Queries weighted by the decay from a row. -/
def qgV (q g : FVec Ideal S64x256 .f32) (row : FVec Ideal S1x256 .f32) : FVec Ideal S64x256 .bf16 :=
  truncf .bf16 (mulf q (exp (subf g (broadcastTo S64x256 row broadcasts_S1x256_S64x256)))) bitsLt_bf16_f32
/-- Queries weighted by the decay from the chunk's edge. -/
def qeV (q g : FVec Ideal S64x256 .f32) : FVec Ideal S64x256 .bf16 := truncf .bf16 (mulf q (exp g)) bitsLt_bf16_f32
/-- Keys weighted by the decay to a row. -/
def kgV (k g : FVec Ideal S64x256 .f32) (row : FVec Ideal S1x256 .f32) : FVec Ideal S64x256 .f32 :=
  mulf k (exp (subf (broadcastTo S64x256 row broadcasts_S1x256_S64x256) g))

theorem qgV_eq (q g : FVec Ideal S64x256 .f32) (row : FVec Ideal S1x256 .f32) (i : Fin 64) (c : Fin 256) :
    qgV q g row (ix2 i c) = q (ix2 i c) * Ideal.exp (g (ix2 i c) - row (ix2 0 c)) := by
  unfold qgV
  pointwise
theorem qeV_eq (q g : FVec Ideal S64x256 .f32) (i : Fin 64) (c : Fin 256) :
    qeV q g (ix2 i c) = q (ix2 i c) * Ideal.exp (g (ix2 i c)) := by
  unfold qeV
  pointwise
theorem kgV_eq (k g : FVec Ideal S64x256 .f32) (row : FVec Ideal S1x256 .f32) (i : Fin 64) (c : Fin 256) :
    kgV k g row (ix2 i c) = k (ix2 i c) * Ideal.exp (row (ix2 0 c) - g (ix2 i c)) := by
  unfold kgV
  pointwise

/-- The rows given, from tables read entry by entry. -/
theorem head_rows (p : Fin 64 → Fin 64 → Prop) [DecidableRel p] (mid : Fin 64) (mk : IVec S256x64 1)
    (hm : ∀ h i j, mk (ix2 (hrow h i) j) = if p i j then 1#1 else 0#1)
    (q k g : FVec Ideal S64x256 .f32) (v : FVec Ideal S64x512 .bf16) (S : FVec Ideal S128x256 .f32) (row : FVec Ideal S1x256 .f32)
    (Q K G : Fin 64 → Fin 256 → EReal) (V : Fin 64 → Fin 512 → EReal) (T : Fin 128 → Fin 256 → EReal)
    (hq : ∀ i c, q (ix2 i c) = Q i c) (hk : ∀ i c, k (ix2 i c) = K i c) (hg : ∀ i c, g (ix2 i c) = G i c)
    (hv : ∀ i c, v (ix2 i c) = V i c) (hS : ∀ i c, S (ix2 i c) = T i c) (hr : ∀ c, row (ix2 0 c) = G mid c)
    (h : Fin 4) (i : Fin 64) (e : Fin 128) :
    headV h (scoreV mk (stackV (qgV q g row)) (kgV k g row)) (interV (stackV (qeV q g)) S) v i e = rows p mid G Q K V T h i e := by
  unfold headV rows
  congr 1
  · refine Finset.sum_congr rfl fun j _ => ?_
    rw [hv, scoreV_eq, hm]
    unfold score
    by_cases hp : p i j
    · simp only [if_pos hp, if_true]
      congr 1
      exact Finset.sum_congr rfl fun d _ => by rw [qgV_eq, kgV_eq, hq, hk, hg, hg, hr]
    · simp only [if_neg hp]; rfl
  · rw [interV_eq]
    exact Finset.sum_congr rfl fun d _ => by rw [qeV_eq, hq, hg, hS]

theorem state_next (last : Fin 64) (k g : FVec Ideal S64x256 .f32) (v : FVec Ideal S64x512 .bf16) (S : FVec Ideal S128x256 .f32)
    (row : FVec Ideal S1x256 .f32) (K G : Fin 64 → Fin 256 → EReal) (V : Fin 64 → Fin 512 → EReal) (T : Fin 128 → Fin 256 → EReal)
    (hk : ∀ i c, k (ix2 i c) = K i c) (hg : ∀ i c, g (ix2 i c) = G i c)
    (hv : ∀ i c, v (ix2 i c) = V i c) (hS : ∀ i c, S (ix2 i c) = T i c) (hr : ∀ c, row (ix2 0 c) = G last c) (e : Fin 128) (c : Fin 256) :
    stateV row v S (kgV k g row) (ix2 e c) = next last G K V T e c := by
  rw [stateV_eq]
  unfold next
  rw [hr, hS]
  congr 1
  exact Finset.sum_congr rfl fun j _ => by rw [hv, kgV_eq, hk, hr, hg]

/-- The decay's row at the middle of the chunk. -/
def midV (g : FVec Ideal S64x256 .f32) : FVec Ideal S1x256 .f32 := extractStridedSlice S1x256 ![31, 0] g slices_S64x256_o31_0_S1x256
theorem midV_eq (g : FVec Ideal S64x256 .f32) (c : Fin 256) : midV g (ix2 0 c) = g (ix2 31 c) := by
  unfold midV
  pointwise
theorem pay17_stack (g : FVec Ideal S64x256 .f32) (q : FVec Ideal S1x64x256 .bf16) :
    k0_pay17 (F := Ideal) m0 m1 m2 m3 g q = stackV (qeV (k0_pay16 q) g) := by
  unfold k0_pay17 stackV qeV
  rfl
theorem pay18_score (mk : IVec S256x64 1) (g k : FVec Ideal S64x256 .f32) (q : FVec Ideal S1x64x256 .bf16) :
    k0_pay18 (F := Ideal) m0 m1 m2 m3 mk g k q =
      scoreV mk (stackV (qgV (k0_pay16 q) g (midV g)))
        (kgV k g (midV g)) := by
  unfold k0_pay18 scoreV stackV qgV kgV midV
  rfl
theorem pay26_state (gl : FVec Ideal S1x256 .f32) (v : FVec Ideal S64x512 .bf16) (S : FVec Ideal S128x256 .f32) (ku : FVec Ideal S64x256 .f32) :
    k0_pay26 (F := Ideal) m0 m1 m2 m3 gl v S ku = shapeCast S1x128x256 (stateV gl v S ku) shapeCasts_S128x256_S1x128x256 := by
  unfold k0_pay26 stateV
  rfl
theorem pay25_kg (g : FVec Ideal S64x256 .f32) (gl : FVec Ideal S1x256 .f32) (k : FVec Ideal S64x256 .f32) :
    k0_pay25 (F := Ideal) g gl k = kgV k g gl := by
  unfold k0_pay25 kgV
  rfl
theorem pay49_state (g k : FVec Ideal S64x256 .f32) (gl : FVec Ideal S1x256 .f32) (v : FVec Ideal S64x512 .bf16) (S : FVec Ideal S128x256 .f32) :
    k0_pay49 (F := Ideal) m0 m1 m2 m3 g gl k v S = stateV gl v S (kgV k g gl) := by
  unfold k0_pay49 stateV kgV
  rfl
theorem pay43_inter (g : FVec Ideal S64x256 .f32) (S : FVec Ideal S128x256 .f32) (q : FVec Ideal S64x256 .f32) :
    k0_pay43 (F := Ideal) m0 m1 m2 m3 g S q = interV (stackV (qeV q g)) S := by
  unfold k0_pay43 interV stackV qeV
  rfl
theorem pay42_score (mk : IVec S256x64 1) (g k : FVec Ideal S64x256 .f32) (row : FVec Ideal S1x256 .f32) (x : FVec Ideal S64x256 .bf16) :
    k0_pay42 (F := Ideal) m3 mk g k row x k0_pay38
      (select (broadcastTo S64x256 (shapeCast S1x256 m0 shapeCasts_S1x256_S1x256) broadcasts_S1x256_S64x256) x k0_pay38)
      (select (broadcastTo S64x256 (shapeCast S1x256 m1 shapeCasts_S1x256_S1x256) broadcasts_S1x256_S64x256) x k0_pay38) (k0_pay41 m2) =
    scoreV mk (stackV x) (kgV k g row) := by
  unfold k0_pay42 scoreV stackV kgV k0_pay38 k0_pay41
  rfl

section fwd
variable (lr : FVec Ideal S1x64x128 .bf16) (wd : FVec Ideal S1x128x256 .bf16) (b : FVec Ideal S1x1x256 .f32)
  (q k : FVec Ideal S1x64x256 .bf16) (v : FVec Ideal S1x64x512 .bf16) (S : FVec Ideal S1x128x256 .f32)

theorem row31 (c : Fin 256) : midV (k0_pay11 k0_pay58 lr wd b) (ix2 0 c) = gF lr wd b 31 c := by
  rw [midV_eq, pay11_eq]
theorem row63 (c : Fin 256) : k0_pay12 (F := Ideal) k0_pay58 lr wd b (ix2 0 c) = gF lr wd b 63 c := by
  rw [← pay11_eq]
  unfold k0_pay12
  generalize k0_pay11 (F := Ideal) k0_pay58 lr wd b = z
  pointwise
theorem row0 (c : Fin 256) : k0_pay31 (F := Ideal) k0_pay59 (k0_pay28 lr wd b) (k0_pay29 lr wd b) (ix2 0 c) = gB lr wd b 0 c := by
  rw [← pay30B_eq]
  unfold k0_pay31
  generalize k0_pay30 (F := Ideal) k0_pay59 (k0_pay28 lr wd b) (k0_pay29 lr wd b) = z
  pointwise
theorem row32 (c : Fin 256) : k0_pay35 (F := Ideal) k0_pay59 (k0_pay28 lr wd b) (k0_pay29 lr wd b) (ix2 0 c) = gB lr wd b 32 c := by
  rw [← pay30B_eq]
  unfold k0_pay35
  generalize k0_pay30 (F := Ideal) k0_pay59 (k0_pay28 lr wd b) (k0_pay29 lr wd b) = z
  pointwise

/-- What the forward turn stores for a head. -/
theorem fwd0 (i : Fin 64) (e : Fin 128) :
    k0_pay21 (F := Ideal) (k0_pay14 v) (k0_pay15 S) (k0_pay17 m0 m1 m2 m3 (k0_pay11 k0_pay58 lr wd b) q)
      (k0_pay18 m0 m1 m2 m3 k0_pay7 (k0_pay11 k0_pay58 lr wd b) (k0_pay13 k) q) (ix3 0 i e) =
    rows fwd 31 (gF lr wd b) (qs q) (ks k) (vs v) (ss S) 0 i e := by
  have hr := head_rows fwd 31 k0_pay7 pay7_eq (k0_pay16 q) (k0_pay13 k) (k0_pay11 k0_pay58 lr wd b) (k0_pay14 v) (k0_pay15 S)
    (midV (k0_pay11 k0_pay58 lr wd b)) (qs q) (ks k) (gF lr wd b) (vs v) (ss S)
    (pay16_eq q) (pay13_eq k) (pay11_eq lr wd b) (pay14_eq v) (pay15_eq S) (row31 lr wd b) 0 i e
  rw [← pay18_score, ← pay17_stack] at hr
  exact (pay21_eq _ _ _ _ i e).trans hr
theorem fwd1 (i : Fin 64) (e : Fin 128) :
    k0_pay22 (F := Ideal) (k0_pay14 v) (k0_pay15 S) (k0_pay17 m0 m1 m2 m3 (k0_pay11 k0_pay58 lr wd b) q)
      (k0_pay18 m0 m1 m2 m3 k0_pay7 (k0_pay11 k0_pay58 lr wd b) (k0_pay13 k) q) (ix3 0 i e) =
    rows fwd 31 (gF lr wd b) (qs q) (ks k) (vs v) (ss S) 1 i e := by
  have hr := head_rows fwd 31 k0_pay7 pay7_eq (k0_pay16 q) (k0_pay13 k) (k0_pay11 k0_pay58 lr wd b) (k0_pay14 v) (k0_pay15 S)
    (midV (k0_pay11 k0_pay58 lr wd b)) (qs q) (ks k) (gF lr wd b) (vs v) (ss S)
    (pay16_eq q) (pay13_eq k) (pay11_eq lr wd b) (pay14_eq v) (pay15_eq S) (row31 lr wd b) 1 i e
  rw [← pay18_score, ← pay17_stack] at hr
  exact (pay22_eq _ _ _ _ i e).trans hr
theorem fwd2 (i : Fin 64) (e : Fin 128) :
    k0_pay23 (F := Ideal) (k0_pay14 v) (k0_pay15 S) (k0_pay17 m0 m1 m2 m3 (k0_pay11 k0_pay58 lr wd b) q)
      (k0_pay18 m0 m1 m2 m3 k0_pay7 (k0_pay11 k0_pay58 lr wd b) (k0_pay13 k) q) (ix3 0 i e) =
    rows fwd 31 (gF lr wd b) (qs q) (ks k) (vs v) (ss S) 2 i e := by
  have hr := head_rows fwd 31 k0_pay7 pay7_eq (k0_pay16 q) (k0_pay13 k) (k0_pay11 k0_pay58 lr wd b) (k0_pay14 v) (k0_pay15 S)
    (midV (k0_pay11 k0_pay58 lr wd b)) (qs q) (ks k) (gF lr wd b) (vs v) (ss S)
    (pay16_eq q) (pay13_eq k) (pay11_eq lr wd b) (pay14_eq v) (pay15_eq S) (row31 lr wd b) 2 i e
  rw [← pay18_score, ← pay17_stack] at hr
  exact (pay23_eq _ _ _ _ i e).trans hr
theorem fwd3 (i : Fin 64) (e : Fin 128) :
    k0_pay24 (F := Ideal) (k0_pay14 v) (k0_pay15 S) (k0_pay17 m0 m1 m2 m3 (k0_pay11 k0_pay58 lr wd b) q)
      (k0_pay18 m0 m1 m2 m3 k0_pay7 (k0_pay11 k0_pay58 lr wd b) (k0_pay13 k) q) (ix3 0 i e) =
    rows fwd 31 (gF lr wd b) (qs q) (ks k) (vs v) (ss S) 3 i e := by
  have hr := head_rows fwd 31 k0_pay7 pay7_eq (k0_pay16 q) (k0_pay13 k) (k0_pay11 k0_pay58 lr wd b) (k0_pay14 v) (k0_pay15 S)
    (midV (k0_pay11 k0_pay58 lr wd b)) (qs q) (ks k) (gF lr wd b) (vs v) (ss S)
    (pay16_eq q) (pay13_eq k) (pay11_eq lr wd b) (pay14_eq v) (pay15_eq S) (row31 lr wd b) 3 i e
  rw [← pay18_score, ← pay17_stack] at hr
  exact (pay24_eq _ _ _ _ i e).trans hr

/-- The state the forward turn stores. -/
theorem fwdS (e : Fin 128) (c : Fin 256) :
    k0_pay26 (F := Ideal) m0 m1 m2 m3 (k0_pay12 k0_pay58 lr wd b) (k0_pay14 v) (k0_pay15 S)
      (k0_pay25 (k0_pay11 k0_pay58 lr wd b) (k0_pay12 k0_pay58 lr wd b) (k0_pay13 k)) (ix3 0 e c) =
    next 63 (gF lr wd b) (ks k) (vs v) (ss S) e c := by
  rw [← state_next 63 (k0_pay13 k) (k0_pay11 k0_pay58 lr wd b) (k0_pay14 v) (k0_pay15 S) (k0_pay12 k0_pay58 lr wd b) (ks k) (gF lr wd b) (vs v) (ss S)
    (pay13_eq k) (pay11_eq lr wd b) (pay14_eq v) (pay15_eq S) (row63 lr wd b) e c]
  rw [pay25_kg, pay26_state]
  generalize stateV _ _ _ _ = z
  pointwise

/-- The scores of the backward turn. -/
def sB : FVec Ideal S256x64 .bf16 :=
  k0_pay42 m3 k0_pay8 (k0_pay30 k0_pay59 (k0_pay28 lr wd b) (k0_pay29 lr wd b)) (k0_pay32 k) (k0_pay35 k0_pay59 (k0_pay28 lr wd b) (k0_pay29 lr wd b))
    (k0_pay37 k0_pay59 (k0_pay28 lr wd b) (k0_pay29 lr wd b) q) k0_pay38 (k0_pay39 k0_pay59 m0 (k0_pay28 lr wd b) (k0_pay29 lr wd b) q)
    (k0_pay40 k0_pay59 m1 (k0_pay28 lr wd b) (k0_pay29 lr wd b) q) (k0_pay41 m2)
/-- The state's rows of the backward turn. -/
def oB : FVec Ideal S256x128 .f32 :=
  k0_pay43 m0 m1 m2 m3 (k0_pay30 k0_pay59 (k0_pay28 lr wd b) (k0_pay29 lr wd b)) (k0_pay34 S) (k0_pay36 q)

theorem bwd_rows (h : Fin 4) (i : Fin 64) (e : Fin 128) :
    headV h (sB lr wd b q k) (oB lr wd b q S) (k0_pay33 v) i e = rows bwd 32 (gB lr wd b) (qs q) (ks k) (vs v) (ss S) h i e := by
  have hr := head_rows bwd 32 k0_pay8 pay8_eq (k0_pay36 q) (k0_pay32 k) (k0_pay30 k0_pay59 (k0_pay28 lr wd b) (k0_pay29 lr wd b)) (k0_pay33 v) (k0_pay34 S)
    (k0_pay35 k0_pay59 (k0_pay28 lr wd b) (k0_pay29 lr wd b)) (qs q) (ks k) (gB lr wd b) (vs v) (ss S) (pay16_eq q) (pay13_eq k) (pay30B_eq lr wd b) (pay14_eq v) (pay15_eq S) (row32 lr wd b) h i e
  rw [← pay42_score, ← pay43_inter] at hr
  exact hr

theorem bwd0 (i : Fin 64) (e : Fin 128) :
    k0_pay44 (F := Ideal) m0 m1 m2 m3 k0_pay8 (k0_pay30 k0_pay59 (k0_pay28 lr wd b) (k0_pay29 lr wd b)) (k0_pay32 k) (k0_pay33 v) (k0_pay34 S)
      (k0_pay35 k0_pay59 (k0_pay28 lr wd b) (k0_pay29 lr wd b)) (k0_pay36 q) (k0_pay37 k0_pay59 (k0_pay28 lr wd b) (k0_pay29 lr wd b) q) k0_pay38
      (k0_pay39 k0_pay59 m0 (k0_pay28 lr wd b) (k0_pay29 lr wd b) q) (k0_pay40 k0_pay59 m1 (k0_pay28 lr wd b) (k0_pay29 lr wd b) q) (k0_pay41 m2) (ix3 0 i e) =
    rows bwd 32 (gB lr wd b) (qs q) (ks k) (vs v) (ss S) 0 i e := by
  rw [← bwd_rows]
  unfold k0_pay44 headV
  rw [show k0_pay42 m3 k0_pay8 (k0_pay30 k0_pay59 (k0_pay28 lr wd b) (k0_pay29 lr wd b)) (k0_pay32 k) (k0_pay35 k0_pay59 (k0_pay28 lr wd b) (k0_pay29 lr wd b))
    (k0_pay37 k0_pay59 (k0_pay28 lr wd b) (k0_pay29 lr wd b) q) k0_pay38 (k0_pay39 k0_pay59 m0 (k0_pay28 lr wd b) (k0_pay29 lr wd b) q)
    (k0_pay40 k0_pay59 m1 (k0_pay28 lr wd b) (k0_pay29 lr wd b) q) (k0_pay41 m2) = sB lr wd b q k from rfl,
    show k0_pay43 m0 m1 m2 m3 (k0_pay30 k0_pay59 (k0_pay28 lr wd b) (k0_pay29 lr wd b)) (k0_pay34 S) (k0_pay36 q) = oB lr wd b q S from rfl]
  generalize sB lr wd b q k = s
  generalize oB lr wd b q S = o
  generalize k0_pay33 (F := Ideal) v = w
  rw [show (fun j : Fin 64 => s (ix2 (hrow 0 i) j) * w (ix2 j (vcol 0 e))) =
      fun j => s (ix2 ⟨i.val, by omega⟩ j) * w (ix2 j ⟨e.val, by omega⟩) from funext fun j => by
        rw [show hrow 0 i = ⟨i.val, by omega⟩ from Fin.ext (by simp [hrow]),
          show vcol 0 e = ⟨e.val, by omega⟩ from Fin.ext (by simp [vcol])],
    show hrow 0 i = ⟨i.val, by omega⟩ from Fin.ext (by simp [hrow])]
  pointwise
theorem bwd1 (i : Fin 64) (e : Fin 128) :
    k0_pay46 (F := Ideal) (k0_pay45 m0 m1 m2 m3 k0_pay8 (k0_pay30 k0_pay59 (k0_pay28 lr wd b) (k0_pay29 lr wd b)) (k0_pay32 k) (k0_pay33 v) (k0_pay34 S)
      (k0_pay35 k0_pay59 (k0_pay28 lr wd b) (k0_pay29 lr wd b)) (k0_pay36 q) (k0_pay37 k0_pay59 (k0_pay28 lr wd b) (k0_pay29 lr wd b) q) k0_pay38
      (k0_pay39 k0_pay59 m0 (k0_pay28 lr wd b) (k0_pay29 lr wd b) q) (k0_pay40 k0_pay59 m1 (k0_pay28 lr wd b) (k0_pay29 lr wd b) q) (k0_pay41 m2)) (ix3 0 i e) =
    rows bwd 32 (gB lr wd b) (qs q) (ks k) (vs v) (ss S) 1 i e := by
  rw [← bwd_rows]
  unfold k0_pay46 k0_pay45 headV
  rw [show k0_pay42 m3 k0_pay8 (k0_pay30 k0_pay59 (k0_pay28 lr wd b) (k0_pay29 lr wd b)) (k0_pay32 k) (k0_pay35 k0_pay59 (k0_pay28 lr wd b) (k0_pay29 lr wd b))
    (k0_pay37 k0_pay59 (k0_pay28 lr wd b) (k0_pay29 lr wd b) q) k0_pay38 (k0_pay39 k0_pay59 m0 (k0_pay28 lr wd b) (k0_pay29 lr wd b) q)
    (k0_pay40 k0_pay59 m1 (k0_pay28 lr wd b) (k0_pay29 lr wd b) q) (k0_pay41 m2) = sB lr wd b q k from rfl,
    show k0_pay43 m0 m1 m2 m3 (k0_pay30 k0_pay59 (k0_pay28 lr wd b) (k0_pay29 lr wd b)) (k0_pay34 S) (k0_pay36 q) = oB lr wd b q S from rfl]
  generalize sB lr wd b q k = s
  generalize oB lr wd b q S = o
  generalize k0_pay33 (F := Ideal) v = w
  pointwise
  rfl
theorem bwd2 (i : Fin 64) (e : Fin 128) :
    k0_pay47 (F := Ideal) (k0_pay33 v) (sB lr wd b q k) (oB lr wd b q S) (ix3 0 i e) = rows bwd 32 (gB lr wd b) (qs q) (ks k) (vs v) (ss S) 2 i e :=
  (pay47_eq _ _ _ i e).trans (bwd_rows lr wd b q k v S 2 i e)
theorem bwd3 (i : Fin 64) (e : Fin 128) :
    k0_pay48 (F := Ideal) (k0_pay33 v) (sB lr wd b q k) (oB lr wd b q S) (ix3 0 i e) = rows bwd 32 (gB lr wd b) (qs q) (ks k) (vs v) (ss S) 3 i e :=
  (pay48_eq _ _ _ i e).trans (bwd_rows lr wd b q k v S 3 i e)

/-- The state the backward turn stores. -/
theorem bwdS (e : Fin 128) (c : Fin 256) :
    k0_pay9 (F := Ideal) (k0_pay49 m0 m1 m2 m3 (k0_pay30 k0_pay59 (k0_pay28 lr wd b) (k0_pay29 lr wd b)) (k0_pay31 k0_pay59 (k0_pay28 lr wd b) (k0_pay29 lr wd b))
      (k0_pay32 k) (k0_pay33 v) (k0_pay34 S)) (ix3 0 e c) =
    next 0 (gB lr wd b) (ks k) (vs v) (ss S) e c := by
  rw [← state_next 0 (k0_pay32 k) (k0_pay30 k0_pay59 (k0_pay28 lr wd b) (k0_pay29 lr wd b)) (k0_pay33 v) (k0_pay34 S)
    (k0_pay31 k0_pay59 (k0_pay28 lr wd b) (k0_pay29 lr wd b)) (ks k) (gB lr wd b) (vs v) (ss S)
    (pay13_eq k) (pay30B_eq lr wd b) (pay14_eq v) (pay15_eq S) (row0 lr wd b) e c]
  rw [pay49_state]
  generalize stateV _ _ _ _ = z
  unfold k0_pay9
  pointwise

end fwd

end Cert.GlaPay

end
-- ==== Proof.GlaLoop.lean ====
/- The attention kernel's loop over the chunks, turn by turn. -/
module

public import proofs.«01_k».proof.Proof.Gen.KernelIdeal.Loops
public import proofs.«01_k».proof.Proof.GlaPay
public import Idealize.ShloMosaic.Lib.WritesUnit

@[expose] public section

set_option maxRecDepth 16384

noncomputable section

namespace Cert.GlaLoop

open Idealize.ShloMosaic Idealize.ShloMosaic.TcCoe Idealize.SL.Sem
open Cert.KernelIdeal Cert.KernelIdeal.Gen Cert.GlaSpec Cert.GlaPay
open scoped BigOperators

/-- The rows of chunk `n` of a block. -/
def cut {W : Nat} {Z : Type} (x : (⟨3, ![1, 2048, W]⟩ : Shape).Idx → Z) (n : Fin 32) (y : (⟨3, ![1, 64, W]⟩ : Shape).Idx) : Z :=
  x (ix3 0 ⟨64 * n.val + (y 1).val, by have h : (y 1).val < 64 := (y 1).isLt; omega⟩ (y 2))
/-- One of a block's two tables. -/
def half {R W : Nat} {Z : Type} (x : (⟨3, ![2, R, W]⟩ : Shape).Idx → Z) (d : Fin 2) (y : (⟨3, ![1, R, W]⟩ : Shape).Idx) : Z :=
  x (ix3 d (y 1) (y 2))

/-- A turn's chunk. -/
def at32 (k : Fin k0_t1_loop.trips) : Fin 32 := ⟨k.val, Nat.lt_of_lt_of_le k.isLt k0_t1_abs.2.1⟩
/-- The backward turn's chunk. -/
def rev32 (n : Fin 32) : Fin 32 := ⟨31 - n.val, by omega⟩

theorem off1 : ∀ k : Fin k0_t1_loop.trips, k0_off1 k = ![0, 64 * (at32 k).val, 0] := by decide +kernel
theorem off2 : ∀ k : Fin k0_t1_loop.trips, k0_off2 k = ![0, 64 * (at32 k).val, 0] := by decide +kernel
theorem off3 : ∀ k : Fin k0_t1_loop.trips, k0_off3 k = ![0, 64 * (at32 k).val, 0] := by decide +kernel
theorem off8 : ∀ k : Fin k0_t1_loop.trips, k0_off8 k = ![0, 64 * (rev32 (at32 k)).val, 0] := by decide +kernel
theorem off9 : ∀ k : Fin k0_t1_loop.trips, k0_off9 k = ![0, 64 * (rev32 (at32 k)).val, 0] := by decide +kernel
theorem off10 : ∀ k : Fin k0_t1_loop.trips, k0_off10 k = ![0, 64 * (rev32 (at32 k)).val, 0] := by decide +kernel
theorem off4 : ∀ k : Fin k0_t1_loop.trips, k0_off4 k = ![0, 64 * (at32 k).val, 0] := by decide +kernel
theorem off11 : ∀ k : Fin k0_t1_loop.trips, k0_off11 k = ![1, 64 * (rev32 (at32 k)).val, 0] := by decide +kernel
theorem off5 : ∀ k : Fin k0_t1_loop.trips, k0_off5 k = ![0, 64 * (at32 k).val, 128] := by decide +kernel
theorem off12 : ∀ k : Fin k0_t1_loop.trips, k0_off12 k = ![1, 64 * (rev32 (at32 k)).val, 128] := by decide +kernel
theorem off6 : ∀ k : Fin k0_t1_loop.trips, k0_off6 k = ![0, 64 * (at32 k).val, 256] := by decide +kernel
theorem off13 : ∀ k : Fin k0_t1_loop.trips, k0_off13 k = ![1, 64 * (rev32 (at32 k)).val, 256] := by decide +kernel
theorem off7 : ∀ k : Fin k0_t1_loop.trips, k0_off7 k = ![0, 64 * (at32 k).val, 384] := by decide +kernel
theorem off14 : ∀ k : Fin k0_t1_loop.trips, k0_off14 k = ![1, 64 * (rev32 (at32 k)).val, 384] := by decide +kernel

theorem readAt_cut {κ : Kind} {sp : Space} {W : Nat} {ty : EltTy} (v : View sig κ sp ⟨3, ![1, 2048, W]⟩ ty) (f : v.ty.Contents (Elt Ideal))
    (off : Fin 3 → Nat) (n : Fin 32) (inb) (h : off = ![0, 64 * n.val, 0]) :
    v.readAt (Elt Ideal) (Rect.unit (s := ⟨3, ![1, 2048, W]⟩) off ![1, 64, W] inb).toLoadRect f = cut (v.read (Elt Ideal) f) n := by
  subst h
  funext y
  refine congrArg (v.read (Elt Ideal) f) (funext fun a => Fin.ext ?_)
  match a with
  | 0 => change 0 + 1 * (y 0).val = 0; have h0 : (y 0).val < 1 := (y 0).isLt; omega
  | 1 => change 64 * n.val + 1 * (y 1).val = 64 * n.val + (y 1).val; omega
  | 2 => change 0 + 1 * (y 2).val = (y 2).val; omega
theorem readAt_half {κ : Kind} {sp : Space} {R W : Nat} {ty : EltTy} (v : View sig κ sp ⟨3, ![2, R, W]⟩ ty) (f : v.ty.Contents (Elt Ideal))
    (d : Fin 2) (inb) :
    v.readAt (Elt Ideal) (Rect.unit (s := ⟨3, ![2, R, W]⟩) ![d.val, 0, 0] ![1, R, W] inb).toLoadRect f = half (v.read (Elt Ideal) f) d := by
  funext y
  refine congrArg (v.read (Elt Ideal) f) (funext fun a => Fin.ext ?_)
  match a with
  | 0 => change d.val + 1 * (y 0).val = d.val; have h0 : (y 0).val < 1 := (y 0).isLt; omega
  | 1 => change 0 + 1 * (y 1).val = (y 1).val; omega
  | 2 => change 0 + 1 * (y 2).val = (y 2).val; omega

section turn
variable (𝒱 : Variants) (c : Dev nD) (bd : Option 𝒱.V) (i : grid0.Coords) (arg1 : Memref sig .tc .vmem S1x2048x256 .bf16) (harg1 : arg1.IsWhole) (arg2 : Memref sig .tc .vmem S1x2048x512 .bf16) (harg2 : arg2.IsWhole) (arg3 : Memref sig .tc .vmem S1x2048x128 .bf16) (harg3 : arg3.IsWhole) (arg4 : Memref sig .tc .vmem S2x128x256 .bf16) (harg4 : arg4.IsWhole) (arg5 : Memref sig .tc .vmem S2x1x256 .f32) (harg5 : arg5.IsWhole) (arg6 : Memref sig .tc .vmem S1x2x128x256 .f32) (harg6 : arg6.IsWhole) (arg7 : Memref sig .tc .vmem S1x2048x256 .bf16) (harg7 : arg7.IsWhole) (arg8 : Memref sig .tc .vmem S1x2048x512 .bf16) (harg8 : arg8.IsWhole) (arg9 : Memref sig .tc .vmem S1x512 .f32) (harg9 : arg9.IsWhole) (arg10 : Memref sig .tc .vmem S1x2048x512 .bf16) (harg10 : arg10.IsWhole) (arg11 : Memref sig .tc .vmem S2x128x256 .f32) (harg11 : arg11.IsWhole) (arg12 : Memref sig .tc .vmem S2x2048x512 .f32) (harg12 : arg12.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty) (k : Fin k0_t1_loop.trips) (f_arg11 : BufTy.Contents (Elt Ideal) arg11.view.ty) (f_arg12 : BufTy.Contents (Elt Ideal) arg12.view.ty)

theorem stateF (e : Fin 128) (c' : Fin 256) :
    arg11.view.read (Elt Ideal) (arg11.view.writes (Elt Ideal) f_arg11 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).1) (ix3 0 e c') =
      next 63 (gF (cut (arg3.view.read (Elt Ideal) X_arg3) (at32 k)) (half (arg4.view.read (Elt Ideal) X_arg4) 0) (half (arg5.view.read (Elt Ideal) X_arg5) 0)) (ks (cut (arg1.view.read (Elt Ideal) X_arg1) (at32 k))) (vs (cut (arg2.view.read (Elt Ideal) X_arg2) (at32 k)))
        (ss (half (arg11.view.read (Elt Ideal) f_arg11) 0)) e c' := by
  have h := fwdS (arg3.view.readAt (Elt Ideal) (Rect.unit (s := S1x2048x128) (k0_off1 k) S1x64x128.size (k0_off1_inb k)).toLoadRect X_arg3) (arg4.view.readAt (Elt Ideal) (Rect.unit (s := S2x128x256) ![0, 0, 0] S1x128x256.size inb_S2x128x256_S1x128x256_0_0_0).toLoadRect X_arg4) (arg5.view.readAt (Elt Ideal) (Rect.unit (s := S2x1x256) ![0, 0, 0] S1x1x256.size inb_S2x1x256_S1x1x256_0_0_0).toLoadRect X_arg5)
    (arg1.view.readAt (Elt Ideal) (Rect.unit (s := S1x2048x256) (k0_off2 k) S1x64x256.size (k0_off2_inb k)).toLoadRect X_arg1) (arg2.view.readAt (Elt Ideal) (Rect.unit (s := S1x2048x512) (k0_off3 k) S1x64x512.size (k0_off3_inb k)).toLoadRect X_arg2) (arg11.view.readAt (Elt Ideal) (Rect.unit (s := S2x128x256) ![0, 0, 0] S1x128x256.size inb_S2x128x256_S1x128x256_0_0_0).toLoadRect f_arg11) e c'
  have e1 : (arg1.view.readAt (Elt Ideal) (Rect.unit (s := S1x2048x256) (k0_off2 k) S1x64x256.size (k0_off2_inb k)).toLoadRect X_arg1) = cut (arg1.view.read (Elt Ideal) X_arg1) (at32 k) := readAt_cut arg1.view X_arg1 _ (at32 k) _ (off2 k)
  have e2 : (arg2.view.readAt (Elt Ideal) (Rect.unit (s := S1x2048x512) (k0_off3 k) S1x64x512.size (k0_off3_inb k)).toLoadRect X_arg2) = cut (arg2.view.read (Elt Ideal) X_arg2) (at32 k) := readAt_cut arg2.view X_arg2 _ (at32 k) _ (off3 k)
  have e3 : (arg3.view.readAt (Elt Ideal) (Rect.unit (s := S1x2048x128) (k0_off1 k) S1x64x128.size (k0_off1_inb k)).toLoadRect X_arg3) = cut (arg3.view.read (Elt Ideal) X_arg3) (at32 k) := readAt_cut arg3.view X_arg3 _ (at32 k) _ (off1 k)
  have e4 : (arg4.view.readAt (Elt Ideal) (Rect.unit (s := S2x128x256) ![0, 0, 0] S1x128x256.size inb_S2x128x256_S1x128x256_0_0_0).toLoadRect X_arg4) = half (arg4.view.read (Elt Ideal) X_arg4) 0 := readAt_half arg4.view X_arg4 0 _
  have e5 : (arg5.view.readAt (Elt Ideal) (Rect.unit (s := S2x1x256) ![0, 0, 0] S1x1x256.size inb_S2x1x256_S1x1x256_0_0_0).toLoadRect X_arg5) = half (arg5.view.read (Elt Ideal) X_arg5) 0 := readAt_half arg5.view X_arg5 0 _
  have e11 : (arg11.view.readAt (Elt Ideal) (Rect.unit (s := S2x128x256) ![0, 0, 0] S1x128x256.size inb_S2x128x256_S1x128x256_0_0_0).toLoadRect f_arg11) = half (arg11.view.read (Elt Ideal) f_arg11) 0 := readAt_half arg11.view f_arg11 0 _
  refine Eq.trans ?_ (h.trans ?_)
  · unfold tripL_k0_t1 trip_k0_t1
    dsimp only
    refine (View.read_writes_cons_unit_of_not_mem arg11.view _ _ _ _ (ix3 0 e c') rfl 0 (Or.inl (by decide : (0:Nat) < 1))).trans ?_
    refine (View.read_writes_cons_unit_of_mem arg11.view _ _ _ _ (ix3 0 e c') (ix3 0 e c') rfl ?_).trans ?_
    · intro a; match a with
      | 0 => rfl
      | 1 => exact (Nat.zero_add _).symm
      | 2 => exact (Nat.zero_add _).symm
    · rfl
  · rw [e1, e2, e3, e4, e5, e11]
theorem stateB (e : Fin 128) (c' : Fin 256) :
    arg11.view.read (Elt Ideal) (arg11.view.writes (Elt Ideal) f_arg11 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).1) (ix3 1 e c') =
      next 0 (gB (cut (arg3.view.read (Elt Ideal) X_arg3) (rev32 (at32 k))) (half (arg4.view.read (Elt Ideal) X_arg4) 1) (half (arg5.view.read (Elt Ideal) X_arg5) 1)) (ks (cut (arg1.view.read (Elt Ideal) X_arg1) (rev32 (at32 k)))) (vs (cut (arg2.view.read (Elt Ideal) X_arg2) (rev32 (at32 k))))
        (ss (half (arg11.view.read (Elt Ideal) f_arg11) 1)) e c' := by
  have h := bwdS (arg3.view.readAt (Elt Ideal) (Rect.unit (s := S1x2048x128) (k0_off8 k) S1x64x128.size (k0_off8_inb k)).toLoadRect X_arg3) (arg4.view.readAt (Elt Ideal) (Rect.unit (s := S2x128x256) ![1, 0, 0] S1x128x256.size inb_S2x128x256_S1x128x256_1_0_0).toLoadRect X_arg4) (arg5.view.readAt (Elt Ideal) (Rect.unit (s := S2x1x256) ![1, 0, 0] S1x1x256.size inb_S2x1x256_S1x1x256_1_0_0).toLoadRect X_arg5)
    (arg1.view.readAt (Elt Ideal) (Rect.unit (s := S1x2048x256) (k0_off9 k) S1x64x256.size (k0_off9_inb k)).toLoadRect X_arg1) (arg2.view.readAt (Elt Ideal) (Rect.unit (s := S1x2048x512) (k0_off10 k) S1x64x512.size (k0_off10_inb k)).toLoadRect X_arg2) (arg11.view.readAt (Elt Ideal) (Rect.unit (s := S2x128x256) ![1, 0, 0] S1x128x256.size inb_S2x128x256_S1x128x256_1_0_0).toLoadRect f_arg11) e c'
  have e1 : (arg1.view.readAt (Elt Ideal) (Rect.unit (s := S1x2048x256) (k0_off9 k) S1x64x256.size (k0_off9_inb k)).toLoadRect X_arg1) = cut (arg1.view.read (Elt Ideal) X_arg1) (rev32 (at32 k)) := readAt_cut arg1.view X_arg1 _ (rev32 (at32 k)) _ (off9 k)
  have e2 : (arg2.view.readAt (Elt Ideal) (Rect.unit (s := S1x2048x512) (k0_off10 k) S1x64x512.size (k0_off10_inb k)).toLoadRect X_arg2) = cut (arg2.view.read (Elt Ideal) X_arg2) (rev32 (at32 k)) := readAt_cut arg2.view X_arg2 _ (rev32 (at32 k)) _ (off10 k)
  have e3 : (arg3.view.readAt (Elt Ideal) (Rect.unit (s := S1x2048x128) (k0_off8 k) S1x64x128.size (k0_off8_inb k)).toLoadRect X_arg3) = cut (arg3.view.read (Elt Ideal) X_arg3) (rev32 (at32 k)) := readAt_cut arg3.view X_arg3 _ (rev32 (at32 k)) _ (off8 k)
  have e4 : (arg4.view.readAt (Elt Ideal) (Rect.unit (s := S2x128x256) ![1, 0, 0] S1x128x256.size inb_S2x128x256_S1x128x256_1_0_0).toLoadRect X_arg4) = half (arg4.view.read (Elt Ideal) X_arg4) 1 := readAt_half arg4.view X_arg4 1 _
  have e5 : (arg5.view.readAt (Elt Ideal) (Rect.unit (s := S2x1x256) ![1, 0, 0] S1x1x256.size inb_S2x1x256_S1x1x256_1_0_0).toLoadRect X_arg5) = half (arg5.view.read (Elt Ideal) X_arg5) 1 := readAt_half arg5.view X_arg5 1 _
  have e11 : (arg11.view.readAt (Elt Ideal) (Rect.unit (s := S2x128x256) ![1, 0, 0] S1x128x256.size inb_S2x128x256_S1x128x256_1_0_0).toLoadRect f_arg11) = half (arg11.view.read (Elt Ideal) f_arg11) 1 := readAt_half arg11.view f_arg11 1 _
  refine Eq.trans ?_ (h.trans ?_)
  · unfold tripL_k0_t1 trip_k0_t1
    dsimp only
    refine (View.read_writes_cons_unit_of_mem arg11.view _ _ _ _ (ix3 1 e c') (ix3 0 e c') rfl ?_).trans ?_
    · intro a; match a with
      | 0 => rfl
      | 1 => exact (Nat.zero_add _).symm
      | 2 => exact (Nat.zero_add _).symm
    · rfl
  · rw [e1, e2, e3, e4, e5, e11]
theorem rowsF0 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 0 ⟨64 * (at32 k).val + i'.val, by omega⟩ (vcol 0 e)) =
      rows fwd 31 (gF (cut (arg3.view.read (Elt Ideal) X_arg3) (at32 k)) (half (arg4.view.read (Elt Ideal) X_arg4) 0) (half (arg5.view.read (Elt Ideal) X_arg5) 0)) (qs (cut (arg7.view.read (Elt Ideal) X_arg7) (at32 k))) (ks (cut (arg1.view.read (Elt Ideal) X_arg1) (at32 k))) (vs (cut (arg2.view.read (Elt Ideal) X_arg2) (at32 k)))
        (ss (half (arg11.view.read (Elt Ideal) f_arg11) 0)) 0 i' e := by
  have h := fwd0 (arg3.view.readAt (Elt Ideal) (Rect.unit (s := S1x2048x128) (k0_off1 k) S1x64x128.size (k0_off1_inb k)).toLoadRect X_arg3) (arg4.view.readAt (Elt Ideal) (Rect.unit (s := S2x128x256) ![0, 0, 0] S1x128x256.size inb_S2x128x256_S1x128x256_0_0_0).toLoadRect X_arg4) (arg5.view.readAt (Elt Ideal) (Rect.unit (s := S2x1x256) ![0, 0, 0] S1x1x256.size inb_S2x1x256_S1x1x256_0_0_0).toLoadRect X_arg5)
    (arg7.view.readAt (Elt Ideal) (Rect.unit (s := S1x2048x256) (k0_off2 k) S1x64x256.size (k0_off2_inb k)).toLoadRect X_arg7) (arg1.view.readAt (Elt Ideal) (Rect.unit (s := S1x2048x256) (k0_off2 k) S1x64x256.size (k0_off2_inb k)).toLoadRect X_arg1) (arg2.view.readAt (Elt Ideal) (Rect.unit (s := S1x2048x512) (k0_off3 k) S1x64x512.size (k0_off3_inb k)).toLoadRect X_arg2) (arg11.view.readAt (Elt Ideal) (Rect.unit (s := S2x128x256) ![0, 0, 0] S1x128x256.size inb_S2x128x256_S1x128x256_0_0_0).toLoadRect f_arg11) i' e
  have e1 : (arg1.view.readAt (Elt Ideal) (Rect.unit (s := S1x2048x256) (k0_off2 k) S1x64x256.size (k0_off2_inb k)).toLoadRect X_arg1) = cut (arg1.view.read (Elt Ideal) X_arg1) (at32 k) := readAt_cut arg1.view X_arg1 _ (at32 k) _ (off2 k)
  have e2 : (arg2.view.readAt (Elt Ideal) (Rect.unit (s := S1x2048x512) (k0_off3 k) S1x64x512.size (k0_off3_inb k)).toLoadRect X_arg2) = cut (arg2.view.read (Elt Ideal) X_arg2) (at32 k) := readAt_cut arg2.view X_arg2 _ (at32 k) _ (off3 k)
  have e3 : (arg3.view.readAt (Elt Ideal) (Rect.unit (s := S1x2048x128) (k0_off1 k) S1x64x128.size (k0_off1_inb k)).toLoadRect X_arg3) = cut (arg3.view.read (Elt Ideal) X_arg3) (at32 k) := readAt_cut arg3.view X_arg3 _ (at32 k) _ (off1 k)
  have e7 : (arg7.view.readAt (Elt Ideal) (Rect.unit (s := S1x2048x256) (k0_off2 k) S1x64x256.size (k0_off2_inb k)).toLoadRect X_arg7) = cut (arg7.view.read (Elt Ideal) X_arg7) (at32 k) := readAt_cut arg7.view X_arg7 _ (at32 k) _ (off2 k)
  have e4 : (arg4.view.readAt (Elt Ideal) (Rect.unit (s := S2x128x256) ![0, 0, 0] S1x128x256.size inb_S2x128x256_S1x128x256_0_0_0).toLoadRect X_arg4) = half (arg4.view.read (Elt Ideal) X_arg4) 0 := readAt_half arg4.view X_arg4 0 _
  have e5 : (arg5.view.readAt (Elt Ideal) (Rect.unit (s := S2x1x256) ![0, 0, 0] S1x1x256.size inb_S2x1x256_S1x1x256_0_0_0).toLoadRect X_arg5) = half (arg5.view.read (Elt Ideal) X_arg5) 0 := readAt_half arg5.view X_arg5 0 _
  have e11 : (arg11.view.readAt (Elt Ideal) (Rect.unit (s := S2x128x256) ![0, 0, 0] S1x128x256.size inb_S2x128x256_S1x128x256_0_0_0).toLoadRect f_arg11) = half (arg11.view.read (Elt Ideal) f_arg11) 0 := readAt_half arg11.view f_arg11 0 _
  refine Eq.trans ?_ (h.trans ?_)
  · unfold tripL_k0_t1 trip_k0_t1
    dsimp only
    refine (View.read_writes_cons_unit_of_not_mem arg12.view _ _ _ _ (ix3 0 ⟨64 * (at32 k).val + i'.val, by omega⟩ (vcol 0 e)) (off14 k) 0 (Or.inl (show (0:Nat) < 1 by decide))).trans ?_
    refine (View.read_writes_cons_unit_of_not_mem arg12.view _ _ _ _ (ix3 0 ⟨64 * (at32 k).val + i'.val, by omega⟩ (vcol 0 e)) (off13 k) 0 (Or.inl (show (0:Nat) < 1 by decide))).trans ?_
    refine (View.read_writes_cons_unit_of_not_mem arg12.view _ _ _ _ (ix3 0 ⟨64 * (at32 k).val + i'.val, by omega⟩ (vcol 0 e)) (off12 k) 0 (Or.inl (show (0:Nat) < 1 by decide))).trans ?_
    refine (View.read_writes_cons_unit_of_not_mem arg12.view _ _ _ _ (ix3 0 ⟨64 * (at32 k).val + i'.val, by omega⟩ (vcol 0 e)) (off11 k) 0 (Or.inl (show (0:Nat) < 1 by decide))).trans ?_
    refine (View.read_writes_cons_unit_of_not_mem arg12.view _ _ _ _ (ix3 0 ⟨64 * (at32 k).val + i'.val, by omega⟩ (vcol 0 e)) (off7 k) 2 (Or.inl (show 0 * 128 + e.val < 384 by omega))).trans ?_
    refine (View.read_writes_cons_unit_of_not_mem arg12.view _ _ _ _ (ix3 0 ⟨64 * (at32 k).val + i'.val, by omega⟩ (vcol 0 e)) (off6 k) 2 (Or.inl (show 0 * 128 + e.val < 256 by omega))).trans ?_
    refine (View.read_writes_cons_unit_of_not_mem arg12.view _ _ _ _ (ix3 0 ⟨64 * (at32 k).val + i'.val, by omega⟩ (vcol 0 e)) (off5 k) 2 (Or.inl (show 0 * 128 + e.val < 128 by omega))).trans ?_
    refine (View.read_writes_cons_unit_of_mem arg12.view _ _ _ _ (ix3 0 ⟨64 * (at32 k).val + i'.val, by omega⟩ (vcol 0 e)) (ix3 0 i' e) (off4 k) ?_).trans ?_
    · intro a; match a with
      | 0 => rfl
      | 1 => rfl
      | 2 => change 0 * 128 + e.val = 0 + e.val; omega
    · rfl
  · rw [e1, e2, e3, e4, e5, e7, e11]
theorem rowsF1 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 0 ⟨64 * (at32 k).val + i'.val, by omega⟩ (vcol 1 e)) =
      rows fwd 31 (gF (cut (arg3.view.read (Elt Ideal) X_arg3) (at32 k)) (half (arg4.view.read (Elt Ideal) X_arg4) 0) (half (arg5.view.read (Elt Ideal) X_arg5) 0)) (qs (cut (arg7.view.read (Elt Ideal) X_arg7) (at32 k))) (ks (cut (arg1.view.read (Elt Ideal) X_arg1) (at32 k))) (vs (cut (arg2.view.read (Elt Ideal) X_arg2) (at32 k)))
        (ss (half (arg11.view.read (Elt Ideal) f_arg11) 0)) 1 i' e := by
  have h := fwd1 (arg3.view.readAt (Elt Ideal) (Rect.unit (s := S1x2048x128) (k0_off1 k) S1x64x128.size (k0_off1_inb k)).toLoadRect X_arg3) (arg4.view.readAt (Elt Ideal) (Rect.unit (s := S2x128x256) ![0, 0, 0] S1x128x256.size inb_S2x128x256_S1x128x256_0_0_0).toLoadRect X_arg4) (arg5.view.readAt (Elt Ideal) (Rect.unit (s := S2x1x256) ![0, 0, 0] S1x1x256.size inb_S2x1x256_S1x1x256_0_0_0).toLoadRect X_arg5)
    (arg7.view.readAt (Elt Ideal) (Rect.unit (s := S1x2048x256) (k0_off2 k) S1x64x256.size (k0_off2_inb k)).toLoadRect X_arg7) (arg1.view.readAt (Elt Ideal) (Rect.unit (s := S1x2048x256) (k0_off2 k) S1x64x256.size (k0_off2_inb k)).toLoadRect X_arg1) (arg2.view.readAt (Elt Ideal) (Rect.unit (s := S1x2048x512) (k0_off3 k) S1x64x512.size (k0_off3_inb k)).toLoadRect X_arg2) (arg11.view.readAt (Elt Ideal) (Rect.unit (s := S2x128x256) ![0, 0, 0] S1x128x256.size inb_S2x128x256_S1x128x256_0_0_0).toLoadRect f_arg11) i' e
  have e1 : (arg1.view.readAt (Elt Ideal) (Rect.unit (s := S1x2048x256) (k0_off2 k) S1x64x256.size (k0_off2_inb k)).toLoadRect X_arg1) = cut (arg1.view.read (Elt Ideal) X_arg1) (at32 k) := readAt_cut arg1.view X_arg1 _ (at32 k) _ (off2 k)
  have e2 : (arg2.view.readAt (Elt Ideal) (Rect.unit (s := S1x2048x512) (k0_off3 k) S1x64x512.size (k0_off3_inb k)).toLoadRect X_arg2) = cut (arg2.view.read (Elt Ideal) X_arg2) (at32 k) := readAt_cut arg2.view X_arg2 _ (at32 k) _ (off3 k)
  have e3 : (arg3.view.readAt (Elt Ideal) (Rect.unit (s := S1x2048x128) (k0_off1 k) S1x64x128.size (k0_off1_inb k)).toLoadRect X_arg3) = cut (arg3.view.read (Elt Ideal) X_arg3) (at32 k) := readAt_cut arg3.view X_arg3 _ (at32 k) _ (off1 k)
  have e7 : (arg7.view.readAt (Elt Ideal) (Rect.unit (s := S1x2048x256) (k0_off2 k) S1x64x256.size (k0_off2_inb k)).toLoadRect X_arg7) = cut (arg7.view.read (Elt Ideal) X_arg7) (at32 k) := readAt_cut arg7.view X_arg7 _ (at32 k) _ (off2 k)
  have e4 : (arg4.view.readAt (Elt Ideal) (Rect.unit (s := S2x128x256) ![0, 0, 0] S1x128x256.size inb_S2x128x256_S1x128x256_0_0_0).toLoadRect X_arg4) = half (arg4.view.read (Elt Ideal) X_arg4) 0 := readAt_half arg4.view X_arg4 0 _
  have e5 : (arg5.view.readAt (Elt Ideal) (Rect.unit (s := S2x1x256) ![0, 0, 0] S1x1x256.size inb_S2x1x256_S1x1x256_0_0_0).toLoadRect X_arg5) = half (arg5.view.read (Elt Ideal) X_arg5) 0 := readAt_half arg5.view X_arg5 0 _
  have e11 : (arg11.view.readAt (Elt Ideal) (Rect.unit (s := S2x128x256) ![0, 0, 0] S1x128x256.size inb_S2x128x256_S1x128x256_0_0_0).toLoadRect f_arg11) = half (arg11.view.read (Elt Ideal) f_arg11) 0 := readAt_half arg11.view f_arg11 0 _
  refine Eq.trans ?_ (h.trans ?_)
  · unfold tripL_k0_t1 trip_k0_t1
    dsimp only
    refine (View.read_writes_cons_unit_of_not_mem arg12.view _ _ _ _ (ix3 0 ⟨64 * (at32 k).val + i'.val, by omega⟩ (vcol 1 e)) (off14 k) 0 (Or.inl (show (0:Nat) < 1 by decide))).trans ?_
    refine (View.read_writes_cons_unit_of_not_mem arg12.view _ _ _ _ (ix3 0 ⟨64 * (at32 k).val + i'.val, by omega⟩ (vcol 1 e)) (off13 k) 0 (Or.inl (show (0:Nat) < 1 by decide))).trans ?_
    refine (View.read_writes_cons_unit_of_not_mem arg12.view _ _ _ _ (ix3 0 ⟨64 * (at32 k).val + i'.val, by omega⟩ (vcol 1 e)) (off12 k) 0 (Or.inl (show (0:Nat) < 1 by decide))).trans ?_
    refine (View.read_writes_cons_unit_of_not_mem arg12.view _ _ _ _ (ix3 0 ⟨64 * (at32 k).val + i'.val, by omega⟩ (vcol 1 e)) (off11 k) 0 (Or.inl (show (0:Nat) < 1 by decide))).trans ?_
    refine (View.read_writes_cons_unit_of_not_mem arg12.view _ _ _ _ (ix3 0 ⟨64 * (at32 k).val + i'.val, by omega⟩ (vcol 1 e)) (off7 k) 2 (Or.inl (show 1 * 128 + e.val < 384 by omega))).trans ?_
    refine (View.read_writes_cons_unit_of_not_mem arg12.view _ _ _ _ (ix3 0 ⟨64 * (at32 k).val + i'.val, by omega⟩ (vcol 1 e)) (off6 k) 2 (Or.inl (show 1 * 128 + e.val < 256 by omega))).trans ?_
    refine (View.read_writes_cons_unit_of_mem arg12.view _ _ _ _ (ix3 0 ⟨64 * (at32 k).val + i'.val, by omega⟩ (vcol 1 e)) (ix3 0 i' e) (off5 k) ?_).trans ?_
    · intro a; match a with
      | 0 => rfl
      | 1 => rfl
      | 2 => change 1 * 128 + e.val = 128 + e.val; omega
    · rfl
  · rw [e1, e2, e3, e4, e5, e7, e11]
theorem rowsF2 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 0 ⟨64 * (at32 k).val + i'.val, by omega⟩ (vcol 2 e)) =
      rows fwd 31 (gF (cut (arg3.view.read (Elt Ideal) X_arg3) (at32 k)) (half (arg4.view.read (Elt Ideal) X_arg4) 0) (half (arg5.view.read (Elt Ideal) X_arg5) 0)) (qs (cut (arg7.view.read (Elt Ideal) X_arg7) (at32 k))) (ks (cut (arg1.view.read (Elt Ideal) X_arg1) (at32 k))) (vs (cut (arg2.view.read (Elt Ideal) X_arg2) (at32 k)))
        (ss (half (arg11.view.read (Elt Ideal) f_arg11) 0)) 2 i' e := by
  have h := fwd2 (arg3.view.readAt (Elt Ideal) (Rect.unit (s := S1x2048x128) (k0_off1 k) S1x64x128.size (k0_off1_inb k)).toLoadRect X_arg3) (arg4.view.readAt (Elt Ideal) (Rect.unit (s := S2x128x256) ![0, 0, 0] S1x128x256.size inb_S2x128x256_S1x128x256_0_0_0).toLoadRect X_arg4) (arg5.view.readAt (Elt Ideal) (Rect.unit (s := S2x1x256) ![0, 0, 0] S1x1x256.size inb_S2x1x256_S1x1x256_0_0_0).toLoadRect X_arg5)
    (arg7.view.readAt (Elt Ideal) (Rect.unit (s := S1x2048x256) (k0_off2 k) S1x64x256.size (k0_off2_inb k)).toLoadRect X_arg7) (arg1.view.readAt (Elt Ideal) (Rect.unit (s := S1x2048x256) (k0_off2 k) S1x64x256.size (k0_off2_inb k)).toLoadRect X_arg1) (arg2.view.readAt (Elt Ideal) (Rect.unit (s := S1x2048x512) (k0_off3 k) S1x64x512.size (k0_off3_inb k)).toLoadRect X_arg2) (arg11.view.readAt (Elt Ideal) (Rect.unit (s := S2x128x256) ![0, 0, 0] S1x128x256.size inb_S2x128x256_S1x128x256_0_0_0).toLoadRect f_arg11) i' e
  have e1 : (arg1.view.readAt (Elt Ideal) (Rect.unit (s := S1x2048x256) (k0_off2 k) S1x64x256.size (k0_off2_inb k)).toLoadRect X_arg1) = cut (arg1.view.read (Elt Ideal) X_arg1) (at32 k) := readAt_cut arg1.view X_arg1 _ (at32 k) _ (off2 k)
  have e2 : (arg2.view.readAt (Elt Ideal) (Rect.unit (s := S1x2048x512) (k0_off3 k) S1x64x512.size (k0_off3_inb k)).toLoadRect X_arg2) = cut (arg2.view.read (Elt Ideal) X_arg2) (at32 k) := readAt_cut arg2.view X_arg2 _ (at32 k) _ (off3 k)
  have e3 : (arg3.view.readAt (Elt Ideal) (Rect.unit (s := S1x2048x128) (k0_off1 k) S1x64x128.size (k0_off1_inb k)).toLoadRect X_arg3) = cut (arg3.view.read (Elt Ideal) X_arg3) (at32 k) := readAt_cut arg3.view X_arg3 _ (at32 k) _ (off1 k)
  have e7 : (arg7.view.readAt (Elt Ideal) (Rect.unit (s := S1x2048x256) (k0_off2 k) S1x64x256.size (k0_off2_inb k)).toLoadRect X_arg7) = cut (arg7.view.read (Elt Ideal) X_arg7) (at32 k) := readAt_cut arg7.view X_arg7 _ (at32 k) _ (off2 k)
  have e4 : (arg4.view.readAt (Elt Ideal) (Rect.unit (s := S2x128x256) ![0, 0, 0] S1x128x256.size inb_S2x128x256_S1x128x256_0_0_0).toLoadRect X_arg4) = half (arg4.view.read (Elt Ideal) X_arg4) 0 := readAt_half arg4.view X_arg4 0 _
  have e5 : (arg5.view.readAt (Elt Ideal) (Rect.unit (s := S2x1x256) ![0, 0, 0] S1x1x256.size inb_S2x1x256_S1x1x256_0_0_0).toLoadRect X_arg5) = half (arg5.view.read (Elt Ideal) X_arg5) 0 := readAt_half arg5.view X_arg5 0 _
  have e11 : (arg11.view.readAt (Elt Ideal) (Rect.unit (s := S2x128x256) ![0, 0, 0] S1x128x256.size inb_S2x128x256_S1x128x256_0_0_0).toLoadRect f_arg11) = half (arg11.view.read (Elt Ideal) f_arg11) 0 := readAt_half arg11.view f_arg11 0 _
  refine Eq.trans ?_ (h.trans ?_)
  · unfold tripL_k0_t1 trip_k0_t1
    dsimp only
    refine (View.read_writes_cons_unit_of_not_mem arg12.view _ _ _ _ (ix3 0 ⟨64 * (at32 k).val + i'.val, by omega⟩ (vcol 2 e)) (off14 k) 0 (Or.inl (show (0:Nat) < 1 by decide))).trans ?_
    refine (View.read_writes_cons_unit_of_not_mem arg12.view _ _ _ _ (ix3 0 ⟨64 * (at32 k).val + i'.val, by omega⟩ (vcol 2 e)) (off13 k) 0 (Or.inl (show (0:Nat) < 1 by decide))).trans ?_
    refine (View.read_writes_cons_unit_of_not_mem arg12.view _ _ _ _ (ix3 0 ⟨64 * (at32 k).val + i'.val, by omega⟩ (vcol 2 e)) (off12 k) 0 (Or.inl (show (0:Nat) < 1 by decide))).trans ?_
    refine (View.read_writes_cons_unit_of_not_mem arg12.view _ _ _ _ (ix3 0 ⟨64 * (at32 k).val + i'.val, by omega⟩ (vcol 2 e)) (off11 k) 0 (Or.inl (show (0:Nat) < 1 by decide))).trans ?_
    refine (View.read_writes_cons_unit_of_not_mem arg12.view _ _ _ _ (ix3 0 ⟨64 * (at32 k).val + i'.val, by omega⟩ (vcol 2 e)) (off7 k) 2 (Or.inl (show 2 * 128 + e.val < 384 by omega))).trans ?_
    refine (View.read_writes_cons_unit_of_mem arg12.view _ _ _ _ (ix3 0 ⟨64 * (at32 k).val + i'.val, by omega⟩ (vcol 2 e)) (ix3 0 i' e) (off6 k) ?_).trans ?_
    · intro a; match a with
      | 0 => rfl
      | 1 => rfl
      | 2 => change 2 * 128 + e.val = 256 + e.val; omega
    · rfl
  · rw [e1, e2, e3, e4, e5, e7, e11]
theorem rowsF3 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 0 ⟨64 * (at32 k).val + i'.val, by omega⟩ (vcol 3 e)) =
      rows fwd 31 (gF (cut (arg3.view.read (Elt Ideal) X_arg3) (at32 k)) (half (arg4.view.read (Elt Ideal) X_arg4) 0) (half (arg5.view.read (Elt Ideal) X_arg5) 0)) (qs (cut (arg7.view.read (Elt Ideal) X_arg7) (at32 k))) (ks (cut (arg1.view.read (Elt Ideal) X_arg1) (at32 k))) (vs (cut (arg2.view.read (Elt Ideal) X_arg2) (at32 k)))
        (ss (half (arg11.view.read (Elt Ideal) f_arg11) 0)) 3 i' e := by
  have h := fwd3 (arg3.view.readAt (Elt Ideal) (Rect.unit (s := S1x2048x128) (k0_off1 k) S1x64x128.size (k0_off1_inb k)).toLoadRect X_arg3) (arg4.view.readAt (Elt Ideal) (Rect.unit (s := S2x128x256) ![0, 0, 0] S1x128x256.size inb_S2x128x256_S1x128x256_0_0_0).toLoadRect X_arg4) (arg5.view.readAt (Elt Ideal) (Rect.unit (s := S2x1x256) ![0, 0, 0] S1x1x256.size inb_S2x1x256_S1x1x256_0_0_0).toLoadRect X_arg5)
    (arg7.view.readAt (Elt Ideal) (Rect.unit (s := S1x2048x256) (k0_off2 k) S1x64x256.size (k0_off2_inb k)).toLoadRect X_arg7) (arg1.view.readAt (Elt Ideal) (Rect.unit (s := S1x2048x256) (k0_off2 k) S1x64x256.size (k0_off2_inb k)).toLoadRect X_arg1) (arg2.view.readAt (Elt Ideal) (Rect.unit (s := S1x2048x512) (k0_off3 k) S1x64x512.size (k0_off3_inb k)).toLoadRect X_arg2) (arg11.view.readAt (Elt Ideal) (Rect.unit (s := S2x128x256) ![0, 0, 0] S1x128x256.size inb_S2x128x256_S1x128x256_0_0_0).toLoadRect f_arg11) i' e
  have e1 : (arg1.view.readAt (Elt Ideal) (Rect.unit (s := S1x2048x256) (k0_off2 k) S1x64x256.size (k0_off2_inb k)).toLoadRect X_arg1) = cut (arg1.view.read (Elt Ideal) X_arg1) (at32 k) := readAt_cut arg1.view X_arg1 _ (at32 k) _ (off2 k)
  have e2 : (arg2.view.readAt (Elt Ideal) (Rect.unit (s := S1x2048x512) (k0_off3 k) S1x64x512.size (k0_off3_inb k)).toLoadRect X_arg2) = cut (arg2.view.read (Elt Ideal) X_arg2) (at32 k) := readAt_cut arg2.view X_arg2 _ (at32 k) _ (off3 k)
  have e3 : (arg3.view.readAt (Elt Ideal) (Rect.unit (s := S1x2048x128) (k0_off1 k) S1x64x128.size (k0_off1_inb k)).toLoadRect X_arg3) = cut (arg3.view.read (Elt Ideal) X_arg3) (at32 k) := readAt_cut arg3.view X_arg3 _ (at32 k) _ (off1 k)
  have e7 : (arg7.view.readAt (Elt Ideal) (Rect.unit (s := S1x2048x256) (k0_off2 k) S1x64x256.size (k0_off2_inb k)).toLoadRect X_arg7) = cut (arg7.view.read (Elt Ideal) X_arg7) (at32 k) := readAt_cut arg7.view X_arg7 _ (at32 k) _ (off2 k)
  have e4 : (arg4.view.readAt (Elt Ideal) (Rect.unit (s := S2x128x256) ![0, 0, 0] S1x128x256.size inb_S2x128x256_S1x128x256_0_0_0).toLoadRect X_arg4) = half (arg4.view.read (Elt Ideal) X_arg4) 0 := readAt_half arg4.view X_arg4 0 _
  have e5 : (arg5.view.readAt (Elt Ideal) (Rect.unit (s := S2x1x256) ![0, 0, 0] S1x1x256.size inb_S2x1x256_S1x1x256_0_0_0).toLoadRect X_arg5) = half (arg5.view.read (Elt Ideal) X_arg5) 0 := readAt_half arg5.view X_arg5 0 _
  have e11 : (arg11.view.readAt (Elt Ideal) (Rect.unit (s := S2x128x256) ![0, 0, 0] S1x128x256.size inb_S2x128x256_S1x128x256_0_0_0).toLoadRect f_arg11) = half (arg11.view.read (Elt Ideal) f_arg11) 0 := readAt_half arg11.view f_arg11 0 _
  refine Eq.trans ?_ (h.trans ?_)
  · unfold tripL_k0_t1 trip_k0_t1
    dsimp only
    refine (View.read_writes_cons_unit_of_not_mem arg12.view _ _ _ _ (ix3 0 ⟨64 * (at32 k).val + i'.val, by omega⟩ (vcol 3 e)) (off14 k) 0 (Or.inl (show (0:Nat) < 1 by decide))).trans ?_
    refine (View.read_writes_cons_unit_of_not_mem arg12.view _ _ _ _ (ix3 0 ⟨64 * (at32 k).val + i'.val, by omega⟩ (vcol 3 e)) (off13 k) 0 (Or.inl (show (0:Nat) < 1 by decide))).trans ?_
    refine (View.read_writes_cons_unit_of_not_mem arg12.view _ _ _ _ (ix3 0 ⟨64 * (at32 k).val + i'.val, by omega⟩ (vcol 3 e)) (off12 k) 0 (Or.inl (show (0:Nat) < 1 by decide))).trans ?_
    refine (View.read_writes_cons_unit_of_not_mem arg12.view _ _ _ _ (ix3 0 ⟨64 * (at32 k).val + i'.val, by omega⟩ (vcol 3 e)) (off11 k) 0 (Or.inl (show (0:Nat) < 1 by decide))).trans ?_
    refine (View.read_writes_cons_unit_of_mem arg12.view _ _ _ _ (ix3 0 ⟨64 * (at32 k).val + i'.val, by omega⟩ (vcol 3 e)) (ix3 0 i' e) (off7 k) ?_).trans ?_
    · intro a; match a with
      | 0 => rfl
      | 1 => rfl
      | 2 => change 3 * 128 + e.val = 384 + e.val; omega
    · rfl
  · rw [e1, e2, e3, e4, e5, e7, e11]
theorem keepF (r : Fin 2048) (x : Fin 512) (hr : r.val < 64 * (at32 k).val ∨ 64 * (at32 k).val + 64 ≤ r.val) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 0 r x) = arg12.view.read (Elt Ideal) f_arg12 (ix3 0 r x) := by
  unfold tripL_k0_t1 trip_k0_t1
  dsimp only
  refine (View.read_writes_cons_unit_of_not_mem arg12.view _ _ _ _ (ix3 0 r x) (off14 k) 0 (Or.inl (show (0:Nat) < 1 by decide))).trans ?_
  refine (View.read_writes_cons_unit_of_not_mem arg12.view _ _ _ _ (ix3 0 r x) (off13 k) 0 (Or.inl (show (0:Nat) < 1 by decide))).trans ?_
  refine (View.read_writes_cons_unit_of_not_mem arg12.view _ _ _ _ (ix3 0 r x) (off12 k) 0 (Or.inl (show (0:Nat) < 1 by decide))).trans ?_
  refine (View.read_writes_cons_unit_of_not_mem arg12.view _ _ _ _ (ix3 0 r x) (off11 k) 0 (Or.inl (show (0:Nat) < 1 by decide))).trans ?_
  refine (View.read_writes_cons_unit_of_not_mem arg12.view _ _ _ _ (ix3 0 r x) (off7 k) 1 (by exact hr)).trans ?_
  refine (View.read_writes_cons_unit_of_not_mem arg12.view _ _ _ _ (ix3 0 r x) (off6 k) 1 (by exact hr)).trans ?_
  refine (View.read_writes_cons_unit_of_not_mem arg12.view _ _ _ _ (ix3 0 r x) (off5 k) 1 (by exact hr)).trans ?_
  refine (View.read_writes_cons_unit_of_not_mem arg12.view _ _ _ _ (ix3 0 r x) (off4 k) 1 (by exact hr)).trans ?_
  rfl
theorem rowsB0 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 1 ⟨64 * (rev32 (at32 k)).val + i'.val, by omega⟩ (vcol 0 e)) =
      rows bwd 32 (gB (cut (arg3.view.read (Elt Ideal) X_arg3) (rev32 (at32 k))) (half (arg4.view.read (Elt Ideal) X_arg4) 1) (half (arg5.view.read (Elt Ideal) X_arg5) 1)) (qs (cut (arg7.view.read (Elt Ideal) X_arg7) (rev32 (at32 k)))) (ks (cut (arg1.view.read (Elt Ideal) X_arg1) (rev32 (at32 k)))) (vs (cut (arg2.view.read (Elt Ideal) X_arg2) (rev32 (at32 k))))
        (ss (half (arg11.view.read (Elt Ideal) f_arg11) 1)) 0 i' e := by
  have h := bwd0 (arg3.view.readAt (Elt Ideal) (Rect.unit (s := S1x2048x128) (k0_off8 k) S1x64x128.size (k0_off8_inb k)).toLoadRect X_arg3) (arg4.view.readAt (Elt Ideal) (Rect.unit (s := S2x128x256) ![1, 0, 0] S1x128x256.size inb_S2x128x256_S1x128x256_1_0_0).toLoadRect X_arg4) (arg5.view.readAt (Elt Ideal) (Rect.unit (s := S2x1x256) ![1, 0, 0] S1x1x256.size inb_S2x1x256_S1x1x256_1_0_0).toLoadRect X_arg5)
    (arg7.view.readAt (Elt Ideal) (Rect.unit (s := S1x2048x256) (k0_off9 k) S1x64x256.size (k0_off9_inb k)).toLoadRect X_arg7) (arg1.view.readAt (Elt Ideal) (Rect.unit (s := S1x2048x256) (k0_off9 k) S1x64x256.size (k0_off9_inb k)).toLoadRect X_arg1) (arg2.view.readAt (Elt Ideal) (Rect.unit (s := S1x2048x512) (k0_off10 k) S1x64x512.size (k0_off10_inb k)).toLoadRect X_arg2) (arg11.view.readAt (Elt Ideal) (Rect.unit (s := S2x128x256) ![1, 0, 0] S1x128x256.size inb_S2x128x256_S1x128x256_1_0_0).toLoadRect f_arg11) i' e
  have e1 : (arg1.view.readAt (Elt Ideal) (Rect.unit (s := S1x2048x256) (k0_off9 k) S1x64x256.size (k0_off9_inb k)).toLoadRect X_arg1) = cut (arg1.view.read (Elt Ideal) X_arg1) (rev32 (at32 k)) := readAt_cut arg1.view X_arg1 _ (rev32 (at32 k)) _ (off9 k)
  have e2 : (arg2.view.readAt (Elt Ideal) (Rect.unit (s := S1x2048x512) (k0_off10 k) S1x64x512.size (k0_off10_inb k)).toLoadRect X_arg2) = cut (arg2.view.read (Elt Ideal) X_arg2) (rev32 (at32 k)) := readAt_cut arg2.view X_arg2 _ (rev32 (at32 k)) _ (off10 k)
  have e3 : (arg3.view.readAt (Elt Ideal) (Rect.unit (s := S1x2048x128) (k0_off8 k) S1x64x128.size (k0_off8_inb k)).toLoadRect X_arg3) = cut (arg3.view.read (Elt Ideal) X_arg3) (rev32 (at32 k)) := readAt_cut arg3.view X_arg3 _ (rev32 (at32 k)) _ (off8 k)
  have e7 : (arg7.view.readAt (Elt Ideal) (Rect.unit (s := S1x2048x256) (k0_off9 k) S1x64x256.size (k0_off9_inb k)).toLoadRect X_arg7) = cut (arg7.view.read (Elt Ideal) X_arg7) (rev32 (at32 k)) := readAt_cut arg7.view X_arg7 _ (rev32 (at32 k)) _ (off9 k)
  have e4 : (arg4.view.readAt (Elt Ideal) (Rect.unit (s := S2x128x256) ![1, 0, 0] S1x128x256.size inb_S2x128x256_S1x128x256_1_0_0).toLoadRect X_arg4) = half (arg4.view.read (Elt Ideal) X_arg4) 1 := readAt_half arg4.view X_arg4 1 _
  have e5 : (arg5.view.readAt (Elt Ideal) (Rect.unit (s := S2x1x256) ![1, 0, 0] S1x1x256.size inb_S2x1x256_S1x1x256_1_0_0).toLoadRect X_arg5) = half (arg5.view.read (Elt Ideal) X_arg5) 1 := readAt_half arg5.view X_arg5 1 _
  have e11 : (arg11.view.readAt (Elt Ideal) (Rect.unit (s := S2x128x256) ![1, 0, 0] S1x128x256.size inb_S2x128x256_S1x128x256_1_0_0).toLoadRect f_arg11) = half (arg11.view.read (Elt Ideal) f_arg11) 1 := readAt_half arg11.view f_arg11 1 _
  refine Eq.trans ?_ (h.trans ?_)
  · unfold tripL_k0_t1 trip_k0_t1
    dsimp only
    refine (View.read_writes_cons_unit_of_not_mem arg12.view _ _ _ _ (ix3 1 ⟨64 * (rev32 (at32 k)).val + i'.val, by omega⟩ (vcol 0 e)) (off14 k) 2 (Or.inl (show 0 * 128 + e.val < 384 by omega))).trans ?_
    refine (View.read_writes_cons_unit_of_not_mem arg12.view _ _ _ _ (ix3 1 ⟨64 * (rev32 (at32 k)).val + i'.val, by omega⟩ (vcol 0 e)) (off13 k) 2 (Or.inl (show 0 * 128 + e.val < 256 by omega))).trans ?_
    refine (View.read_writes_cons_unit_of_not_mem arg12.view _ _ _ _ (ix3 1 ⟨64 * (rev32 (at32 k)).val + i'.val, by omega⟩ (vcol 0 e)) (off12 k) 2 (Or.inl (show 0 * 128 + e.val < 128 by omega))).trans ?_
    refine (View.read_writes_cons_unit_of_mem arg12.view _ _ _ _ (ix3 1 ⟨64 * (rev32 (at32 k)).val + i'.val, by omega⟩ (vcol 0 e)) (ix3 0 i' e) (off11 k) ?_).trans ?_
    · intro a; match a with
      | 0 => rfl
      | 1 => rfl
      | 2 => change 0 * 128 + e.val = 0 + e.val; omega
    · rfl
  · rw [e1, e2, e3, e4, e5, e7, e11]
theorem rowsB1 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 1 ⟨64 * (rev32 (at32 k)).val + i'.val, by omega⟩ (vcol 1 e)) =
      rows bwd 32 (gB (cut (arg3.view.read (Elt Ideal) X_arg3) (rev32 (at32 k))) (half (arg4.view.read (Elt Ideal) X_arg4) 1) (half (arg5.view.read (Elt Ideal) X_arg5) 1)) (qs (cut (arg7.view.read (Elt Ideal) X_arg7) (rev32 (at32 k)))) (ks (cut (arg1.view.read (Elt Ideal) X_arg1) (rev32 (at32 k)))) (vs (cut (arg2.view.read (Elt Ideal) X_arg2) (rev32 (at32 k))))
        (ss (half (arg11.view.read (Elt Ideal) f_arg11) 1)) 1 i' e := by
  have h := bwd1 (arg3.view.readAt (Elt Ideal) (Rect.unit (s := S1x2048x128) (k0_off8 k) S1x64x128.size (k0_off8_inb k)).toLoadRect X_arg3) (arg4.view.readAt (Elt Ideal) (Rect.unit (s := S2x128x256) ![1, 0, 0] S1x128x256.size inb_S2x128x256_S1x128x256_1_0_0).toLoadRect X_arg4) (arg5.view.readAt (Elt Ideal) (Rect.unit (s := S2x1x256) ![1, 0, 0] S1x1x256.size inb_S2x1x256_S1x1x256_1_0_0).toLoadRect X_arg5)
    (arg7.view.readAt (Elt Ideal) (Rect.unit (s := S1x2048x256) (k0_off9 k) S1x64x256.size (k0_off9_inb k)).toLoadRect X_arg7) (arg1.view.readAt (Elt Ideal) (Rect.unit (s := S1x2048x256) (k0_off9 k) S1x64x256.size (k0_off9_inb k)).toLoadRect X_arg1) (arg2.view.readAt (Elt Ideal) (Rect.unit (s := S1x2048x512) (k0_off10 k) S1x64x512.size (k0_off10_inb k)).toLoadRect X_arg2) (arg11.view.readAt (Elt Ideal) (Rect.unit (s := S2x128x256) ![1, 0, 0] S1x128x256.size inb_S2x128x256_S1x128x256_1_0_0).toLoadRect f_arg11) i' e
  have e1 : (arg1.view.readAt (Elt Ideal) (Rect.unit (s := S1x2048x256) (k0_off9 k) S1x64x256.size (k0_off9_inb k)).toLoadRect X_arg1) = cut (arg1.view.read (Elt Ideal) X_arg1) (rev32 (at32 k)) := readAt_cut arg1.view X_arg1 _ (rev32 (at32 k)) _ (off9 k)
  have e2 : (arg2.view.readAt (Elt Ideal) (Rect.unit (s := S1x2048x512) (k0_off10 k) S1x64x512.size (k0_off10_inb k)).toLoadRect X_arg2) = cut (arg2.view.read (Elt Ideal) X_arg2) (rev32 (at32 k)) := readAt_cut arg2.view X_arg2 _ (rev32 (at32 k)) _ (off10 k)
  have e3 : (arg3.view.readAt (Elt Ideal) (Rect.unit (s := S1x2048x128) (k0_off8 k) S1x64x128.size (k0_off8_inb k)).toLoadRect X_arg3) = cut (arg3.view.read (Elt Ideal) X_arg3) (rev32 (at32 k)) := readAt_cut arg3.view X_arg3 _ (rev32 (at32 k)) _ (off8 k)
  have e7 : (arg7.view.readAt (Elt Ideal) (Rect.unit (s := S1x2048x256) (k0_off9 k) S1x64x256.size (k0_off9_inb k)).toLoadRect X_arg7) = cut (arg7.view.read (Elt Ideal) X_arg7) (rev32 (at32 k)) := readAt_cut arg7.view X_arg7 _ (rev32 (at32 k)) _ (off9 k)
  have e4 : (arg4.view.readAt (Elt Ideal) (Rect.unit (s := S2x128x256) ![1, 0, 0] S1x128x256.size inb_S2x128x256_S1x128x256_1_0_0).toLoadRect X_arg4) = half (arg4.view.read (Elt Ideal) X_arg4) 1 := readAt_half arg4.view X_arg4 1 _
  have e5 : (arg5.view.readAt (Elt Ideal) (Rect.unit (s := S2x1x256) ![1, 0, 0] S1x1x256.size inb_S2x1x256_S1x1x256_1_0_0).toLoadRect X_arg5) = half (arg5.view.read (Elt Ideal) X_arg5) 1 := readAt_half arg5.view X_arg5 1 _
  have e11 : (arg11.view.readAt (Elt Ideal) (Rect.unit (s := S2x128x256) ![1, 0, 0] S1x128x256.size inb_S2x128x256_S1x128x256_1_0_0).toLoadRect f_arg11) = half (arg11.view.read (Elt Ideal) f_arg11) 1 := readAt_half arg11.view f_arg11 1 _
  refine Eq.trans ?_ (h.trans ?_)
  · unfold tripL_k0_t1 trip_k0_t1
    dsimp only
    refine (View.read_writes_cons_unit_of_not_mem arg12.view _ _ _ _ (ix3 1 ⟨64 * (rev32 (at32 k)).val + i'.val, by omega⟩ (vcol 1 e)) (off14 k) 2 (Or.inl (show 1 * 128 + e.val < 384 by omega))).trans ?_
    refine (View.read_writes_cons_unit_of_not_mem arg12.view _ _ _ _ (ix3 1 ⟨64 * (rev32 (at32 k)).val + i'.val, by omega⟩ (vcol 1 e)) (off13 k) 2 (Or.inl (show 1 * 128 + e.val < 256 by omega))).trans ?_
    refine (View.read_writes_cons_unit_of_mem arg12.view _ _ _ _ (ix3 1 ⟨64 * (rev32 (at32 k)).val + i'.val, by omega⟩ (vcol 1 e)) (ix3 0 i' e) (off12 k) ?_).trans ?_
    · intro a; match a with
      | 0 => rfl
      | 1 => rfl
      | 2 => change 1 * 128 + e.val = 128 + e.val; omega
    · rfl
  · rw [e1, e2, e3, e4, e5, e7, e11]
theorem rowsB2 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 1 ⟨64 * (rev32 (at32 k)).val + i'.val, by omega⟩ (vcol 2 e)) =
      rows bwd 32 (gB (cut (arg3.view.read (Elt Ideal) X_arg3) (rev32 (at32 k))) (half (arg4.view.read (Elt Ideal) X_arg4) 1) (half (arg5.view.read (Elt Ideal) X_arg5) 1)) (qs (cut (arg7.view.read (Elt Ideal) X_arg7) (rev32 (at32 k)))) (ks (cut (arg1.view.read (Elt Ideal) X_arg1) (rev32 (at32 k)))) (vs (cut (arg2.view.read (Elt Ideal) X_arg2) (rev32 (at32 k))))
        (ss (half (arg11.view.read (Elt Ideal) f_arg11) 1)) 2 i' e := by
  have h := bwd2 (arg3.view.readAt (Elt Ideal) (Rect.unit (s := S1x2048x128) (k0_off8 k) S1x64x128.size (k0_off8_inb k)).toLoadRect X_arg3) (arg4.view.readAt (Elt Ideal) (Rect.unit (s := S2x128x256) ![1, 0, 0] S1x128x256.size inb_S2x128x256_S1x128x256_1_0_0).toLoadRect X_arg4) (arg5.view.readAt (Elt Ideal) (Rect.unit (s := S2x1x256) ![1, 0, 0] S1x1x256.size inb_S2x1x256_S1x1x256_1_0_0).toLoadRect X_arg5)
    (arg7.view.readAt (Elt Ideal) (Rect.unit (s := S1x2048x256) (k0_off9 k) S1x64x256.size (k0_off9_inb k)).toLoadRect X_arg7) (arg1.view.readAt (Elt Ideal) (Rect.unit (s := S1x2048x256) (k0_off9 k) S1x64x256.size (k0_off9_inb k)).toLoadRect X_arg1) (arg2.view.readAt (Elt Ideal) (Rect.unit (s := S1x2048x512) (k0_off10 k) S1x64x512.size (k0_off10_inb k)).toLoadRect X_arg2) (arg11.view.readAt (Elt Ideal) (Rect.unit (s := S2x128x256) ![1, 0, 0] S1x128x256.size inb_S2x128x256_S1x128x256_1_0_0).toLoadRect f_arg11) i' e
  have e1 : (arg1.view.readAt (Elt Ideal) (Rect.unit (s := S1x2048x256) (k0_off9 k) S1x64x256.size (k0_off9_inb k)).toLoadRect X_arg1) = cut (arg1.view.read (Elt Ideal) X_arg1) (rev32 (at32 k)) := readAt_cut arg1.view X_arg1 _ (rev32 (at32 k)) _ (off9 k)
  have e2 : (arg2.view.readAt (Elt Ideal) (Rect.unit (s := S1x2048x512) (k0_off10 k) S1x64x512.size (k0_off10_inb k)).toLoadRect X_arg2) = cut (arg2.view.read (Elt Ideal) X_arg2) (rev32 (at32 k)) := readAt_cut arg2.view X_arg2 _ (rev32 (at32 k)) _ (off10 k)
  have e3 : (arg3.view.readAt (Elt Ideal) (Rect.unit (s := S1x2048x128) (k0_off8 k) S1x64x128.size (k0_off8_inb k)).toLoadRect X_arg3) = cut (arg3.view.read (Elt Ideal) X_arg3) (rev32 (at32 k)) := readAt_cut arg3.view X_arg3 _ (rev32 (at32 k)) _ (off8 k)
  have e7 : (arg7.view.readAt (Elt Ideal) (Rect.unit (s := S1x2048x256) (k0_off9 k) S1x64x256.size (k0_off9_inb k)).toLoadRect X_arg7) = cut (arg7.view.read (Elt Ideal) X_arg7) (rev32 (at32 k)) := readAt_cut arg7.view X_arg7 _ (rev32 (at32 k)) _ (off9 k)
  have e4 : (arg4.view.readAt (Elt Ideal) (Rect.unit (s := S2x128x256) ![1, 0, 0] S1x128x256.size inb_S2x128x256_S1x128x256_1_0_0).toLoadRect X_arg4) = half (arg4.view.read (Elt Ideal) X_arg4) 1 := readAt_half arg4.view X_arg4 1 _
  have e5 : (arg5.view.readAt (Elt Ideal) (Rect.unit (s := S2x1x256) ![1, 0, 0] S1x1x256.size inb_S2x1x256_S1x1x256_1_0_0).toLoadRect X_arg5) = half (arg5.view.read (Elt Ideal) X_arg5) 1 := readAt_half arg5.view X_arg5 1 _
  have e11 : (arg11.view.readAt (Elt Ideal) (Rect.unit (s := S2x128x256) ![1, 0, 0] S1x128x256.size inb_S2x128x256_S1x128x256_1_0_0).toLoadRect f_arg11) = half (arg11.view.read (Elt Ideal) f_arg11) 1 := readAt_half arg11.view f_arg11 1 _
  refine Eq.trans ?_ (h.trans ?_)
  · unfold tripL_k0_t1 trip_k0_t1
    dsimp only
    refine (View.read_writes_cons_unit_of_not_mem arg12.view _ _ _ _ (ix3 1 ⟨64 * (rev32 (at32 k)).val + i'.val, by omega⟩ (vcol 2 e)) (off14 k) 2 (Or.inl (show 2 * 128 + e.val < 384 by omega))).trans ?_
    refine (View.read_writes_cons_unit_of_mem arg12.view _ _ _ _ (ix3 1 ⟨64 * (rev32 (at32 k)).val + i'.val, by omega⟩ (vcol 2 e)) (ix3 0 i' e) (off13 k) ?_).trans ?_
    · intro a; match a with
      | 0 => rfl
      | 1 => rfl
      | 2 => change 2 * 128 + e.val = 256 + e.val; omega
    · rfl
  · rw [e1, e2, e3, e4, e5, e7, e11]
theorem rowsB3 (i' : Fin 64) (e : Fin 128) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 1 ⟨64 * (rev32 (at32 k)).val + i'.val, by omega⟩ (vcol 3 e)) =
      rows bwd 32 (gB (cut (arg3.view.read (Elt Ideal) X_arg3) (rev32 (at32 k))) (half (arg4.view.read (Elt Ideal) X_arg4) 1) (half (arg5.view.read (Elt Ideal) X_arg5) 1)) (qs (cut (arg7.view.read (Elt Ideal) X_arg7) (rev32 (at32 k)))) (ks (cut (arg1.view.read (Elt Ideal) X_arg1) (rev32 (at32 k)))) (vs (cut (arg2.view.read (Elt Ideal) X_arg2) (rev32 (at32 k))))
        (ss (half (arg11.view.read (Elt Ideal) f_arg11) 1)) 3 i' e := by
  have h := bwd3 (arg3.view.readAt (Elt Ideal) (Rect.unit (s := S1x2048x128) (k0_off8 k) S1x64x128.size (k0_off8_inb k)).toLoadRect X_arg3) (arg4.view.readAt (Elt Ideal) (Rect.unit (s := S2x128x256) ![1, 0, 0] S1x128x256.size inb_S2x128x256_S1x128x256_1_0_0).toLoadRect X_arg4) (arg5.view.readAt (Elt Ideal) (Rect.unit (s := S2x1x256) ![1, 0, 0] S1x1x256.size inb_S2x1x256_S1x1x256_1_0_0).toLoadRect X_arg5)
    (arg7.view.readAt (Elt Ideal) (Rect.unit (s := S1x2048x256) (k0_off9 k) S1x64x256.size (k0_off9_inb k)).toLoadRect X_arg7) (arg1.view.readAt (Elt Ideal) (Rect.unit (s := S1x2048x256) (k0_off9 k) S1x64x256.size (k0_off9_inb k)).toLoadRect X_arg1) (arg2.view.readAt (Elt Ideal) (Rect.unit (s := S1x2048x512) (k0_off10 k) S1x64x512.size (k0_off10_inb k)).toLoadRect X_arg2) (arg11.view.readAt (Elt Ideal) (Rect.unit (s := S2x128x256) ![1, 0, 0] S1x128x256.size inb_S2x128x256_S1x128x256_1_0_0).toLoadRect f_arg11) i' e
  have e1 : (arg1.view.readAt (Elt Ideal) (Rect.unit (s := S1x2048x256) (k0_off9 k) S1x64x256.size (k0_off9_inb k)).toLoadRect X_arg1) = cut (arg1.view.read (Elt Ideal) X_arg1) (rev32 (at32 k)) := readAt_cut arg1.view X_arg1 _ (rev32 (at32 k)) _ (off9 k)
  have e2 : (arg2.view.readAt (Elt Ideal) (Rect.unit (s := S1x2048x512) (k0_off10 k) S1x64x512.size (k0_off10_inb k)).toLoadRect X_arg2) = cut (arg2.view.read (Elt Ideal) X_arg2) (rev32 (at32 k)) := readAt_cut arg2.view X_arg2 _ (rev32 (at32 k)) _ (off10 k)
  have e3 : (arg3.view.readAt (Elt Ideal) (Rect.unit (s := S1x2048x128) (k0_off8 k) S1x64x128.size (k0_off8_inb k)).toLoadRect X_arg3) = cut (arg3.view.read (Elt Ideal) X_arg3) (rev32 (at32 k)) := readAt_cut arg3.view X_arg3 _ (rev32 (at32 k)) _ (off8 k)
  have e7 : (arg7.view.readAt (Elt Ideal) (Rect.unit (s := S1x2048x256) (k0_off9 k) S1x64x256.size (k0_off9_inb k)).toLoadRect X_arg7) = cut (arg7.view.read (Elt Ideal) X_arg7) (rev32 (at32 k)) := readAt_cut arg7.view X_arg7 _ (rev32 (at32 k)) _ (off9 k)
  have e4 : (arg4.view.readAt (Elt Ideal) (Rect.unit (s := S2x128x256) ![1, 0, 0] S1x128x256.size inb_S2x128x256_S1x128x256_1_0_0).toLoadRect X_arg4) = half (arg4.view.read (Elt Ideal) X_arg4) 1 := readAt_half arg4.view X_arg4 1 _
  have e5 : (arg5.view.readAt (Elt Ideal) (Rect.unit (s := S2x1x256) ![1, 0, 0] S1x1x256.size inb_S2x1x256_S1x1x256_1_0_0).toLoadRect X_arg5) = half (arg5.view.read (Elt Ideal) X_arg5) 1 := readAt_half arg5.view X_arg5 1 _
  have e11 : (arg11.view.readAt (Elt Ideal) (Rect.unit (s := S2x128x256) ![1, 0, 0] S1x128x256.size inb_S2x128x256_S1x128x256_1_0_0).toLoadRect f_arg11) = half (arg11.view.read (Elt Ideal) f_arg11) 1 := readAt_half arg11.view f_arg11 1 _
  refine Eq.trans ?_ (h.trans ?_)
  · unfold tripL_k0_t1 trip_k0_t1
    dsimp only
    refine (View.read_writes_cons_unit_of_mem arg12.view _ _ _ _ (ix3 1 ⟨64 * (rev32 (at32 k)).val + i'.val, by omega⟩ (vcol 3 e)) (ix3 0 i' e) (off14 k) ?_).trans ?_
    · intro a; match a with
      | 0 => rfl
      | 1 => rfl
      | 2 => change 3 * 128 + e.val = 384 + e.val; omega
    · rfl
  · rw [e1, e2, e3, e4, e5, e7, e11]
theorem keepB (r : Fin 2048) (x : Fin 512) (hr : r.val < 64 * (rev32 (at32 k)).val ∨ 64 * (rev32 (at32 k)).val + 64 ≤ r.val) :
    arg12.view.read (Elt Ideal) (arg12.view.writes (Elt Ideal) f_arg12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 k f_arg11 f_arg12).2) (ix3 1 r x) = arg12.view.read (Elt Ideal) f_arg12 (ix3 1 r x) := by
  unfold tripL_k0_t1 trip_k0_t1
  dsimp only
  refine (View.read_writes_cons_unit_of_not_mem arg12.view _ _ _ _ (ix3 1 r x) (off14 k) 1 (by exact hr)).trans ?_
  refine (View.read_writes_cons_unit_of_not_mem arg12.view _ _ _ _ (ix3 1 r x) (off13 k) 1 (by exact hr)).trans ?_
  refine (View.read_writes_cons_unit_of_not_mem arg12.view _ _ _ _ (ix3 1 r x) (off12 k) 1 (by exact hr)).trans ?_
  refine (View.read_writes_cons_unit_of_not_mem arg12.view _ _ _ _ (ix3 1 r x) (off11 k) 1 (by exact hr)).trans ?_
  refine (View.read_writes_cons_unit_of_not_mem arg12.view _ _ _ _ (ix3 1 r x) (off7 k) 0 (by exact Or.inr (show 0 + 1 ≤ (1:Nat) by decide))).trans ?_
  refine (View.read_writes_cons_unit_of_not_mem arg12.view _ _ _ _ (ix3 1 r x) (off6 k) 0 (by exact Or.inr (show 0 + 1 ≤ (1:Nat) by decide))).trans ?_
  refine (View.read_writes_cons_unit_of_not_mem arg12.view _ _ _ _ (ix3 1 r x) (off5 k) 0 (by exact Or.inr (show 0 + 1 ≤ (1:Nat) by decide))).trans ?_
  refine (View.read_writes_cons_unit_of_not_mem arg12.view _ _ _ _ (ix3 1 r x) (off4 k) 0 (by exact Or.inr (show 0 + 1 ≤ (1:Nat) by decide))).trans ?_
  rfl

end turn

end Cert.GlaLoop

end
-- ==== Proof.GlaNorm.lean ====
/- The values the attention kernel's closing loop writes, entry by entry. -/
module

public import proofs.«01_k».proof.Proof.Gen.KernelIdeal.Skeleton
public import proofs.«01_k».proof.Proof.GlaSpec
public import Idealize.ShloMosaic.Lib.Pointwise
public import Idealize.ShloMosaic.Lib.Pipeline.ValueKit

@[expose] public section

set_option maxRecDepth 16384

noncomputable section

namespace Cert.GlaNorm

open Idealize.ShloMosaic Idealize.ShloMosaic.TcCoe Idealize.SL.Sem
open Cert.KernelIdeal Cert.KernelIdeal.Gen Cert.GlaSpec
open scoped BigOperators

/-- A head's row, over its root mean square, weighted and gated. -/
def headNorm (f w r : Fin 128 → EReal) (e : Fin 128) : EReal :=
  f e * Ideal.rsqrt (Ideal.div (∑ x, f x * f x) (Ideal.ofBits .f32 0x43000000#32) + Ideal.ofBits .f32 0x358637BD#32) * w e * FfnSpec.silu (r e)

theorem pay51_eq (x : FVec Ideal S1x256x512 .bf16) (j : Fin 256) (c : Fin 512) :
    k0_pay51 (F := Ideal) x (ix2 j c) = FfnSpec.silu (x (ix3 0 j c)) := by
  unfold k0_pay51 FfnSpec.silu
  pointwise
  simp only [zero_sub]

theorem pay50_eq (a b : FVec Ideal S1x256x512 .f32) (j : Fin 256) (c : Fin 512) :
    k0_pay50 (F := Ideal) a b (ix2 j c) = a (ix3 0 j c) + b (ix3 0 j c) := by
  unfold k0_pay50
  pointwise

theorem vcol0 (e : Fin 128) : vcol 0 e = ⟨e.val, by omega⟩ := Fin.ext (by simp [vcol])

section closing
variable (a b : FVec Ideal S1x256x512 .f32) (r : FVec Ideal S1x256x512 .bf16) (w : FVec Ideal S1x128 .f32) (j : Fin 256) (e : Fin 128)

theorem norm0 : k0_pay52 (F := Ideal) a b r w (ix3 0 j e) =
    headNorm (fun x => a (ix3 0 j (vcol 0 x)) + b (ix3 0 j (vcol 0 x))) (fun x => w (ix2 0 x)) (fun x => r (ix3 0 j (vcol 0 x))) e := by
  unfold headNorm
  simp only [← pay50_eq, ← pay51_eq, vcol0]
  unfold k0_pay52
  generalize k0_pay50 (F := Ideal) a b = z
  generalize k0_pay51 (F := Ideal) r = y
  pointwise
theorem norm1 : k0_pay54 (F := Ideal) (k0_pay51 r) (k0_pay53 a b) w (ix3 0 j e) =
    headNorm (fun x => a (ix3 0 j (vcol 1 x)) + b (ix3 0 j (vcol 1 x))) (fun x => w (ix2 0 x)) (fun x => r (ix3 0 j (vcol 1 x))) e := by
  unfold headNorm
  simp only [← pay50_eq, ← pay51_eq]
  unfold k0_pay54 k0_pay53
  generalize k0_pay50 (F := Ideal) a b = z
  generalize k0_pay51 (F := Ideal) r = y
  pointwise
  rfl
theorem norm2 : k0_pay55 (F := Ideal) (k0_pay50 a b) (k0_pay51 r) w (ix3 0 j e) =
    headNorm (fun x => a (ix3 0 j (vcol 2 x)) + b (ix3 0 j (vcol 2 x))) (fun x => w (ix2 0 x)) (fun x => r (ix3 0 j (vcol 2 x))) e := by
  unfold headNorm
  simp only [← pay50_eq, ← pay51_eq]
  unfold k0_pay55
  generalize k0_pay50 (F := Ideal) a b = z
  generalize k0_pay51 (F := Ideal) r = y
  pointwise
  rfl
theorem norm3 : k0_pay10 (F := Ideal) (k0_pay51 r) (k0_pay56 (k0_pay50 a b)) w (ix3 0 j e) =
    headNorm (fun x => a (ix3 0 j (vcol 3 x)) + b (ix3 0 j (vcol 3 x))) (fun x => w (ix2 0 x)) (fun x => r (ix3 0 j (vcol 3 x))) e := by
  unfold headNorm
  simp only [← pay50_eq, ← pay51_eq]
  unfold k0_pay10 k0_pay56
  generalize k0_pay50 (F := Ideal) a b = z
  generalize k0_pay51 (F := Ideal) r = y
  pointwise
  rfl
end closing

end Cert.GlaNorm

end
-- ==== Proof.GlaIter.lean ====
/- The attention kernel's loops, all turns. -/
module

public import proofs.«01_k».proof.Proof.GlaLoop
public import proofs.«01_k».proof.Proof.GlaNorm

@[expose] public section

set_option maxRecDepth 16384

noncomputable section

namespace Cert.GlaIter

open Idealize.ShloMosaic Idealize.ShloMosaic.TcCoe Idealize.SL.Sem
open Cert.KernelIdeal Cert.KernelIdeal.Gen Cert.GlaSpec Cert.GlaPay Cert.GlaLoop Cert.GlaNorm
open scoped BigOperators

/-- The chunk of a turn. -/
def ch (k : Nat) : Fin 32 := ⟨k % 32, by omega⟩

section spec
variable (x1 : FVec Ideal S1x2048x256 .bf16) (x2 : FVec Ideal S1x2048x512 .bf16) (x3 : FVec Ideal S1x2048x128 .bf16)
  (x4 : FVec Ideal S2x128x256 .bf16) (x5 : FVec Ideal S2x1x256 .f32) (s0 : FVec Ideal S2x128x256 .f32) (x7 : FVec Ideal S1x2048x256 .bf16)

/-- The forward state before a turn. -/
def stF : Nat → Fin 128 → Fin 256 → EReal
  | 0 => fun e c => s0 (ix3 0 e c)
  | k + 1 => next 63 (gF (cut x3 (ch k)) (half x4 0) (half x5 0)) (ks (cut x1 (ch k))) (vs (cut x2 (ch k))) (stF k)
/-- The backward state before a turn. -/
def stB : Nat → Fin 128 → Fin 256 → EReal
  | 0 => fun e c => s0 (ix3 1 e c)
  | k + 1 => next 0 (gB (cut x3 (rev32 (ch k))) (half x4 1) (half x5 1)) (ks (cut x1 (rev32 (ch k)))) (vs (cut x2 (rev32 (ch k)))) (stB k)
/-- The rows of the forward turn `n`. -/
def oF (n : Fin 32) (h : Fin 4) (i : Fin 64) (e : Fin 128) : EReal :=
  rows fwd 31 (gF (cut x3 n) (half x4 0) (half x5 0)) (qs (cut x7 n)) (ks (cut x1 n)) (vs (cut x2 n)) (stF x1 x2 x3 x4 x5 s0 n.val) h i e
/-- The rows of the backward turn `n`. -/
def oB (n : Fin 32) (h : Fin 4) (i : Fin 64) (e : Fin 128) : EReal :=
  rows bwd 32 (gB (cut x3 (rev32 n)) (half x4 1) (half x5 1)) (qs (cut x7 (rev32 n))) (ks (cut x1 (rev32 n))) (vs (cut x2 (rev32 n)))
    (stB x1 x2 x3 x4 x5 s0 n.val) h i e
end spec

theorem ch_at (k : Fin k0_t1_loop.trips) : ch k.val = at32 k := Fin.ext (Nat.mod_eq_of_lt (Nat.lt_of_lt_of_le k.isLt k0_t1_abs.2.1))

section loops
variable (𝒱 : Variants) (c : Dev nD) (bd : Option 𝒱.V) (i : grid0.Coords) (arg1 : Memref sig .tc .vmem S1x2048x256 .bf16) (harg1 : arg1.IsWhole) (arg2 : Memref sig .tc .vmem S1x2048x512 .bf16) (harg2 : arg2.IsWhole) (arg3 : Memref sig .tc .vmem S1x2048x128 .bf16) (harg3 : arg3.IsWhole) (arg4 : Memref sig .tc .vmem S2x128x256 .bf16) (harg4 : arg4.IsWhole) (arg5 : Memref sig .tc .vmem S2x1x256 .f32) (harg5 : arg5.IsWhole) (arg6 : Memref sig .tc .vmem S1x2x128x256 .f32) (harg6 : arg6.IsWhole) (arg7 : Memref sig .tc .vmem S1x2048x256 .bf16) (harg7 : arg7.IsWhole) (arg8 : Memref sig .tc .vmem S1x2048x512 .bf16) (harg8 : arg8.IsWhole) (arg9 : Memref sig .tc .vmem S1x512 .f32) (harg9 : arg9.IsWhole) (arg10 : Memref sig .tc .vmem S1x2048x512 .bf16) (harg10 : arg10.IsWhole) (arg11 : Memref sig .tc .vmem S2x128x256 .f32) (harg11 : arg11.IsWhole) (arg12 : Memref sig .tc .vmem S2x2048x512 .f32) (harg12 : arg12.IsWhole)

section first
variable (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg7 : BufTy.Contents (Elt Ideal) arg7.view.ty) (G11 : BufTy.Contents (Elt Ideal) arg11.view.ty) (G12 : BufTy.Contents (Elt Ideal) arg12.view.ty)

/-- What the loop's first turns leave. -/
theorem first (k : Nat) (hk : k ≤ k0_t1_loop.trips) :
    (∀ (e : Fin 128) (c' : Fin 256), arg11.view.read (Elt Ideal) (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).1) (ix3 0 e c') = stF (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) k e c') ∧
    (∀ (e : Fin 128) (c' : Fin 256), arg11.view.read (Elt Ideal) (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).1) (ix3 1 e c') = stB (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) k e c') ∧
    (∀ n : Fin 32, n.val < k → ∀ (h : Fin 4) (i' : Fin 64) (e : Fin 128),
      arg12.view.read (Elt Ideal) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).2) (ix3 0 ⟨64 * n.val + i'.val, by omega⟩ (vcol h e)) = oF (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) (arg7.view.read (Elt Ideal) X_arg7) n h i' e) ∧
    (∀ n : Fin 32, n.val < k → ∀ (h : Fin 4) (i' : Fin 64) (e : Fin 128),
      arg12.view.read (Elt Ideal) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).2) (ix3 1 ⟨64 * (rev32 n).val + i'.val, by omega⟩ (vcol h e)) = oB (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) (arg7.view.read (Elt Ideal) X_arg7) n h i' e) := by
  induction k with
  | zero =>
    refine ⟨fun e c' => rfl, fun e c' => rfl, fun n hn => absurd hn (Nat.not_lt_zero _), fun n hn => absurd hn (Nat.not_lt_zero _)⟩
  | succ k ih =>
    obtain ⟨iF, iB, jF, jB⟩ := ih (Nat.le_of_succ_le hk)
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 ⟨k, hk⟩
    have h1 : (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 (k + 1)).1) = arg11.view.writes (Elt Ideal) (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).1) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 ⟨k, hk⟩ (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).1) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).2)).1 := by
      rw [← View.writes_append]; exact congrArg (fun p => arg11.view.writes (Elt Ideal) G11 p.1) hs
    have h2 : (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 (k + 1)).2) = arg12.view.writes (Elt Ideal) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).2) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 ⟨k, hk⟩ (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).1) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).2)).2 := by
      rw [← View.writes_append]; exact congrArg (fun p => arg12.view.writes (Elt Ideal) G12 p.2) hs
    rw [h1, h2]
    generalize (arg11.view.writes (Elt Ideal) G11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).1) = a11 at *
    generalize (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 X_arg1 X_arg2 X_arg3 X_arg4 X_arg5 X_arg7 G11 G12 k).2) = a12 at *
    have eF : ss (half (arg11.view.read (Elt Ideal) a11) 0) = stF (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) k := funext fun e => funext fun c' => iF e c'
    have eB : ss (half (arg11.view.read (Elt Ideal) a11) 1) = stB (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) k := funext fun e => funext fun c' => iB e c'
    have hc : at32 ⟨k, hk⟩ = ch k := (ch_at ⟨k, hk⟩).symm
    refine ⟨fun e c' => ?_, fun e c' => ?_, fun n hn h i' e => ?_, fun n hn h i' e => ?_⟩
    · rw [stateF, eF, hc]; rfl
    · rw [stateB, eB, hc]; rfl
    · by_cases hnk : n.val < k
      · rw [keepF 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 ⟨64 * n.val + i'.val, by omega⟩ (vcol h e) (Or.inl (show 64 * n.val + i'.val < 64 * k by omega))]
        exact jF n hnk h i' e
      · have hn' : n = at32 ⟨k, hk⟩ := Fin.ext (show n.val = k by omega)
        subst hn'
        unfold oF
        rw [show stF (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) (at32 ⟨k, hk⟩).val = _ from eF.symm]
        match h with
        | 0 => exact rowsF0 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
        | 1 => exact rowsF1 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
        | 2 => exact rowsF2 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
        | 3 => exact rowsF3 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
    · by_cases hnk : n.val < k
      · rw [keepB 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 ⟨64 * (rev32 n).val + i'.val, by omega⟩ (vcol h e) (Or.inr (show 64 * (31 - k) + 64 ≤ 64 * (31 - n.val) + i'.val by
          have : k < 32 := Nat.lt_of_lt_of_le hk k0_t1_abs.2.1
          omega))]
        exact jB n hnk h i' e
      · have hn' : n = at32 ⟨k, hk⟩ := Fin.ext (show n.val = k by omega)
        subst hn'
        unfold oB
        rw [show stB (arg1.view.read (Elt Ideal) X_arg1) (arg2.view.read (Elt Ideal) X_arg2) (arg3.view.read (Elt Ideal) X_arg3) (arg4.view.read (Elt Ideal) X_arg4) (arg5.view.read (Elt Ideal) X_arg5) (arg11.view.read (Elt Ideal) G11) (at32 ⟨k, hk⟩).val = _ from eB.symm]
        match h with
        | 0 => exact rowsB0 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
        | 1 => exact rowsB1 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
        | 2 => exact rowsB2 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
        | 3 => exact rowsB3 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg7 ⟨k, hk⟩ a11 a12 i' e
end first

/-- A row of the result, from the two directions' rows. -/
def outRow (x12 : FVec Ideal S2x2048x512 .f32) (x8 : FVec Ideal S1x2048x512 .bf16) (x9 : FVec Ideal S1x512 .f32) (r : Fin 2048) (h : Fin 4) (e : Fin 128) : EReal :=
  headNorm (fun x => x12 (ix3 0 r (vcol h x)) + x12 (ix3 1 r (vcol h x))) (fun x => x9 (ix2 0 (vcol h x))) (fun x => x8 (ix3 0 r (vcol h x))) e

theorem off15 : ∀ k : Fin k0_t2_loop.trips, k0_off15 k = ![0, 256 * k.val, 0] := by decide +kernel
theorem off16 : ∀ k : Fin k0_t2_loop.trips, k0_off16 k = ![1, 256 * k.val, 0] := by decide +kernel
theorem off17 : ∀ k : Fin k0_t2_loop.trips, k0_off17 k = ![0, 256 * k.val, 0] := by decide +kernel
theorem off18 : ∀ k : Fin k0_t2_loop.trips, k0_off18 k = ![0, 256 * k.val, 0] := by decide +kernel
theorem off19 : ∀ k : Fin k0_t2_loop.trips, k0_off19 k = ![0, 256 * k.val, 128] := by decide +kernel
theorem off20 : ∀ k : Fin k0_t2_loop.trips, k0_off20 k = ![0, 256 * k.val, 256] := by decide +kernel
theorem off21 : ∀ k : Fin k0_t2_loop.trips, k0_off21 k = ![0, 256 * k.val, 384] := by decide +kernel

theorem readAt_rows {κ : Kind} {sp : Space} {D W : Nat} {ty : EltTy} (v : View sig κ sp ⟨3, ![D, 2048, W]⟩ ty) (f : v.ty.Contents (Elt Ideal))
    (off : Fin 3 → Nat) (d : Fin D) (n : Nat) (hn : n < 8) (inb) (h : off = ![d.val, 256 * n, 0]) (j : Fin 256) (x : Fin W) :
    v.readAt (Elt Ideal) (Rect.unit (s := ⟨3, ![D, 2048, W]⟩) off ![1, 256, W] inb).toLoadRect f (ix3 0 j x) =
      v.read (Elt Ideal) f (ix3 d ⟨256 * n + j.val, by omega⟩ x) := by
  subst h
  refine congrArg (v.read (Elt Ideal) f) (funext fun a => Fin.ext ?_)
  match a with
  | 0 => change d.val + 1 * 0 = d.val; omega
  | 1 => change 256 * n + 1 * j.val = 256 * n + j.val; omega
  | 2 => change 0 + 1 * x.val = x.val; omega
theorem readAt_weights {κ : Kind} {sp : Space} (v : View sig κ sp ⟨2, ![1, 512]⟩ .f32) (f : v.ty.Contents (Elt Ideal))
    (h : Fin 4) (o : Nat) (ho : o = h.val * 128) (inb) (x : Fin 128) :
    v.readAt (Elt Ideal) (Rect.unit (s := ⟨2, ![1, 512]⟩) ![0, o] ![1, 128] inb).toLoadRect f (ix2 0 x) = v.read (Elt Ideal) f (ix2 0 (vcol h x)) := by
  subst ho
  refine congrArg (v.read (Elt Ideal) f) (funext fun a => Fin.ext ?_)
  match a with
  | 0 => rfl
  | 1 => change h.val * 128 + 1 * x.val = h.val * 128 + x.val; omega

section second
variable (X_arg8 : BufTy.Contents (Elt Ideal) arg8.view.ty) (X_arg9 : BufTy.Contents (Elt Ideal) arg9.view.ty) (X_arg12 : BufTy.Contents (Elt Ideal) arg12.view.ty)

theorem close0 (k : Fin k0_t2_loop.trips) (hk : k.val < 8) (f : BufTy.Contents (Elt Ideal) arg10.view.ty) (L : List (View.Piece (Elt Ideal) S1x2048x512 .bf16))
    (j : Fin 256) (e : Fin 128) :
    arg10.view.read (Elt Ideal) (arg10.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 k ++ L)) (ix3 0 ⟨256 * k.val + j.val, by omega⟩ (vcol 0 e)) =
      outRow (arg12.view.read (Elt Ideal) X_arg12) (arg8.view.read (Elt Ideal) X_arg8) (arg9.view.read (Elt Ideal) X_arg9) ⟨256 * k.val + j.val, by omega⟩ 0 e := by
  have h := norm0 (arg12.view.readAt (Elt Ideal) (Rect.unit (s := S2x2048x512) (k0_off15 k) S1x256x512.size (k0_off15_inb k)).toLoadRect X_arg12)
    (arg12.view.readAt (Elt Ideal) (Rect.unit (s := S2x2048x512) (k0_off16 k) S1x256x512.size (k0_off16_inb k)).toLoadRect X_arg12)
    (arg8.view.readAt (Elt Ideal) (Rect.unit (s := S1x2048x512) (k0_off17 k) S1x256x512.size (k0_off17_inb k)).toLoadRect X_arg8)
    (arg9.view.readAt (Elt Ideal) (Rect.unit (s := S1x512) ![0, 0] S1x128.size inb_S1x512_S1x128_0_0).toLoadRect X_arg9) j e
  refine Eq.trans ?_ (h.trans ?_)
  · unfold tripL_k0_t2 trip_k0_t2
    dsimp only [List.cons_append, List.nil_append]
    refine (View.read_writes_cons_unit_of_not_mem arg10.view _ _ _ _ _ (off21 k) 2 (Or.inl (show 0 * 128 + e.val < 384 by omega))).trans ?_
    refine (View.read_writes_cons_unit_of_not_mem arg10.view _ _ _ _ _ (off20 k) 2 (Or.inl (show 0 * 128 + e.val < 256 by omega))).trans ?_
    refine (View.read_writes_cons_unit_of_not_mem arg10.view _ _ _ _ _ (off19 k) 2 (Or.inl (show 0 * 128 + e.val < 128 by omega))).trans ?_
    refine (View.read_writes_cons_unit_of_mem arg10.view _ _ _ _ _ (ix3 0 j e) (off18 k) ?_).trans ?_
    · intro a; match a with
      | 0 => rfl
      | 1 => rfl
      | 2 => change 0 * 128 + e.val = 0 + e.val; omega
    · rfl
  · unfold outRow
    congr 1
    · funext x
      exact congrArg₂ (fun (p q : EReal) => p + q) (readAt_rows arg12.view X_arg12 _ 0 k.val hk _ (off15 k) j _) (readAt_rows arg12.view X_arg12 _ 1 k.val hk _ (off16 k) j _)
    · funext x; exact readAt_weights arg9.view X_arg9 0 0 rfl _ x
    · funext x; exact readAt_rows arg8.view X_arg8 _ 0 k.val hk _ (off17 k) j _
theorem close1 (k : Fin k0_t2_loop.trips) (hk : k.val < 8) (f : BufTy.Contents (Elt Ideal) arg10.view.ty) (L : List (View.Piece (Elt Ideal) S1x2048x512 .bf16))
    (j : Fin 256) (e : Fin 128) :
    arg10.view.read (Elt Ideal) (arg10.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 k ++ L)) (ix3 0 ⟨256 * k.val + j.val, by omega⟩ (vcol 1 e)) =
      outRow (arg12.view.read (Elt Ideal) X_arg12) (arg8.view.read (Elt Ideal) X_arg8) (arg9.view.read (Elt Ideal) X_arg9) ⟨256 * k.val + j.val, by omega⟩ 1 e := by
  have h := norm1 (arg12.view.readAt (Elt Ideal) (Rect.unit (s := S2x2048x512) (k0_off15 k) S1x256x512.size (k0_off15_inb k)).toLoadRect X_arg12)
    (arg12.view.readAt (Elt Ideal) (Rect.unit (s := S2x2048x512) (k0_off16 k) S1x256x512.size (k0_off16_inb k)).toLoadRect X_arg12)
    (arg8.view.readAt (Elt Ideal) (Rect.unit (s := S1x2048x512) (k0_off17 k) S1x256x512.size (k0_off17_inb k)).toLoadRect X_arg8)
    (arg9.view.readAt (Elt Ideal) (Rect.unit (s := S1x512) ![0, 128] S1x128.size inb_S1x512_S1x128_0_128).toLoadRect X_arg9) j e
  refine Eq.trans ?_ (h.trans ?_)
  · unfold tripL_k0_t2 trip_k0_t2
    dsimp only [List.cons_append, List.nil_append]
    refine (View.read_writes_cons_unit_of_not_mem arg10.view _ _ _ _ _ (off21 k) 2 (Or.inl (show 1 * 128 + e.val < 384 by omega))).trans ?_
    refine (View.read_writes_cons_unit_of_not_mem arg10.view _ _ _ _ _ (off20 k) 2 (Or.inl (show 1 * 128 + e.val < 256 by omega))).trans ?_
    refine (View.read_writes_cons_unit_of_mem arg10.view _ _ _ _ _ (ix3 0 j e) (off19 k) ?_).trans ?_
    · intro a; match a with
      | 0 => rfl
      | 1 => rfl
      | 2 => change 1 * 128 + e.val = 128 + e.val; omega
    · rfl
  · unfold outRow
    congr 1
    · funext x
      exact congrArg₂ (fun (p q : EReal) => p + q) (readAt_rows arg12.view X_arg12 _ 0 k.val hk _ (off15 k) j _) (readAt_rows arg12.view X_arg12 _ 1 k.val hk _ (off16 k) j _)
    · funext x; exact readAt_weights arg9.view X_arg9 1 128 rfl _ x
    · funext x; exact readAt_rows arg8.view X_arg8 _ 0 k.val hk _ (off17 k) j _
theorem close2 (k : Fin k0_t2_loop.trips) (hk : k.val < 8) (f : BufTy.Contents (Elt Ideal) arg10.view.ty) (L : List (View.Piece (Elt Ideal) S1x2048x512 .bf16))
    (j : Fin 256) (e : Fin 128) :
    arg10.view.read (Elt Ideal) (arg10.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 k ++ L)) (ix3 0 ⟨256 * k.val + j.val, by omega⟩ (vcol 2 e)) =
      outRow (arg12.view.read (Elt Ideal) X_arg12) (arg8.view.read (Elt Ideal) X_arg8) (arg9.view.read (Elt Ideal) X_arg9) ⟨256 * k.val + j.val, by omega⟩ 2 e := by
  have h := norm2 (arg12.view.readAt (Elt Ideal) (Rect.unit (s := S2x2048x512) (k0_off15 k) S1x256x512.size (k0_off15_inb k)).toLoadRect X_arg12)
    (arg12.view.readAt (Elt Ideal) (Rect.unit (s := S2x2048x512) (k0_off16 k) S1x256x512.size (k0_off16_inb k)).toLoadRect X_arg12)
    (arg8.view.readAt (Elt Ideal) (Rect.unit (s := S1x2048x512) (k0_off17 k) S1x256x512.size (k0_off17_inb k)).toLoadRect X_arg8)
    (arg9.view.readAt (Elt Ideal) (Rect.unit (s := S1x512) ![0, 256] S1x128.size inb_S1x512_S1x128_0_256).toLoadRect X_arg9) j e
  refine Eq.trans ?_ (h.trans ?_)
  · unfold tripL_k0_t2 trip_k0_t2
    dsimp only [List.cons_append, List.nil_append]
    refine (View.read_writes_cons_unit_of_not_mem arg10.view _ _ _ _ _ (off21 k) 2 (Or.inl (show 2 * 128 + e.val < 384 by omega))).trans ?_
    refine (View.read_writes_cons_unit_of_mem arg10.view _ _ _ _ _ (ix3 0 j e) (off20 k) ?_).trans ?_
    · intro a; match a with
      | 0 => rfl
      | 1 => rfl
      | 2 => change 2 * 128 + e.val = 256 + e.val; omega
    · rfl
  · unfold outRow
    congr 1
    · funext x
      exact congrArg₂ (fun (p q : EReal) => p + q) (readAt_rows arg12.view X_arg12 _ 0 k.val hk _ (off15 k) j _) (readAt_rows arg12.view X_arg12 _ 1 k.val hk _ (off16 k) j _)
    · funext x; exact readAt_weights arg9.view X_arg9 2 256 rfl _ x
    · funext x; exact readAt_rows arg8.view X_arg8 _ 0 k.val hk _ (off17 k) j _
theorem close3 (k : Fin k0_t2_loop.trips) (hk : k.val < 8) (f : BufTy.Contents (Elt Ideal) arg10.view.ty) (L : List (View.Piece (Elt Ideal) S1x2048x512 .bf16))
    (j : Fin 256) (e : Fin 128) :
    arg10.view.read (Elt Ideal) (arg10.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 k ++ L)) (ix3 0 ⟨256 * k.val + j.val, by omega⟩ (vcol 3 e)) =
      outRow (arg12.view.read (Elt Ideal) X_arg12) (arg8.view.read (Elt Ideal) X_arg8) (arg9.view.read (Elt Ideal) X_arg9) ⟨256 * k.val + j.val, by omega⟩ 3 e := by
  have h := norm3 (arg12.view.readAt (Elt Ideal) (Rect.unit (s := S2x2048x512) (k0_off15 k) S1x256x512.size (k0_off15_inb k)).toLoadRect X_arg12)
    (arg12.view.readAt (Elt Ideal) (Rect.unit (s := S2x2048x512) (k0_off16 k) S1x256x512.size (k0_off16_inb k)).toLoadRect X_arg12)
    (arg8.view.readAt (Elt Ideal) (Rect.unit (s := S1x2048x512) (k0_off17 k) S1x256x512.size (k0_off17_inb k)).toLoadRect X_arg8)
    (arg9.view.readAt (Elt Ideal) (Rect.unit (s := S1x512) ![0, 384] S1x128.size inb_S1x512_S1x128_0_384).toLoadRect X_arg9) j e
  refine Eq.trans ?_ (h.trans ?_)
  · unfold tripL_k0_t2 trip_k0_t2
    dsimp only [List.cons_append, List.nil_append]
    refine (View.read_writes_cons_unit_of_mem arg10.view _ _ _ _ _ (ix3 0 j e) (off21 k) ?_).trans ?_
    · intro a; match a with
      | 0 => rfl
      | 1 => rfl
      | 2 => change 3 * 128 + e.val = 384 + e.val; omega
    · rfl
  · unfold outRow
    congr 1
    · funext x
      exact congrArg₂ (fun (p q : EReal) => p + q) (readAt_rows arg12.view X_arg12 _ 0 k.val hk _ (off15 k) j _) (readAt_rows arg12.view X_arg12 _ 1 k.val hk _ (off16 k) j _)
    · funext x; exact readAt_weights arg9.view X_arg9 3 384 rfl _ x
    · funext x; exact readAt_rows arg8.view X_arg8 _ 0 k.val hk _ (off17 k) j _
theorem closeKeep (k : Fin k0_t2_loop.trips) (f : BufTy.Contents (Elt Ideal) arg10.view.ty) (L : List (View.Piece (Elt Ideal) S1x2048x512 .bf16))
    (r : Fin 2048) (x : Fin 512) (hr : r.val < 256 * k.val ∨ 256 * k.val + 256 ≤ r.val) :
    arg10.view.read (Elt Ideal) (arg10.view.writes (Elt Ideal) f (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 k ++ L)) (ix3 0 r x) =
      arg10.view.read (Elt Ideal) (arg10.view.writes (Elt Ideal) f L) (ix3 0 r x) := by
  unfold tripL_k0_t2 trip_k0_t2
  dsimp only [List.cons_append, List.nil_append]
  refine (View.read_writes_cons_unit_of_not_mem arg10.view _ _ _ _ _ (off21 k) 1 (by exact hr)).trans ?_
  refine (View.read_writes_cons_unit_of_not_mem arg10.view _ _ _ _ _ (off20 k) 1 (by exact hr)).trans ?_
  refine (View.read_writes_cons_unit_of_not_mem arg10.view _ _ _ _ _ (off19 k) 1 (by exact hr)).trans ?_
  refine (View.read_writes_cons_unit_of_not_mem arg10.view _ _ _ _ _ (off18 k) 1 (by exact hr)).trans ?_
  rfl

/-- What the closing loop's first turns leave. -/
theorem second (f : BufTy.Contents (Elt Ideal) arg10.view.ty) (k : Nat) (hk : k ≤ k0_t2_loop.trips) (r : Fin 2048) (hr : r.val < 256 * k) (h : Fin 4) (e : Fin 128) :
    arg10.view.read (Elt Ideal) (arg10.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 k)) (ix3 0 r (vcol h e)) = outRow (arg12.view.read (Elt Ideal) X_arg12) (arg8.view.read (Elt Ideal) X_arg8) (arg9.view.read (Elt Ideal) X_arg9) r h e := by
  induction k with
  | zero => exact absurd hr (Nat.not_lt_zero _)
  | succ k ih =>
    rw [show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 (k + 1)) = _ from pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 X_arg8 X_arg9 X_arg12 ⟨k, hk⟩]
    by_cases hrk : r.val < 256 * k
    · rw [closeKeep 𝒱 c bd i arg1 harg1 arg2 harg2 arg3 harg3 arg4 harg4 arg5 harg5 arg6 harg6 arg7 harg7 arg8 harg8 arg9 harg9 arg10 harg10 arg11 harg11 arg12 harg12 X_arg8 X_arg9 X_arg12 ⟨k, hk⟩ f _ r _ (Or.inl hrk)]
      exact ih (Nat.le_of_succ_le hk) hrk
    · obtain ⟨j, hb, hj, rfl⟩ : ∃ (j : Nat) (hb : 256 * k + j < 2048), j < 256 ∧ r = ⟨256 * k + j, hb⟩ :=
        ⟨r.val - 256 * k, by omega, by omega, Fin.ext (by simp only; omega)⟩
      have h8 : k < 8 := Nat.lt_of_lt_of_le hk k0_t2_abs.2.1
      match h with
      | 0 => exact close0 𝒱 c bd i arg1 harg1 arg2 harg2 arg3 harg3 arg4 harg4 arg5 harg5 arg6 harg6 arg7 harg7 arg8 harg8 arg9 harg9 arg10 harg10 arg11 harg11 arg12 harg12 X_arg8 X_arg9 X_arg12 ⟨k, hk⟩ h8 f _ ⟨j, hj⟩ e
      | 1 => exact close1 𝒱 c bd i arg1 harg1 arg2 harg2 arg3 harg3 arg4 harg4 arg5 harg5 arg6 harg6 arg7 harg7 arg8 harg8 arg9 harg9 arg10 harg10 arg11 harg11 arg12 harg12 X_arg8 X_arg9 X_arg12 ⟨k, hk⟩ h8 f _ ⟨j, hj⟩ e
      | 2 => exact close2 𝒱 c bd i arg1 harg1 arg2 harg2 arg3 harg3 arg4 harg4 arg5 harg5 arg6 harg6 arg7 harg7 arg8 harg8 arg9 harg9 arg10 harg10 arg11 harg11 arg12 harg12 X_arg8 X_arg9 X_arg12 ⟨k, hk⟩ h8 f _ ⟨j, hj⟩ e
      | 3 => exact close3 𝒱 c bd i arg1 harg1 arg2 harg2 arg3 harg3 arg4 harg4 arg5 harg5 arg6 harg6 arg7 harg7 arg8 harg8 arg9 harg9 arg10 harg10 arg11 harg11 arg12 harg12 X_arg8 X_arg9 X_arg12 ⟨k, hk⟩ h8 f _ ⟨j, hj⟩ e
end second
end loops

end Cert.GlaIter

end
-- ==== Proof.GlaRefStep.lean ====
/- One trip of the reference's loop, entry by entry. -/
module

public import Idealize.ShloMosaic.Lib.DynamicIndex
public import proofs.«01_k».proof.Proof.Gen.ReferenceIdeal.Step
public import proofs.«01_k».proof.Proof.GlaIter

@[expose] public section

set_option maxRecDepth 16384

noncomputable section

namespace Cert.GlaRefStep

open Idealize.ShloMosaic
open Cert.ReferenceIdeal Cert.ReferenceIdeal.Gen Cert.ReferenceIdeal.Step
open Cert.GlaSpec (col vcol headOf cum next score rows)
open Cert.GlaPay (fwd)
open Cert.GlaIter (ch)
open scoped BigOperators

/-- A fold that adds is a sum. -/
theorem foldl_add {α : Type} (l : List α) (f : α → EReal) (a : EReal) : l.foldl (fun r n => r + f n) a = a + (l.map f).sum := by
  induction l generalizing a with
  | nil => simp
  | cons x l ih => rw [List.foldl_cons, ih, List.map_cons, List.sum_cons, add_assoc]

/-- A window's sum read from its far end. -/
theorem sum_window {N : Nat} (M : Nat) (hM : M + 1 = N) (f : Fin N → EReal) (i : Fin N) :
    (∑ w : Fin N, if h : M ≤ i.val + w.val ∧ i.val + w.val - M < N then f ⟨i.val + w.val - M, h.2⟩ else 0)
      = ∑ j : Fin N, if j ≤ i then f j else 0 := by
  have e1 : ∀ w : Fin N, (if h : M ≤ i.val + w.val ∧ i.val + w.val - M < N then f ⟨i.val + w.val - M, h.2⟩ else 0)
      = if M ≤ i.val + w.val then f ⟨(i.val + w.val - M) % N, Nat.mod_lt _ (by omega)⟩ else 0 := by
    intro w
    by_cases h : M ≤ i.val + w.val
    · have h2 : i.val + w.val - M < N := by omega
      rw [dif_pos ⟨h, h2⟩, if_pos h]
      congr 1
      exact Fin.ext (Nat.mod_eq_of_lt h2).symm
    · rw [dif_neg (fun c => h c.1), if_neg h]
  rw [Finset.sum_congr rfl (fun w _ => e1 w), ← Finset.sum_filter, ← Finset.sum_filter]
  refine Finset.sum_bij' (fun w _ => ⟨(i.val + w.val - M) % N, Nat.mod_lt _ (by omega)⟩)
    (fun j _ => ⟨(j.val + M - i.val) % N, Nat.mod_lt _ (by omega)⟩) ?_ ?_ ?_ ?_ ?_
  · intro w hw
    have := (Finset.mem_filter.1 hw).2
    refine Finset.mem_filter.2 ⟨Finset.mem_univ _, ?_⟩
    show (i.val + w.val - M) % N ≤ i.val
    rw [Nat.mod_eq_of_lt (by omega)]
    omega
  · intro j hj
    have : j.val ≤ i.val := (Finset.mem_filter.1 hj).2
    refine Finset.mem_filter.2 ⟨Finset.mem_univ _, ?_⟩
    show M ≤ i.val + (j.val + M - i.val) % N
    rw [Nat.mod_eq_of_lt (by omega)]
    omega
  · intro w hw
    have := (Finset.mem_filter.1 hw).2
    refine Fin.ext ?_
    show ((i.val + w.val - M) % N + M - i.val) % N = w.val
    rw [Nat.mod_eq_of_lt (a := i.val + w.val - M) (by omega), Nat.mod_eq_of_lt (by omega)]
    omega
  · intro j hj
    have : j.val ≤ i.val := (Finset.mem_filter.1 hj).2
    refine Fin.ext ?_
    show (i.val + (j.val + M - i.val) % N - M) % N = j.val
    rw [Nat.mod_eq_of_lt (a := j.val + M - i.val) (by omega), Nat.mod_eq_of_lt (by omega)]
    omega
  · intro w _
    rfl

/-- A choice does not depend on how it is decided. -/
theorem dite_any {α : Type} {p : Prop} (d1 d2 : Decidable p) (a : p → α) (b : ¬ p → α) : @dite α p d1 a b = @dite α p d2 a b := by
  rw [Subsingleton.elim d1 d2]

/-- The running sum along a table's second coordinate. -/
theorem window_sum {A N B C : Nat} (M : Nat) (hM : M + 1 = N) (x : (⟨4, ![A, N, B, C]⟩ : Shape).Idx → EReal)
    (h : (⟨4, ![A, N, B, C]⟩ : Shape).ReduceWindows (![1, N, 1, 1] : Fin 4 → Nat) ![1, 1, 1, 1] ![0, M, 0, 0] ![0, 0, 0, 0] ⟨4, ![A, N, B, C]⟩)
    (a : Fin A) (i : Fin N) (b : Fin B) (c : Fin C) :
    Ideal.hostReduceWindowAdd ![1, N, 1, 1] ![1, 1, 1, 1] ![0, M, 0, 0] ![0, 0, 0, 0] h x 0 (ix4 a i b c)
      = ∑ j : Fin N, if j ≤ i then x (ix4 a j b c) else 0 := by
  unfold Ideal.hostReduceWindowAdd Host.reduceWindow
  dsimp only
  rw [foldl_add, zero_add, ← List.ofFn_eq_map, List.sum_ofFn]
  refine (Fintype.sum_equiv (⟨4, ![1, N, 1, 1]⟩ : Shape).rowMajor.symm _ (fun y : (⟨4, ![1, N, 1, 1]⟩ : Shape).Idx =>
    if hin : ∀ q : Fin 4, (![0, M, 0, 0] : Fin 4 → Nat) q ≤ (ix4 a i b c q).val * (![1, 1, 1, 1] : Fin 4 → Nat) q + (y q).val
        ∧ (ix4 a i b c q).val * (![1, 1, 1, 1] : Fin 4 → Nat) q + (y q).val - (![0, M, 0, 0] : Fin 4 → Nat) q < (![A, N, B, C] : Fin 4 → Nat) q then
      x (fun q => ⟨(ix4 a i b c q).val * (![1, 1, 1, 1] : Fin 4 → Nat) q + (y q).val - (![0, M, 0, 0] : Fin 4 → Nat) q, (hin q).2⟩) else 0)
    (fun m => ?_)).trans ?_
  · exact dite_any _ _ _ _
  rw [sum_idx4, Fin.sum_univ_one]
  refine Eq.trans (Finset.sum_congr rfl fun w _ => ?_) (sum_window M hM (fun j => x (ix4 a j b c)) i)
  rw [Fin.sum_univ_one, Fin.sum_univ_one]
  by_cases hw : M ≤ i.val + w.val ∧ i.val + w.val - M < N
  · rw [dif_pos hw, dif_pos]
    · refine congrArg x (funext fun q => Fin.ext ?_)
      match q with
      | ⟨0, _⟩ => show a.val * 1 + 0 - 0 = a.val; omega
      | ⟨1, _⟩ => show i.val * 1 + w.val - M = i.val + w.val - M; omega
      | ⟨2, _⟩ => show b.val * 1 + 0 - 0 = b.val; omega
      | ⟨3, _⟩ => show c.val * 1 + 0 - 0 = c.val; omega
    · intro q
      match q with
      | ⟨0, _⟩ => exact ⟨Nat.zero_le _, show a.val * 1 + 0 - 0 < A by omega⟩
      | ⟨1, _⟩ => exact ⟨show M ≤ i.val * 1 + w.val by omega, show i.val * 1 + w.val - M < N by omega⟩
      | ⟨2, _⟩ => exact ⟨Nat.zero_le _, show b.val * 1 + 0 - 0 < B by omega⟩
      | ⟨3, _⟩ => exact ⟨Nat.zero_le _, show c.val * 1 + 0 - 0 < C by omega⟩
  · rw [dif_neg hw, dif_neg]
    intro hq
    have h1 : M ≤ i.val * 1 + w.val ∧ i.val * 1 + w.val - M < N := hq 1
    exact hw ⟨by omega, by omega⟩

variable (j : Fin 32) (s : State Ideal)

theorem fits : S32x16x64x4x64.Slices ![j.val, 0, 0, 0, 0] S1x16x64x4x64 :=
  ⟨rfl, fun a => by have := j.isLt; fin_cases a <;> simp [S1x16x64x4x64, S32x16x64x4x64] <;> omega⟩
theorem fitsV : S32x16x64x4x128.Slices ![j.val, 0, 0, 0, 0] S1x16x64x4x128 :=
  ⟨rfl, fun a => by have := j.isLt; fin_cases a <;> simp [S1x16x64x4x128, S32x16x64x4x128] <;> omega⟩

theorem b5_at (n : Fin 16) (i : Fin 64) (h : Fin 4) (d : Fin 64) :
    b5 j.val s (ix4 n i h d) = s.main_v54_0 (ix5 j n i h d) := by
  have e : b4 j.val s = extractStridedSlice S1x16x64x4x64 ![j.val, 0, 0, 0, 0] s.main_v54_0 (fits j) := by
    unfold b4
    refine Host.dynamicSlice_eq_extractStridedSlice _ _ _ _ _ _ ?_
    intro a
    fin_cases a
    · exact toInt_ofNat_of_lt (by have := j.isLt; omega)
    all_goals rfl
  unfold b5
  rw [e]
  pointwise

theorem b11_at (n : Fin 16) (i : Fin 64) (h : Fin 4) (d : Fin 64) :
    b11 j.val s (ix4 n i h d) = s.main_v54_1 (ix5 j n i h d) := by
  have e : b10 j.val s = extractStridedSlice S1x16x64x4x64 ![j.val, 0, 0, 0, 0] s.main_v54_1 (fits j) := by
    unfold b10
    refine Host.dynamicSlice_eq_extractStridedSlice _ _ _ _ _ _ ?_
    intro a
    fin_cases a
    · exact toInt_ofNat_of_lt (by have := j.isLt; omega)
    all_goals rfl
  unfold b11
  rw [e]
  pointwise

theorem b17_at (n : Fin 16) (i : Fin 64) (h : Fin 4) (e : Fin 128) :
    b17 j.val s (ix4 n i h e) = s.main_v54_2 (ix5 j n i h e) := by
  have e' : b16 j.val s = extractStridedSlice S1x16x64x4x128 ![j.val, 0, 0, 0, 0] s.main_v54_2 (fitsV j) := by
    unfold b16
    refine Host.dynamicSlice_eq_extractStridedSlice _ _ _ _ _ _ ?_
    intro a
    fin_cases a
    · exact toInt_ofNat_of_lt (by have := j.isLt; omega)
    all_goals rfl
  unfold b17
  rw [e']
  pointwise

theorem b23_at (n : Fin 16) (i : Fin 64) (h : Fin 4) (d : Fin 64) :
    b23 j.val s (ix4 n i h d) = s.main_v54_3 (ix5 j n i h d) := by
  have e : b22 j.val s = extractStridedSlice S1x16x64x4x64 ![j.val, 0, 0, 0, 0] s.main_v54_3 (fits j) := by
    unfold b22
    refine Host.dynamicSlice_eq_extractStridedSlice _ _ _ _ _ _ ?_
    intro a
    fin_cases a
    · exact toInt_ofNat_of_lt (by have := j.isLt; omega)
    all_goals rfl
  unfold b23
  rw [e]
  pointwise

/-- A column's place in its head. -/
def inHead (c : Fin 256) : Fin 64 := ⟨c.val % 64, Nat.mod_lt _ (by norm_num)⟩
def inHeadV (c : Fin 512) : Fin 128 := ⟨c.val % 128, Nat.mod_lt _ (by norm_num)⟩
def headV (c : Fin 512) : Fin 4 := ⟨c.val / 128, by omega⟩
theorem inHead_col (h : Fin 4) (d : Fin 64) : inHead (col h d) = d := Fin.ext (by show (h.val * 64 + d.val) % 64 = d.val; omega)
theorem inHeadV_vcol (h : Fin 4) (e : Fin 128) : inHeadV (vcol h e) = e := Fin.ext (by show (h.val * 128 + e.val) % 128 = e.val; omega)
theorem headV_vcol (h : Fin 4) (e : Fin 128) : headV (vcol h e) = h := Fin.ext (by show (h.val * 128 + e.val) / 128 = h.val; omega)

/-- The chunk `j` of a table of queries, keys or decays, and of the values, at one sequence. -/
def tab (x : FVec Ideal S32x16x64x4x64 .f32) (n : Fin 16) (i : Fin 64) (c : Fin 256) : EReal := x (ix5 j n i (headOf c) (inHead c))
def tabV (x : FVec Ideal S32x16x64x4x128 .f32) (n : Fin 16) (i : Fin 64) (c : Fin 512) : EReal := x (ix5 j n i (headV c) (inHeadV c))
/-- The state of one sequence. -/
def stT (x : FVec Ideal S16x4x64x128 .f32) (n : Fin 16) (e : Fin 128) (c : Fin 256) : EReal := x (ix4 n (headOf c) (inHead c) e)

theorem tab_col (x : FVec Ideal S32x16x64x4x64 .f32) (n : Fin 16) (i : Fin 64) (h : Fin 4) (d : Fin 64) :
    tab j x n i (col h d) = x (ix5 j n i h d) := by unfold tab; rw [Cert.GlaSpec.headOf_col, inHead_col]
theorem tabV_vcol (x : FVec Ideal S32x16x64x4x128 .f32) (n : Fin 16) (i : Fin 64) (h : Fin 4) (e : Fin 128) :
    tabV j x n i (vcol h e) = x (ix5 j n i h e) := by unfold tabV; rw [headV_vcol, inHeadV_vcol]
theorem stT_col (x : FVec Ideal S16x4x64x128 .f32) (n : Fin 16) (e : Fin 128) (h : Fin 4) (d : Fin 64) :
    stT x n e (col h d) = x (ix4 n h d e) := by unfold stT; rw [Cert.GlaSpec.headOf_col, inHead_col]

/-- The decays summed. -/
def gT (n : Fin 16) : Fin 64 → Fin 256 → EReal := cum fwd (tab j s.main_v54_3 n)

theorem b26_at (n : Fin 16) (i : Fin 64) (h : Fin 4) (d : Fin 64) : b26 j.val s (ix4 n i h d) = gT j s n i (col h d) := by
  have e0 : ∀ y, b25 j.val s y = 0 := by
    intro y
    unfold b25 b24
    pointwise
  unfold b26
  refine Eq.trans ?_ ((window_sum 63 rfl (b23 j.val s) reduceWindows_S16x64x4x64_S16x64x4x64_w1s1p0_0_w64s1p63_0_w1s1p0_0_w1s1p0_0 n i h d).trans ?_)
  · rw [← e0 (Shape.Idx.first h_S_)]
    rfl
  · unfold gT cum
    refine Finset.sum_congr rfl fun k _ => ?_
    rw [b23_at, tab_col]

theorem b28_at (n : Fin 16) (h : Fin 4) (d : Fin 64) : b28 j.val s (ix3 n h d) = gT j s n 63 (col h d) := by
  rw [← b26_at]
  unfold b28 b27
  generalize b26 j.val s = z
  pointwise
theorem b30_at (n : Fin 16) (h : Fin 4) (d : Fin 64) : b30 j.val s (ix3 n h d) = gT j s n 31 (col h d) := by
  rw [← b26_at]
  unfold b30 b29
  generalize b26 j.val s = z
  pointwise

theorem b35_at (n : Fin 16) (i : Fin 64) (h : Fin 4) (d : Fin 64) : b35 j.val s (ix4 n i h d)
    = tab j s.main_v54_0 n i (col h d) * Ideal.exp (gT j s n i (col h d) - gT j s n 31 (col h d)) := by
  rw [tab_col, ← b5_at, ← b30_at, ← b26_at]
  unfold b35 b34 b33 b32 b31
  generalize b26 j.val s = z
  generalize b30 j.val s = w
  generalize b5 j.val s = u
  pointwise
theorem b39_at (n : Fin 16) (i : Fin 64) (h : Fin 4) (d : Fin 64) : b39 j.val s (ix4 n i h d)
    = tab j s.main_v54_1 n i (col h d) * Ideal.exp (gT j s n 31 (col h d) - gT j s n i (col h d)) := by
  rw [tab_col, ← b11_at, ← b30_at, ← b26_at]
  unfold b39 b38 b37 b36 b31
  generalize b26 j.val s = z
  generalize b30 j.val s = w
  generalize b11 j.val s = u
  pointwise
theorem b49_at (n : Fin 16) (i : Fin 64) (h : Fin 4) (d : Fin 64) : b49 j.val s (ix4 n i h d)
    = tab j s.main_v54_0 n i (col h d) * Ideal.exp (gT j s n i (col h d)) := by
  rw [tab_col, ← b5_at, ← b26_at]
  unfold b49 b48
  generalize b26 j.val s = z
  generalize b5 j.val s = u
  pointwise
theorem b56_at (n : Fin 16) (i : Fin 64) (h : Fin 4) (d : Fin 64) : b56 j.val s (ix4 n i h d)
    = tab j s.main_v54_1 n i (col h d) * Ideal.exp (gT j s n 63 (col h d) - gT j s n i (col h d)) := by
  rw [tab_col, ← b11_at, ← b28_at, ← b26_at]
  unfold b56 b55 b54 b53 b52
  generalize b26 j.val s = z
  generalize b28 j.val s = w
  generalize b11 j.val s = u
  pointwise

theorem mask_at (i k : Fin 64) : K_main_v44 (F := Ideal) (ix2 i k) = if k ≤ i then 1#1 else 0#1 := by
  revert i k; decide +kernel

theorem b45_at (n : Fin 16) (h : Fin 4) (i k : Fin 64) : b45 j.val s (ix4 n h i k)
    = score fwd 31 (gT j s n) (tab j s.main_v54_0 n) (tab j s.main_v54_1 n) h i k := by
  have e1 : b40 j.val s (ix4 n h i k) = ∑ d : Fin 64, b35 j.val s (ix4 n i h d) * b39 j.val s (ix4 n k h d) := by
    unfold b40
    generalize b35 j.val s = u
    generalize b39 j.val s = w
    pointwise
  have e2 : b45 j.val s (ix4 n h i k) = if K_main_v44 (F := Ideal) (ix2 i k) = 1#1 then b40 j.val s (ix4 n h i k) else 0 := by
    unfold b45 b43 b44 b42 b41
    generalize b40 j.val s = u
    generalize K_main_v44 (F := Ideal) = w
    pointwise
    unfold Scalar.select
    rfl
  rw [e2, mask_at, e1]
  unfold score
  by_cases hk : k ≤ i
  · rw [if_pos hk, if_pos rfl, if_pos (show fwd i k from hk)]
    exact Finset.sum_congr rfl fun d _ => by rw [b35_at, b39_at]
  · rw [if_neg hk, if_neg (by decide), if_neg (show ¬ fwd i k from hk)]

theorem b63_at (n : Fin 16) (i : Fin 64) (h : Fin 4) (e : Fin 128) : b63 j.val s (ix4 n i h e)
    = rows fwd 31 (gT j s n) (tab j s.main_v54_0 n) (tab j s.main_v54_1 n) (tabV j s.main_v54_2 n) (stT s.main_v54_6 n) h i e := by
  have e1 : b46 j.val s (ix4 n h e i) = ∑ k : Fin 64, b17 j.val s (ix4 n k h e) * b45 j.val s (ix4 n h i k) := by
    unfold b46
    generalize b17 j.val s = u
    generalize b45 j.val s = w
    pointwise
  have e2 : b50 j.val s (ix4 n h e i) = ∑ d : Fin 64, s.main_v54_6 (ix4 n h d e) * b49 j.val s (ix4 n i h d) := by
    unfold b50
    generalize s.main_v54_6 = u
    generalize b49 j.val s = w
    pointwise
  have e3 : b63 j.val s (ix4 n i h e) = b46 j.val s (ix4 n h e i) + b50 j.val s (ix4 n h e i) := by
    unfold b63 b47 b51
    generalize b46 j.val s = u
    generalize b50 j.val s = w
    pointwise
  rw [e3, e1, e2]
  unfold rows
  congr 1
  · exact Finset.sum_congr rfl fun k _ => by rw [b17_at, b45_at, tabV_vcol, mul_comm]
  · exact Finset.sum_congr rfl fun d _ => by rw [b49_at, stT_col, mul_comm]

theorem b62_at (n : Fin 16) (h : Fin 4) (d : Fin 64) (e : Fin 128) : b62 j.val s (ix4 n h d e)
    = next 63 (gT j s n) (tab j s.main_v54_1 n) (tabV j s.main_v54_2 n) (stT s.main_v54_6 n) e (col h d) := by
  have e1 : b57 j.val s (ix4 n h d e) = ∑ k : Fin 64, b56 j.val s (ix4 n k h d) * b17 j.val s (ix4 n k h e) := by
    unfold b57
    generalize b56 j.val s = u
    generalize b17 j.val s = w
    pointwise
  have e2 : b62 j.val s (ix4 n h d e) = Ideal.exp (b28 j.val s (ix3 n h d)) * s.main_v54_6 (ix4 n h d e) + b57 j.val s (ix4 n h d e) := by
    unfold b62 b61 b60 b59 b58
    generalize b28 j.val s = u
    generalize b57 j.val s = w
    pointwise
  rw [e2, e1, b28_at]
  unfold next
  rw [stT_col, Cert.GlaSpec.headOf_col]
  congr 1
  exact Finset.sum_congr rfl fun k _ => by rw [b56_at, b17_at, tabV_vcol, mul_comm]

/-- The state after a trip. -/
theorem state_step (n : Fin 16) : stT (step j.val s).main_v54_6 n
    = next 63 (gT j s n) (tab j s.main_v54_1 n) (tabV j s.main_v54_2 n) (stT s.main_v54_6 n) := by
  funext e c
  obtain ⟨h, d, rfl⟩ : ∃ h d, c = col h d := ⟨headOf c, inHead c, Fin.ext (by show c.val = c.val / 64 * 64 + c.val % 64; omega)⟩
  rw [stT_col, step_main_v54_6, b62_at]

/-- The rows a trip stores, and those it leaves. -/
theorem rows_step (k : Fin 32) (n : Fin 16) (i : Fin 64) (h : Fin 4) (e : Fin 128) : (step j.val s).main_v54_7 (ix5 k n i h e)
    = if k = j then b63 j.val s (ix4 n i h e) else s.main_v54_7 (ix5 k n i h e) := by
  rw [step_main_v54_7]
  have e1 : b69 j.val s = updateSlice s.main_v54_7 (b64 j.val s) ![j.val, 0, 0, 0, 0] (fitsV j) := by
    unfold b69
    refine Host.dynamicUpdateSlice_eq_updateSlice _ _ _ _ _ ?_ _
    intro a
    fin_cases a
    · show (min (max ((BitVec.ofNat 32 j.val).toInt) 0) ((32 - 1 : Nat) : Int)).toNat = j.val
      rw [toInt_ofNat_of_lt (by have := j.isLt; omega)]
      have := j.isLt
      omega
    all_goals rfl
  rw [e1]
  unfold b64
  generalize b63 j.val s = u
  pointwise
  by_cases hk : k = j
  · rw [dif_pos ⟨by rw [hk], by rw [hk]; omega⟩, if_pos hk]
  · rw [dif_neg (fun c => hk (Fin.ext (by omega))), if_neg hk]

/-- The states of the loop from a given one. -/
def it (s0 : State Ideal) : Nat → State Ideal
  | 0 => s0
  | k + 1 => step k (it s0 k)

variable (s0 : State Ideal)

theorem it_0 (k : Nat) : (it s0 k).main_v54_0 = s0.main_v54_0 := by induction k with
  | zero => rfl
  | succ k ih => rw [← ih]; rfl
theorem it_1 (k : Nat) : (it s0 k).main_v54_1 = s0.main_v54_1 := by induction k with
  | zero => rfl
  | succ k ih => rw [← ih]; rfl
theorem it_2 (k : Nat) : (it s0 k).main_v54_2 = s0.main_v54_2 := by induction k with
  | zero => rfl
  | succ k ih => rw [← ih]; rfl
theorem it_3 (k : Nat) : (it s0 k).main_v54_3 = s0.main_v54_3 := by induction k with
  | zero => rfl
  | succ k ih => rw [← ih]; rfl

/-- The state of one sequence before a trip. -/
def st (n : Fin 16) : Nat → Fin 128 → Fin 256 → EReal
  | 0 => stT s0.main_v54_6 n
  | k + 1 => next 63 (cum fwd (tab (ch k) s0.main_v54_3 n)) (tab (ch k) s0.main_v54_1 n) (tabV (ch k) s0.main_v54_2 n) (st n k)

theorem it_state (n : Fin 16) (k : Nat) (hk : k ≤ 32) : stT (it s0 k).main_v54_6 n = st s0 n k := by
  induction k with
  | zero => rfl
  | succ k ih =>
    have e : (ch k).val = k := Nat.mod_eq_of_lt (by omega)
    have h := state_step (ch k) (it s0 k) n
    rw [e, ih (by omega), it_1, it_2] at h
    unfold gT at h
    rw [it_3] at h
    exact h

theorem it_rows (n : Fin 16) (k : Nat) (hk : k ≤ 32) (j : Fin 32) (hj : j.val < k) (i : Fin 64) (h : Fin 4) (e : Fin 128) :
    (it s0 k).main_v54_7 (ix5 j n i h e) = rows fwd 31 (cum fwd (tab j s0.main_v54_3 n)) (tab j s0.main_v54_0 n) (tab j s0.main_v54_1 n)
      (tabV j s0.main_v54_2 n) (st s0 n j.val) h i e := by
  induction k with
  | zero => omega
  | succ k ih =>
    have e1 : (ch k).val = k := Nat.mod_eq_of_lt (by omega)
    have h1 := rows_step (ch k) (it s0 k) j n i h e
    rw [e1] at h1
    refine h1.trans ?_
    by_cases hjk : j.val = k
    · have e2 : j = ch k := Fin.ext (hjk.trans e1.symm)
      rw [if_pos e2, ← hjk, b63_at, it_state s0 n j.val (by omega), it_0, it_1, it_2]
      unfold gT
      rw [it_3]
    · rw [if_neg (fun c => hjk ((congrArg Fin.val c).trans e1)), ih (by omega) (by omega)]

end Cert.GlaRefStep

end
-- ==== Proof.GlaKernel.lean ====
/- What the attention kernel leaves in a block of its result. -/
module

public import proofs.«01_k».proof.Proof.GlaIter

@[expose] public section

set_option maxRecDepth 16384

noncomputable section

namespace Cert.GlaKernel

open Idealize.ShloMosaic Idealize.ShloMosaic.TcCoe Idealize.SL.Sem
open Cert.KernelIdeal Cert.KernelIdeal.Gen Cert.GlaSpec Cert.GlaPay Cert.GlaLoop Cert.GlaNorm Cert.GlaIter
open scoped BigOperators

/-- The state a batch starts from. -/
def init (x5 : FVec Ideal S1x2x128x256 .f32) : FVec Ideal S2x128x256 .f32 := fun y => x5 (ix4 0 (y 0) (y 1) (y 2))

/-- The chunk, the head and the places in them of a row and of a column. -/
def rowChunk (r : Fin 2048) : Fin 32 := ⟨r.val / 64, by omega⟩
def rowIn (r : Fin 2048) : Fin 64 := ⟨r.val % 64, by omega⟩
def colHead (j : Fin 512) : Fin 4 := ⟨j.val / 128, by omega⟩
def colIn (j : Fin 512) : Fin 128 := ⟨j.val % 128, by omega⟩

theorem row_eq (r : Fin 2048) : r = ⟨64 * (rowChunk r).val + (rowIn r).val, by have := (rowChunk r).isLt; have := (rowIn r).isLt; omega⟩ :=
  Fin.ext (by simp only [rowChunk, rowIn]; omega)
theorem vcol_eq (j : Fin 512) : vcol (colHead j) (colIn j) = j := Fin.ext (by simp only [vcol, colHead, colIn]; omega)

section spec
variable (x0 : Vec Ideal S1x2048x256 .bf16) (x1 : Vec Ideal S1x2048x512 .bf16) (x2 : Vec Ideal S1x2048x128 .bf16) (x3 : Vec Ideal S2x128x256 .bf16) (x4 : Vec Ideal S2x1x256 .f32) (x5 : Vec Ideal S1x2x128x256 .f32) (x6 : Vec Ideal S1x2048x256 .bf16) (x7 : Vec Ideal S1x2048x512 .bf16) (x8 : Vec Ideal S1x512 .f32)

/-- The row `r` of a batch, forward and backward, before they are normed. -/
def rowF (r : Fin 2048) (h : Fin 4) (e : Fin 128) : EReal := oF x0 x1 x2 x3 x4 (init x5) x6 (rowChunk r) h (rowIn r) e
def rowB (r : Fin 2048) (h : Fin 4) (e : Fin 128) : EReal := oB x0 x1 x2 x3 x4 (init x5) x6 (rev32 (rowChunk r)) h (rowIn r) e
/-- An entry of the block. -/
def entry (r : Fin 2048) (h : Fin 4) (e : Fin 128) : EReal :=
  headNorm (fun x => rowF x0 x1 x2 x3 x4 x5 x6 r h x + rowB x0 x1 x2 x3 x4 x5 x6 r h x) (fun x => x8 (ix2 0 (vcol h x))) (fun x => x7 (ix3 0 r (vcol h x))) e
/-- The block. -/
def block : Vec Ideal S1x2048x512 .bf16 := fun y => entry x0 x1 x2 x3 x4 x5 x6 x7 x8 (y 1) (colHead (y 2)) (colIn (y 2))
end spec

theorem read_row (g : S2x2048x512.Idx → EReal) (d : Fin 2) (r : Fin 2048) (j : Fin 512) :
    g (ix3 d r j) = g (ix3 d ⟨64 * (rowChunk r).val + (rowIn r).val, by have := (rowChunk r).isLt; have := (rowIn r).isLt; omega⟩ j) :=
  congrArg (fun r => g (ix3 d r j)) (row_eq r)
theorem trips1 : k0_t1_loop.trips = 32 := by decide +kernel
theorem trips2 : k0_t2_loop.trips = 8 := by decide +kernel
theorem rev_rev (n : Fin 32) : rev32 (rev32 n) = n := Fin.ext (by simp only [rev32]; omega)

variable (𝒱 : Variants) (c : Dev nD) (bd : Option 𝒱.V) (i : grid0.Coords) (arg1 : Memref sig .tc .vmem S1x2048x256 .bf16) (harg1 : arg1.IsWhole) (arg2 : Memref sig .tc .vmem S1x2048x512 .bf16) (harg2 : arg2.IsWhole) (arg3 : Memref sig .tc .vmem S1x2048x128 .bf16) (harg3 : arg3.IsWhole) (arg4 : Memref sig .tc .vmem S2x128x256 .bf16) (harg4 : arg4.IsWhole) (arg5 : Memref sig .tc .vmem S2x1x256 .f32) (harg5 : arg5.IsWhole) (arg6 : Memref sig .tc .vmem S1x2x128x256 .f32) (harg6 : arg6.IsWhole) (arg7 : Memref sig .tc .vmem S1x2048x256 .bf16) (harg7 : arg7.IsWhole) (arg8 : Memref sig .tc .vmem S1x2048x512 .bf16) (harg8 : arg8.IsWhole) (arg9 : Memref sig .tc .vmem S1x512 .f32) (harg9 : arg9.IsWhole) (arg10 : Memref sig .tc .vmem S1x2048x512 .bf16) (harg10 : arg10.IsWhole) (arg11 : Memref sig .tc .vmem S2x128x256 .f32) (harg11 : arg11.IsWhole) (arg12 : Memref sig .tc .vmem S2x2048x512 .f32) (harg12 : arg12.IsWhole)
variable (x0 : Vec Ideal S1x2048x256 .bf16) (x1 : Vec Ideal S1x2048x512 .bf16) (x2 : Vec Ideal S1x2048x128 .bf16) (x3 : Vec Ideal S2x128x256 .bf16) (x4 : Vec Ideal S2x1x256 .f32) (x5 : Vec Ideal S1x2x128x256 .f32) (x6 : Vec Ideal S1x2048x256 .bf16) (x7 : Vec Ideal S1x2048x512 .bf16) (x8 : Vec Ideal S1x512 .f32)

theorem out_read (G11 : BufTy.Contents (Elt Ideal) arg11.view.ty) (hG : arg11.view.read (Elt Ideal) G11 = init x5)
    (G12 : BufTy.Contents (Elt Ideal) arg12.view.ty) (f : BufTy.Contents (Elt Ideal) arg10.view.ty) :
    arg10.view.read (Elt Ideal) (arg10.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 (harg8.unread x7) (harg9.unread x8) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 (harg1.unread x0) (harg2.unread x1) (harg3.unread x2) (harg4.unread x3) (harg5.unread x4) (harg7.unread x6) G11 G12 k0_t1_loop.trips).2) k0_t2_loop.trips)) = block x0 x1 x2 x3 x4 x5 x6 x7 x8 := by
  obtain ⟨-, -, hF, hB⟩ := first 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg7.unread x6) G11 G12 k0_t1_loop.trips le_rfl
  simp only [Memref.IsWhole.read_unread, hG] at hF hB
  funext y
  have ey : y = ix3 0 (y 1) (y 2) := by
    funext a
    match a with
    | ⟨0, _⟩ => exact Subsingleton.elim (α := Fin 1) _ _
    | ⟨1, _⟩ => rfl
    | ⟨2, _⟩ => rfl
  have h2 := second 𝒱 c bd i arg1 harg1 arg2 harg2 arg3 harg3 arg4 harg4 arg5 harg5 arg6 harg6 arg7 harg7 arg8 harg8 arg9 harg9 arg10 harg10 arg11 harg11 arg12 harg12 (harg8.unread x7) (harg9.unread x8) (arg12.view.writes (Elt Ideal) G12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_pay58 k0_pay59 k0_pay60 k0_pay61 k0_pay62 (harg1.unread x0) (harg2.unread x1) (harg3.unread x2) (harg4.unread x3) (harg5.unread x4) (harg7.unread x6) G11 G12 k0_t1_loop.trips).2) f k0_t2_loop.trips le_rfl (y 1)
    (by rw [trips2]; exact (y 1).isLt) (colHead (y 2)) (colIn (y 2))
  have e3 : (ix3 0 (y 1) (vcol (colHead (y 2)) (colIn (y 2))) : S1x2048x512.Idx) = y := (congrArg (ix3 0 (y 1)) (vcol_eq (y 2))).trans ey.symm
  rw [e3] at h2
  refine h2.trans ?_
  unfold outRow block entry
  rw [Memref.IsWhole.read_unread, Memref.IsWhole.read_unread]
  congr 1
  funext x
  have eF := hF (rowChunk (y 1)) (by rw [trips1]; exact (rowChunk (y 1)).isLt) (colHead (y 2)) (rowIn (y 1)) x
  have eB := hB (rev32 (rowChunk (y 1))) (by rw [trips1]; exact (rev32 (rowChunk (y 1))).isLt) (colHead (y 2)) (rowIn (y 1)) x
  simp only [rev_rev] at eB
  exact congrArg₂ (· + ·) ((read_row _ 0 (y 1) _).trans eF) ((read_row _ 1 (y 1) _).trans eB)

end Cert.GlaKernel

end
-- ==== Proof.GlaKernelRun.lean ====
/- The attention kernel's run, with what it leaves in its result. -/
module

public import proofs.«01_k».proof.Proof.Gen.KernelIdeal.Frame.Runs
public import proofs.«01_k».proof.Proof.GlaKernel
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384

noncomputable section

namespace Cert.GlaKernelRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The states' scratch once the body has stored the starting states. -/
theorem start (arg6 : Memref sig .tc .vmem S1x2x128x256 .f32) (harg6 : arg6.IsWhole) (arg11 : Memref sig .tc .vmem S2x128x256 .f32)
    (x5 : Vec Ideal S1x2x128x256 .f32) (f : BufTy.Contents (Elt Ideal) arg11.view.ty) :
    arg11.view.read (Elt Ideal) (arg11.view.writes (Elt Ideal) f
      [⟨Rect.unit (s := S2x128x256) ![0, 0, 0] S2x128x256.size inb_S2x128x256_S2x128x256_0_0_0,
        k0_pay57 (F := Ideal) (View.readAt (Elt Ideal) arg6.view (Rect.unit (s := S1x2x128x256) ![0, 0, 0, 0] S1x2x128x256.size inb_S1x2x128x256_S1x2x128x256_0_0_0_0).toLoadRect (harg6.unread x5))⟩])
      = GlaKernel.init x5 := by
  funext y
  refine (View.read_writes_cons_unit_of_mem arg11.view f _ _ _ y (x := y) rfl (fun a => ?_)).trans ?_
  · match a with
    | ⟨0, _⟩ => exact (Nat.zero_add _).symm
    | ⟨1, _⟩ => exact (Nat.zero_add _).symm
    | ⟨2, _⟩ => exact (Nat.zero_add _).symm
  rw [View.readAt_eq_ld, Memref.IsWhole.read_unread, View.ld_unit_zero (by decide)]
  have ey : y = ix3 (y 0) (y 1) (y 2) := by
    funext a; match a with | ⟨0, _⟩ => rfl | ⟨1, _⟩ => rfl | ⟨2, _⟩ => rfl
  have e : k0_pay57 (F := Ideal) x5 (ix3 (y 0) (y 1) (y 2)) = x5 (ix4 0 (y 0) (y 1) (y 2)) := by
    unfold k0_pay57
    pointwise
  exact (congrArg _ ey).trans e

-- (the run's proof term is large: checking it walks past the default budget)
set_option maxHeartbeats 1000000 in
/-- The body's triple: on whole staging memrefs, the inputs' at their contents, the output's and the scratch at
    anything, the body runs to the continuation holding the inputs' as they were and the output's at the block the body leaves. -/
theorem kernelRun0_A (c : Dev nD) (i : grid0.Coords) (arg1 : Memref sig .tc .vmem S1x2048x256 .bf16) (harg1 : arg1.IsWhole) (arg2 : Memref sig .tc .vmem S1x2048x512 .bf16) (harg2 : arg2.IsWhole) (arg3 : Memref sig .tc .vmem S1x2048x128 .bf16) (harg3 : arg3.IsWhole) (arg4 : Memref sig .tc .vmem S2x128x256 .bf16) (harg4 : arg4.IsWhole) (arg5 : Memref sig .tc .vmem S2x1x256 .f32) (harg5 : arg5.IsWhole) (arg6 : Memref sig .tc .vmem S1x2x128x256 .f32) (harg6 : arg6.IsWhole) (arg7 : Memref sig .tc .vmem S1x2048x256 .bf16) (harg7 : arg7.IsWhole) (arg8 : Memref sig .tc .vmem S1x2048x512 .bf16) (harg8 : arg8.IsWhole) (arg9 : Memref sig .tc .vmem S1x512 .f32) (harg9 : arg9.IsWhole) (arg10 : Memref sig .tc .vmem S1x2048x512 .bf16) (harg10 : arg10.IsWhole) (arg11 : Memref sig .tc .vmem S2x128x256 .f32) (harg11 : arg11.IsWhole) (arg12 : Memref sig .tc .vmem S2x2048x512 .f32) (harg12 : arg12.IsWhole)
    (x0 : Vec Ideal S1x2048x256 .bf16) (x1 : Vec Ideal S1x2048x512 .bf16) (x2 : Vec Ideal S1x2048x128 .bf16) (x3 : Vec Ideal S2x128x256 .bf16) (x4 : Vec Ideal S2x1x256 .f32) (x5 : Vec Ideal S1x2x128x256 .f32) (x6 : Vec Ideal S1x2048x256 .bf16) (x7 : Vec Ideal S1x2048x512 .bf16) (x8 : Vec Ideal S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (GlaKernel.block x0 x1 x2 x3 x4 x5 x6 x7 x8) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_gla i arg1 harg1 arg2 harg2 arg3 harg3 arg4 harg4 arg5 harg5 arg6 harg6 arg7 harg7 arg8 harg8 arg9 harg9 arg10 harg10 arg11 harg11 arg12 harg12) K := by
    intro E K
    simp only [cc0_gla_eq_skeleton]; unfold cc0_gla_skel
    simp only [k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro; exact GlaKernel.out_read Variants.none c none i _ harg1 _ harg2 _ harg3 _ harg4 _ harg5 _ harg6 _ harg7 _ harg8 _ harg9 _ harg10 _ harg11 _ harg12 x0 x1 x2 x3 x4 x5 x6 x7 x8 _ (start _ harg6 _ x5 _) _ _
    isplitl [HS0]
    · iexists _, _; isplitr; swap; · iexact HS0
      ipureintro; rfl
    iexists _, _; isplitr; swap; · iexact HS1
    ipureintro; rfl

/-- The block the body leaves at a grid point. -/
def left (c : Dev nD) (t : Fin cfg0.N) : Vec Ideal S1x2048x512 .bf16 :=
  GlaKernel.block (iblk m c 0 t) (iblk m c 1 t) (iblk m c 2 t) (iblk m c 3 t) (iblk m c 4 t) (iblk m c 5 t) (iblk m c 6 t) (iblk m c 7 t) (iblk m c 8 t)

/-- The proof data of the one pipeline on core `c`: the arrays as the region finds them (`V`); after the body at
    point `t` each input's buffer at its block and the output at the block the body leaves; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_9 (c : Dev nD) (t : Fin cfg0.N) : (dats m 0 c).after 9 t = left m c t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v15) = (dats m 0 c).arrAt 9 cfg0.N :=
  (h c).1 9

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 6 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: input window 7 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- After the frame run, argument `main_arg5` is as launched: input window 5 stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v15) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.GlaKernelRun

end
-- ==== Proof.GlaHost.lean ====
/- The arguments the attention kernel is called with, from the arguments of the program. -/
module

public import proofs.«01_k».proof.Proof.GlaKernelRun

@[expose] public section

set_option maxRecDepth 16384

noncomputable section

namespace Cert.GlaHost

open Idealize.ShloMosaic Idealize.ShloMosaic.TcCoe Idealize.SL.Sem
open Cert.KernelIdeal Cert.KernelIdeal.Gen
open scoped BigOperators

/-- What a list of writes leaves at an index where every write that meets it writes the same value. -/
theorem foldl_set {ι σ : Type} (step : (σ → EReal) → ι → σ → EReal) (g : ι → Option σ) (i : σ) (v : EReal)
    (h1 : ∀ r n, g n = some i → step r n i = v) (h2 : ∀ r n, g n ≠ some i → step r n i = r i) (l : List ι) (x : σ → EReal)
    (h : x i = v ∨ ∃ n ∈ l, g n = some i) : l.foldl step x i = v := by
  induction l generalizing x with
  | nil => simpa using h
  | cons a l ih =>
    rw [List.foldl_cons]
    refine ih _ ?_
    by_cases ha : g a = some i
    · exact .inl (h1 x a ha)
    · rcases h with h | ⟨n, hn, hi⟩
      · exact .inl ((h2 x a ha).trans h)
      · rcases List.mem_cons.1 hn with rfl | hn
        · exact absurd hi ha
        · exact .inr ⟨n, hn, hi⟩

theorem scatter_set {s si u : Shape} {w : Nat} (d : ScatterDims s si u) (x : s.Idx → EReal) (idx : IVec si w) (upd : u.Idx → EReal) (i : s.Idx)
    (v : EReal) (h : x i = v ∨ ∃ j, d.resultIdx? j idx = some i) (hu : ∀ j, d.resultIdx? j idx = some i → upd j = v) :
    Host.scatter d (fun _ b => b) x idx upd i = v := by
  unfold Host.scatter
  refine foldl_set _ (fun n => d.resultIdx? (u.rowMajor.symm n) idx) i v (fun r n hn => ?_) (fun r n hn => ?_) (List.finRange u.numel) x ?_
  · dsimp only at hn ⊢
    have := hu _ hn
    rw [hn]
    simpa using this
  · dsimp only at hn ⊢
    cases hg : d.resultIdx? (u.rowMajor.symm n) idx with
    | none => rfl
    | some j =>
      have hne : i ≠ j := fun e => hn (by rw [hg, e])
      simp [hne]
  rcases h with h | ⟨j, hj⟩
  · exact .inl h
  · exact .inr ⟨u.rowMajor j, List.mem_finRange _, by rw [Equiv.symm_apply_apply]; exact hj⟩

variable (idx : IVec S2 32) (p q : Nat) (hp : (idx (ix1 0)).toInt = p) (hq : (idx (ix1 1)).toInt = q) (hp2 : p < 2) (hq2 : q + 16 ≤ 128)
include hp hq hp2 hq2

/-- Where the updates of a window of 16 rows land. -/
theorem lands (j : S16x256.Idx) :
    scatter_S2x128x256_S2_S16x256_01_0_01_0.resultIdx? j idx
      = some (ix3 (⟨p, hp2⟩ : Fin 2) (⟨q + (j 0).val, by have : (j 0).val < 16 := (j 0).isLt; omega⟩ : Fin 128) (j 1)) := by
  have s0 : scatter_S2x128x256_S2_S16x256_01_0_01_0.start j idx 0 = p := by
    unfold ScatterDims.start
    rw [dif_pos (by decide), ← hp]
    congr 2
    funext b; match b with | ⟨0, _⟩ => rfl
  have s1 : scatter_S2x128x256_S2_S16x256_01_0_01_0.start j idx 1 = q := by
    unfold ScatterDims.start
    rw [dif_pos (by decide), ← hq]
    congr 2
    funext b; match b with | ⟨0, _⟩ => rfl
  have s2 : scatter_S2x128x256_S2_S16x256_01_0_01_0.start j idx 2 = 0 := by
    unfold ScatterDims.start
    rw [dif_neg (by decide)]
  have w0 : scatter_S2x128x256_S2_S16x256_01_0_01_0.window j 0 = 0 := by
    unfold ScatterDims.window
    rw [dif_neg (by decide)]
  have w1 : scatter_S2x128x256_S2_S16x256_01_0_01_0.window j 1 = (j 0).val := by
    unfold ScatterDims.window
    rw [dif_pos (by decide)]; rfl
  have w2 : scatter_S2x128x256_S2_S16x256_01_0_01_0.window j 2 = (j 1).val := by
    unfold ScatterDims.window
    rw [dif_pos (by decide)]; rfl
  have h0 : (j 0).val < 16 := (j 0).isLt
  have h1 : (j 1).val < 256 := (j 1).isLt
  unfold ScatterDims.resultIdx?
  rw [dif_pos (by
    intro a
    match a with
    | ⟨0, _⟩ => rw [show (⟨0, _⟩ : Fin 3) = 0 from rfl, s0, w0]; change _ ∧ _ < ((2 : Nat) : Int); omega
    | ⟨1, _⟩ => rw [show (⟨1, _⟩ : Fin 3) = 1 from rfl, s1, w1]; change _ ∧ _ < ((128 : Nat) : Int); omega
    | ⟨2, _⟩ => rw [show (⟨2, _⟩ : Fin 3) = 2 from rfl, s2, w2]; change _ ∧ _ < ((256 : Nat) : Int); omega)]
  congr 1
  funext a
  apply Fin.ext
  match a with
  | ⟨0, _⟩ => change (scatter_S2x128x256_S2_S16x256_01_0_01_0.start j idx 0 + scatter_S2x128x256_S2_S16x256_01_0_01_0.window j 0).toNat = p; rw [s0, w0]; omega
  | ⟨1, _⟩ => change (scatter_S2x128x256_S2_S16x256_01_0_01_0.start j idx 1 + scatter_S2x128x256_S2_S16x256_01_0_01_0.window j 1).toNat = q + (j 0).val; rw [s1, w1]; omega
  | ⟨2, _⟩ => change (scatter_S2x128x256_S2_S16x256_01_0_01_0.start j idx 2 + scatter_S2x128x256_S2_S16x256_01_0_01_0.window j 2).toNat = (j 1).val; rw [s2, w2]; omega

/-- A window of 16 rows written: inside it. -/
theorem scat_in (x : S2x128x256.Idx → EReal) (u : S16x256.Idx → EReal) (r : Fin 16) (c : Fin 256) :
    Host.scatter scatter_S2x128x256_S2_S16x256_01_0_01_0 (fun _ b => b) x idx u
      (ix3 (⟨p, hp2⟩ : Fin 2) (⟨q + r.val, by omega⟩ : Fin 128) c) = u (ix2 r c) := by
  refine scatter_set _ x idx u _ _ (.inr ⟨ix2 r c, ?_⟩) ?_
  · rw [lands idx p q hp hq hp2 hq2]; rfl
  · intro j hn
    rw [lands idx p q hp hq hp2 hq2] at hn
    have hn := Option.some.inj hn
    congr 1
    funext a
    match a with
    | ⟨0, _⟩ => have := congrArg Fin.val (congrFun hn 1); change q + (j 0).val = q + r.val at this; exact Fin.ext (by change (j 0).val = r.val; omega)
    | ⟨1, _⟩ => exact congrFun hn 2

/-- A window of 16 rows written: outside it. -/
theorem scat_out (x : S2x128x256.Idx → EReal) (u : S16x256.Idx → EReal) (d : Fin 2) (r : Fin 128) (c : Fin 256)
    (h : d.val ≠ p ∨ r.val < q ∨ q + 16 ≤ r.val) :
    Host.scatter scatter_S2x128x256_S2_S16x256_01_0_01_0 (fun _ b => b) x idx u (ix3 d r c) = x (ix3 d r c) := by
  refine scatter_set _ x idx u _ _ (.inl rfl) ?_
  intro j hn
  rw [lands idx p q hp hq hp2 hq2] at hn
  have hn := Option.some.inj hn
  have h0 : (j 0).val < 16 := (j 0).isLt
  have e0 := congrArg Fin.val (congrFun hn 0)
  have e1 := congrArg Fin.val (congrFun hn 1)
  change p = d.val at e0
  change q + (j 0).val = r.val at e1
  omega

end Cert.GlaHost

end
-- ==== Proof.GlaArray.lean ====
/- The result of the attention kernel, from the arguments of the program. -/
module

public import proofs.«01_k».proof.Proof.GlaHost

@[expose] public section

set_option maxRecDepth 16384

noncomputable section

namespace Cert.GlaArray

open Idealize.ShloMosaic Idealize.ShloMosaic.TcCoe Idealize.SL.Sem
open Cert.KernelIdeal Cert.KernelIdeal.Gen Cert.GlaHost Cert.GlaKernelRun
open scoped BigOperators

/-- A batch of an array. -/
def part {W : Nat} (x : (⟨3, ![8, 2048, W]⟩ : Shape).Idx → EReal) (b : Fin 8) : (⟨3, ![1, 2048, W]⟩ : Shape).Idx → EReal :=
  fun y => x (ix3 b (y 1) (y 2))
/-- The starting states of a batch. -/
def states (x : S8x2x128x256.Idx → EReal) (b : Fin 8) : S1x2x128x256.Idx → EReal := fun y => x (ix4 b (y 1) (y 2) (y 3))
/-- The decay weights, each direction's in its own rows, the other rows zero. -/
def decayAt (wf wb : S16x256.Idx → EReal) (d : Fin 2) (i : Fin 128) (j : Fin 256) : EReal :=
  if d.val = 0 then (if h : i.val < 16 then wf (ix2 (⟨i.val, h⟩ : Fin 16) j) else 0)
  else (if h : 16 ≤ i.val ∧ i.val < 32 then wb (ix2 (⟨i.val - 16, by omega⟩ : Fin 16) j) else 0)
def decay (wf wb : S16x256.Idx → EReal) : S2x128x256.Idx → EReal := fun y => decayAt wf wb (y 0) (y 1) (y 2)
/-- The decay biases. -/
def biasAt (bf bb : S256.Idx → EReal) (d : Fin 2) (j : Fin 256) : EReal := if d.val = 0 then bf (ix1 j) else bb (ix1 j)
def biases (bf bb : S256.Idx → EReal) : S2x1x256.Idx → EReal := fun y => biasAt bf bb (y 0) (y 2)
/-- The norm's weights. -/
def weights (w : S512.Idx → EReal) : S1x512.Idx → EReal := fun y => w (ix1 (y 1))

def at8 (t : Fin grid0.N) : Fin 8 := ⟨t.val, t.isLt⟩

variable (m : (ℓ : Loc nD τ sig) → Buf (Elt Ideal) ℓ) (c : Dev nD)

/-- Where the index maps place the blocks of a grid point. -/
theorem index0 : ∀ t : Fin grid0.N, win0_0.index t 0 = t.val ∧ win0_0.index t 1 = 0 ∧ win0_0.index t 2 = 0 := by decide +kernel
theorem index1 : ∀ t : Fin grid0.N, win0_1.index t 0 = t.val ∧ win0_1.index t 1 = 0 ∧ win0_1.index t 2 = 0 := by decide +kernel
theorem index2 : ∀ t : Fin grid0.N, win0_2.index t 0 = t.val ∧ win0_2.index t 1 = 0 ∧ win0_2.index t 2 = 0 := by decide +kernel
theorem index6 : ∀ t : Fin grid0.N, win0_6.index t 0 = t.val ∧ win0_6.index t 1 = 0 ∧ win0_6.index t 2 = 0 := by decide +kernel
theorem index7 : ∀ t : Fin grid0.N, win0_7.index t 0 = t.val ∧ win0_7.index t 1 = 0 ∧ win0_7.index t 2 = 0 := by decide +kernel
theorem index9 : ∀ t : Fin grid0.N, win0_9.index t 0 = t.val ∧ win0_9.index t 1 = 0 ∧ win0_9.index t 2 = 0 := by decide +kernel
theorem index5 : ∀ t : Fin grid0.N, win0_5.index t 0 = t.val ∧ win0_5.index t 1 = 0 ∧ win0_5.index t 2 = 0 ∧ win0_5.index t 3 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 ∧ win0_4.index t 2 = 0 := by decide +kernel
theorem index8 : ∀ t : Fin grid0.N, win0_8.index t 0 = 0 ∧ win0_8.index t 1 = 0 := by decide +kernel

/-- The blocks read from the arguments. -/
theorem read0 (t : Fin grid0.N) : iblk m c 0 t = part (m ((c : Thread nD τ).loc main_arg0)) (at8 t) := by
  funext y
  obtain ⟨i, j, rfl⟩ : ∃ (i : Fin 2048) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have h := index0 t
  change iblk m c 0 t (ix3 (0 : Fin 1) i j) = m ((c : Thread nD τ).loc main_arg0) (ix3 (at8 t) i j)
  unfold at8
  blk_ext [iblk, V, h]
theorem read1 (t : Fin grid0.N) : iblk m c 1 t = part (m ((c : Thread nD τ).loc main_arg1)) (at8 t) := by
  funext y
  obtain ⟨i, j, rfl⟩ : ∃ (i : Fin 2048) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have h := index1 t
  change iblk m c 1 t (ix3 (0 : Fin 1) i j) = m ((c : Thread nD τ).loc main_arg1) (ix3 (at8 t) i j)
  unfold at8
  blk_ext [iblk, V, h]
theorem read2 (t : Fin grid0.N) : iblk m c 2 t = part (m ((c : Thread nD τ).loc main_arg2)) (at8 t) := by
  funext y
  obtain ⟨i, j, rfl⟩ : ∃ (i : Fin 2048) (j : Fin 128), y = ix3 (0 : Fin 1) i j :=
    ⟨y 1, y 2, by funext a; match a with | ⟨0, _⟩ => exact Subsingleton.elim (α := Fin 1) _ _ | ⟨1, _⟩ => rfl | ⟨2, _⟩ => rfl⟩
  have h := index2 t
  change iblk m c 2 t (ix3 (0 : Fin 1) i j) = m ((c : Thread nD τ).loc main_arg2) (ix3 (at8 t) i j)
  unfold at8
  blk_ext [iblk, V, h]
theorem read6 (t : Fin grid0.N) : iblk m c 6 t = part (m ((c : Thread nD τ).loc main_arg3)) (at8 t) := by
  funext y
  obtain ⟨i, j, rfl⟩ : ∃ (i : Fin 2048) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have h := index6 t
  change iblk m c 6 t (ix3 (0 : Fin 1) i j) = m ((c : Thread nD τ).loc main_arg3) (ix3 (at8 t) i j)
  unfold at8
  blk_ext [iblk, V, h]
theorem read7 (t : Fin grid0.N) : iblk m c 7 t = part (m ((c : Thread nD τ).loc main_arg4)) (at8 t) := by
  funext y
  obtain ⟨i, j, rfl⟩ : ∃ (i : Fin 2048) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have h := index7 t
  change iblk m c 7 t (ix3 (0 : Fin 1) i j) = m ((c : Thread nD τ).loc main_arg4) (ix3 (at8 t) i j)
  unfold at8
  blk_ext [iblk, V, h]
theorem read5 (t : Fin grid0.N) : iblk m c 5 t = states (m ((c : Thread nD τ).loc main_arg5)) (at8 t) := by
  funext y
  obtain ⟨d, i, j, rfl⟩ : ∃ (d : Fin 2) (i : Fin 128) (j : Fin 256), y = ix4 (0 : Fin 1) d i j :=
    ⟨y 1, y 2, y 3, by funext a; match a with | ⟨0, _⟩ => exact Subsingleton.elim (α := Fin 1) _ _ | ⟨1, _⟩ => rfl | ⟨2, _⟩ => rfl | ⟨3, _⟩ => rfl⟩
  have h := index5 t
  change iblk m c 5 t (ix4 (0 : Fin 1) d i j) = m ((c : Thread nD τ).loc main_arg5) (ix4 (at8 t) d i j)
  unfold at8
  blk_ext [iblk, V, h]
theorem read8 (t : Fin grid0.N) : iblk m c 8 t = weights (m ((c : Thread nD τ).loc main_arg10)) := by
  funext y
  obtain ⟨j, rfl⟩ : ∃ (j : Fin 512), y = ix2 (0 : Fin 1) j :=
    ⟨y 1, by funext a; match a with | ⟨0, _⟩ => exact Subsingleton.elim (α := Fin 1) _ _ | ⟨1, _⟩ => rfl⟩
  have h := index8 t
  change iblk m c 8 t (ix2 (0 : Fin 1) j) = m ((c : Thread nD τ).loc main_arg10) (ix1 j)
  blk_simp [iblk]; entry_read; pointwise
  blk_ext [h]
theorem read4 (t : Fin grid0.N) : iblk m c 4 t = biases (m ((c : Thread nD τ).loc main_arg7)) (m ((c : Thread nD τ).loc main_arg9)) := by
  funext y
  obtain ⟨d, j, rfl⟩ : ∃ (d : Fin 2) (j : Fin 256), y = ix3 d (0 : Fin 1) j :=
    ⟨y 0, y 2, by funext a; match a with | ⟨0, _⟩ => rfl | ⟨1, _⟩ => exact Subsingleton.elim (α := Fin 1) _ _ | ⟨2, _⟩ => rfl⟩
  have h := index4 t
  blk_simp [iblk]; entry_read
  have he : ((View.whole main_v13).slice (win0_4.rect t)).emb (ix3 d (0 : Fin 1) j) = ix3 d (0 : Fin 1) j := by
    blk_ext [h]
  rw [he]
  pointwise
  change _ = biasAt _ _ d j
  unfold biasAt
  by_cases hd : d.val = 0
  · rw [dif_pos (by omega), if_pos hd]
  · rw [dif_neg (by omega), if_neg hd]
/-- The two low-rank factors written to their rows of the table of zeros. -/
theorem table_eq (wf wb : FVec Ideal S16x256 .f32) (d : Fin 2) (i : Fin 128) (j : Fin 256) :
    (truncf .bf16 (Host.scatter scatter_S2x128x256_S2_S16x256_01_0_01_0 (fun _ b => b)
        (Host.scatter scatter_S2x128x256_S2_S16x256_01_0_01_0 (fun _ b => b)
          (broadcastInDim S2x128x256 ![] bcast_S_S2x128x256 (constant (F := Ideal) S_ FTy.f32 0#32))
          (concatenate S2 0 [⟨S1, broadcastInDim S1 ![] bcast_S_S1 (constantI S_ 32 0#32)⟩, ⟨S1, broadcastInDim S1 ![] bcast_S_S1 (constantI S_ 32 0#32)⟩]
            concatenates_S1_S1_S2_d0) wf)
        (concatenate S2 0 [⟨S1, broadcastInDim S1 ![] bcast_S_S1 (constantI S_ 32 1#32)⟩, ⟨S1, broadcastInDim S1 ![] bcast_S_S1 (constantI S_ 32 16#32)⟩]
          concatenates_S1_S1_S2_d0) wb) bitsLt_bf16_f32 : FVec Ideal S2x128x256 .bf16) (ix3 d i j) = decay wf wb (ix3 d i j) := by
  have a0 : ((concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32) (ix1 0)).toInt = (0 : Nat) := by pointwise; rfl
  have a1 : ((concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32) (ix1 1)).toInt = (0 : Nat) := by pointwise; rfl
  have b0 : ((concatenate S2 0 [⟨S1, broadcastInDim S1 ![] bcast_S_S1 (constantI S_ 32 1#32)⟩, ⟨S1, broadcastInDim S1 ![] bcast_S_S1 (constantI S_ 32 16#32)⟩]
      concatenates_S1_S1_S2_d0 : IVec S2 32) (ix1 0)).toInt = (1 : Nat) := by pointwise; rfl
  have b1 : ((concatenate S2 0 [⟨S1, broadcastInDim S1 ![] bcast_S_S1 (constantI S_ 32 1#32)⟩, ⟨S1, broadcastInDim S1 ![] bcast_S_S1 (constantI S_ 32 16#32)⟩]
      concatenates_S1_S1_S2_d0 : IVec S2 32) (ix1 1)).toInt = (16 : Nat) := by pointwise; rfl
  generalize (concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32) = A at a0 a1 ⊢
  generalize (concatenate S2 0 [⟨S1, broadcastInDim S1 ![] bcast_S_S1 (constantI S_ 32 1#32)⟩, ⟨S1, broadcastInDim S1 ![] bcast_S_S1 (constantI S_ 32 16#32)⟩]
      concatenates_S1_S1_S2_d0 : IVec S2 32) = B at b0 b1 ⊢
  have z : (broadcastInDim S2x128x256 ![] bcast_S_S2x128x256 (constant (F := Ideal) S_ FTy.f32 0#32) : FVec Ideal S2x128x256 .f32) (ix3 d i j) = (0 : EReal) := by
    pointwise
    first | done | simp [Ideal.ofBits, Ideal.ieee]
  generalize (broadcastInDim S2x128x256 ![] bcast_S_S2x128x256 (constant (F := Ideal) S_ FTy.f32 0#32) : FVec Ideal S2x128x256 .f32) = Z at z ⊢
  change Host.scatter scatter_S2x128x256_S2_S16x256_01_0_01_0 (fun _ b => b)
    (Host.scatter scatter_S2x128x256_S2_S16x256_01_0_01_0 (fun _ b => b) Z A wf) B wb (ix3 d i j) = decayAt wf wb d i j
  unfold decayAt
  by_cases hd : d.val = 0
  · rw [if_pos hd, scat_out B 1 16 b0 b1 (by omega) (by omega) _ wb d i j (.inl (by omega))]
    by_cases hi : i.val < 16
    · rw [dif_pos hi]
      refine (congrArg _ ?_).trans (scat_in A 0 0 a0 a1 (by omega) (by omega) Z wf ⟨i.val, hi⟩ j)
      rw [show d = (⟨0, by omega⟩ : Fin 2) from Fin.ext hd]
      exact congrArg (fun i => ix3 (⟨0, by omega⟩ : Fin 2) i j) (Fin.ext (Nat.zero_add _).symm)
    · rw [dif_neg hi, scat_out A 0 0 a0 a1 (by omega) (by omega) Z wf d i j (.inr (.inr (by omega))), z]
  · rw [if_neg hd]
    by_cases hi : 16 ≤ i.val ∧ i.val < 32
    · rw [dif_pos hi]
      refine (congrArg _ ?_).trans (scat_in B 1 16 b0 b1 (by omega) (by omega) _ wb ⟨i.val - 16, by omega⟩ j)
      rw [show d = (⟨1, by omega⟩ : Fin 2) from Fin.ext (by change d.val = 1; omega)]
      exact congrArg (fun i => ix3 (⟨1, by omega⟩ : Fin 2) i j) (Fin.ext (by change i.val = 16 + (i.val - 16); omega))
    · rw [dif_neg hi, scat_out B 1 16 b0 b1 (by omega) (by omega) _ wb d i j (.inr (by omega)),
        scat_out A 0 0 a0 a1 (by omega) (by omega) Z wf d i j (.inl hd), z]

theorem read3 (t : Fin grid0.N) : iblk m c 3 t = decay (m ((c : Thread nD τ).loc main_arg6)) (m ((c : Thread nD τ).loc main_arg8)) := by
  funext y
  obtain ⟨d, i, j, rfl⟩ : ∃ (d : Fin 2) (i : Fin 128) (j : Fin 256), y = ix3 d i j :=
    ⟨y 0, y 1, y 2, by funext a; match a with | ⟨0, _⟩ => rfl | ⟨1, _⟩ => rfl | ⟨2, _⟩ => rfl⟩
  have h := index3 t
  blk_simp [iblk]; entry_read
  have he : ((View.whole main_v9).slice (win0_3.rect t)).emb (ix3 d i j) = ix3 d i j := by
    blk_ext [h]
  rw [he]
  exact table_eq _ _ d i j

/-- The result at every index of the array, from the arguments. -/
def result (i : S8x2048x512.Idx) : EReal :=
  GlaKernel.block (part (m ((c : Thread nD τ).loc main_arg0)) (i 0)) (part (m ((c : Thread nD τ).loc main_arg1)) (i 0))
    (part (m ((c : Thread nD τ).loc main_arg2)) (i 0)) (decay (m ((c : Thread nD τ).loc main_arg6)) (m ((c : Thread nD τ).loc main_arg8)))
    (biases (m ((c : Thread nD τ).loc main_arg7)) (m ((c : Thread nD τ).loc main_arg9))) (states (m ((c : Thread nD τ).loc main_arg5)) (i 0))
    (part (m ((c : Thread nD τ).loc main_arg3)) (i 0)) (part (m ((c : Thread nD τ).loc main_arg4)) (i 0))
    (weights (m ((c : Thread nD τ).loc main_arg10))) (ix3 0 (i 1) (i 2))

theorem emb9 (t : Fin grid0.N) (i : Fin 2048) (j : Fin 512) :
    (win0_9.blk t).view.emb (ix3 (0 : Fin 1) i j) = ix3 (at8 t) i j := by
  have h := index9 t
  unfold at8
  blk_ext [h]

/-- The block that a grid point writes, at an index. -/
theorem block_eq (t : Fin grid0.N) (y : S1x2048x512.Idx) : left m c t y = result m c ((win0_9.blk t).view.emb y) := by
  obtain ⟨i, j, rfl⟩ : ∃ (i : Fin 2048) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  rw [emb9]
  unfold left
  rw [read0, read1, read2, read3, read4, read5, read6, read7, read8]
  rfl

/-- The result array after the run. -/
theorem array_eq : (dats m 0 c).arrAt 9 cfg0.N = result m c := by
  refine (dats m 0 c).arrAt_eq_of_covers 9 _ (by decide +kernel) fun t hf y => ?_
  blk_simp
  rw [after0_9]
  exact block_eq m c t y

end Cert.GlaArray

end
-- ==== Proof.GlaRefEntry.lean ====
/- The tables the reference's loop starts from, entry by entry. -/
module

public import proofs.«01_k».proof.Proof.GlaRefStep
public import proofs.«01_k».proof.Proof.GlaArray

@[expose] public section

set_option maxRecDepth 16384

noncomputable section

namespace Cert.GlaRefEntry

open Idealize.ShloMosaic
open Cert.ReferenceIdeal Cert.ReferenceIdeal.Gen Cert.ReferenceIdeal.Step
open Cert.GlaSpec (col vcol headOf gate gateRef gateRef_eq)
open Cert.GlaPay (qs ks vs pre)
open Cert.GlaLoop (cut half rev32)
open Cert.GlaArray (part states decayAt decay biases weights)
open Cert.GlaRefStep
open scoped BigOperators

/-- The forward and the backward sequence of a batch. -/
def nF (b : Fin 8) : Fin 16 := ⟨b.val, by omega⟩
def nB (b : Fin 8) : Fin 16 := ⟨8 + b.val, by omega⟩
/-- A row of a chunk, from the whole. -/
def tok (j : Fin 32) (i : Fin 64) : Fin 2048 := ⟨j.val * 64 + i.val, by omega⟩
theorem tok_rev (j : Fin 32) (i : Fin 64) : (tok j i).rev = tok (rev32 j) i.rev :=
  Fin.ext (by simp only [Fin.val_rev, tok, rev32]; omega)

variable (a0 : FVec Ideal S8x2048x256 .bf16) (a1 : FVec Ideal S8x2048x512 .bf16) (a2 : FVec Ideal S8x2048x128 .bf16)
  (a3 : FVec Ideal S8x2048x256 .bf16) (a5 : FVec Ideal S8x2x128x256 .f32) (a6 : FVec Ideal S16x256 .f32) (a7 : FVec Ideal S256 .f32)
  (a8 : FVec Ideal S16x256 .f32) (a9 : FVec Ideal S256 .f32)

theorem v46_at (j : Fin 32) (n : Fin 16) (i : Fin 64) (h : Fin 4) (d : Fin 64) :
    A_main_v46 (F := Ideal) a0 a1 a2 a3 a5 a6 a7 a8 a9 (ix5 j n i h d) = A_main_v37 (F := Ideal) a0 a1 a2 a3 a5 a6 a7 a8 a9 (ix4 n (tok j i) h d) := by
  unfold A_main_v46 A_main_v45
  generalize A_main_v37 (F := Ideal) a0 a1 a2 a3 a5 a6 a7 a8 a9 = z
  pointwise
  rfl

theorem v48_at (j : Fin 32) (n : Fin 16) (i : Fin 64) (h : Fin 4) (d : Fin 64) :
    A_main_v48 (F := Ideal) a0 a1 a2 a3 a5 a6 a7 a8 a9 (ix5 j n i h d) = A_main_v39 (F := Ideal) a0 a1 a2 a3 a5 a6 a7 a8 a9 (ix4 n (tok j i) h d) := by
  unfold A_main_v48 A_main_v47
  generalize A_main_v39 (F := Ideal) a0 a1 a2 a3 a5 a6 a7 a8 a9 = z
  pointwise
  rfl

theorem v50_at (j : Fin 32) (n : Fin 16) (i : Fin 64) (h : Fin 4) (e : Fin 128) :
    A_main_v50 (F := Ideal) a0 a1 a2 a3 a5 a6 a7 a8 a9 (ix5 j n i h e) = A_main_v41 (F := Ideal) a0 a1 a2 a3 a5 a6 a7 a8 a9 (ix4 n (tok j i) h e) := by
  unfold A_main_v50 A_main_v49
  generalize A_main_v41 (F := Ideal) a0 a1 a2 a3 a5 a6 a7 a8 a9 = z
  pointwise
  rfl

theorem v52_at (j : Fin 32) (n : Fin 16) (i : Fin 64) (h : Fin 4) (d : Fin 64) :
    A_main_v52 (F := Ideal) a0 a1 a2 a3 a5 a6 a7 a8 a9 (ix5 j n i h d) = A_main_v35 (F := Ideal) a0 a1 a2 a3 a5 a6 a7 a8 a9 (ix4 n (tok j i) h d) := by
  unfold A_main_v52 A_main_v51
  generalize A_main_v35 (F := Ideal) a0 a1 a2 a3 a5 a6 a7 a8 a9 = z
  pointwise
  rfl

theorem v10_at (b : Fin 8) (t : Fin 2048) (h : Fin 4) (d : Fin 64) :
    A_main_v10 (F := Ideal) a0 a1 a2 a3 a5 a6 a7 a8 a9 (ix4 b t h d) = a3 (ix3 b t (col h d)) * Ideal.ofBits .f32 0x3E000000#32 := by
  unfold A_main_v10 A_main_v8 A_main_v3 K_main_v9 K_main_cst
  pointwise
  rfl
theorem v6_at (b : Fin 8) (t : Fin 2048) (h : Fin 4) (d : Fin 64) : A_main_v6 (F := Ideal) a0 a1 a2 a3 a5 a6 a7 a8 a9 (ix4 b t h d) = a0 (ix3 b t (col h d)) := by
  unfold A_main_v6 A_main_v0
  pointwise
  rfl
theorem v7_at (b : Fin 8) (t : Fin 2048) (h : Fin 4) (e : Fin 128) : A_main_v7 (F := Ideal) a0 a1 a2 a3 a5 a6 a7 a8 a9 (ix4 b t h e) = a1 (ix3 b t (vcol h e)) := by
  unfold A_main_v7 A_main_v1
  pointwise
  rfl
theorem v37_F (b : Fin 8) (t : Fin 2048) (h : Fin 4) (d : Fin 64) :
    A_main_v37 (F := Ideal) a0 a1 a2 a3 a5 a6 a7 a8 a9 (ix4 (nF b) t h d) = A_main_v10 (F := Ideal) a0 a1 a2 a3 a5 a6 a7 a8 a9 (ix4 b t h d) := by
  unfold A_main_v37 A_main_v36
  generalize A_main_v10 (F := Ideal) a0 a1 a2 a3 a5 a6 a7 a8 a9 = z
  pointwise
  rw [dif_pos (show (nF b).val < 8 from b.isLt)]
  rfl
theorem v37_B (b : Fin 8) (t : Fin 2048) (h : Fin 4) (d : Fin 64) :
    A_main_v37 (F := Ideal) a0 a1 a2 a3 a5 a6 a7 a8 a9 (ix4 (nB b) t h d) = A_main_v10 (F := Ideal) a0 a1 a2 a3 a5 a6 a7 a8 a9 (ix4 b t.rev h d) := by
  unfold A_main_v37 A_main_v36
  generalize A_main_v10 (F := Ideal) a0 a1 a2 a3 a5 a6 a7 a8 a9 = z
  pointwise
  rw [dif_neg (show ¬ (nB b).val < 8 by show ¬ 8 + b.val < 8; omega)]
  have e : ∀ q, (⟨(nB b).val - 8, q⟩ : Fin 8) = b := fun q => Fin.ext (by show 8 + b.val - 8 = b.val; omega)
  rw [e]
  try rfl
theorem v39_F (b : Fin 8) (t : Fin 2048) (h : Fin 4) (d : Fin 64) :
    A_main_v39 (F := Ideal) a0 a1 a2 a3 a5 a6 a7 a8 a9 (ix4 (nF b) t h d) = A_main_v6 (F := Ideal) a0 a1 a2 a3 a5 a6 a7 a8 a9 (ix4 b t h d) := by
  unfold A_main_v39 A_main_v38
  generalize A_main_v6 (F := Ideal) a0 a1 a2 a3 a5 a6 a7 a8 a9 = z
  pointwise
  rw [dif_pos (show (nF b).val < 8 from b.isLt)]
  rfl
theorem v39_B (b : Fin 8) (t : Fin 2048) (h : Fin 4) (d : Fin 64) :
    A_main_v39 (F := Ideal) a0 a1 a2 a3 a5 a6 a7 a8 a9 (ix4 (nB b) t h d) = A_main_v6 (F := Ideal) a0 a1 a2 a3 a5 a6 a7 a8 a9 (ix4 b t.rev h d) := by
  unfold A_main_v39 A_main_v38
  generalize A_main_v6 (F := Ideal) a0 a1 a2 a3 a5 a6 a7 a8 a9 = z
  pointwise
  rw [dif_neg (show ¬ (nB b).val < 8 by show ¬ 8 + b.val < 8; omega)]
  have e : ∀ q, (⟨(nB b).val - 8, q⟩ : Fin 8) = b := fun q => Fin.ext (by show 8 + b.val - 8 = b.val; omega)
  rw [e]
  try rfl
theorem v41_F (b : Fin 8) (t : Fin 2048) (h : Fin 4) (d : Fin 128) :
    A_main_v41 (F := Ideal) a0 a1 a2 a3 a5 a6 a7 a8 a9 (ix4 (nF b) t h d) = A_main_v7 (F := Ideal) a0 a1 a2 a3 a5 a6 a7 a8 a9 (ix4 b t h d) := by
  unfold A_main_v41 A_main_v40
  generalize A_main_v7 (F := Ideal) a0 a1 a2 a3 a5 a6 a7 a8 a9 = z
  pointwise
  rw [dif_pos (show (nF b).val < 8 from b.isLt)]
  rfl
theorem v41_B (b : Fin 8) (t : Fin 2048) (h : Fin 4) (d : Fin 128) :
    A_main_v41 (F := Ideal) a0 a1 a2 a3 a5 a6 a7 a8 a9 (ix4 (nB b) t h d) = A_main_v7 (F := Ideal) a0 a1 a2 a3 a5 a6 a7 a8 a9 (ix4 b t.rev h d) := by
  unfold A_main_v41 A_main_v40
  generalize A_main_v7 (F := Ideal) a0 a1 a2 a3 a5 a6 a7 a8 a9 = z
  pointwise
  rw [dif_neg (show ¬ (nB b).val < 8 by show ¬ 8 + b.val < 8; omega)]
  have e : ∀ q, (⟨(nB b).val - 8, q⟩ : Fin 8) = b := fun q => Fin.ext (by show 8 + b.val - 8 = b.val; omega)
  rw [e]
  try rfl

theorem v22_at (b : Fin 8) (t : Fin 2048) (c : Fin 256) :
    A_main_v22 (F := Ideal) a0 a1 a2 a3 a5 a6 a7 a8 a9 (ix3 b t c) = (∑ r : Fin 16, a2 (ix3 b t (⟨r.val, by omega⟩ : Fin 128)) * a6 (ix2 r c)) + a7 (ix1 c) := by
  unfold A_main_v22 A_main_v19 A_main_v4 A_main_v2 A_main_v21 A_main_v20
  pointwise
  try rfl
theorem v26_at (b : Fin 8) (t : Fin 2048) (c : Fin 256) :
    A_main_v26 (F := Ideal) a0 a1 a2 a3 a5 a6 a7 a8 a9 (ix3 b t c) = (∑ r : Fin 16, a2 (ix3 b t (⟨16 + r.val, by omega⟩ : Fin 128)) * a8 (ix2 r c)) + a9 (ix1 c) := by
  unfold A_main_v26 A_main_v23 A_main_v5 A_main_v2 A_main_v25 A_main_v24
  pointwise
  try rfl
theorem v28_F (b : Fin 8) (t : Fin 2048) (c : Fin 256) : A_main_v28 (F := Ideal) a0 a1 a2 a3 a5 a6 a7 a8 a9 (ix3 (nF b) t c) = A_main_v22 (F := Ideal) a0 a1 a2 a3 a5 a6 a7 a8 a9 (ix3 b t c) := by
  unfold A_main_v28 A_main_v27
  generalize A_main_v22 (F := Ideal) a0 a1 a2 a3 a5 a6 a7 a8 a9 = z
  generalize A_main_v26 (F := Ideal) a0 a1 a2 a3 a5 a6 a7 a8 a9 = w
  pointwise
  rw [dif_pos (show (nF b).val < 8 from b.isLt)]
  rfl
theorem v28_B (b : Fin 8) (t : Fin 2048) (c : Fin 256) : A_main_v28 (F := Ideal) a0 a1 a2 a3 a5 a6 a7 a8 a9 (ix3 (nB b) t c) = A_main_v26 (F := Ideal) a0 a1 a2 a3 a5 a6 a7 a8 a9 (ix3 b t.rev c) := by
  unfold A_main_v28 A_main_v27
  generalize A_main_v22 (F := Ideal) a0 a1 a2 a3 a5 a6 a7 a8 a9 = z
  generalize A_main_v26 (F := Ideal) a0 a1 a2 a3 a5 a6 a7 a8 a9 = w
  pointwise
  rw [dif_neg (show ¬ (nB b).val < 8 by show ¬ 8 + b.val < 8; omega)]
  have e : ∀ q, (⟨(nB b).val - 8, q⟩ : Fin 8) = b := fun q => Fin.ext (by show 8 + b.val - 8 = b.val; omega)
  rw [e]
  try rfl
theorem v35_at (n : Fin 16) (t : Fin 2048) (h : Fin 4) (d : Fin 64) :
    A_main_v35 (F := Ideal) a0 a1 a2 a3 a5 a6 a7 a8 a9 (ix4 n t h d) = gateRef (A_main_v28 (F := Ideal) a0 a1 a2 a3 a5 a6 a7 a8 a9 (ix3 n t (col h d))) := by
  unfold A_main_v35 A_main_v34 A_main_v32 A_main_v31 A_main_v30 A_main_v29 K_main_v33 K_main_cst_0 gateRef
  generalize A_main_v28 (F := Ideal) a0 a1 a2 a3 a5 a6 a7 a8 a9 = z
  pointwise
  try rfl
theorem v14_at (b : Fin 8) (h : Fin 4) (d : Fin 64) (e : Fin 128) : A_main_v14 (F := Ideal) a0 a1 a2 a3 a5 a6 a7 a8 a9 (ix4 b h d e) = a5 (ix4 b 0 e (col h d)) := by
  unfold A_main_v14 A_main_v13 A_main_v12 A_main_v11
  pointwise
  rfl
theorem v18_at (b : Fin 8) (h : Fin 4) (d : Fin 64) (e : Fin 128) : A_main_v18 (F := Ideal) a0 a1 a2 a3 a5 a6 a7 a8 a9 (ix4 b h d e) = a5 (ix4 b 1 e (col h d)) := by
  unfold A_main_v18 A_main_v17 A_main_v16 A_main_v15
  pointwise
  rfl
theorem v42_F (b : Fin 8) (h : Fin 4) (d : Fin 64) (e : Fin 128) : A_main_v42 (F := Ideal) a0 a1 a2 a3 a5 a6 a7 a8 a9 (ix4 (nF b) h d e) = a5 (ix4 b 0 e (col h d)) := by
  rw [← v14_at a0 a1 a2 a3 a5 a6 a7 a8 a9]
  unfold A_main_v42
  generalize A_main_v14 (F := Ideal) a0 a1 a2 a3 a5 a6 a7 a8 a9 = z
  generalize A_main_v18 (F := Ideal) a0 a1 a2 a3 a5 a6 a7 a8 a9 = w
  pointwise
  rw [dif_pos (show (nF b).val < 8 from b.isLt)]
  rfl
theorem v42_B (b : Fin 8) (h : Fin 4) (d : Fin 64) (e : Fin 128) : A_main_v42 (F := Ideal) a0 a1 a2 a3 a5 a6 a7 a8 a9 (ix4 (nB b) h d e) = a5 (ix4 b 1 e (col h d)) := by
  rw [← v18_at a0 a1 a2 a3 a5 a6 a7 a8 a9]
  unfold A_main_v42
  generalize A_main_v14 (F := Ideal) a0 a1 a2 a3 a5 a6 a7 a8 a9 = z
  generalize A_main_v18 (F := Ideal) a0 a1 a2 a3 a5 a6 a7 a8 a9 = w
  pointwise
  rw [dif_neg (show ¬ (nB b).val < 8 by show ¬ 8 + b.val < 8; omega)]
  have e : ∀ q, (⟨(nB b).val - 8, q⟩ : Fin 8) = b := fun q => Fin.ext (by show 8 + b.val - 8 = b.val; omega)
  rw [e]
  try rfl

end Cert.GlaRefEntry

end
-- ==== Proof.GlaRefOut.lean ====
/- What the reference makes of its rows. -/
module

public import proofs.«01_k».proof.Proof.GlaRefStep
public import proofs.«01_k».proof.Proof.GlaKernel

@[expose] public section

set_option maxRecDepth 16384

noncomputable section

namespace Cert.GlaRefOut

open Idealize.ShloMosaic
open Cert.ReferenceIdeal Cert.ReferenceIdeal.Gen Cert.ReferenceIdeal.Step
open Cert.GlaSpec (vcol)
open Cert.GlaNorm (headNorm)
open Cert.GlaKernel (rowChunk rowIn colHead colIn vcol_eq)
open scoped BigOperators

/-- Both directions' rows added. -/
def both (z : FVec Ideal S32x16x64x4x128 .f32) : FVec Ideal S8x2048x4x128 .f32 :=
  addf (extractStridedSlice S8x2048x4x128 ![0, 0, 0, 0] (shapeCast _ (transpose S16x32x64x4x128 [1, 0, 2, 3, 4] (z) transposes_S32x16x64x4x128_S16x32x64x4x128_1_0_2_3_4) shapeCasts_S16x32x64x4x128_S16x2048x4x128) slices_S16x2048x4x128_S8x2048x4x128_0_0_0_0) (Host.reverse [1] (extractStridedSlice S8x2048x4x128 ![8, 0, 0, 0] (shapeCast _ (transpose S16x32x64x4x128 [1, 0, 2, 3, 4] (z) transposes_S32x16x64x4x128_S16x32x64x4x128_1_0_2_3_4) shapeCasts_S16x32x64x4x128_S16x2048x4x128) slices_S16x2048x4x128_S8x2048x4x128_8_0_0_0))

/-- The rows normalized and gated. -/
def gated (o : FVec Ideal S8x2048x4x128 .f32) (x4 : FVec Ideal S8x2048x512 .bf16) (x10 : FVec Ideal S512 .f32) : FVec Ideal S8x2048x512 .bf16 :=
  truncf .bf16 (mulf (shapeCast _ (mulf (mulf o (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf o o) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x4x128_S8x2048x4x128_0_1_2_3 (broadcastInDim S1x1x4x128 ![2, 3] bcast_S4x128_S1x1x4x128_2_3 (shapeCast _ (x10) shapeCasts_S512_S4x128)))) shapeCasts_S8x2048x4x128_S8x2048x512) (mulf (extf .f32 (x4) bitsLt_bf16_f32) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (extf .f32 (x4) bitsLt_bf16_f32))))))) bitsLt_bf16_f32

theorem result_def (s : State Ideal) (x4 : FVec Ideal S8x2048x512 .bf16) (x10 : FVec Ideal S512 .f32) :
    R_main_v79 s x4 x10 = gated (both s.main_v54_7) x4 x10 := by
  unfold R_main_v79 gated both
  rfl

theorem both_at (z : FVec Ideal S32x16x64x4x128 .f32) (b : Fin 8) (t : Fin 2048) (h : Fin 4) (e : Fin 128) :
    both z (ix4 b t h e) = z (ix5 (rowChunk t) (⟨b.val, by omega⟩ : Fin 16) (rowIn t) h e)
      + z (ix5 (rowChunk t.rev) (⟨8 + b.val, by omega⟩ : Fin 16) (rowIn t.rev) h e) := by
  unfold both
  pointwise
  rfl

theorem gated_at (o : FVec Ideal S8x2048x4x128 .f32) (x4 : FVec Ideal S8x2048x512 .bf16) (x10 : FVec Ideal S512 .f32)
    (b : Fin 8) (t : Fin 2048) (c : Fin 512) :
    gated o x4 x10 (ix3 b t c) = headNorm (fun x => o (ix4 b t (colHead c) x)) (fun x => x10 (ix1 (vcol (colHead c) x)))
      (fun x => x4 (ix3 b t (vcol (colHead c) x))) (colIn c) := by
  unfold gated headNorm
  have e4 : x4 (ix3 b t (vcol (colHead c) (colIn c))) = x4 (ix3 b t c) := congrArg (fun q => x4 (ix3 b t q)) (vcol_eq c)
  dsimp only
  rw [e4]
  pointwise
  rw [vcol_eq, ← FfnSpec.mul_logistic]
  rfl

end Cert.GlaRefOut

end
-- ==== Proof.GlaRefRows.lean ====
/- The reference's rows are the kernel's: the backward direction is the forward one on the sequence reversed. -/
module

public import proofs.«01_k».proof.Proof.GlaRefEntry
public import proofs.«01_k».proof.Proof.GlaRefOut

@[expose] public section

set_option maxRecDepth 16384

noncomputable section

namespace Cert.GlaRefRows

open Idealize.ShloMosaic
open Cert.ReferenceIdeal Cert.ReferenceIdeal.Gen Cert.ReferenceIdeal.Step
open Cert.GlaSpec (col vcol headOf gate gateRef gateRef_eq cum next score rows)
open Cert.GlaPay (qs ks vs pre gF gB fwd bwd)
open Cert.GlaLoop (cut half rev32)
open Cert.GlaIter (ch stF stB oF oB)
open Cert.GlaArray (part states decayAt decay biases weights)
open Cert.GlaKernel (init rowChunk rowIn colHead colIn row_eq rev_rev)
open Cert.GlaRefStep Cert.GlaRefEntry
open scoped BigOperators

/-! Rows reversed. -/

theorem sum_rev (f : Fin 64 → EReal) : (∑ j : Fin 64, f j.rev) = ∑ j : Fin 64, f j := Equiv.sum_comp Fin.revPerm f
theorem fwd_rev (i j : Fin 64) : fwd i j.rev ↔ bwd i.rev j := by
  show j.rev.val ≤ i.val ↔ i.rev.val ≤ j.val
  rw [Fin.val_rev, Fin.val_rev]
  omega

theorem cum_rev (l : Fin 64 → Fin 256 → EReal) : cum fwd (fun i c => l i.rev c) = fun i c => cum bwd l i.rev c := by
  funext i c
  unfold cum
  rw [← sum_rev]
  refine Finset.sum_congr rfl fun j _ => ?_
  dsimp only
  rw [Fin.rev_rev]
  by_cases h : fwd i j.rev
  · rw [if_pos h, if_pos ((fwd_rev i j).1 h)]
  · rw [if_neg h, if_neg (fun c => h ((fwd_rev i j).2 c))]

theorem next_rev (g k : Fin 64 → Fin 256 → EReal) (v : Fin 64 → Fin 512 → EReal) (S : Fin 128 → Fin 256 → EReal) :
    next 63 (fun i c => g i.rev c) (fun i c => k i.rev c) (fun i c => v i.rev c) S = next 0 g k v S := by
  funext e c
  unfold next
  congr 1
  rw [← sum_rev]
  rfl

theorem score_rev (g q k : Fin 64 → Fin 256 → EReal) (h : Fin 4) (i j : Fin 64) :
    score fwd 31 (fun i c => g i.rev c) (fun i c => q i.rev c) (fun i c => k i.rev c) h i j.rev = score bwd 32 g q k h i.rev j := by
  unfold score
  have e : (31 : Fin 64).rev = 32 := rfl
  by_cases hj : fwd i j.rev
  · rw [if_pos hj, if_pos ((fwd_rev i j).1 hj)]
    refine Finset.sum_congr rfl fun d _ => ?_
    dsimp only
    rw [Fin.rev_rev, e]
  · rw [if_neg hj, if_neg (fun c => hj ((fwd_rev i j).2 c))]

theorem rows_rev (g q k : Fin 64 → Fin 256 → EReal) (v : Fin 64 → Fin 512 → EReal) (S : Fin 128 → Fin 256 → EReal) (h : Fin 4)
    (i : Fin 64) (e : Fin 128) :
    rows fwd 31 (fun i c => g i.rev c) (fun i c => q i.rev c) (fun i c => k i.rev c) (fun i c => v i.rev c) S h i e
      = rows bwd 32 g q k v S h i.rev e := by
  unfold rows
  congr 1
  rw [← sum_rev]
  refine Finset.sum_congr rfl fun j _ => ?_
  dsimp only
  rw [score_rev, Fin.rev_rev]

/-! The decay's weights. -/

/-- A sum over a table's rows of which only a run of sixteen counts. -/
theorem sum_run (o : Nat) (ho : o + 16 ≤ 128) (f : Fin 128 → EReal) (hf : ∀ r : Fin 128, ¬ (o ≤ r.val ∧ r.val < o + 16) → f r = 0) :
    (∑ r : Fin 16, f ⟨o + r.val, by omega⟩) = ∑ r : Fin 128, f r := by
  refine Finset.sum_of_injOn (fun r : Fin 16 => (⟨o + r.val, by omega⟩ : Fin 128)) ?_ ?_ ?_ ?_
  · intro a _ b _ h
    have h' := congrArg Fin.val h
    dsimp only at h'
    exact Fin.ext (by omega)
  · intro a _
    exact Finset.mem_coe.2 (Finset.mem_univ _)
  · intro r _ hr
    refine hf r fun c => hr ⟨⟨r.val - o, by omega⟩, Finset.mem_coe.2 (Finset.mem_univ _), Fin.ext ?_⟩
    show o + (r.val - o) = r.val
    omega
  · intro a _
    rfl

variable (a0 : FVec Ideal S8x2048x256 .bf16) (a1 : FVec Ideal S8x2048x512 .bf16) (a2 : FVec Ideal S8x2048x128 .bf16)
  (a3 : FVec Ideal S8x2048x256 .bf16) (a5 : FVec Ideal S8x2x128x256 .f32) (a6 : FVec Ideal S16x256 .f32) (a7 : FVec Ideal S256 .f32)
  (a8 : FVec Ideal S16x256 .f32) (a9 : FVec Ideal S256 .f32)

theorem pre_F (b : Fin 8) (j : Fin 32) (i : Fin 64) (c : Fin 256) :
    (∑ r : Fin 16, a2 (ix3 b (tok j i) (⟨r.val, by omega⟩ : Fin 128)) * a6 (ix2 r c)) + a7 (ix1 c)
      = pre (cut (part a2 b) j) (half (decay a6 a8) 0) (half (biases a7 a9) 0) i c := by
  unfold pre
  congr 1
  rw [← sum_run 0 (by norm_num) (fun r : Fin 128 => cut (part a2 b) j (ix3 0 i r) * half (decay a6 a8) 0 (ix3 0 r c))]
  · refine Finset.sum_congr rfl fun r _ => ?_
    have e : (⟨r.val, by omega⟩ : Fin 128) = ⟨0 + r.val, by omega⟩ := Fin.ext (Nat.zero_add r.val).symm
    have e2 : decayAt a6 a8 0 (⟨0 + r.val, by omega⟩ : Fin 128) c = a6 (ix2 r c) := by
      unfold decayAt
      rw [if_pos (show ((0 : Fin 2)).val = 0 from rfl), dif_pos (show 0 + r.val < 16 by omega)]
      exact congrArg (fun q => a6 (ix2 q c)) (Fin.ext (Nat.zero_add r.val))
    have e3 : tok j i = ⟨64 * j.val + i.val, by omega⟩ := Fin.ext (by show j.val * 64 + i.val = 64 * j.val + i.val; omega)
    rw [e]
    change _ = a2 (ix3 b ⟨64 * j.val + i.val, _⟩ (⟨0 + r.val, _⟩ : Fin 128)) * decayAt a6 a8 0 (⟨0 + r.val, _⟩ : Fin 128) c
    rw [e2, e3]
  · intro r hr
    have e2 : half (decay a6 a8) 0 (ix3 0 r c) = 0 := by
      change decayAt a6 a8 0 r c = 0
      unfold decayAt
      rw [if_pos (show ((0 : Fin 2)).val = 0 from rfl), dif_neg (by omega)]
    rw [e2, mul_zero]

theorem pre_B (b : Fin 8) (j : Fin 32) (i : Fin 64) (c : Fin 256) :
    (∑ r : Fin 16, a2 (ix3 b (tok j i) (⟨16 + r.val, by omega⟩ : Fin 128)) * a8 (ix2 r c)) + a9 (ix1 c)
      = pre (cut (part a2 b) j) (half (decay a6 a8) 1) (half (biases a7 a9) 1) i c := by
  unfold pre
  congr 1
  rw [← sum_run 16 (by norm_num) (fun r : Fin 128 => cut (part a2 b) j (ix3 0 i r) * half (decay a6 a8) 1 (ix3 0 r c))]
  · refine Finset.sum_congr rfl fun r _ => ?_
    have e2 : decayAt a6 a8 1 (⟨16 + r.val, by omega⟩ : Fin 128) c = a8 (ix2 r c) := by
      unfold decayAt
      rw [if_neg (show ¬ ((1 : Fin 2)).val = 0 from by decide), dif_pos (show 16 ≤ 16 + r.val ∧ 16 + r.val < 32 from ⟨by omega, by omega⟩)]
      exact congrArg (fun q => a8 (ix2 q c)) (Fin.ext (Nat.add_sub_cancel_left 16 r.val))
    have e3 : tok j i = ⟨64 * j.val + i.val, by omega⟩ := Fin.ext (by show j.val * 64 + i.val = 64 * j.val + i.val; omega)
    change _ = a2 (ix3 b ⟨64 * j.val + i.val, _⟩ (⟨16 + r.val, _⟩ : Fin 128)) * decayAt a6 a8 1 (⟨16 + r.val, _⟩ : Fin 128) c
    rw [e2, e3]
  · intro r hr
    have e2 : half (decay a6 a8) 1 (ix3 0 r c) = 0 := by
      change decayAt a6 a8 1 r c = 0
      unfold decayAt
      rw [if_neg (show ¬ ((1 : Fin 2)).val = 0 from by decide), dif_neg (by omega)]
    rw [e2, mul_zero]

/-! The tables of the loop. -/

theorem cut_tok {W : Nat} (x : (⟨3, ![8, 2048, W]⟩ : Shape).Idx → EReal) (b : Fin 8) (j : Fin 32) (i : Fin 64) (c : Fin W) :
    cut (part x b) j (ix3 0 i c) = x (ix3 b (tok j i) c) :=
  congrArg (fun t => x (ix3 b t c)) (Fin.ext (by show 64 * j.val + i.val = j.val * 64 + i.val; omega))

theorem col_split (c : Fin 256) : ∃ h d, c = col h d :=
  ⟨headOf c, inHead c, Fin.ext (by show c.val = c.val / 64 * 64 + c.val % 64; omega)⟩
theorem vcol_split (c : Fin 512) : ∃ h e, c = vcol h e :=
  ⟨headV c, inHeadV c, Fin.ext (by show c.val = c.val / 128 * 128 + c.val % 128; omega)⟩

/-- The state the loop starts from. -/
abbrev s0 : State Ideal := Step.init a0 a1 a2 a3 a5 a6 a7 a8 a9

theorem tab0_F (b : Fin 8) (j : Fin 32) : tab j (s0 a0 a1 a2 a3 a5 a6 a7 a8 a9).main_v54_0 (nF b) = qs (cut (part a3 b) j) := by
  funext i c
  obtain ⟨h, d, rfl⟩ := col_split c
  rw [tab_col]
  refine (v46_at a0 a1 a2 a3 a5 a6 a7 a8 a9 j (nF b) i h d).trans ((v37_F a0 a1 a2 a3 a5 a6 a7 a8 a9 b (tok j i) h d).trans ((v10_at a0 a1 a2 a3 a5 a6 a7 a8 a9 b (tok j i) h d).trans ?_))
  unfold qs
  rw [cut_tok]
theorem tab0_B (b : Fin 8) (j : Fin 32) : tab j (s0 a0 a1 a2 a3 a5 a6 a7 a8 a9).main_v54_0 (nB b) = fun i c => qs (cut (part a3 b) (rev32 j)) i.rev c := by
  funext i c
  obtain ⟨h, d, rfl⟩ := col_split c
  rw [tab_col]
  refine (v46_at a0 a1 a2 a3 a5 a6 a7 a8 a9 j (nB b) i h d).trans ((v37_B a0 a1 a2 a3 a5 a6 a7 a8 a9 b (tok j i) h d).trans ((v10_at a0 a1 a2 a3 a5 a6 a7 a8 a9 b (tok j i).rev h d).trans ?_))
  unfold qs
  rw [cut_tok, tok_rev]
theorem tab1_F (b : Fin 8) (j : Fin 32) : tab j (s0 a0 a1 a2 a3 a5 a6 a7 a8 a9).main_v54_1 (nF b) = ks (cut (part a0 b) j) := by
  funext i c
  obtain ⟨h, d, rfl⟩ := col_split c
  rw [tab_col]
  refine (v48_at a0 a1 a2 a3 a5 a6 a7 a8 a9 j (nF b) i h d).trans ((v39_F a0 a1 a2 a3 a5 a6 a7 a8 a9 b (tok j i) h d).trans ((v6_at a0 a1 a2 a3 a5 a6 a7 a8 a9 b (tok j i) h d).trans ?_))
  unfold ks
  rw [cut_tok]
theorem tab1_B (b : Fin 8) (j : Fin 32) : tab j (s0 a0 a1 a2 a3 a5 a6 a7 a8 a9).main_v54_1 (nB b) = fun i c => ks (cut (part a0 b) (rev32 j)) i.rev c := by
  funext i c
  obtain ⟨h, d, rfl⟩ := col_split c
  rw [tab_col]
  refine (v48_at a0 a1 a2 a3 a5 a6 a7 a8 a9 j (nB b) i h d).trans ((v39_B a0 a1 a2 a3 a5 a6 a7 a8 a9 b (tok j i) h d).trans ((v6_at a0 a1 a2 a3 a5 a6 a7 a8 a9 b (tok j i).rev h d).trans ?_))
  unfold ks
  rw [cut_tok, tok_rev]
theorem tab2_F (b : Fin 8) (j : Fin 32) : tabV j (s0 a0 a1 a2 a3 a5 a6 a7 a8 a9).main_v54_2 (nF b) = vs (cut (part a1 b) j) := by
  funext i c
  obtain ⟨h, e, rfl⟩ := vcol_split c
  rw [tabV_vcol]
  refine (v50_at a0 a1 a2 a3 a5 a6 a7 a8 a9 j (nF b) i h e).trans ((v41_F a0 a1 a2 a3 a5 a6 a7 a8 a9 b (tok j i) h e).trans ((v7_at a0 a1 a2 a3 a5 a6 a7 a8 a9 b (tok j i) h e).trans ?_))
  unfold vs
  rw [cut_tok]
theorem tab2_B (b : Fin 8) (j : Fin 32) : tabV j (s0 a0 a1 a2 a3 a5 a6 a7 a8 a9).main_v54_2 (nB b) = fun i c => vs (cut (part a1 b) (rev32 j)) i.rev c := by
  funext i c
  obtain ⟨h, e, rfl⟩ := vcol_split c
  rw [tabV_vcol]
  refine (v50_at a0 a1 a2 a3 a5 a6 a7 a8 a9 j (nB b) i h e).trans ((v41_B a0 a1 a2 a3 a5 a6 a7 a8 a9 b (tok j i) h e).trans ((v7_at a0 a1 a2 a3 a5 a6 a7 a8 a9 b (tok j i).rev h e).trans ?_))
  unfold vs
  rw [cut_tok, tok_rev]
theorem tab3_F (b : Fin 8) (j : Fin 32) : tab j (s0 a0 a1 a2 a3 a5 a6 a7 a8 a9).main_v54_3 (nF b)
    = fun i c => gate (pre (cut (part a2 b) j) (half (decay a6 a8) 0) (half (biases a7 a9) 0) i c) := by
  funext i c
  rw [← pre_F]
  obtain ⟨h, d, rfl⟩ := col_split c
  rw [tab_col, ← v22_at a0 a1 a2 a3 a5 a6 a7 a8 a9, ← v28_F, ← gateRef_eq, ← v35_at]
  exact v52_at a0 a1 a2 a3 a5 a6 a7 a8 a9 j (nF b) i h d
theorem tab3_B (b : Fin 8) (j : Fin 32) : tab j (s0 a0 a1 a2 a3 a5 a6 a7 a8 a9).main_v54_3 (nB b)
    = fun i c => gate (pre (cut (part a2 b) (rev32 j)) (half (decay a6 a8) 1) (half (biases a7 a9) 1) i.rev c) := by
  funext i c
  rw [← pre_B, ← tok_rev]
  obtain ⟨h, d, rfl⟩ := col_split c
  rw [tab_col, ← v26_at a0 a1 a2 a3 a5 a6 a7 a8 a9, ← v28_B, ← gateRef_eq, ← v35_at]
  exact v52_at a0 a1 a2 a3 a5 a6 a7 a8 a9 j (nB b) i h d

theorem g_F (b : Fin 8) (j : Fin 32) : cum fwd (tab j (s0 a0 a1 a2 a3 a5 a6 a7 a8 a9).main_v54_3 (nF b))
    = gF (cut (part a2 b) j) (half (decay a6 a8) 0) (half (biases a7 a9) 0) := by
  rw [tab3_F]
  rfl
theorem g_B (b : Fin 8) (j : Fin 32) : cum fwd (tab j (s0 a0 a1 a2 a3 a5 a6 a7 a8 a9).main_v54_3 (nB b))
    = fun i c => gB (cut (part a2 b) (rev32 j)) (half (decay a6 a8) 1) (half (biases a7 a9) 1) i.rev c := by
  rw [tab3_B]
  exact cum_rev (fun i c => gate (pre (cut (part a2 b) (rev32 j)) (half (decay a6 a8) 1) (half (biases a7 a9) 1) i c))

theorem st_F (b : Fin 8) (k : Nat) : st (s0 a0 a1 a2 a3 a5 a6 a7 a8 a9) (nF b) k
    = stF (part a0 b) (part a1 b) (part a2 b) (decay a6 a8) (biases a7 a9) (init (states a5 b)) k := by
  induction k with
  | zero =>
    funext e c
    obtain ⟨h, d, rfl⟩ := col_split c
    refine (stT_col _ (nF b) e h d).trans ?_
    exact v42_F a0 a1 a2 a3 a5 a6 a7 a8 a9 b h d e
  | succ k ih =>
    unfold st stF
    rw [g_F, tab1_F, tab2_F, ih]
theorem st_B (b : Fin 8) (k : Nat) : st (s0 a0 a1 a2 a3 a5 a6 a7 a8 a9) (nB b) k
    = stB (part a0 b) (part a1 b) (part a2 b) (decay a6 a8) (biases a7 a9) (init (states a5 b)) k := by
  induction k with
  | zero =>
    funext e c
    obtain ⟨h, d, rfl⟩ := col_split c
    refine (stT_col _ (nB b) e h d).trans ?_
    exact v42_B a0 a1 a2 a3 a5 a6 a7 a8 a9 b h d e
  | succ k ih =>
    unfold st stB
    rw [g_B, tab1_B, tab2_B, ih, next_rev]

theorem rows_F (b : Fin 8) (j : Fin 32) (h : Fin 4) (i : Fin 64) (e : Fin 128) :
    (it (s0 a0 a1 a2 a3 a5 a6 a7 a8 a9) 32).main_v54_7 (ix5 j (nF b) i h e)
      = oF (part a0 b) (part a1 b) (part a2 b) (decay a6 a8) (biases a7 a9) (init (states a5 b)) (part a3 b) j h i e := by
  rw [it_rows _ _ 32 (le_refl _) j j.isLt, g_F, tab0_F, tab1_F, tab2_F, st_F]
  rfl
theorem rows_B (b : Fin 8) (j : Fin 32) (h : Fin 4) (i : Fin 64) (e : Fin 128) :
    (it (s0 a0 a1 a2 a3 a5 a6 a7 a8 a9) 32).main_v54_7 (ix5 j (nB b) i h e)
      = oB (part a0 b) (part a1 b) (part a2 b) (decay a6 a8) (biases a7 a9) (init (states a5 b)) (part a3 b) j h i.rev e := by
  rw [it_rows _ _ 32 (le_refl _) j j.isLt, g_B, tab0_B, tab1_B, tab2_B, st_B, rows_rev]
  rfl

theorem chunk_rev (t : Fin 2048) : rowChunk t.rev = rev32 (rowChunk t) := Fin.ext (by simp only [Fin.val_rev, rowChunk, rev32]; omega)
theorem in_rev (t : Fin 2048) : (rowIn t.rev).rev = rowIn t := Fin.ext (by simp only [Fin.val_rev, rowIn]; omega)

/-- The reference's result, entry by entry. -/
theorem result_at (a4 : FVec Ideal S8x2048x512 .bf16) (a10 : FVec Ideal S512 .f32) (b : Fin 8) (t : Fin 2048) (c : Fin 512) :
    R_main_v79 (it (s0 a0 a1 a2 a3 a5 a6 a7 a8 a9) 32) a4 a10 (ix3 b t c)
      = GlaKernel.block (part a0 b) (part a1 b) (part a2 b) (decay a6 a8) (biases a7 a9) (states a5 b) (part a3 b) (part a4 b) (weights a10)
          (ix3 0 t c) := by
  have e : ∀ x, GlaRefOut.both (it (s0 a0 a1 a2 a3 a5 a6 a7 a8 a9) 32).main_v54_7 (ix4 b t (colHead c) x)
      = GlaKernel.rowF (part a0 b) (part a1 b) (part a2 b) (decay a6 a8) (biases a7 a9) (states a5 b) (part a3 b) t (colHead c) x
        + GlaKernel.rowB (part a0 b) (part a1 b) (part a2 b) (decay a6 a8) (biases a7 a9) (states a5 b) (part a3 b) t (colHead c) x := by
    intro x
    refine (GlaRefOut.both_at _ b t (colHead c) x).trans ?_
    refine congrArg₂ (· + ·) (rows_F a0 a1 a2 a3 a5 a6 a7 a8 a9 b (rowChunk t) (colHead c) (rowIn t) x) ?_
    refine (rows_B a0 a1 a2 a3 a5 a6 a7 a8 a9 b (rowChunk t.rev) (colHead c) (rowIn t.rev) x).trans ?_
    rw [chunk_rev, in_rev]
    rfl
  rw [GlaRefOut.result_def, GlaRefOut.gated_at]
  rw [show (fun x => GlaRefOut.both (it (s0 a0 a1 a2 a3 a5 a6 a7 a8 a9) 32).main_v54_7 (ix4 b t (colHead c) x)) = _ from funext e]
  rfl

end Cert.GlaRefRows

end
-- ==== Proof.GlaReferenceRun.lean ====
/- The run of the attention's reference as its step iterated: at a valuation that holds a state, every value of one
   trip of the scan is the step's, and the program's result is a function of the state after the last trip. -/
module

public import proofs.«01_k».proof.Proof.Gen.ReferenceIdeal.Run
public import proofs.«01_k».proof.Proof.Gen.ReferenceIdeal.Step

@[expose] public section

noncomputable section

namespace Cert.GlaReferenceRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v54_6) = s.main_v54_6
  f_7 : V0 (Proc.devRef .tc main_v54_7) = s.main_v54_7
  f_0 : V0 (Proc.devRef .tc main_v54_0) = s.main_v54_0
  f_1 : V0 (Proc.devRef .tc main_v54_1) = s.main_v54_1
  f_2 : V0 (Proc.devRef .tc main_v54_2) = s.main_v54_2
  f_3 : V0 (Proc.devRef .tc main_v54_3) = s.main_v54_3
  n_5 : V0 (Proc.devRef .tc main_v54_5) = constantI S_ 32 (BitVec.ofNat 32 j)
  k_4 : V0 (Proc.devRef .tc main_v54_4) = Cert.ReferenceIdeal.Step.K_main_v44 (F := F)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call5_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call5_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x16x64x4x64 (V0 (Proc.devRef .tc main_v54_0)) (fun k => (((![V0 (Proc.devRef .tc main_v54_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x64_S1x16x64x4x64 : (Proc.devRef .tc main_while0b_call5_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v80 V0 : (Proc.devRef .tc main_while0b_v80 : DevRef τ sig).ty.Contents (Elt F)) = Cert.ReferenceIdeal.Step.b5 j s := by
  unfold res_main_while0b_v80 Cert.ReferenceIdeal.Step.b5
  rw [← al_4 h]
  try rfl
set_option maxRecDepth 8192 in
theorem al_6 (h : Holds V0 s j) : (constantI S_ 32 0#32 : (Proc.devRef .tc main_while0b_call6_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call6_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call6_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call6_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x16x64x4x64 (V0 (Proc.devRef .tc main_v54_1)) (fun k => (((![V0 (Proc.devRef .tc main_v54_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x64_S1x16x64x4x64 : (Proc.devRef .tc main_while0b_call6_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v81 V0 : (Proc.devRef .tc main_while0b_v81 : DevRef τ sig).ty.Contents (Elt F)) = Cert.ReferenceIdeal.Step.b11 j s := by
  unfold res_main_while0b_v81 Cert.ReferenceIdeal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call7_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call7_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call7_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x16x64x4x128 (V0 (Proc.devRef .tc main_v54_2)) (fun k => (((![V0 (Proc.devRef .tc main_v54_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128 : (Proc.devRef .tc main_while0b_call7_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v82 V0 : (Proc.devRef .tc main_while0b_v82 : DevRef τ sig).ty.Contents (Elt F)) = Cert.ReferenceIdeal.Step.b17 j s := by
  unfold res_main_while0b_v82 Cert.ReferenceIdeal.Step.b17
  rw [← al_16 h]
  try rfl
set_option maxRecDepth 8192 in
theorem al_18 (h : Holds V0 s j) : (constantI S_ 32 0#32 : (Proc.devRef .tc main_while0b_call8_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call8_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call8_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call8_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x16x64x4x64 (V0 (Proc.devRef .tc main_v54_3)) (fun k => (((![V0 (Proc.devRef .tc main_v54_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x64_S1x16x64x4x64 : (Proc.devRef .tc main_while0b_call8_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S16x64x4x64 (Host.dynamicSlice S1x16x64x4x64 (V0 (Proc.devRef .tc main_v54_3)) (fun k => (((![V0 (Proc.devRef .tc main_v54_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x64_S1x16x64x4x64) shapeCasts_S1x16x64x4x64_S16x64x4x64 : (Proc.devRef .tc main_while0b_v83 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call9_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call9_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v84 V0 : (Proc.devRef .tc main_while0b_v84 : DevRef τ sig).ty.Contents (Elt F)) = Cert.ReferenceIdeal.Step.b26 j s := by
  unfold res_main_while0b_v84 Cert.ReferenceIdeal.Step.b26
  rw [← al_23 h, ← al_25 h]
  try rfl
set_option maxRecDepth 8192 in
theorem al_27 (h : Holds V0 s j) : (extractStridedSlice S16x1x4x64 ![0, 63, 0, 0] (res_main_while0b_v84 V0) slices_S16x64x4x64_S16x1x4x64_0_63_0_0 : (Proc.devRef .tc main_while0b_v85 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (res_main_while0b_v86 V0 : (Proc.devRef .tc main_while0b_v86 : DevRef τ sig).ty.Contents (Elt F)) = Cert.ReferenceIdeal.Step.b28 j s := by
  unfold res_main_while0b_v86 Cert.ReferenceIdeal.Step.b28
  rw [← al_27 h]
  try rfl
set_option maxRecDepth 8192 in
theorem al_29 (h : Holds V0 s j) : (extractStridedSlice S16x1x4x64 ![0, 31, 0, 0] (res_main_while0b_v84 V0) slices_S16x64x4x64_S16x1x4x64_0_31_0_0 : (Proc.devRef .tc main_while0b_v87 : DevRef τ sig).ty.Contents (Elt F)) = Cert.ReferenceIdeal.Step.b29 j s := by
  unfold Cert.ReferenceIdeal.Step.b29
  rw [← al_26 h]
  try rfl
set_option maxRecDepth 8192 in
theorem al_30 (h : Holds V0 s j) : (shapeCast S16x4x64 (extractStridedSlice S16x1x4x64 ![0, 31, 0, 0] (res_main_while0b_v84 V0) slices_S16x64x4x64_S16x1x4x64_0_31_0_0) shapeCasts_S16x1x4x64_S16x4x64 : (Proc.devRef .tc main_while0b_v88 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (res_main_while0b_v89 V0 : (Proc.devRef .tc main_while0b_v89 : DevRef τ sig).ty.Contents (Elt F)) = Cert.ReferenceIdeal.Step.b31 j s := by
  unfold res_main_while0b_v89 Cert.ReferenceIdeal.Step.b31
  rw [← al_30 h]
  try rfl
set_option maxRecDepth 8192 in
theorem al_32 (h : Holds V0 s j) : (broadcastInDim S16x64x4x64 ![0, 1, 2, 3] bcast_S16x1x4x64_S16x64x4x64_0_1_2_3 (res_main_while0b_v89 V0) : (Proc.devRef .tc main_while0b_v90 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (subf (res_main_while0b_v84 V0) (broadcastInDim S16x64x4x64 ![0, 1, 2, 3] bcast_S16x1x4x64_S16x64x4x64_0_1_2_3 (res_main_while0b_v89 V0)) : (Proc.devRef .tc main_while0b_v91 : DevRef τ sig).ty.Contents (Elt F)) = Cert.ReferenceIdeal.Step.b33 j s := by
  unfold Cert.ReferenceIdeal.Step.b33
  rw [← al_26 h, ← al_32 h]
  try rfl
set_option maxRecDepth 8192 in
theorem al_34 (h : Holds V0 s j) : (Host.exp (subf (res_main_while0b_v84 V0) (broadcastInDim S16x64x4x64 ![0, 1, 2, 3] bcast_S16x1x4x64_S16x64x4x64_0_1_2_3 (res_main_while0b_v89 V0))) : (Proc.devRef .tc main_while0b_v92 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (mulf (res_main_while0b_v80 V0) (Host.exp (subf (res_main_while0b_v84 V0) (broadcastInDim S16x64x4x64 ![0, 1, 2, 3] bcast_S16x1x4x64_S16x64x4x64_0_1_2_3 (res_main_while0b_v89 V0)))) : (Proc.devRef .tc main_while0b_v93 : DevRef τ sig).ty.Contents (Elt F)) = Cert.ReferenceIdeal.Step.b35 j s := by
  unfold Cert.ReferenceIdeal.Step.b35
  rw [← al_5 h, ← al_34 h]
  try rfl
set_option maxRecDepth 8192 in
theorem al_36 (h : Holds V0 s j) : (broadcastInDim S16x64x4x64 ![0, 1, 2, 3] bcast_S16x1x4x64_S16x64x4x64_0_1_2_3 (res_main_while0b_v89 V0) : (Proc.devRef .tc main_while0b_v94 : DevRef τ sig).ty.Contents (Elt F)) = Cert.ReferenceIdeal.Step.b36 j s := by
  unfold Cert.ReferenceIdeal.Step.b36
  rw [← al_31 h]
  try rfl
set_option maxRecDepth 8192 in
theorem al_37 (h : Holds V0 s j) : (subf (broadcastInDim S16x64x4x64 ![0, 1, 2, 3] bcast_S16x1x4x64_S16x64x4x64_0_1_2_3 (res_main_while0b_v89 V0)) (res_main_while0b_v84 V0) : (Proc.devRef .tc main_while0b_v95 : DevRef τ sig).ty.Contents (Elt F)) = Cert.ReferenceIdeal.Step.b37 j s := by
  unfold Cert.ReferenceIdeal.Step.b37
  rw [← al_36 h, ← al_26 h]
  try rfl
set_option maxRecDepth 8192 in
theorem al_38 (h : Holds V0 s j) : (Host.exp (subf (broadcastInDim S16x64x4x64 ![0, 1, 2, 3] bcast_S16x1x4x64_S16x64x4x64_0_1_2_3 (res_main_while0b_v89 V0)) (res_main_while0b_v84 V0)) : (Proc.devRef .tc main_while0b_v96 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (mulf (res_main_while0b_v81 V0) (Host.exp (subf (broadcastInDim S16x64x4x64 ![0, 1, 2, 3] bcast_S16x1x4x64_S16x64x4x64_0_1_2_3 (res_main_while0b_v89 V0)) (res_main_while0b_v84 V0))) : (Proc.devRef .tc main_while0b_v97 : DevRef τ sig).ty.Contents (Elt F)) = Cert.ReferenceIdeal.Step.b39 j s := by
  unfold Cert.ReferenceIdeal.Step.b39
  rw [← al_11 h, ← al_38 h]
  try rfl
set_option maxRecDepth 8192 in
theorem al_40 (h : Holds V0 s j) : (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0)))) : (Proc.devRef .tc main_while0b_v98 : DevRef τ sig).ty.Contents (Elt F)) = Cert.ReferenceIdeal.Step.b40 j s := by
  unfold Cert.ReferenceIdeal.Step.b40
  rw [← al_35 h, ← al_39 h]
  try rfl
set_option maxRecDepth 8192 in
theorem al_41 (h : Holds V0 s j) : (constant S_ .f32 0x00000000#32 : (Proc.devRef .tc main_while0b_cst_13 : DevRef τ sig).ty.Contents (Elt F)) = Cert.ReferenceIdeal.Step.b41 j s := by
  unfold Cert.ReferenceIdeal.Step.b41
  rfl
set_option maxRecDepth 8192 in
theorem al_42 (h : Holds V0 s j) : (id (constant S_ .f32 0x00000000#32) : (Proc.devRef .tc main_while0b_call10_v0 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (broadcastInDim S16x4x64x64 ![2, 3] bcast_S64x64_S16x4x64x64_2_3 (V0 (Proc.devRef .tc main_v54_4)) : (Proc.devRef .tc main_while0b_call10_v1 : DevRef τ sig).ty.Contents (Elt F)) = Cert.ReferenceIdeal.Step.b43 j s := by
  unfold Cert.ReferenceIdeal.Step.b43
  rw [h.k_4]
  try rfl
set_option maxRecDepth 8192 in
theorem al_44 (h : Holds V0 s j) : (broadcastInDim S16x4x64x64 ![] bcast_S_S16x4x64x64 (id (constant S_ .f32 0x00000000#32)) : (Proc.devRef .tc main_while0b_call10_v2 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (select (broadcastInDim S16x4x64x64 ![2, 3] bcast_S64x64_S16x4x64x64_2_3 (V0 (Proc.devRef .tc main_v54_4))) (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0))))) (broadcastInDim S16x4x64x64 ![] bcast_S_S16x4x64x64 (id (constant S_ .f32 0x00000000#32))) : (Proc.devRef .tc main_while0b_v99 : DevRef τ sig).ty.Contents (Elt F)) = Cert.ReferenceIdeal.Step.b45 j s := by
  unfold Cert.ReferenceIdeal.Step.b45
  rw [← al_43 h, ← al_40 h, ← al_44 h]
  try rfl
set_option maxRecDepth 8192 in
theorem al_46 (h : Holds V0 s j) : (Host.dotGeneral dot_S16x64x4x128_S16x4x64x64_S16x4x128x64_1_3_3_2_02_01 none (res_main_while0b_v82 V0) (select (broadcastInDim S16x4x64x64 ![2, 3] bcast_S64x64_S16x4x64x64_2_3 (V0 (Proc.devRef .tc main_v54_4))) (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0))))) (broadcastInDim S16x4x64x64 ![] bcast_S_S16x4x64x64 (id (constant S_ .f32 0x00000000#32)))) : (Proc.devRef .tc main_while0b_v100 : DevRef τ sig).ty.Contents (Elt F)) = Cert.ReferenceIdeal.Step.b46 j s := by
  unfold Cert.ReferenceIdeal.Step.b46
  rw [← al_17 h, ← al_45 h]
  try rfl
set_option maxRecDepth 8192 in
theorem al_47 (h : Holds V0 s j) : (transpose S16x64x4x128 [0, 3, 1, 2] (Host.dotGeneral dot_S16x64x4x128_S16x4x64x64_S16x4x128x64_1_3_3_2_02_01 none (res_main_while0b_v82 V0) (select (broadcastInDim S16x4x64x64 ![2, 3] bcast_S64x64_S16x4x64x64_2_3 (V0 (Proc.devRef .tc main_v54_4))) (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0))))) (broadcastInDim S16x4x64x64 ![] bcast_S_S16x4x64x64 (id (constant S_ .f32 0x00000000#32))))) transposes_S16x4x128x64_S16x64x4x128_0_3_1_2 : (Proc.devRef .tc main_while0b_v101 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (Host.exp (res_main_while0b_v84 V0) : (Proc.devRef .tc main_while0b_v102 : DevRef τ sig).ty.Contents (Elt F)) = Cert.ReferenceIdeal.Step.b48 j s := by
  unfold Cert.ReferenceIdeal.Step.b48
  rw [← al_26 h]
  try rfl
set_option maxRecDepth 8192 in
theorem al_49 (h : Holds V0 s j) : (mulf (res_main_while0b_v80 V0) (Host.exp (res_main_while0b_v84 V0)) : (Proc.devRef .tc main_while0b_v103 : DevRef τ sig).ty.Contents (Elt F)) = Cert.ReferenceIdeal.Step.b49 j s := by
  unfold Cert.ReferenceIdeal.Step.b49
  rw [← al_5 h, ← al_48 h]
  try rfl
set_option maxRecDepth 8192 in
theorem al_50 (h : Holds V0 s j) : (Host.dotGeneral dot_S16x4x64x128_S16x64x4x64_S16x4x128x64_2_3_3_1_01_02 none (V0 (Proc.devRef .tc main_v54_6)) (mulf (res_main_while0b_v80 V0) (Host.exp (res_main_while0b_v84 V0))) : (Proc.devRef .tc main_while0b_v104 : DevRef τ sig).ty.Contents (Elt F)) = Cert.ReferenceIdeal.Step.b50 j s := by
  unfold Cert.ReferenceIdeal.Step.b50
  rw [← al_49 h, h.f_6]
  try rfl
set_option maxRecDepth 8192 in
theorem al_51 (h : Holds V0 s j) : (transpose S16x64x4x128 [0, 3, 1, 2] (Host.dotGeneral dot_S16x4x64x128_S16x64x4x64_S16x4x128x64_2_3_3_1_01_02 none (V0 (Proc.devRef .tc main_v54_6)) (mulf (res_main_while0b_v80 V0) (Host.exp (res_main_while0b_v84 V0)))) transposes_S16x4x128x64_S16x64x4x128_0_3_1_2 : (Proc.devRef .tc main_while0b_v105 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S16x1x4x64 ![0, 2, 3] bcast_S16x4x64_S16x1x4x64_0_2_3 (res_main_while0b_v86 V0) : (Proc.devRef .tc main_while0b_v106 : DevRef τ sig).ty.Contents (Elt F)) = Cert.ReferenceIdeal.Step.b52 j s := by
  unfold Cert.ReferenceIdeal.Step.b52
  rw [← al_28 h]
  try rfl
set_option maxRecDepth 8192 in
theorem al_53 (h : Holds V0 s j) : (broadcastInDim S16x64x4x64 ![0, 1, 2, 3] bcast_S16x1x4x64_S16x64x4x64_0_1_2_3 (broadcastInDim S16x1x4x64 ![0, 2, 3] bcast_S16x4x64_S16x1x4x64_0_2_3 (res_main_while0b_v86 V0)) : (Proc.devRef .tc main_while0b_v107 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (subf (broadcastInDim S16x64x4x64 ![0, 1, 2, 3] bcast_S16x1x4x64_S16x64x4x64_0_1_2_3 (broadcastInDim S16x1x4x64 ![0, 2, 3] bcast_S16x4x64_S16x1x4x64_0_2_3 (res_main_while0b_v86 V0))) (res_main_while0b_v84 V0) : (Proc.devRef .tc main_while0b_v108 : DevRef τ sig).ty.Contents (Elt F)) = Cert.ReferenceIdeal.Step.b54 j s := by
  unfold Cert.ReferenceIdeal.Step.b54
  rw [← al_53 h, ← al_26 h]
  try rfl
set_option maxRecDepth 8192 in
theorem al_55 (h : Holds V0 s j) : (Host.exp (subf (broadcastInDim S16x64x4x64 ![0, 1, 2, 3] bcast_S16x1x4x64_S16x64x4x64_0_1_2_3 (broadcastInDim S16x1x4x64 ![0, 2, 3] bcast_S16x4x64_S16x1x4x64_0_2_3 (res_main_while0b_v86 V0))) (res_main_while0b_v84 V0)) : (Proc.devRef .tc main_while0b_v109 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (mulf (res_main_while0b_v81 V0) (Host.exp (subf (broadcastInDim S16x64x4x64 ![0, 1, 2, 3] bcast_S16x1x4x64_S16x64x4x64_0_1_2_3 (broadcastInDim S16x1x4x64 ![0, 2, 3] bcast_S16x4x64_S16x1x4x64_0_2_3 (res_main_while0b_v86 V0))) (res_main_while0b_v84 V0))) : (Proc.devRef .tc main_while0b_v110 : DevRef τ sig).ty.Contents (Elt F)) = Cert.ReferenceIdeal.Step.b56 j s := by
  unfold Cert.ReferenceIdeal.Step.b56
  rw [← al_11 h, ← al_55 h]
  try rfl
set_option maxRecDepth 8192 in
theorem al_57 (h : Holds V0 s j) : (Host.dotGeneral dot_S16x64x4x64_S16x64x4x128_S16x4x64x128_1_1_3_3_02_02 none (mulf (res_main_while0b_v81 V0) (Host.exp (subf (broadcastInDim S16x64x4x64 ![0, 1, 2, 3] bcast_S16x1x4x64_S16x64x4x64_0_1_2_3 (broadcastInDim S16x1x4x64 ![0, 2, 3] bcast_S16x4x64_S16x1x4x64_0_2_3 (res_main_while0b_v86 V0))) (res_main_while0b_v84 V0)))) (res_main_while0b_v82 V0) : (Proc.devRef .tc main_while0b_v111 : DevRef τ sig).ty.Contents (Elt F)) = Cert.ReferenceIdeal.Step.b57 j s := by
  unfold Cert.ReferenceIdeal.Step.b57
  rw [← al_56 h, ← al_17 h]
  try rfl
set_option maxRecDepth 8192 in
theorem al_58 (h : Holds V0 s j) : (Host.exp (res_main_while0b_v86 V0) : (Proc.devRef .tc main_while0b_v112 : DevRef τ sig).ty.Contents (Elt F)) = Cert.ReferenceIdeal.Step.b58 j s := by
  unfold Cert.ReferenceIdeal.Step.b58
  rw [← al_28 h]
  try rfl
set_option maxRecDepth 8192 in
theorem al_59 (h : Holds V0 s j) : (broadcastInDim S16x4x64x1 ![0, 1, 2] bcast_S16x4x64_S16x4x64x1_0_1_2 (Host.exp (res_main_while0b_v86 V0)) : (Proc.devRef .tc main_while0b_v113 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S16x4x64x128 ![0, 1, 2, 3] bcast_S16x4x64x1_S16x4x64x128_0_1_2_3 (broadcastInDim S16x4x64x1 ![0, 1, 2] bcast_S16x4x64_S16x4x64x1_0_1_2 (Host.exp (res_main_while0b_v86 V0))) : (Proc.devRef .tc main_while0b_v114 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (mulf (broadcastInDim S16x4x64x128 ![0, 1, 2, 3] bcast_S16x4x64x1_S16x4x64x128_0_1_2_3 (broadcastInDim S16x4x64x1 ![0, 1, 2] bcast_S16x4x64_S16x4x64x1_0_1_2 (Host.exp (res_main_while0b_v86 V0)))) (V0 (Proc.devRef .tc main_v54_6)) : (Proc.devRef .tc main_while0b_v115 : DevRef τ sig).ty.Contents (Elt F)) = Cert.ReferenceIdeal.Step.b61 j s := by
  unfold Cert.ReferenceIdeal.Step.b61
  rw [← al_60 h, h.f_6]
  try rfl
set_option maxRecDepth 8192 in
theorem al_62 (h : Holds V0 s j) : (addf (mulf (broadcastInDim S16x4x64x128 ![0, 1, 2, 3] bcast_S16x4x64x1_S16x4x64x128_0_1_2_3 (broadcastInDim S16x4x64x1 ![0, 1, 2] bcast_S16x4x64_S16x4x64x1_0_1_2 (Host.exp (res_main_while0b_v86 V0)))) (V0 (Proc.devRef .tc main_v54_6))) (Host.dotGeneral dot_S16x64x4x64_S16x64x4x128_S16x4x64x128_1_1_3_3_02_02 none (mulf (res_main_while0b_v81 V0) (Host.exp (subf (broadcastInDim S16x64x4x64 ![0, 1, 2, 3] bcast_S16x1x4x64_S16x64x4x64_0_1_2_3 (broadcastInDim S16x1x4x64 ![0, 2, 3] bcast_S16x4x64_S16x1x4x64_0_2_3 (res_main_while0b_v86 V0))) (res_main_while0b_v84 V0)))) (res_main_while0b_v82 V0)) : (Proc.devRef .tc main_while0b_v116 : DevRef τ sig).ty.Contents (Elt F)) = Cert.ReferenceIdeal.Step.b62 j s := by
  unfold Cert.ReferenceIdeal.Step.b62
  rw [← al_61 h, ← al_57 h]
  try rfl
set_option maxRecDepth 8192 in
theorem al_63 (h : Holds V0 s j) : (addf (transpose S16x64x4x128 [0, 3, 1, 2] (Host.dotGeneral dot_S16x64x4x128_S16x4x64x64_S16x4x128x64_1_3_3_2_02_01 none (res_main_while0b_v82 V0) (select (broadcastInDim S16x4x64x64 ![2, 3] bcast_S64x64_S16x4x64x64_2_3 (V0 (Proc.devRef .tc main_v54_4))) (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0))))) (broadcastInDim S16x4x64x64 ![] bcast_S_S16x4x64x64 (id (constant S_ .f32 0x00000000#32))))) transposes_S16x4x128x64_S16x64x4x128_0_3_1_2) (transpose S16x64x4x128 [0, 3, 1, 2] (Host.dotGeneral dot_S16x4x64x128_S16x64x4x64_S16x4x128x64_2_3_3_1_01_02 none (V0 (Proc.devRef .tc main_v54_6)) (mulf (res_main_while0b_v80 V0) (Host.exp (res_main_while0b_v84 V0)))) transposes_S16x4x128x64_S16x64x4x128_0_3_1_2) : (Proc.devRef .tc main_while0b_v117 : DevRef τ sig).ty.Contents (Elt F)) = Cert.ReferenceIdeal.Step.b63 j s := by
  unfold Cert.ReferenceIdeal.Step.b63
  rw [← al_47 h, ← al_51 h]
  try rfl
set_option maxRecDepth 8192 in
theorem al_64 (h : Holds V0 s j) : (broadcastInDim S1x16x64x4x128 ![1, 2, 3, 4] bcast_S16x64x4x128_S1x16x64x4x128_1_2_3_4 (addf (transpose S16x64x4x128 [0, 3, 1, 2] (Host.dotGeneral dot_S16x64x4x128_S16x4x64x64_S16x4x128x64_1_3_3_2_02_01 none (res_main_while0b_v82 V0) (select (broadcastInDim S16x4x64x64 ![2, 3] bcast_S64x64_S16x4x64x64_2_3 (V0 (Proc.devRef .tc main_v54_4))) (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0))))) (broadcastInDim S16x4x64x64 ![] bcast_S_S16x4x64x64 (id (constant S_ .f32 0x00000000#32))))) transposes_S16x4x128x64_S16x64x4x128_0_3_1_2) (transpose S16x64x4x128 [0, 3, 1, 2] (Host.dotGeneral dot_S16x4x64x128_S16x64x4x64_S16x4x128x64_2_3_3_1_01_02 none (V0 (Proc.devRef .tc main_v54_6)) (mulf (res_main_while0b_v80 V0) (Host.exp (res_main_while0b_v84 V0)))) transposes_S16x4x128x64_S16x64x4x128_0_3_1_2)) : (Proc.devRef .tc main_while0b_call11_v0 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (constantI S_ 32 0#32 : (Proc.devRef .tc main_while0b_call11_c : DevRef τ sig).ty.Contents (Elt F)) = Cert.ReferenceIdeal.Step.b65 j s := by
  unfold Cert.ReferenceIdeal.Step.b65
  rfl
set_option maxRecDepth 8192 in
theorem al_66 (h : Holds V0 s j) : (constantI S_ 32 0#32 : (Proc.devRef .tc main_while0b_call11_c_0 : DevRef τ sig).ty.Contents (Elt F)) = Cert.ReferenceIdeal.Step.b66 j s := by
  unfold Cert.ReferenceIdeal.Step.b66
  rfl
set_option maxRecDepth 8192 in
theorem al_67 (h : Holds V0 s j) : (constantI S_ 32 0#32 : (Proc.devRef .tc main_while0b_call11_c_1 : DevRef τ sig).ty.Contents (Elt F)) = Cert.ReferenceIdeal.Step.b67 j s := by
  unfold Cert.ReferenceIdeal.Step.b67
  rfl
set_option maxRecDepth 8192 in
theorem al_68 (h : Holds V0 s j) : (constantI S_ 32 0#32 : (Proc.devRef .tc main_while0b_call11_c_2 : DevRef τ sig).ty.Contents (Elt F)) = Cert.ReferenceIdeal.Step.b68 j s := by
  unfold Cert.ReferenceIdeal.Step.b68
  rfl
set_option maxRecDepth 8192 in
theorem al_69 (h : Holds V0 s j) : (Host.dynamicUpdateSlice (V0 (Proc.devRef .tc main_v54_7)) (broadcastInDim S1x16x64x4x128 ![1, 2, 3, 4] bcast_S16x64x4x128_S1x16x64x4x128_1_2_3_4 (addf (transpose S16x64x4x128 [0, 3, 1, 2] (Host.dotGeneral dot_S16x64x4x128_S16x4x64x64_S16x4x128x64_1_3_3_2_02_01 none (res_main_while0b_v82 V0) (select (broadcastInDim S16x4x64x64 ![2, 3] bcast_S64x64_S16x4x64x64_2_3 (V0 (Proc.devRef .tc main_v54_4))) (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0))))) (broadcastInDim S16x4x64x64 ![] bcast_S_S16x4x64x64 (id (constant S_ .f32 0x00000000#32))))) transposes_S16x4x128x64_S16x64x4x128_0_3_1_2) (transpose S16x64x4x128 [0, 3, 1, 2] (Host.dotGeneral dot_S16x4x64x128_S16x64x4x64_S16x4x128x64_2_3_3_1_01_02 none (V0 (Proc.devRef .tc main_v54_6)) (mulf (res_main_while0b_v80 V0) (Host.exp (res_main_while0b_v84 V0)))) transposes_S16x4x128x64_S16x64x4x128_0_3_1_2))) (fun k => (((![V0 (Proc.devRef .tc main_v54_5), constantI S_ 32 0#32, constantI S_ 32 0#32, constantI S_ 32 0#32, constantI S_ 32 0#32] : Fin 5 → (⟨S_, .i32⟩ : BufTy).Contents (Elt F))) k (Shape.Idx.first h_S_)).toInt) updateFits_S32x16x64x4x128_S1x16x64x4x128 : (Proc.devRef .tc main_while0b_v118 : DevRef τ sig).ty.Contents (Elt F)) = Cert.ReferenceIdeal.Step.b69 j s := by
  unfold Cert.ReferenceIdeal.Step.b69
  rw [← al_64 h, ← al_65 h, ← al_66 h, ← al_67 h, ← al_68 h, h.f_7, h.n_5]
  try rfl

/-! One trip's step of the carried values is `step`, field by field; a counter steps to the next number. -/

theorem step_6 (h : Holds V0 s j) : step_main_v54_6 V0 = (step j s).main_v54_6 := by
  unfold step_main_v54_6 Cert.ReferenceIdeal.Step.step
  show id (addf (mulf (broadcastInDim S16x4x64x128 ![0, 1, 2, 3] bcast_S16x4x64x1_S16x4x64x128_0_1_2_3 (broadcastInDim S16x4x64x1 ![0, 1, 2] bcast_S16x4x64_S16x4x64x1_0_1_2 (Host.exp (res_main_while0b_v86 V0)))) (V0 (Proc.devRef .tc main_v54_6))) (Host.dotGeneral dot_S16x64x4x64_S16x64x4x128_S16x4x64x128_1_1_3_3_02_02 none (mulf (res_main_while0b_v81 V0) (Host.exp (subf (broadcastInDim S16x64x4x64 ![0, 1, 2, 3] bcast_S16x1x4x64_S16x64x4x64_0_1_2_3 (broadcastInDim S16x1x4x64 ![0, 2, 3] bcast_S16x4x64_S16x1x4x64_0_2_3 (res_main_while0b_v86 V0))) (res_main_while0b_v84 V0)))) (res_main_while0b_v82 V0))) = _
  rw [al_62 h]
  try rfl
theorem step_7 (h : Holds V0 s j) : step_main_v54_7 V0 = (step j s).main_v54_7 := by
  unfold step_main_v54_7 Cert.ReferenceIdeal.Step.step
  show id (Host.dynamicUpdateSlice (V0 (Proc.devRef .tc main_v54_7)) (broadcastInDim S1x16x64x4x128 ![1, 2, 3, 4] bcast_S16x64x4x128_S1x16x64x4x128_1_2_3_4 (addf (transpose S16x64x4x128 [0, 3, 1, 2] (Host.dotGeneral dot_S16x64x4x128_S16x4x64x64_S16x4x128x64_1_3_3_2_02_01 none (res_main_while0b_v82 V0) (select (broadcastInDim S16x4x64x64 ![2, 3] bcast_S64x64_S16x4x64x64_2_3 (V0 (Proc.devRef .tc main_v54_4))) (Host.dotGeneral dot_S16x64x4x64_S16x64x4x64_S16x4x64x64_3_3_1_1_02_02 none (mulf (res_main_while0b_v80 V0) (Host.exp (subf (res_main_while0b_v84 V0) (broadcastInDim S16x64x4x64 ![0, 1, 2, 3] bcast_S16x1x4x64_S16x64x4x64_0_1_2_3 (res_main_while0b_v89 V0))))) (mulf (res_main_while0b_v81 V0) (Host.exp (subf (broadcastInDim S16x64x4x64 ![0, 1, 2, 3] bcast_S16x1x4x64_S16x64x4x64_0_1_2_3 (res_main_while0b_v89 V0)) (res_main_while0b_v84 V0))))) (broadcastInDim S16x4x64x64 ![] bcast_S_S16x4x64x64 (id (constant S_ .f32 0x00000000#32))))) transposes_S16x4x128x64_S16x64x4x128_0_3_1_2) (transpose S16x64x4x128 [0, 3, 1, 2] (Host.dotGeneral dot_S16x4x64x128_S16x64x4x64_S16x4x128x64_2_3_3_1_01_02 none (V0 (Proc.devRef .tc main_v54_6)) (mulf (res_main_while0b_v80 V0) (Host.exp (res_main_while0b_v84 V0)))) transposes_S16x4x128x64_S16x64x4x128_0_3_1_2))) (fun k => (((![V0 (Proc.devRef .tc main_v54_5), constantI S_ 32 0#32, constantI S_ 32 0#32, constantI S_ 32 0#32, constantI S_ 32 0#32] : Fin 5 → (⟨S_, .i32⟩ : BufTy).Contents (Elt F))) k (Shape.Idx.first h_S_)).toInt) updateFits_S32x16x64x4x128_S1x16x64x4x128) = _
  exact al_69 h
theorem step_5 (h : Holds V0 s j) : step_main_v54_5 V0 = constantI S_ 32 (BitVec.ofNat 32 (j + 1)) := by
  unfold step_main_v54_5
  rw [h.n_5]
  funext i
  show BitVec.ofNat 32 j + 1#32 = BitVec.ofNat 32 (j + 1)
  simp only [BitVec.ofNat_add]

set_option maxRecDepth 8192 in
theorem out_main_v79_holds (h : Holds V0 s j) {x_main_arg4 : (⟨S8x2048x512, .bf16⟩ : BufTy).Contents (Elt F)} (h_main_arg4 : V0 (Proc.devRef .tc main_arg4) = x_main_arg4) {x_main_arg10 : (⟨S512, .f32⟩ : BufTy).Contents (Elt F)} (h_main_arg10 : V0 (Proc.devRef .tc main_arg10) = x_main_arg10) : out_main_v79 V0 = Cert.ReferenceIdeal.Step.R_main_v79 s x_main_arg4 x_main_arg10 := by
  unfold out_main_v79 Cert.ReferenceIdeal.Step.R_main_v79
  rw [h.f_7, h_main_arg4, h_main_arg10]
  try rfl

/-- One trip keeps the valuation holding: `step` of the state, the same set-up values, the next number. -/
theorem holds_step (h : Holds V0 s j) : Holds (STEP V0) (step j s) (j + 1) where
  f_6 := (STEP_main_v54_6 V0).trans (step_6 h)
  f_7 := (STEP_main_v54_7 V0).trans (step_7 h)
  n_5 := (STEP_main_v54_5 V0).trans (step_5 h)
  k_4 := (STEP_main_v54_4 V0).trans h.k_4
  f_0 := (STEP_main_v54_0 V0).trans h.f_0
  f_1 := (STEP_main_v54_1 V0).trans h.f_1
  f_2 := (STEP_main_v54_2 V0).trans h.f_2
  f_3 := (STEP_main_v54_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v79) = Cert.ReferenceIdeal.Step.R_main_v79 (it c 32) (m ((c.tc : Thread nD τ).loc main_arg4)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 32
    ⟨(h c).1.trans (out_main_v79_holds hk (iter_main_arg4 m c 32) (iter_main_arg10 m c 32)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.GlaReferenceRun

end
-- ==== Proof.GlaAlgebraic.lean ====
/- The gated linear attention: the kernel and its reference compute the same array. -/
module

public import proofs.«01_k».proof.Proof.GlaRefRows
public import proofs.«01_k».proof.Proof.GlaReferenceRun
public import proofs.«01_k».proof.Defs

@[expose] public section

set_option maxRecDepth 16384

noncomputable section

namespace Cert.GlaAlgebraic

open Idealize.ShloMosaic Idealize.ShloMosaic.TcCoe Idealize.SL.Sem
open Cert.GlaArray (result array_eq)

/-- From memories that agree on the arguments the attention and its reference end with equal results. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => result m c, ?_, ?_⟩
  · refine (θ_run _ _ _).mono (fun r h c => ⟨(h c).1.trans (array_eq m c), (h c).2⟩) (Cert.GlaKernelRun.run_blocks m ρ)
  · refine (θ_run _ _ _).mono (fun r h c => ⟨(h c).1.trans ?_, (h c).2⟩)
      (Cert.GlaReferenceRun.run_iter (F := Ideal) m' ρ' (fun c => Cert.GlaRefStep.it (Cert.GlaReferenceRun.initState m' c))
        (fun _ => rfl) (fun _ _ => rfl))
    obtain ⟨a0, a1, a2, a3, a4, a5, a6, a7, a8, a9, a10⟩ := hagree c
    dsimp only [Cert.GlaReferenceRun.initState]
    rw [a0, a1, a2, a3, a4, a5, a6, a7, a8, a9, a10]
    funext i
    have hi : i = ix3 (i 0) (i 1) (i 2) := by
      funext a; match a with | ⟨0, _⟩ => rfl | ⟨1, _⟩ => rfl | ⟨2, _⟩ => rfl
    exact (congrArg _ hi).trans (Cert.GlaRefRows.result_at _ _ _ _ _ _ _ _ _ _ _ (i 0) (i 1) (i 2))

end Cert.GlaAlgebraic

end
-- ==== Proof.FfnKernel.lean ====
/- The feed-forward kernel's block, read at an index. -/
module

public import proofs.«01_k».proof.Proof.FfnSpec
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.FfnKernel

open Cert.Kernel2Ideal Cert.Kernel2Ideal.Gen Idealize.ShloMosaic Idealize.ShloMosaic.TcCoe
open scoped BigOperators

/-- The modulated row the products read. -/
theorem pay3_apply (v0 : Vec Ideal S1x512x1024 .f32) (v2 : Vec Ideal S1x1024 .f32) (v16 v22 : Vec Ideal S1x1x1024 .f32)
    (i : Fin 512) (j : Fin 1024) :
    k0_pay3 v0 v2 v16 v22 (ix2 i j) =
      FfnSpec.modulated (fun d => v0 (ix3 0 i d)) (fun d => v2 (ix2 0 d)) (fun d => v16 (ix3 0 0 d)) (fun d => v22 (ix3 0 0 d)) j := by
  unfold k0_pay3 k0_pay2
  pointwise
  rfl

/-- The first run's gate columns. -/
theorem pay5_apply (v0 : Vec Ideal S1x512x1024 .f32) (v2 : Vec Ideal S1x1024 .f32) (v16 v22 : Vec Ideal S1x1x1024 .f32)
    (w : Vec Ideal S1024x1536 .bf16) (i : Fin 512) (j : Fin 1536) :
    k0_pay5 v0 v2 v16 v22 w (ix2 i j) = ∑ d : Fin 1024, k0_pay3 v0 v2 v16 v22 (ix2 i d) * w (ix2 d j) := by
  unfold k0_pay5
  generalize k0_pay3 v0 v2 v16 v22 = h
  pointwise

/-- The first run's value columns. -/
theorem pay6_apply (v0 : Vec Ideal S1x512x1024 .f32) (v2 : Vec Ideal S1x1024 .f32) (v16 v22 : Vec Ideal S1x1x1024 .f32)
    (w : Vec Ideal S1024x1536 .bf16) (i : Fin 512) (j : Fin 1536) :
    k0_pay6 v0 v2 v16 v22 w (ix2 i j) = ∑ d : Fin 1024, k0_pay3 v0 v2 v16 v22 (ix2 i d) * w (ix2 d j) := by
  unfold k0_pay6
  generalize k0_pay3 v0 v2 v16 v22 = h
  pointwise

/-- The network's output: the two runs of hidden units, one after the other. -/
theorem pay8_apply (h : FVec Ideal S512x1024 .bf16) (a u : FVec Ideal S512x1536 .f32) (wo1 : Vec Ideal S1536x1024 .bf16)
    (wa2 wu2 : Vec Ideal S1024x1280 .bf16) (wo2 : Vec Ideal S1280x1024 .bf16) (i : Fin 512) (c : Fin 1024) :
    k0_pay8 h (k0_pay4 (F := Ideal)) a u (k0_pay7 (F := Ideal)) wo1 wa2 wu2 wo2 (ix2 i c) =
      (∑ k : Fin 1536, FfnSpec.silu (a (ix2 i k)) * u (ix2 i k) * wo1 (ix2 k c))
      + ∑ k : Fin 1280, FfnSpec.hidden (fun d => h (ix2 i d)) (fun d => wa2 (ix2 d k)) (fun d => wu2 (ix2 d k)) * wo2 (ix2 k c) := by
  unfold k0_pay8 k0_pay4 k0_pay7
  pointwise
  simp only [zero_sub, zero_add]
  rfl

/-- What the two runs of hidden units compute, as the network's output on the row. -/
theorem runs_eq_inner (x : Vec Ideal S1x512x1024 .f32) (gpre : Vec Ideal S1x1024 .f32) (sh sc : Vec Ideal S1x1x1024 .f32)
    (win : Vec Ideal S1024x5632 .bf16) (wout : Vec Ideal S2816x1024 .bf16) (i : Fin 512) (c : Fin 1024) :
    k0_pay8 (k0_pay3 x gpre sc sh) (k0_pay4 (F := Ideal)) (k0_pay5 x gpre sc sh (View.ld win r0_3))
        (k0_pay6 x gpre sc sh (View.ld win r0_4)) (k0_pay7 (F := Ideal)) (View.ld wout r0_5) (View.ld win r0_6)
        (View.ld win r0_7) (View.ld wout r0_8) (ix2 i c) =
      FfnSpec.inner (FfnSpec.modulated (fun d => x (ix3 0 i d)) (fun d => gpre (ix2 0 d)) (fun d => sc (ix3 0 0 d)) (fun d => sh (ix3 0 0 d)))
        (fun d k => win (ix2 d ⟨k.val, by omega⟩)) (fun d k => win (ix2 d ⟨2816 + k.val, by omega⟩)) (fun k c => wout (ix2 k c)) c := by
  rw [pay8_apply]
  unfold FfnSpec.inner
  rw [← FfnSpec.sum_two_runs]
  refine congrArg₂ (· + ·) (Finset.sum_congr rfl fun k _ => ?_) (Finset.sum_congr rfl fun k _ => ?_)
  · rw [pay5_apply, pay6_apply]
    simp only [pay3_apply]
    unfold FfnSpec.hidden
    have e : ∀ d : Fin 1024, View.ld win r0_3 (ix2 d k) = win (ix2 d ⟨k.val, by omega⟩) := fun d => by
      unfold View.ld; congr 1; funext a; apply Fin.ext
      match a with | ⟨0, _⟩ => simp [ix2] | ⟨1, _⟩ => simp [ix2]
    have e' : ∀ d : Fin 1024, View.ld win r0_4 (ix2 d k) = win (ix2 d ⟨2816 + k.val, by omega⟩) := fun d => by
      unfold View.ld; congr 1; funext a; apply Fin.ext
      match a with | ⟨0, _⟩ => simp [ix2] | ⟨1, _⟩ => simp [ix2]
    have eo : View.ld wout r0_5 (ix2 k c) = wout (ix2 ⟨k.val, by omega⟩ c) := by
      unfold View.ld; congr 1; funext a; apply Fin.ext
      match a with | ⟨0, _⟩ => simp [ix2] | ⟨1, _⟩ => simp [ix2]
    simp only [e, e', eo]
  · simp only [pay3_apply]
    have e : ∀ d : Fin 1024, View.ld win r0_6 (ix2 d k) = win (ix2 d ⟨1536 + k.val, by omega⟩) := fun d => by
      unfold View.ld; congr 1; funext a; apply Fin.ext
      match a with | ⟨0, _⟩ => simp [ix2] | ⟨1, _⟩ => simp [ix2]
    have e' : ∀ d : Fin 1024, View.ld win r0_7 (ix2 d k) = win (ix2 d ⟨2816 + (1536 + k.val), by omega⟩) := fun d => by
      unfold View.ld; congr 1; funext a; apply Fin.ext
      match a with | ⟨0, _⟩ => simp [ix2] | ⟨1, _⟩ => simp [ix2]; omega
    have eo : View.ld wout r0_8 (ix2 k c) = wout (ix2 ⟨1536 + k.val, by omega⟩ c) := by
      unfold View.ld; congr 1; funext a; apply Fin.ext
      match a with | ⟨0, _⟩ => simp [ix2] | ⟨1, _⟩ => simp [ix2]
    simp only [e, e', eo]

/-- The mean of the squares of the network's output. -/
theorem pay11_apply (h : FVec Ideal S512x1024 .bf16) (z : FVec Ideal S512x1024 .f32) (a u s : FVec Ideal S512x1536 .f32) (wo1 : Vec Ideal S1536x1024 .bf16)
    (wa2 wu2 : Vec Ideal S1024x1280 .bf16) (wo2 : Vec Ideal S1280x1024 .bf16) (i : Fin 512) :
    k0_pay11 h z a u s wo1 wa2 wu2 wo2 (ix2 i 0) =
      Ideal.div (∑ k : Fin 1024, k0_pay8 h z a u s wo1 wa2 wu2 wo2 (ix2 i k) * k0_pay8 h z a u s wo1 wa2 wu2 wo2 (ix2 i k)) FfnSpec.width := by
  unfold k0_pay11
  generalize k0_pay8 h z a u s wo1 wa2 wu2 wo2 = y
  pointwise
  rfl

/-- The block's last step. -/
theorem pay1_apply (x y : FVec Ideal S512x1024 .f32) (gate gpost : FVec Ideal S1x1024 .f32) (ms : FVec Ideal S512x1 .f32)
    (i : Fin 512) (c : Fin 1024) :
    k0_pay1 x y gate gpost ms (ix3 0 i c) =
      x (ix2 i c) + gate (ix2 0 c) * (y (ix2 i c) * Ideal.rsqrt (ms (ix2 i 0) + FfnSpec.eps) * gpost (ix2 0 c)) := by
  unfold k0_pay1
  pointwise
  rfl

/-- The whole block at an index, from the loads. -/
theorem block_apply (x : Vec Ideal S1x512x1024 .f32) (gpre : Vec Ideal S1x1024 .f32) (sh sc gate : Vec Ideal S1x1x1024 .f32)
    (gpost : Vec Ideal S1x1024 .f32) (win : Vec Ideal S1024x5632 .bf16) (wout : Vec Ideal S2816x1024 .bf16)
    (i : Fin 512) (c : Fin 1024) :
    out0_8 x gpre sh sc gate gpost win wout (ix3 0 i c) =
      FfnSpec.out (fun d => x (ix3 0 i d)) (fun d => gpre (ix2 0 d)) (fun d => gpost (ix2 0 d)) (fun d => sh (ix3 0 0 d))
        (fun d => sc (ix3 0 0 d)) (fun d => gate (ix3 0 0 d))
        (fun d k => win (ix2 d ⟨k.val, by omega⟩)) (fun d k => win (ix2 d ⟨2816 + k.val, by omega⟩)) (fun k c => wout (ix2 k c)) c := by
  unfold_out out0_8
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ gpre, View.ld_unit_zero hz3 _ sc,
    View.ld_unit_zero hz3 _ sh, View.ld_unit_zero hz3 _ gate, View.ld_unit_zero hz2 _ gpost]
  rw [pay1_apply, pay11_apply]
  simp only [runs_eq_inner]
  unfold k0_pay2 k0_pay9 k0_pay10
  pointwise
  rfl

end Cert.FfnKernel

end
-- ==== Proof.FfnReference.lean ====
/- The feed-forward reference, read at an index. -/
module

public import proofs.«01_k».proof.Proof.FfnSpec
public import proofs.«01_k».proof.Proof.Gen.Reference2Ideal.Read
public import Idealize.ShloMosaic.Lib.Pointwise

@[expose] public section

set_option maxRecDepth 16384

noncomputable section

namespace Cert.FfnReference

open Cert.Reference2Ideal Cert.Reference2Ideal.Gen Cert.Reference2Ideal.Read Idealize.ShloMosaic Idealize.ShloMosaic.TcCoe
open scoped BigOperators

variable (x : (⟨S8x2048x1024, .f32⟩ : BufTy).Contents (Elt Ideal)) (sh sc gate : (⟨S8x1x1024, .f32⟩ : BufTy).Contents (Elt Ideal))
  (gpre gpost : (⟨S1024, .f32⟩ : BufTy).Contents (Elt Ideal)) (win : (⟨S1024x5632, .f32⟩ : BufTy).Contents (Elt Ideal))
  (wout : (⟨S2816x1024, .f32⟩ : BufTy).Contents (Elt Ideal))

/-- The modulated row. -/
theorem h_apply (b : Fin 8) (t : Fin 2048) (j : Fin 1024) :
    val_main_v18 (F := Ideal) x sh sc gpre (ix3 b t j) = FfnSpec.modulated (fun d => x (ix3 b t d)) (fun d => gpre (ix1 d))
      (fun d => sc (ix3 b 0 d)) (fun d => sh (ix3 b 0 d)) j := by
  unfold val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1 val_main_cst_2
  pointwise
  rfl

/-- A hidden unit, after silu and the product. -/
theorem hidden_apply (b : Fin 8) (t : Fin 2048) (k : Fin 2816) :
    val_main_v23 (F := Ideal) x sh sc gpre win (ix3 b t k) = FfnSpec.hidden (fun d => val_main_v18 (F := Ideal) x sh sc gpre (ix3 b t d))
      (fun d => win (ix2 d ⟨k.val, by omega⟩)) (fun d => win (ix2 d ⟨2816 + k.val, by omega⟩)) := by
  unfold val_main_v23 val_main_v22 val_main_v21 val_main_v20 val_main_call0_v5 val_main_call0_v4 val_main_call0_v3 val_main_call0_v2
    val_main_call0_v1 val_main_call0_v0 val_main_call0_cst val_main_call0_cst_0 val_main_v20 val_main_v19
  generalize val_main_v18 (F := Ideal) x sh sc gpre = h
  pointwise
  unfold FfnSpec.hidden
  rw [← FfnSpec.mul_logistic]
  rfl

/-- The network's output. -/
theorem inner_apply (b : Fin 8) (t : Fin 2048) (c : Fin 1024) :
    val_main_v24 (F := Ideal) x sh sc gpre win wout (ix3 b t c) = FfnSpec.inner (fun d => val_main_v18 (F := Ideal) x sh sc gpre (ix3 b t d))
      (fun d k => win (ix2 d ⟨k.val, by omega⟩)) (fun d k => win (ix2 d ⟨2816 + k.val, by omega⟩)) (fun k c => wout (ix2 k c)) c := by
  unfold FfnSpec.inner
  simp only [← hidden_apply]
  unfold val_main_v24
  generalize val_main_v23 (F := Ideal) x sh sc gpre win = h
  pointwise

/-- The reference's result at an index. -/
theorem out_apply (b : Fin 8) (t : Fin 2048) (c : Fin 1024) :
    val_main_v40 (F := Ideal) x sh sc gate gpre gpost win wout (ix3 b t c) =
      FfnSpec.out (fun d => x (ix3 b t d)) (fun d => gpre (ix1 d)) (fun d => gpost (ix1 d)) (fun d => sh (ix3 b 0 d))
        (fun d => sc (ix3 b 0 d)) (fun d => gate (ix3 b 0 d))
        (fun d k => win (ix2 d ⟨k.val, by omega⟩)) (fun d k => win (ix2 d ⟨2816 + k.val, by omega⟩)) (fun k c => wout (ix2 k c)) c := by
  unfold FfnSpec.out
  have e := fun c => inner_apply x sh sc gpre win wout b t c
  simp only [h_apply] at e
  unfold val_main_v40 val_main_v39 val_main_v38 val_main_v37 val_main_v36 val_main_v35 val_main_v34 val_main_v33 val_main_v32
    val_main_v31 val_main_v30 val_main_v29 val_main_v28 val_main_v27 val_main_v26 val_main_v25 val_main_cst_3 val_main_cst_4 val_main_cst_5
  generalize val_main_v24 (F := Ideal) x sh sc gpre win wout = y at e ⊢
  pointwise
  simp only [e]
  rfl

end Cert.FfnReference

end
-- ==== Proof.FfnAlgebraic.lean ====
/- The feed-forward kernel and its reference compute the same array. -/
module

public import proofs.«01_k».proof.Proof.FfnKernel
public import proofs.«01_k».proof.Proof.FfnReference
public import proofs.«01_k».proof.Defs

@[expose] public section

set_option maxRecDepth 16384

noncomputable section

namespace Cert.FfnAlgebraic

open Idealize.ShloMosaic Idealize.ShloMosaic.TcCoe Idealize.SL.Sem
open scoped BigOperators

section Kernel
open Cert.Kernel2Ideal Cert.Kernel2Ideal.Gen

variable (m : (ℓ : Loc nD τ sig) → Buf (Elt Ideal) ℓ) (c : Dev nD)

/-- The sublayer at every index of the array, from the arguments. -/
def result (i : S8x2048x1024.Idx) : EReal :=
  FfnSpec.out (fun d => m ((c : Thread nD τ).loc main_arg0) (ix3 (i 0) (i 1) d)) (fun d => m ((c : Thread nD τ).loc main_arg4) (ix1 d))
    (fun d => m ((c : Thread nD τ).loc main_arg5) (ix1 d)) (fun d => m ((c : Thread nD τ).loc main_arg1) (ix3 (i 0) 0 d))
    (fun d => m ((c : Thread nD τ).loc main_arg2) (ix3 (i 0) 0 d)) (fun d => m ((c : Thread nD τ).loc main_arg3) (ix3 (i 0) 0 d))
    (fun d k => m ((c : Thread nD τ).loc main_arg6) (ix2 d ⟨k.val, by omega⟩))
    (fun d k => m ((c : Thread nD τ).loc main_arg6) (ix2 d ⟨2816 + k.val, by omega⟩))
    (fun k j => m ((c : Thread nD τ).loc main_arg7) (ix2 k j)) (i 2)

/-- Where the index maps place the blocks of a grid point. -/
theorem index0 : ∀ t : Fin grid0.N, win0_0.index t 0 = t.val / 4 ∧ win0_0.index t 1 = t.val % 4 ∧ win0_0.index t 2 = 0 := by decide +kernel
theorem index8 : ∀ t : Fin grid0.N, win0_8.index t 0 = t.val / 4 ∧ win0_8.index t 1 = t.val % 4 ∧ win0_8.index t 2 = 0 := by decide +kernel
theorem index2 : ∀ t : Fin grid0.N, win0_2.index t 0 = t.val / 4 ∧ win0_2.index t 1 = 0 ∧ win0_2.index t 2 = 0 := by decide +kernel
theorem index3 : ∀ t : Fin grid0.N, win0_3.index t 0 = t.val / 4 ∧ win0_3.index t 1 = 0 ∧ win0_3.index t 2 = 0 := by decide +kernel
theorem index4 : ∀ t : Fin grid0.N, win0_4.index t 0 = t.val / 4 ∧ win0_4.index t 1 = 0 ∧ win0_4.index t 2 = 0 := by decide +kernel

theorem index1 : ∀ t : Fin grid0.N, win0_1.index t 0 = 0 ∧ win0_1.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel

/-- Where an index of the result's block lies in the array. -/
theorem emb8 (t : Fin grid0.N) (i : Fin 512) (j : Fin 1024) :
    (win0_8.blk t).view.emb (ix3 (0 : Fin 1) i j) =
      ix3 (⟨t.val / 4, by have := t.isLt; change t.val < 32 at this; omega⟩ : Fin 8)
        (⟨(t.val % 4) * 512 + i.val, by omega⟩ : Fin 2048) j := by
  have h8 := index8 t
  blk_ext [h8]

/-- The block read from the first argument, at an index. -/
theorem read0 (t : Fin grid0.N) (i : Fin 512) (j : Fin 1024) :
    iblk m c 0 t (ix3 (0 : Fin 1) i j) = m ((c : Thread nD τ).loc main_arg0)
      (ix3 (⟨t.val / 4, by have := t.isLt; change t.val < 32 at this; omega⟩ : Fin 8)
        (⟨(t.val % 4) * 512 + i.val, by omega⟩ : Fin 2048) j) := by
  have h0 := index0 t
  blk_ext [iblk, V, h0]

theorem read2 (t : Fin grid0.N) (j : Fin 1024) :
    iblk m c 2 t (ix3 (0 : Fin 1) (0 : Fin 1) j) = m ((c : Thread nD τ).loc main_arg1)
      (ix3 (⟨t.val / 4, by have := t.isLt; change t.val < 32 at this; omega⟩ : Fin 8) (0 : Fin 1) j) := by
  have h0 := index2 t
  blk_ext [iblk, V, h0]

theorem read3 (t : Fin grid0.N) (j : Fin 1024) :
    iblk m c 3 t (ix3 (0 : Fin 1) (0 : Fin 1) j) = m ((c : Thread nD τ).loc main_arg2)
      (ix3 (⟨t.val / 4, by have := t.isLt; change t.val < 32 at this; omega⟩ : Fin 8) (0 : Fin 1) j) := by
  have h0 := index3 t
  blk_ext [iblk, V, h0]

theorem read4 (t : Fin grid0.N) (j : Fin 1024) :
    iblk m c 4 t (ix3 (0 : Fin 1) (0 : Fin 1) j) = m ((c : Thread nD τ).loc main_arg3)
      (ix3 (⟨t.val / 4, by have := t.isLt; change t.val < 32 at this; omega⟩ : Fin 8) (0 : Fin 1) j) := by
  have h0 := index4 t
  blk_ext [iblk, V, h0]

theorem read1 (t : Fin grid0.N) (j : Fin 1024) :
    iblk m c 1 t (ix2 (0 : Fin 1) j) = m ((c : Thread nD τ).loc main_arg4) (ix1 j) := by
  have h := index1 t
  blk_simp [iblk]; entry_read; pointwise
  blk_ext [h]

theorem read5 (t : Fin grid0.N) (j : Fin 1024) :
    iblk m c 5 t (ix2 (0 : Fin 1) j) = m ((c : Thread nD τ).loc main_arg5) (ix1 j) := by
  have h := index5 t
  blk_simp [iblk]; entry_read; pointwise
  blk_ext [h]

theorem read6 (t : Fin grid0.N) (i : Fin 1024) (j : Fin 5632) :
    iblk m c 6 t (ix2 i j) = m ((c : Thread nD τ).loc main_arg6) (ix2 i j) := by
  have h := index6 t
  blk_simp [iblk]; entry_read; pointwise
  blk_ext [h]

theorem read7 (t : Fin grid0.N) (i : Fin 2816) (j : Fin 1024) :
    iblk m c 7 t (ix2 i j) = m ((c : Thread nD τ).loc main_arg7) (ix2 i j) := by
  have h := index7 t
  blk_simp [iblk]; entry_read; pointwise
  blk_ext [h]

/-- The block that a grid point writes, at an index. -/
theorem block_eq (t : Fin grid0.N) (y : S1x512x1024.Idx) :
    out0_8 (iblk m c 0 t) (iblk m c 1 t) (iblk m c 2 t) (iblk m c 3 t) (iblk m c 4 t) (iblk m c 5 t) (iblk m c 6 t)
      (iblk m c 7 t) y = result m c ((win0_8.blk t).view.emb y) := by
  obtain ⟨i, j, rfl⟩ : ∃ (i : Fin 512) (j : Fin 1024), y = ix3 (0 : Fin 1) i j :=
    ⟨y 1, y 2, by funext a; match a with | ⟨0, _⟩ => exact Subsingleton.elim (α := Fin 1) _ _ | ⟨1, _⟩ => rfl | ⟨2, _⟩ => rfl⟩
  rw [FfnKernel.block_apply, emb8]
  simp only [read0, read1, read2, read3, read4, read5, read6, read7]
  rfl

/-- The result array after the run. -/
theorem array_eq : (dats m 0 c).arrAt 8 cfg0.N = result m c := by
  refine (dats m 0 c).arrAt_eq_of_covers 8 _ (by decide +kernel) fun t hf y => ?_
  blk_simp
  rw [after0_8]
  exact block_eq m c t y

end Kernel

/-- The reference's result array, from the arguments of a run. -/
theorem reference_eq (x sh sc gate gpre gpost win wout) (i : Reference2Ideal.S8x2048x1024.Idx) :
    Reference2Ideal.Read.val_main_v40 (F := Ideal) x sh sc gate gpre gpost win wout i =
      FfnSpec.out (fun d => x (ix3 (i 0) (i 1) d)) (fun d => gpre (ix1 d)) (fun d => gpost (ix1 d)) (fun d => sh (ix3 (i 0) 0 d))
        (fun d => sc (ix3 (i 0) 0 d)) (fun d => gate (ix3 (i 0) 0 d))
        (fun d k => win (ix2 d ⟨k.val, by omega⟩)) (fun d k => win (ix2 d ⟨2816 + k.val, by omega⟩)) (fun k c => wout (ix2 k c)) (i 2) := by
  have hi : i = ix3 (i 0) (i 1) (i 2) := by
    funext a; match a with | ⟨0, _⟩ => rfl | ⟨1, _⟩ => rfl | ⟨2, _⟩ => rfl
  exact (congrArg _ hi).trans (FfnReference.out_apply x sh sc gate gpre gpost win wout (i 0) (i 1) (i 2))

/-- From memories that agree on the arguments the feed-forward kernel and its reference end with equal results. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => result m c, ?_, ?_⟩
  · refine (θ_run _ _ _).mono (fun r h c => ⟨(h c).1.trans (array_eq m c), (h c).2⟩) (Cert.Kernel2Ideal.Value.run_blocks m ρ)
  · refine (θ_run _ _ _).mono (fun r h c => ⟨(h c).1.trans ?_, (h c).2⟩) (Cert.Reference2Ideal.Value.run (F := Ideal) m' ρ')
    rw [Reference2Ideal.Read.val_main_v40_eq]
    obtain ⟨a0, a1, a2, a3, a4, a5, a6, a7⟩ := hagree c
    rw [a0, a1, a2, a3, a4, a5, a6, a7]
    funext i
    exact reference_eq _ _ _ _ _ _ _ _ i

end Cert.FfnAlgebraic

end
-- ==== Proof.OutProj.lean ====
/- The output projection with its residual: the kernel and its reference compute the same array. -/
module

public import proofs.«01_k».proof.Proof.FfnSpec
public import proofs.«01_k».proof.Proof.Gen.Kernel3Ideal.Value
public import proofs.«01_k».proof.Proof.Gen.Reference3Ideal.Read
public import proofs.«01_k».proof.Defs
public import Idealize.ShloMosaic.Lib.Pipeline.ValueKit
public import Idealize.ShloMosaic.Lib.Pointwise

@[expose] public section

set_option maxRecDepth 16384

noncomputable section

namespace Cert.OutProj

open Idealize.ShloMosaic Idealize.ShloMosaic.TcCoe Idealize.SL.Sem
open scoped BigOperators

/-- The product of a row, given in its three parts, with the matrix. -/
def inner (yg : Fin 512 → EReal) (yf yc : Fin 256 → EReal) (w : Fin 1024 → Fin 1024 → EReal) (c : Fin 1024) : EReal :=
  (∑ k : Fin 512, yg k * w ⟨k.val, by omega⟩ c) + (∑ k : Fin 256, yf k * w ⟨512 + k.val, by omega⟩ c)
    + ∑ k : Fin 256, yc k * w ⟨768 + k.val, by omega⟩ c

/-- The row of the result. -/
def out (yg : Fin 512 → EReal) (yf yc : Fin 256 → EReal) (x gate g : Fin 1024 → EReal) (w : Fin 1024 → Fin 1024 → EReal)
    (c : Fin 1024) : EReal :=
  x c + gate c * FfnSpec.rms (inner yg yf yc w) g c

section Kernel
open Cert.Kernel3Ideal Cert.Kernel3Ideal.Gen

/-- The three products of a block of rows. -/
theorem pay2_apply (v0 : Vec Ideal S1x512x512 .bf16) (v2 : Vec Ideal S512x1024 .bf16) (v5 : Vec Ideal S1x512x256 .bf16)
    (v7 : Vec Ideal S256x1024 .bf16) (v11 : Vec Ideal S1x512x256 .bf16) (v13 : Vec Ideal S256x1024 .bf16) (i : Fin 512) (c : Fin 1024) :
    k0_pay2 v0 v2 v5 v7 v11 v13 (ix2 i c) =
      (∑ k : Fin 512, v0 (ix3 0 i k) * v2 (ix2 k c)) + (∑ k : Fin 256, v5 (ix3 0 i k) * v7 (ix2 k c))
        + ∑ k : Fin 256, v11 (ix3 0 i k) * v13 (ix2 k c) := by
  unfold k0_pay2
  pointwise

/-- The mean of the squares of the product's row. -/
theorem pay6_apply (v0 : Vec Ideal S1x512x512 .bf16) (v2 : Vec Ideal S512x1024 .bf16) (v5 : Vec Ideal S1x512x256 .bf16)
    (v7 : Vec Ideal S256x1024 .bf16) (v11 : Vec Ideal S1x512x256 .bf16) (v13 : Vec Ideal S256x1024 .bf16) (i : Fin 512) :
    k0_pay6 v0 v2 v5 v7 v11 v13 (ix2 i 0) =
      Ideal.div (∑ k : Fin 1024, k0_pay2 v0 v2 v5 v7 v11 v13 (ix2 i k) * k0_pay2 v0 v2 v5 v7 v11 v13 (ix2 i k)) FfnSpec.width := by
  unfold k0_pay6
  generalize k0_pay2 v0 v2 v5 v7 v11 v13 = y
  pointwise
  rfl

/-- The block's last step. -/
theorem pay1_apply (y x : FVec Ideal S512x1024 .f32) (gate g : FVec Ideal S1x1024 .f32) (ms e : FVec Ideal S512x1 .f32)
    (i : Fin 512) (c : Fin 1024) :
    k0_pay1 y x gate g ms e (ix3 0 i c) =
      x (ix2 i c) + gate (ix2 0 c) * (y (ix2 i c) * Ideal.rsqrt (ms (ix2 i 0) + e (ix2 i 0)) * g (ix2 0 c)) := by
  unfold k0_pay1
  pointwise

/-- The rows of the matrix that a product reads. -/
theorem ld1 (w : Vec Ideal S1024x1024 .bf16) (k : Fin 512) (c : Fin 1024) :
    View.ld w r0_1 (ix2 k c) = w (ix2 ⟨k.val, by omega⟩ c) := by
  unfold View.ld; congr 1; funext a; apply Fin.ext
  match a with | ⟨0, _⟩ => simp [ix2] | ⟨1, _⟩ => simp [ix2]
theorem ld3 (w : Vec Ideal S1024x1024 .bf16) (k : Fin 256) (c : Fin 1024) :
    View.ld w r0_3 (ix2 k c) = w (ix2 ⟨512 + k.val, by omega⟩ c) := by
  unfold View.ld; congr 1; funext a; apply Fin.ext
  match a with | ⟨0, _⟩ => simp [ix2] | ⟨1, _⟩ => simp [ix2]
theorem ld4 (w : Vec Ideal S1024x1024 .bf16) (k : Fin 256) (c : Fin 1024) :
    View.ld w r0_4 (ix2 k c) = w (ix2 ⟨768 + k.val, by omega⟩ c) := by
  unfold View.ld; congr 1; funext a; apply Fin.ext
  match a with | ⟨0, _⟩ => simp [ix2] | ⟨1, _⟩ => simp [ix2]

/-- The whole block at an index, from the loads. -/
theorem block_apply (yg : Vec Ideal S1x512x512 .bf16) (yf yc : Vec Ideal S1x512x256 .bf16) (w : Vec Ideal S1024x1024 .bf16)
    (x : Vec Ideal S1x512x1024 .f32) (g : Vec Ideal S1x1024 .f32) (gate : Vec Ideal S1x1x1024 .f32) (i : Fin 512) (c : Fin 1024) :
    out0_7 yg yf yc w x g gate (ix3 0 i c) =
      out (fun d => yg (ix3 0 i d)) (fun d => yf (ix3 0 i d)) (fun d => yc (ix3 0 i d)) (fun d => x (ix3 0 i d))
        (fun d => gate (ix3 0 0 d)) (fun d => g (ix2 0 d)) (fun k c => w (ix2 k c)) c := by
  unfold out0_7
  have hz3 : (![0, 0, 0] : Fin 3 → ℕ) = fun _ => 0 := by decide
  have hz2 : (![0, 0] : Fin 2 → ℕ) = fun _ => 0 := by decide
  rw [View.canon_unit_zero hz3, View.ld_unit_zero hz3 _ yg, View.ld_unit_zero hz3 _ yf, View.ld_unit_zero hz3 _ yc,
    View.ld_unit_zero hz3 _ x, View.ld_unit_zero hz2 _ g, View.ld_unit_zero hz3 _ gate]
  rw [pay1_apply, pay6_apply]
  simp only [pay2_apply, ld1, ld3, ld4]
  unfold k0_pay3 k0_pay4 k0_pay5 k0_pay7
  pointwise
  rfl

variable (m : (ℓ : Loc nD τ sig) → Buf (Elt Ideal) ℓ) (c : Dev nD)

/-- The result at every index of the array, from the arguments. -/
def result (i : S8x2048x1024.Idx) : EReal :=
  out (fun d => m ((c : Thread nD τ).loc main_arg0) (ix3 (i 0) (i 1) d)) (fun d => m ((c : Thread nD τ).loc main_arg1) (ix3 (i 0) (i 1) d))
    (fun d => m ((c : Thread nD τ).loc main_arg2) (ix3 (i 0) (i 1) d)) (fun d => m ((c : Thread nD τ).loc main_arg3) (ix3 (i 0) (i 1) d))
    (fun d => m ((c : Thread nD τ).loc main_arg4) (ix3 (i 0) 0 d)) (fun d => m ((c : Thread nD τ).loc main_arg5) (ix1 d))
    (fun k j => m ((c : Thread nD τ).loc main_arg6) (ix2 k j)) (i 2)

/-- Where the index maps place the blocks of a grid point. -/
theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val / 4 ∧ win0_1.index t 1 = t.val % 4 ∧ win0_1.index t 2 = 0 := by decide +kernel
theorem index2 : ∀ t : Fin grid0.N, win0_2.index t 0 = t.val / 4 ∧ win0_2.index t 1 = t.val % 4 ∧ win0_2.index t 2 = 0 := by decide +kernel
theorem index4 : ∀ t : Fin grid0.N, win0_4.index t 0 = t.val / 4 ∧ win0_4.index t 1 = t.val % 4 ∧ win0_4.index t 2 = 0 := by decide +kernel
theorem index7 : ∀ t : Fin grid0.N, win0_7.index t 0 = t.val / 4 ∧ win0_7.index t 1 = t.val % 4 ∧ win0_7.index t 2 = 0 := by decide +kernel
theorem index6 : ∀ t : Fin grid0.N, win0_6.index t 0 = t.val / 4 ∧ win0_6.index t 1 = 0 ∧ win0_6.index t 2 = 0 := by decide +kernel
theorem index3 : ∀ t : Fin grid0.N, win0_3.index t 0 = 0 ∧ win0_3.index t 1 = 0 := by decide +kernel
theorem index5 : ∀ t : Fin grid0.N, win0_5.index t 0 = 0 ∧ win0_5.index t 1 = 0 := by decide +kernel

/-- Where an index of the result's block lies in the array. -/
theorem emb7 (t : Fin grid0.N) (i : Fin 512) (j : Fin 1024) :
    (win0_7.blk t).view.emb (ix3 (0 : Fin 1) i j) =
      ix3 (⟨t.val / 4, by have := t.isLt; change t.val < 32 at this; omega⟩ : Fin 8)
        (⟨(t.val % 4) * 512 + i.val, by omega⟩ : Fin 2048) j := by
  have h := index7 t
  blk_ext [h]

/-- The blocks read from the arguments, at an index. -/
theorem read0 (t : Fin grid0.N) (i : Fin 512) (j : Fin 512) :
    iblk m c 0 t (ix3 (0 : Fin 1) i j) = m ((c : Thread nD τ).loc main_arg0)
      (ix3 (⟨t.val / 4, by have := t.isLt; change t.val < 32 at this; omega⟩ : Fin 8)
        (⟨(t.val % 4) * 512 + i.val, by omega⟩ : Fin 2048) j) := by
  have h := index0 t
  blk_ext [iblk, V, h]
theorem read1 (t : Fin grid0.N) (i : Fin 512) (j : Fin 256) :
    iblk m c 1 t (ix3 (0 : Fin 1) i j) = m ((c : Thread nD τ).loc main_arg1)
      (ix3 (⟨t.val / 4, by have := t.isLt; change t.val < 32 at this; omega⟩ : Fin 8)
        (⟨(t.val % 4) * 512 + i.val, by omega⟩ : Fin 2048) j) := by
  have h := index1 t
  blk_ext [iblk, V, h]
theorem read2 (t : Fin grid0.N) (i : Fin 512) (j : Fin 256) :
    iblk m c 2 t (ix3 (0 : Fin 1) i j) = m ((c : Thread nD τ).loc main_arg2)
      (ix3 (⟨t.val / 4, by have := t.isLt; change t.val < 32 at this; omega⟩ : Fin 8)
        (⟨(t.val % 4) * 512 + i.val, by omega⟩ : Fin 2048) j) := by
  have h := index2 t
  blk_ext [iblk, V, h]
theorem read4 (t : Fin grid0.N) (i : Fin 512) (j : Fin 1024) :
    iblk m c 4 t (ix3 (0 : Fin 1) i j) = m ((c : Thread nD τ).loc main_arg3)
      (ix3 (⟨t.val / 4, by have := t.isLt; change t.val < 32 at this; omega⟩ : Fin 8)
        (⟨(t.val % 4) * 512 + i.val, by omega⟩ : Fin 2048) j) := by
  have h := index4 t
  blk_ext [iblk, V, h]
theorem read6 (t : Fin grid0.N) (j : Fin 1024) :
    iblk m c 6 t (ix3 (0 : Fin 1) (0 : Fin 1) j) = m ((c : Thread nD τ).loc main_arg4)
      (ix3 (⟨t.val / 4, by have := t.isLt; change t.val < 32 at this; omega⟩ : Fin 8) (0 : Fin 1) j) := by
  have h := index6 t
  blk_ext [iblk, V, h]
theorem read5 (t : Fin grid0.N) (j : Fin 1024) :
    iblk m c 5 t (ix2 (0 : Fin 1) j) = m ((c : Thread nD τ).loc main_arg5) (ix1 j) := by
  have h := index5 t
  blk_simp [iblk]; entry_read; pointwise
  blk_ext [h]
theorem read3 (t : Fin grid0.N) (i j : Fin 1024) :
    iblk m c 3 t (ix2 i j) = m ((c : Thread nD τ).loc main_arg6) (ix2 i j) := by
  have h := index3 t
  blk_simp [iblk]; entry_read; pointwise
  blk_ext [h]

/-- The block that a grid point writes, at an index. -/
theorem block_eq (t : Fin grid0.N) (y : S1x512x1024.Idx) :
    out0_7 (iblk m c 0 t) (iblk m c 1 t) (iblk m c 2 t) (iblk m c 3 t) (iblk m c 4 t) (iblk m c 5 t) (iblk m c 6 t) y
      = result m c ((win0_7.blk t).view.emb y) := by
  obtain ⟨i, j, rfl⟩ : ∃ (i : Fin 512) (j : Fin 1024), y = ix3 (0 : Fin 1) i j :=
    ⟨y 1, y 2, by funext a; match a with | ⟨0, _⟩ => exact Subsingleton.elim (α := Fin 1) _ _ | ⟨1, _⟩ => rfl | ⟨2, _⟩ => rfl⟩
  rw [block_apply, emb7]
  simp only [read0, read1, read2, read3, read4, read5, read6]
  rfl

/-- The result array after the run. -/
theorem array_eq : (dats m 0 c).arrAt 7 cfg0.N = result m c := by
  refine (dats m 0 c).arrAt_eq_of_covers 7 _ (by decide +kernel) fun t hf y => ?_
  blk_simp
  rw [after0_7]
  exact block_eq m c t y

end Kernel

section Reference
open Cert.Reference3Ideal Cert.Reference3Ideal.Gen Cert.Reference3Ideal.Read

variable (yg : (⟨S8x2048x512, .bf16⟩ : BufTy).Contents (Elt Ideal)) (yf yc : (⟨S8x2048x256, .bf16⟩ : BufTy).Contents (Elt Ideal))
  (x : (⟨S8x2048x1024, .f32⟩ : BufTy).Contents (Elt Ideal)) (gate : (⟨S8x1x1024, .f32⟩ : BufTy).Contents (Elt Ideal))
  (g : (⟨S1024, .f32⟩ : BufTy).Contents (Elt Ideal)) (w : (⟨S1024x1024, .f32⟩ : BufTy).Contents (Elt Ideal))

/-- The concatenated row, in its three ranges. -/
theorem cat0 (b : Fin 8) (t : Fin 2048) (k : Fin 512) :
    val_main_v1 (F := Ideal) yg yf yc (ix3 b t ⟨k.val, by omega⟩) = yg (ix3 b t k) := by
  unfold val_main_v1 val_main_v0
  pointwise
theorem cat1 (b : Fin 8) (t : Fin 2048) (k : Fin 256) :
    val_main_v1 (F := Ideal) yg yf yc (ix3 b t ⟨512 + k.val, by omega⟩) = yf (ix3 b t k) := by
  unfold val_main_v1 val_main_v0
  pointwise
theorem cat2 (b : Fin 8) (t : Fin 2048) (k : Fin 256) :
    val_main_v1 (F := Ideal) yg yf yc (ix3 b t ⟨768 + k.val, by omega⟩) = yc (ix3 b t k) := by
  unfold val_main_v1 val_main_v0
  pointwise
  rw [dif_neg (by omega), dif_neg (by omega)]
  congr 2; apply Fin.ext; change 768 + k.val - 512 - 256 = k.val; omega

/-- A sum over the 1024 rows of the matrix, in the three runs. -/
theorem sum_runs (f : Fin 1024 → EReal) :
    (∑ k : Fin 1024, f k) = (∑ k : Fin 512, f ⟨k.val, by omega⟩) + (∑ k : Fin 256, f ⟨512 + k.val, by omega⟩)
      + ∑ k : Fin 256, f ⟨768 + k.val, by omega⟩ := by
  refine (Fin.sum_univ_add (a := 768) (b := 256) f).trans ?_
  refine congrArg₂ (· + ·) ((Fin.sum_univ_add (a := 512) (b := 256) _).trans rfl) rfl

/-- The product before its normalisation. -/
theorem inner_apply (b : Fin 8) (t : Fin 2048) (c : Fin 1024) :
    val_main_v2 (F := Ideal) yg yf yc w (ix3 b t c) =
      inner (fun d => yg (ix3 b t d)) (fun d => yf (ix3 b t d)) (fun d => yc (ix3 b t d)) (fun k c => w (ix2 k c)) c := by
  have e : val_main_v2 (F := Ideal) yg yf yc w (ix3 b t c) =
      ∑ k : Fin 1024, val_main_v1 (F := Ideal) yg yf yc (ix3 b t k) * w (ix2 k c) := by
    unfold val_main_v2
    generalize val_main_v1 (F := Ideal) yg yf yc = h
    pointwise
  rw [e, sum_runs]
  simp only [cat0, cat1, cat2]
  rfl

/-- The reference's result at an index. -/
theorem out_apply (b : Fin 8) (t : Fin 2048) (c : Fin 1024) :
    val_main_v18 (F := Ideal) yg yf yc x gate g w (ix3 b t c) =
      out (fun d => yg (ix3 b t d)) (fun d => yf (ix3 b t d)) (fun d => yc (ix3 b t d)) (fun d => x (ix3 b t d))
        (fun d => gate (ix3 b 0 d)) (fun d => g (ix1 d)) (fun k c => w (ix2 k c)) c := by
  unfold out
  have e := fun c => inner_apply yg yf yc w b t c
  unfold val_main_v18 val_main_v17 val_main_v16 val_main_v15 val_main_v14 val_main_v13 val_main_v12 val_main_v11 val_main_v10
    val_main_v9 val_main_v8 val_main_v7 val_main_v6 val_main_v5 val_main_v4 val_main_v3 val_main_cst val_main_cst_0 val_main_cst_1
  generalize val_main_v2 (F := Ideal) yg yf yc w = y at e ⊢
  pointwise
  simp only [e]
  rfl

/-- The reference's result array, from the arguments of a run. -/
theorem reference_eq (i : S8x2048x1024.Idx) :
    val_main_v18 (F := Ideal) yg yf yc x gate g w i =
      out (fun d => yg (ix3 (i 0) (i 1) d)) (fun d => yf (ix3 (i 0) (i 1) d)) (fun d => yc (ix3 (i 0) (i 1) d))
        (fun d => x (ix3 (i 0) (i 1) d)) (fun d => gate (ix3 (i 0) 0 d)) (fun d => g (ix1 d)) (fun k c => w (ix2 k c)) (i 2) := by
  have hi : i = ix3 (i 0) (i 1) (i 2) := by
    funext a; match a with | ⟨0, _⟩ => rfl | ⟨1, _⟩ => rfl | ⟨2, _⟩ => rfl
  exact (congrArg _ hi).trans (out_apply yg yf yc x gate g w (i 0) (i 1) (i 2))

end Reference

/-- From memories that agree on the arguments the output projection and its reference end with equal results. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => result m c, ?_, ?_⟩
  · refine (θ_run _ _ _).mono (fun r h c => ⟨(h c).1.trans (array_eq m c), (h c).2⟩) (Cert.Kernel3Ideal.Value.run_blocks m ρ)
  · refine (θ_run _ _ _).mono (fun r h c => ⟨(h c).1.trans ?_, (h c).2⟩) (Cert.Reference3Ideal.Value.run (F := Ideal) m' ρ')
    rw [Reference3Ideal.Read.val_main_v18_eq]
    obtain ⟨a0, a1, a2, a3, a4, a5, a6⟩ := hagree c
    rw [a0, a1, a2, a3, a4, a5, a6]
    funext i
    exact reference_eq _ _ _ _ _ _ _ i

end Cert.OutProj

end
-- ==== Proof.InProj.lean ====
/- The input projection: the kernel and its reference compute the same nine arrays. -/
module

public import proofs.«01_k».proof.Proof.FfnSpec
public import proofs.«01_k».proof.Proof.Gen.Kernel4Ideal.Value
public import proofs.«01_k».proof.Proof.Gen.Reference4Ideal.Read
public import proofs.«01_k».proof.Defs
public import Idealize.ShloMosaic.Lib.Pipeline.ValueKit
public import Idealize.ShloMosaic.Lib.Pointwise

@[expose] public section

set_option maxRecDepth 16384

noncomputable section

namespace Cert.InProj

open Idealize.ShloMosaic Idealize.ShloMosaic.TcCoe Idealize.SL.Sem
open scoped BigOperators

/-- The matrix with its columns in the kernel's order: the 32 columns of the gates' low-rank factors last, followed by
    columns of zeros. -/
def wcol (w : Fin 1024 → Fin 2592 → EReal) (d : Fin 1024) (j : Fin 2688) : EReal :=
  if h : j.val < 768 then w d ⟨j.val, by omega⟩
  else if h : j.val < 2560 then w d ⟨j.val + 32, by omega⟩
  else if h : j.val < 2592 then w d ⟨j.val - 1792, by omega⟩ else 0

theorem wcol_lo (w : Fin 1024 → Fin 2592 → EReal) (d : Fin 1024) (j : Fin 2688) (k : Fin 2592) (h : j.val < 768) (hk : k.val = j.val) :
    wcol w d j = w d k := by
  unfold wcol; rw [dif_pos h]; exact congrArg (w d) (Fin.ext hk.symm)
theorem wcol_mid (w : Fin 1024 → Fin 2592 → EReal) (d : Fin 1024) (j : Fin 2688) (k : Fin 2592) (h : ¬ j.val < 768) (h' : j.val < 2560)
    (hk : k.val = j.val + 32) : wcol w d j = w d k := by
  unfold wcol; rw [dif_neg h, dif_pos h']; exact congrArg (w d) (Fin.ext hk.symm)
theorem wcol_hi (w : Fin 1024 → Fin 2592 → EReal) (d : Fin 1024) (j : Fin 2688) (k : Fin 2592) (h : ¬ j.val < 2560) (h' : j.val < 2592)
    (hk : k.val + 1792 = j.val) :
    wcol w d j = w d k := by
  unfold wcol; rw [dif_neg (by omega), dif_neg h, dif_pos h']; exact congrArg (w d) (Fin.ext (by dsimp only; omega))
theorem wcol_zero (w : Fin 1024 → Fin 2592 → EReal) (d : Fin 1024) (j : Fin 2688) (h : ¬ j.val < 2592) : wcol w d j = 0 := by
  unfold wcol; rw [dif_neg (by omega), dif_neg (by omega), dif_neg h]

/-- One entry of the projection. -/
def proj (x g sc sh : Fin 1024 → EReal) (w : Fin 1024 → Fin 2592 → EReal) (j : Fin 2688) : EReal :=
  ∑ d : Fin 1024, FfnSpec.modulated x g sc sh d * wcol w d j

/-- The integer zero, converted. -/
theorem sitofp_zero : (FloatOps.sitofp FTy.f32 (0#32) : Ideal .f32) = (0 : EReal) := by
  change (((0#32 : BitVec 32).toInt : ℝ) : EReal) = 0
  simp

section Kernel
open Cert.Kernel4Ideal Cert.Kernel4Ideal.Gen

/-- The modulated row the products read. -/
theorem pay5_apply (v0 : Vec Ideal S1x512x1024 .f32) (v2 : Vec Ideal S1x1024 .f32) (v16 v22 : Vec Ideal S1x1x1024 .f32)
    (i : Fin 512) (j : Fin 1024) :
    k0_pay5 v0 v2 v16 v22 (ix2 i j) =
      FfnSpec.modulated (fun d => v0 (ix3 0 i d)) (fun d => v2 (ix2 0 d)) (fun d => v16 (ix3 0 0 d)) (fun d => v22 (ix3 0 0 d)) j := by
  unfold k0_pay5
  pointwise
  rfl

/-- The products, one for each result. -/
theorem prod5_apply (v0 : Vec Ideal S1x512x1024 .f32) (v2 : Vec Ideal S1x1024 .f32) (v16 v22 : Vec Ideal S1x1x1024 .f32)
    (w : Vec Ideal S1024x256 .bf16) (i : Fin 512) (j : Fin 256) :
    k0_pay6 v0 v2 v16 v22 w (ix3 0 i j) = ∑ d : Fin 1024, k0_pay5 v0 v2 v16 v22 (ix2 i d) * w (ix2 d j) := by
  unfold k0_pay6
  generalize k0_pay5 v0 v2 v16 v22 = h
  pointwise
theorem prod6_apply (h : FVec Ideal S512x1024 .bf16) (w : Vec Ideal S1024x512 .bf16) (i : Fin 512) (j : Fin 512) :
    k0_pay7 h w (ix3 0 i j) = ∑ d : Fin 1024, h (ix2 i d) * w (ix2 d j) := by
  unfold k0_pay7
  pointwise
theorem prod7_apply (h : FVec Ideal S512x1024 .bf16) (w : Vec Ideal S1024x256 .bf16) (i : Fin 512) (j : Fin 256) :
    k0_pay8 h w (ix3 0 i j) = ∑ d : Fin 1024, h (ix2 i d) * w (ix2 d j) := by
  unfold k0_pay8
  pointwise
theorem prod8_apply (h : FVec Ideal S512x1024 .bf16) (w : Vec Ideal S1024x512 .bf16) (i : Fin 512) (j : Fin 512) :
    k0_pay9 h w (ix3 0 i j) = ∑ d : Fin 1024, h (ix2 i d) * w (ix2 d j) := by
  unfold k0_pay9
  pointwise
theorem prod9_apply (h : FVec Ideal S512x1024 .bf16) (w : Vec Ideal S1024x256 .bf16) (i : Fin 512) (j : Fin 256) :
    k0_pay10 h w (ix3 0 i j) = ∑ d : Fin 1024, h (ix2 i d) * w (ix2 d j) := by
  unfold k0_pay10
  pointwise
theorem prod10_apply (h : FVec Ideal S512x1024 .bf16) (w : Vec Ideal S1024x256 .bf16) (i : Fin 512) (j : Fin 256) :
    k0_pay1 (k0_pay11 h w) (ix3 0 i j) = ∑ d : Fin 1024, h (ix2 i d) * w (ix2 d j) := by
  unfold k0_pay1 k0_pay11
  pointwise
theorem prod11_apply (h : FVec Ideal S512x1024 .bf16) (w : Vec Ideal S1024x256 .bf16) (i : Fin 512) (j : Fin 256) :
    k0_pay2 h w (ix3 0 i j) = ∑ d : Fin 1024, h (ix2 i d) * w (ix2 d j) := by
  unfold k0_pay2
  pointwise
theorem prod12_apply (h : FVec Ideal S512x1024 .bf16) (w : Vec Ideal S1024x256 .bf16) (i : Fin 512) (j : Fin 256) :
    k0_pay3 h w (ix3 0 i j) = ∑ d : Fin 1024, h (ix2 i d) * w (ix2 d j) := by
  unfold k0_pay3
  pointwise
theorem prod13_apply (h : FVec Ideal S512x1024 .bf16) (w : Vec Ideal S1024x128 .bf16) (i : Fin 512) (j : Fin 128) :
    k0_pay4 h w (ix3 0 i j) = ∑ d : Fin 1024, h (ix2 i d) * w (ix2 d j) := by
  unfold k0_pay4
  pointwise

/-- The columns of the matrix that a product reads. -/
theorem ld5 (w : Vec Ideal S1024x2688 .bf16) (d : Fin 1024) (j : Fin 256) :
    View.ld w r0_3 (ix2 d j) = w (ix2 d ⟨0 + j.val, by omega⟩) := by
  unfold View.ld; congr 1; funext a; apply Fin.ext
  match a with | ⟨0, _⟩ => simp [ix2] | ⟨1, _⟩ => simp [ix2]
theorem ld6 (w : Vec Ideal S1024x2688 .bf16) (d : Fin 1024) (j : Fin 512) :
    View.ld w r0_5 (ix2 d j) = w (ix2 d ⟨256 + j.val, by omega⟩) := by
  unfold View.ld; congr 1; funext a; apply Fin.ext
  match a with | ⟨0, _⟩ => simp [ix2] | ⟨1, _⟩ => simp [ix2]
theorem ld7 (w : Vec Ideal S1024x2688 .bf16) (d : Fin 1024) (j : Fin 256) :
    View.ld w r0_7 (ix2 d j) = w (ix2 d ⟨768 + j.val, by omega⟩) := by
  unfold View.ld; congr 1; funext a; apply Fin.ext
  match a with | ⟨0, _⟩ => simp [ix2] | ⟨1, _⟩ => simp [ix2]
theorem ld8 (w : Vec Ideal S1024x2688 .bf16) (d : Fin 1024) (j : Fin 512) :
    View.ld w r0_8 (ix2 d j) = w (ix2 d ⟨1024 + j.val, by omega⟩) := by
  unfold View.ld; congr 1; funext a; apply Fin.ext
  match a with | ⟨0, _⟩ => simp [ix2] | ⟨1, _⟩ => simp [ix2]
theorem ld9 (w : Vec Ideal S1024x2688 .bf16) (d : Fin 1024) (j : Fin 256) :
    View.ld w r0_9 (ix2 d j) = w (ix2 d ⟨1536 + j.val, by omega⟩) := by
  unfold View.ld; congr 1; funext a; apply Fin.ext
  match a with | ⟨0, _⟩ => simp [ix2] | ⟨1, _⟩ => simp [ix2]
theorem ld10 (w : Vec Ideal S1024x2688 .bf16) (d : Fin 1024) (j : Fin 256) :
    View.ld w r0_10 (ix2 d j) = w (ix2 d ⟨1792 + j.val, by omega⟩) := by
  unfold View.ld; congr 1; funext a; apply Fin.ext
  match a with | ⟨0, _⟩ => simp [ix2] | ⟨1, _⟩ => simp [ix2]
theorem ld11 (w : Vec Ideal S1024x2688 .bf16) (d : Fin 1024) (j : Fin 256) :
    View.ld w r0_11 (ix2 d j) = w (ix2 d ⟨2048 + j.val, by omega⟩) := by
  unfold View.ld; congr 1; funext a; apply Fin.ext
  match a with | ⟨0, _⟩ => simp [ix2] | ⟨1, _⟩ => simp [ix2]
theorem ld12 (w : Vec Ideal S1024x2688 .bf16) (d : Fin 1024) (j : Fin 256) :
    View.ld w r0_12 (ix2 d j) = w (ix2 d ⟨2304 + j.val, by omega⟩) := by
  unfold View.ld; congr 1; funext a; apply Fin.ext
  match a with | ⟨0, _⟩ => simp [ix2] | ⟨1, _⟩ => simp [ix2]
theorem ld13 (w : Vec Ideal S1024x2688 .bf16) (d : Fin 1024) (j : Fin 128) :
    View.ld w r0_13 (ix2 d j) = w (ix2 d ⟨2560 + j.val, by omega⟩) := by
  unfold View.ld; congr 1; funext a; apply Fin.ext
  match a with | ⟨0, _⟩ => simp [ix2] | ⟨1, _⟩ => simp [ix2]

/-- The blocks at an index, from the loads. -/
theorem block5_apply (x : Vec Ideal S1x512x1024 .f32) (g : Vec Ideal S1x1024 .f32) (sh sc : Vec Ideal S1x1x1024 .f32)
    (w : Vec Ideal S1024x2688 .bf16) (i : Fin 512) (j : Fin 256) :
    out0_5 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨0 + j.val, by omega⟩) := by
  unfold out0_5
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod5_apply]
  simp only [pay5_apply]
  exact Finset.sum_congr rfl fun d _ => congrArg₂ (· * ·) rfl (ld5 w d j)
theorem block6_apply (x : Vec Ideal S1x512x1024 .f32) (g : Vec Ideal S1x1024 .f32) (sh sc : Vec Ideal S1x1x1024 .f32)
    (w : Vec Ideal S1024x2688 .bf16) (i : Fin 512) (j : Fin 512) :
    out0_6 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨256 + j.val, by omega⟩) := by
  unfold out0_6 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod6_apply]
  simp only [pay5_apply]
  exact Finset.sum_congr rfl fun d _ => congrArg₂ (· * ·) rfl (ld6 w d j)
theorem block7_apply (x : Vec Ideal S1x512x1024 .f32) (g : Vec Ideal S1x1024 .f32) (sh sc : Vec Ideal S1x1x1024 .f32)
    (w : Vec Ideal S1024x2688 .bf16) (i : Fin 512) (j : Fin 256) :
    out0_7 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨768 + j.val, by omega⟩) := by
  unfold out0_7 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod7_apply]
  simp only [pay5_apply]
  exact Finset.sum_congr rfl fun d _ => congrArg₂ (· * ·) rfl (ld7 w d j)
theorem block8_apply (x : Vec Ideal S1x512x1024 .f32) (g : Vec Ideal S1x1024 .f32) (sh sc : Vec Ideal S1x1x1024 .f32)
    (w : Vec Ideal S1024x2688 .bf16) (i : Fin 512) (j : Fin 512) :
    out0_8 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨1024 + j.val, by omega⟩) := by
  unfold out0_8 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod8_apply]
  simp only [pay5_apply]
  exact Finset.sum_congr rfl fun d _ => congrArg₂ (· * ·) rfl (ld8 w d j)
theorem block9_apply (x : Vec Ideal S1x512x1024 .f32) (g : Vec Ideal S1x1024 .f32) (sh sc : Vec Ideal S1x1x1024 .f32)
    (w : Vec Ideal S1024x2688 .bf16) (i : Fin 512) (j : Fin 256) :
    out0_9 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨1536 + j.val, by omega⟩) := by
  unfold out0_9 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod9_apply]
  simp only [pay5_apply]
  exact Finset.sum_congr rfl fun d _ => congrArg₂ (· * ·) rfl (ld9 w d j)
theorem block10_apply (x : Vec Ideal S1x512x1024 .f32) (g : Vec Ideal S1x1024 .f32) (sh sc : Vec Ideal S1x1x1024 .f32)
    (w : Vec Ideal S1024x2688 .bf16) (i : Fin 512) (j : Fin 256) :
    out0_10 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨1792 + j.val, by omega⟩) := by
  unfold out0_10 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod10_apply]
  simp only [pay5_apply]
  exact Finset.sum_congr rfl fun d _ => congrArg₂ (· * ·) rfl (ld10 w d j)
theorem block11_apply (x : Vec Ideal S1x512x1024 .f32) (g : Vec Ideal S1x1024 .f32) (sh sc : Vec Ideal S1x1x1024 .f32)
    (w : Vec Ideal S1024x2688 .bf16) (i : Fin 512) (j : Fin 256) :
    out0_11 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨2048 + j.val, by omega⟩) := by
  unfold out0_11 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod11_apply]
  simp only [pay5_apply]
  exact Finset.sum_congr rfl fun d _ => congrArg₂ (· * ·) rfl (ld11 w d j)
theorem block12_apply (x : Vec Ideal S1x512x1024 .f32) (g : Vec Ideal S1x1024 .f32) (sh sc : Vec Ideal S1x1x1024 .f32)
    (w : Vec Ideal S1024x2688 .bf16) (i : Fin 512) (j : Fin 256) :
    out0_12 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨2304 + j.val, by omega⟩) := by
  unfold out0_12 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod12_apply]
  simp only [pay5_apply]
  exact Finset.sum_congr rfl fun d _ => congrArg₂ (· * ·) rfl (ld12 w d j)
theorem block13_apply (x : Vec Ideal S1x512x1024 .f32) (g : Vec Ideal S1x1024 .f32) (sh sc : Vec Ideal S1x1x1024 .f32)
    (w : Vec Ideal S1024x2688 .bf16) (i : Fin 512) (j : Fin 128) :
    out0_13 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨2560 + j.val, by omega⟩) := by
  unfold out0_13 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod13_apply]
  simp only [pay5_apply]
  exact Finset.sum_congr rfl fun d _ => congrArg₂ (· * ·) rfl (ld13 w d j)

variable (m : (ℓ : Loc nD τ sig) → Buf (Elt Ideal) ℓ) (c : Dev nD)

/-- The projection's entries, from the arguments. -/
def entry (b : Fin 8) (t : Fin 2048) (j : Fin 2688) : EReal :=
  proj (fun d => m ((c : Thread nD τ).loc main_arg0) (ix3 b t d)) (fun d => m ((c : Thread nD τ).loc main_arg3) (ix1 d))
    (fun d => m ((c : Thread nD τ).loc main_arg2) (ix3 b 0 d)) (fun d => m ((c : Thread nD τ).loc main_arg1) (ix3 b 0 d))
    (fun d k => m ((c : Thread nD τ).loc main_arg4) (ix2 d k)) j

/-- Where the index maps place the blocks of a grid point. -/
theorem index0 : ∀ t : Fin grid0.N, win0_0.index t 0 = t.val / 4 ∧ win0_0.index t 1 = t.val % 4 ∧ win0_0.index t 2 = 0 := by decide +kernel
theorem index1 : ∀ t : Fin grid0.N, win0_1.index t 0 = 0 ∧ win0_1.index t 1 = 0 := by decide +kernel
theorem index2 : ∀ t : Fin grid0.N, win0_2.index t 0 = t.val / 4 ∧ win0_2.index t 1 = 0 ∧ win0_2.index t 2 = 0 := by decide +kernel
theorem index3 : ∀ t : Fin grid0.N, win0_3.index t 0 = t.val / 4 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val / 4 ∧ win0_5.index t 1 = t.val % 4 ∧ win0_5.index t 2 = 0 := by decide +kernel
theorem index6 : ∀ t : Fin grid0.N, win0_6.index t 0 = t.val / 4 ∧ win0_6.index t 1 = t.val % 4 ∧ win0_6.index t 2 = 0 := by decide +kernel
theorem index7 : ∀ t : Fin grid0.N, win0_7.index t 0 = t.val / 4 ∧ win0_7.index t 1 = t.val % 4 ∧ win0_7.index t 2 = 0 := by decide +kernel
theorem index8 : ∀ t : Fin grid0.N, win0_8.index t 0 = t.val / 4 ∧ win0_8.index t 1 = t.val % 4 ∧ win0_8.index t 2 = 0 := by decide +kernel
theorem index9 : ∀ t : Fin grid0.N, win0_9.index t 0 = t.val / 4 ∧ win0_9.index t 1 = t.val % 4 ∧ win0_9.index t 2 = 0 := by decide +kernel
theorem index10 : ∀ t : Fin grid0.N, win0_10.index t 0 = t.val / 4 ∧ win0_10.index t 1 = t.val % 4 ∧ win0_10.index t 2 = 0 := by decide +kernel
theorem index11 : ∀ t : Fin grid0.N, win0_11.index t 0 = t.val / 4 ∧ win0_11.index t 1 = t.val % 4 ∧ win0_11.index t 2 = 0 := by decide +kernel
theorem index12 : ∀ t : Fin grid0.N, win0_12.index t 0 = t.val / 4 ∧ win0_12.index t 1 = t.val % 4 ∧ win0_12.index t 2 = 0 := by decide +kernel
theorem index13 : ∀ t : Fin grid0.N, win0_13.index t 0 = t.val / 4 ∧ win0_13.index t 1 = t.val % 4 ∧ win0_13.index t 2 = 0 := by decide +kernel

/-- The blocks read from the arguments, at an index. -/
theorem read0 (t : Fin grid0.N) (i : Fin 512) (j : Fin 1024) :
    iblk m c 0 t (ix3 (0 : Fin 1) i j) = m ((c : Thread nD τ).loc main_arg0)
      (ix3 (⟨t.val / 4, by have := t.isLt; change t.val < 32 at this; omega⟩ : Fin 8)
        (⟨(t.val % 4) * 512 + i.val, by omega⟩ : Fin 2048) j) := by
  have h := index0 t
  blk_ext [iblk, V, h]
theorem read2 (t : Fin grid0.N) (j : Fin 1024) :
    iblk m c 2 t (ix3 (0 : Fin 1) (0 : Fin 1) j) = m ((c : Thread nD τ).loc main_arg1)
      (ix3 (⟨t.val / 4, by have := t.isLt; change t.val < 32 at this; omega⟩ : Fin 8) (0 : Fin 1) j) := by
  have h := index2 t
  blk_ext [iblk, V, h]
theorem read3 (t : Fin grid0.N) (j : Fin 1024) :
    iblk m c 3 t (ix3 (0 : Fin 1) (0 : Fin 1) j) = m ((c : Thread nD τ).loc main_arg2)
      (ix3 (⟨t.val / 4, by have := t.isLt; change t.val < 32 at this; omega⟩ : Fin 8) (0 : Fin 1) j) := by
  have h := index3 t
  blk_ext [iblk, V, h]
theorem read1 (t : Fin grid0.N) (j : Fin 1024) :
    iblk m c 1 t (ix2 (0 : Fin 1) j) = m ((c : Thread nD τ).loc main_arg3) (ix1 j) := by
  have h := index1 t
  have e : (((win0 1).blk t).view.emb (ix2 (0 : Fin 1) j) : S1x1024.Idx) = ix2 (0 : Fin 1) j := by blk_ext [h]
  blk_simp [iblk]
  simp only [V, hostOps0, hostOps0_1, hostOps0_2, List.flatten_cons, List.flatten_nil, List.append_nil, List.cons_append, List.nil_append]
  entry_read
  rw [e]
  pointwise
theorem read4 (t : Fin grid0.N) (i : Fin 1024) (j : Fin 2688) :
    iblk m c 4 t (ix2 i j) = wcol (fun d k => m ((c : Thread nD τ).loc main_arg4) (ix2 d k)) i j := by
  have h := index4 t
  have e : (((win0 4).blk t).view.emb (ix2 i j) : S1024x2688.Idx) = ix2 i j := by blk_ext [h]
  blk_simp [iblk]
  simp only [V, hostOps0, hostOps0_1, hostOps0_2, List.flatten_cons, List.flatten_nil, List.append_nil, List.cons_append, List.nil_append]
  entry_read
  rw [e]
  pointwise
  by_cases h0 : j.val < 768
  · rw [dif_pos (by omega), dif_pos h0]
    exact (wcol_lo (fun d k => m ((c : Thread nD τ).loc main_arg4) (ix2 d k)) i j ⟨j.val, by omega⟩ h0 rfl).symm
  by_cases h1 : j.val < 2560
  · rw [dif_pos h1, dif_neg h0]
    exact (wcol_mid (fun d k => m ((c : Thread nD τ).loc main_arg4) (ix2 d k)) i j ⟨800 + (j.val - 768), by omega⟩ h0 h1
      (by dsimp only; omega)).symm
  rw [dif_neg h1]
  change pad S1024x128 ![0, 0] ![0, 96] ![0, 0] (extractStridedSlice S1024x32 ![0, 768]
    (m (c, Proc.tc.devRef main_arg4)) slices_S1024x2592_S1024x32_0_768 : FVec Ideal S1024x32 .f32)
    (sitofp .f32 (constantI S_ 32 0#32)) pads_S1024x32_S1024x128_000_0960 h_S_
    (ix2 i (⟨j.val - 2560, by omega⟩ : Fin 128)) = _
  pointwise
  by_cases h2 : j.val < 2592
  · rw [dif_pos (by omega)]
    exact (wcol_hi (fun d k => m ((c : Thread nD τ).loc main_arg4) (ix2 d k)) i j ⟨768 + (j.val - 2560), by omega⟩ h1 h2
      (by dsimp only; omega)).symm
  rw [dif_neg (by omega), wcol_zero _ _ _ h2]
  exact sitofp_zero

/-- Result 1: its block at a grid point, and its array after the run. -/
theorem block5_eq (t : Fin grid0.N) (y : S1x512x256.Idx) :
    out0_5 (iblk m c 0 t) (iblk m c 1 t) (iblk m c 2 t) (iblk m c 3 t) (iblk m c 4 t) y =
      (fun i : S8x2048x256.Idx => entry m c (i 0) (i 1) ⟨0 + (i 2).val, by have := (i 2).isLt; change (i 2).val < 256 at this; omega⟩)
        ((win0_5.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_5.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index5 t
    blk_ext [h]
  rw [block5_apply, e]
  simp only [read0, read1, read2, read3, read4]
  rfl
def result5 (i : S8x2048x256.Idx) : EReal :=
  entry m c (i 0) (i 1) ⟨0 + (i 2).val, by have := (i 2).isLt; change (i 2).val < 256 at this; omega⟩
theorem array5_eq : (dats m 0 c).arrAt 5 cfg0.N = result5 m c := by
  refine (dats m 0 c).arrAt_eq_of_covers 5 _ (by decide +kernel) fun t hf y => ?_
  blk_simp
  rw [after0_5]
  exact block5_eq m c t y

/-- Result 2: its block at a grid point, and its array after the run. -/
theorem block6_eq (t : Fin grid0.N) (y : S1x512x512.Idx) :
    out0_6 (iblk m c 0 t) (iblk m c 1 t) (iblk m c 2 t) (iblk m c 3 t) (iblk m c 4 t) y =
      (fun i : S8x2048x512.Idx => entry m c (i 0) (i 1) ⟨256 + (i 2).val, by have := (i 2).isLt; change (i 2).val < 512 at this; omega⟩)
        ((win0_6.blk t).view.emb y) := by
  obtain ⟨i, j, rfl⟩ : ∃ (i : Fin 512) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have e : (win0_6.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index6 t
    blk_ext [h]
  rw [block6_apply, e]
  simp only [read0, read1, read2, read3, read4]
  rfl
def result6 (i : S8x2048x512.Idx) : EReal :=
  entry m c (i 0) (i 1) ⟨256 + (i 2).val, by have := (i 2).isLt; change (i 2).val < 512 at this; omega⟩
theorem array6_eq : (dats m 0 c).arrAt 6 cfg0.N = result6 m c := by
  refine (dats m 0 c).arrAt_eq_of_covers 6 _ (by decide +kernel) fun t hf y => ?_
  blk_simp
  rw [after0_6]
  exact block6_eq m c t y

/-- Result 3: its block at a grid point, and its array after the run. -/
theorem block7_eq (t : Fin grid0.N) (y : S1x512x256.Idx) :
    out0_7 (iblk m c 0 t) (iblk m c 1 t) (iblk m c 2 t) (iblk m c 3 t) (iblk m c 4 t) y =
      (fun i : S8x2048x256.Idx => entry m c (i 0) (i 1) ⟨768 + (i 2).val, by have := (i 2).isLt; change (i 2).val < 256 at this; omega⟩)
        ((win0_7.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_7.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index7 t
    blk_ext [h]
  rw [block7_apply, e]
  simp only [read0, read1, read2, read3, read4]
  rfl
def result7 (i : S8x2048x256.Idx) : EReal :=
  entry m c (i 0) (i 1) ⟨768 + (i 2).val, by have := (i 2).isLt; change (i 2).val < 256 at this; omega⟩
theorem array7_eq : (dats m 0 c).arrAt 7 cfg0.N = result7 m c := by
  refine (dats m 0 c).arrAt_eq_of_covers 7 _ (by decide +kernel) fun t hf y => ?_
  blk_simp
  rw [after0_7]
  exact block7_eq m c t y

/-- Result 4: its block at a grid point, and its array after the run. -/
theorem block8_eq (t : Fin grid0.N) (y : S1x512x512.Idx) :
    out0_8 (iblk m c 0 t) (iblk m c 1 t) (iblk m c 2 t) (iblk m c 3 t) (iblk m c 4 t) y =
      (fun i : S8x2048x512.Idx => entry m c (i 0) (i 1) ⟨1024 + (i 2).val, by have := (i 2).isLt; change (i 2).val < 512 at this; omega⟩)
        ((win0_8.blk t).view.emb y) := by
  obtain ⟨i, j, rfl⟩ : ∃ (i : Fin 512) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have e : (win0_8.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index8 t
    blk_ext [h]
  rw [block8_apply, e]
  simp only [read0, read1, read2, read3, read4]
  rfl
def result8 (i : S8x2048x512.Idx) : EReal :=
  entry m c (i 0) (i 1) ⟨1024 + (i 2).val, by have := (i 2).isLt; change (i 2).val < 512 at this; omega⟩
theorem array8_eq : (dats m 0 c).arrAt 8 cfg0.N = result8 m c := by
  refine (dats m 0 c).arrAt_eq_of_covers 8 _ (by decide +kernel) fun t hf y => ?_
  blk_simp
  rw [after0_8]
  exact block8_eq m c t y

/-- Result 5: its block at a grid point, and its array after the run. -/
theorem block9_eq (t : Fin grid0.N) (y : S1x512x256.Idx) :
    out0_9 (iblk m c 0 t) (iblk m c 1 t) (iblk m c 2 t) (iblk m c 3 t) (iblk m c 4 t) y =
      (fun i : S8x2048x256.Idx => entry m c (i 0) (i 1) ⟨1536 + (i 2).val, by have := (i 2).isLt; change (i 2).val < 256 at this; omega⟩)
        ((win0_9.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_9.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index9 t
    blk_ext [h]
  rw [block9_apply, e]
  simp only [read0, read1, read2, read3, read4]
  rfl
def result9 (i : S8x2048x256.Idx) : EReal :=
  entry m c (i 0) (i 1) ⟨1536 + (i 2).val, by have := (i 2).isLt; change (i 2).val < 256 at this; omega⟩
theorem array9_eq : (dats m 0 c).arrAt 9 cfg0.N = result9 m c := by
  refine (dats m 0 c).arrAt_eq_of_covers 9 _ (by decide +kernel) fun t hf y => ?_
  blk_simp
  rw [after0_9]
  exact block9_eq m c t y

/-- Result 6: its block at a grid point, and its array after the run. -/
theorem block10_eq (t : Fin grid0.N) (y : S1x512x256.Idx) :
    out0_10 (iblk m c 0 t) (iblk m c 1 t) (iblk m c 2 t) (iblk m c 3 t) (iblk m c 4 t) y =
      (fun i : S8x2048x256.Idx => entry m c (i 0) (i 1) ⟨1792 + (i 2).val, by have := (i 2).isLt; change (i 2).val < 256 at this; omega⟩)
        ((win0_10.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_10.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index10 t
    blk_ext [h]
  rw [block10_apply, e]
  simp only [read0, read1, read2, read3, read4]
  rfl
def result10 (i : S8x2048x256.Idx) : EReal :=
  entry m c (i 0) (i 1) ⟨1792 + (i 2).val, by have := (i 2).isLt; change (i 2).val < 256 at this; omega⟩
theorem array10_eq : (dats m 0 c).arrAt 10 cfg0.N = result10 m c := by
  refine (dats m 0 c).arrAt_eq_of_covers 10 _ (by decide +kernel) fun t hf y => ?_
  blk_simp
  rw [after0_10]
  exact block10_eq m c t y

/-- Result 7: its block at a grid point, and its array after the run. -/
theorem block11_eq (t : Fin grid0.N) (y : S1x512x256.Idx) :
    out0_11 (iblk m c 0 t) (iblk m c 1 t) (iblk m c 2 t) (iblk m c 3 t) (iblk m c 4 t) y =
      (fun i : S8x2048x256.Idx => entry m c (i 0) (i 1) ⟨2048 + (i 2).val, by have := (i 2).isLt; change (i 2).val < 256 at this; omega⟩)
        ((win0_11.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_11.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index11 t
    blk_ext [h]
  rw [block11_apply, e]
  simp only [read0, read1, read2, read3, read4]
  rfl
def result11 (i : S8x2048x256.Idx) : EReal :=
  entry m c (i 0) (i 1) ⟨2048 + (i 2).val, by have := (i 2).isLt; change (i 2).val < 256 at this; omega⟩
theorem array11_eq : (dats m 0 c).arrAt 11 cfg0.N = result11 m c := by
  refine (dats m 0 c).arrAt_eq_of_covers 11 _ (by decide +kernel) fun t hf y => ?_
  blk_simp
  rw [after0_11]
  exact block11_eq m c t y

/-- Result 8: its block at a grid point, and its array after the run. -/
theorem block12_eq (t : Fin grid0.N) (y : S1x512x256.Idx) :
    out0_12 (iblk m c 0 t) (iblk m c 1 t) (iblk m c 2 t) (iblk m c 3 t) (iblk m c 4 t) y =
      (fun i : S8x2048x256.Idx => entry m c (i 0) (i 1) ⟨2304 + (i 2).val, by have := (i 2).isLt; change (i 2).val < 256 at this; omega⟩)
        ((win0_12.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_12.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index12 t
    blk_ext [h]
  rw [block12_apply, e]
  simp only [read0, read1, read2, read3, read4]
  rfl
def result12 (i : S8x2048x256.Idx) : EReal :=
  entry m c (i 0) (i 1) ⟨2304 + (i 2).val, by have := (i 2).isLt; change (i 2).val < 256 at this; omega⟩
theorem array12_eq : (dats m 0 c).arrAt 12 cfg0.N = result12 m c := by
  refine (dats m 0 c).arrAt_eq_of_covers 12 _ (by decide +kernel) fun t hf y => ?_
  blk_simp
  rw [after0_12]
  exact block12_eq m c t y

/-- Result 9: its block at a grid point, and its array after the run. -/
theorem block13_eq (t : Fin grid0.N) (y : S1x512x128.Idx) :
    out0_13 (iblk m c 0 t) (iblk m c 1 t) (iblk m c 2 t) (iblk m c 3 t) (iblk m c 4 t) y =
      (fun i : S8x2048x128.Idx => entry m c (i 0) (i 1) ⟨2560 + (i 2).val, by have := (i 2).isLt; change (i 2).val < 128 at this; omega⟩)
        ((win0_13.blk t).view.emb y) := by
  obtain ⟨i, j, rfl⟩ : ∃ (i : Fin 512) (j : Fin 128), y = ix3 (0 : Fin 1) i j :=
    ⟨y 1, y 2, by funext a; match a with | ⟨0, _⟩ => exact Subsingleton.elim (α := Fin 1) _ _ | ⟨1, _⟩ => rfl | ⟨2, _⟩ => rfl⟩
  have e : (win0_13.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index13 t
    blk_ext [h]
  rw [block13_apply, e]
  simp only [read0, read1, read2, read3, read4]
  rfl
def result13 (i : S8x2048x128.Idx) : EReal :=
  entry m c (i 0) (i 1) ⟨2560 + (i 2).val, by have := (i 2).isLt; change (i 2).val < 128 at this; omega⟩
theorem array13_eq : (dats m 0 c).arrAt 13 cfg0.N = result13 m c := by
  refine (dats m 0 c).arrAt_eq_of_covers 13 _ (by decide +kernel) fun t hf y => ?_
  blk_simp
  rw [after0_13]
  exact block13_eq m c t y

end Kernel

section Reference
open Cert.Reference4Ideal Cert.Reference4Ideal.Gen Cert.Reference4Ideal.Read

variable (x : (⟨S8x2048x1024, .f32⟩ : BufTy).Contents (Elt Ideal)) (sh sc : (⟨S8x1x1024, .f32⟩ : BufTy).Contents (Elt Ideal))
  (g : (⟨S1024, .f32⟩ : BufTy).Contents (Elt Ideal)) (w : (⟨S1024x2592, .f32⟩ : BufTy).Contents (Elt Ideal))

/-- The modulated row. -/
theorem h_apply (b : Fin 8) (t : Fin 2048) (j : Fin 1024) :
    val_main_v18 (F := Ideal) x sh sc g (ix3 b t j) = FfnSpec.modulated (fun d => x (ix3 b t d)) (fun d => g (ix1 d))
      (fun d => sc (ix3 b 0 d)) (fun d => sh (ix3 b 0 d)) j := by
  unfold val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1 val_main_cst_2
  pointwise
  rfl

/-- The product with the whole matrix. -/
theorem p_apply (b : Fin 8) (t : Fin 2048) (j : Fin 2592) :
    val_main_v19 (F := Ideal) x sh sc g w (ix3 b t j) = ∑ d : Fin 1024, FfnSpec.modulated (fun d => x (ix3 b t d)) (fun d => g (ix1 d))
      (fun d => sc (ix3 b 0 d)) (fun d => sh (ix3 b 0 d)) d * w (ix2 d j) := by
  simp only [← h_apply]
  unfold val_main_v19
  generalize val_main_v18 (F := Ideal) x sh sc g = h
  pointwise

/-- Result 1 at an index. -/
theorem out5_apply (i : S8x2048x256.Idx) :
    val_main_v30 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨0 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v30 val_main_v20
  generalize val_main_v19 (F := Ideal) x sh sc g w = p at e ⊢
  pointwise
  rw [e]
  exact Finset.sum_congr rfl fun d _ => congrArg₂ (· * ·) rfl
    (wcol_lo (fun d k => w (ix2 d k)) d _ ⟨j.val, by omega⟩ (by dsimp only; omega) rfl).symm

/-- Result 2 at an index. -/
theorem out6_apply (i : S8x2048x512.Idx) :
    val_main_v31 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨256 + (i 2).val, by have := (i 2).isLt; change (i 2).val < 512 at this; omega⟩ := by
  obtain ⟨b, t, j, rfl⟩ : ∃ (b : Fin 8) (t : Fin 2048) (j : Fin 512), i = ix3 b t j :=
    ⟨i 0, i 1, i 2, by funext a; match a with | ⟨0, _⟩ => rfl | ⟨1, _⟩ => rfl | ⟨2, _⟩ => rfl⟩
  have e := fun j => p_apply x sh sc g w b t j
  unfold val_main_v31 val_main_v21
  generalize val_main_v19 (F := Ideal) x sh sc g w = p at e ⊢
  pointwise
  rw [e]
  exact Finset.sum_congr rfl fun d _ => congrArg₂ (· * ·) rfl
    (wcol_lo (fun d k => w (ix2 d k)) d ⟨256 + j.val, by omega⟩ ⟨256 + j.val, by omega⟩ (by dsimp only; omega) rfl).symm

/-- Result 3 at an index. -/
theorem out7_apply (i : S8x2048x256.Idx) :
    val_main_v32 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨768 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v32 val_main_v23
  generalize val_main_v19 (F := Ideal) x sh sc g w = p at e ⊢
  pointwise
  rw [e]
  exact Finset.sum_congr rfl fun d _ => congrArg₂ (· * ·) rfl
    (wcol_mid (fun d k => w (ix2 d k)) d ⟨768 + j.val, by omega⟩ ⟨800 + j.val, by omega⟩
    (by dsimp only; omega) (by dsimp only; omega) (by dsimp only; omega)).symm

/-- Result 4 at an index. -/
theorem out8_apply (i : S8x2048x512.Idx) :
    val_main_v33 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨1024 + (i 2).val, by have := (i 2).isLt; change (i 2).val < 512 at this; omega⟩ := by
  obtain ⟨b, t, j, rfl⟩ : ∃ (b : Fin 8) (t : Fin 2048) (j : Fin 512), i = ix3 b t j :=
    ⟨i 0, i 1, i 2, by funext a; match a with | ⟨0, _⟩ => rfl | ⟨1, _⟩ => rfl | ⟨2, _⟩ => rfl⟩
  have e := fun j => p_apply x sh sc g w b t j
  unfold val_main_v33 val_main_v24
  generalize val_main_v19 (F := Ideal) x sh sc g w = p at e ⊢
  pointwise
  rw [e]
  exact Finset.sum_congr rfl fun d _ => congrArg₂ (· * ·) rfl
    (wcol_mid (fun d k => w (ix2 d k)) d ⟨1024 + j.val, by omega⟩ ⟨1056 + j.val, by omega⟩
    (by dsimp only; omega) (by dsimp only; omega) (by dsimp only; omega)).symm

/-- Result 5 at an index. -/
theorem out9_apply (i : S8x2048x256.Idx) :
    val_main_v34 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨1536 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v34 val_main_v25
  generalize val_main_v19 (F := Ideal) x sh sc g w = p at e ⊢
  pointwise
  rw [e]
  exact Finset.sum_congr rfl fun d _ => congrArg₂ (· * ·) rfl
    (wcol_mid (fun d k => w (ix2 d k)) d ⟨1536 + j.val, by omega⟩ ⟨1568 + j.val, by omega⟩
    (by dsimp only; omega) (by dsimp only; omega) (by dsimp only; omega)).symm

/-- Result 6 at an index. -/
theorem out10_apply (i : S8x2048x256.Idx) :
    val_main_v35 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨1792 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v35 val_main_v26
  generalize val_main_v19 (F := Ideal) x sh sc g w = p at e ⊢
  pointwise
  rw [e]
  exact Finset.sum_congr rfl fun d _ => congrArg₂ (· * ·) rfl
    (wcol_mid (fun d k => w (ix2 d k)) d ⟨1792 + j.val, by omega⟩ ⟨1824 + j.val, by omega⟩
    (by dsimp only; omega) (by dsimp only; omega) (by dsimp only; omega)).symm

/-- Result 7 at an index. -/
theorem out11_apply (i : S8x2048x256.Idx) :
    val_main_v36 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨2048 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v36 val_main_v27
  generalize val_main_v19 (F := Ideal) x sh sc g w = p at e ⊢
  pointwise
  rw [e]
  exact Finset.sum_congr rfl fun d _ => congrArg₂ (· * ·) rfl
    (wcol_mid (fun d k => w (ix2 d k)) d ⟨2048 + j.val, by omega⟩ ⟨2080 + j.val, by omega⟩
    (by dsimp only; omega) (by dsimp only; omega) (by dsimp only; omega)).symm

/-- Result 8 at an index. -/
theorem out12_apply (i : S8x2048x256.Idx) :
    val_main_v37 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨2304 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v37 val_main_v28
  generalize val_main_v19 (F := Ideal) x sh sc g w = p at e ⊢
  pointwise
  rw [e]
  exact Finset.sum_congr rfl fun d _ => congrArg₂ (· * ·) rfl
    (wcol_mid (fun d k => w (ix2 d k)) d ⟨2304 + j.val, by omega⟩ ⟨2336 + j.val, by omega⟩
    (by dsimp only; omega) (by dsimp only; omega) (by dsimp only; omega)).symm

/-- Result 9 at an index. -/
theorem out13_apply (i : S8x2048x128.Idx) :
    val_main_v38 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨2560 + (i 2).val, by have := (i 2).isLt; change (i 2).val < 128 at this; omega⟩ := by
  obtain ⟨b, t, j, rfl⟩ : ∃ (b : Fin 8) (t : Fin 2048) (j : Fin 128), i = ix3 b t j :=
    ⟨i 0, i 1, i 2, by funext a; match a with | ⟨0, _⟩ => rfl | ⟨1, _⟩ => rfl | ⟨2, _⟩ => rfl⟩
  have e := fun j => p_apply x sh sc g w b t j
  unfold val_main_v38 val_main_v29 val_main_v22 val_main_call0_v0 val_main_c
  generalize val_main_v19 (F := Ideal) x sh sc g w = p at e ⊢
  pointwise
  unfold proj
  by_cases h : j.val < 32
  · rw [dif_pos h, e]
    exact Finset.sum_congr rfl fun d _ => congrArg₂ (· * ·) rfl
      (wcol_hi (fun d k => w (ix2 d k)) d ⟨2560 + j.val, by omega⟩ ⟨768 + j.val, by omega⟩ (by dsimp only; omega)
        (by dsimp only; omega) (by dsimp only; omega)).symm
  · rw [dif_neg h, sitofp_zero]
    symm
    refine Finset.sum_eq_zero fun d _ => ?_
    rw [wcol_zero _ _ _ (by dsimp only; omega), mul_zero]

end Reference

/-- From memories that agree on the arguments the input projection and its reference end with equal results. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => result5 m c, fun c => result6 m c, fun c => result7 m c, fun c => result8 m c, fun c => result9 m c, fun c => result10 m c,
    fun c => result11 m c, fun c => result12 m c, fun c => result13 m c, ?_, ?_⟩
  · refine (θ_run _ _ _).mono (fun r h c => ?_) (Cert.Kernel4Ideal.Value.run_blocks m ρ)
    obtain ⟨h5, h6, h7, h8, h9, h10, h11, h12, h13, hr⟩ := h c
    exact ⟨h5.trans (array5_eq m c), h6.trans (array6_eq m c), h7.trans (array7_eq m c), h8.trans (array8_eq m c),
      h9.trans (array9_eq m c), h10.trans (array10_eq m c), h11.trans (array11_eq m c), h12.trans (array12_eq m c),
      h13.trans (array13_eq m c), hr⟩
  · refine (θ_run _ _ _).mono (fun r h c => ?_) (Cert.Reference4Ideal.Value.run (F := Ideal) m' ρ')
    obtain ⟨h5, h6, h7, h8, h9, h10, h11, h12, h13, hr⟩ := h c
    obtain ⟨a0, a1, a2, a3, a4⟩ := hagree c
    refine ⟨h5.trans ?_, h6.trans ?_, h7.trans ?_, h8.trans ?_, h9.trans ?_, h10.trans ?_, h11.trans ?_, h12.trans ?_,
      h13.trans ?_, hr⟩
    · rw [Reference4Ideal.Read.val_main_v30_eq, a0, a1, a2, a3, a4]; funext i; exact out5_apply _ _ _ _ _ i
    · rw [Reference4Ideal.Read.val_main_v31_eq, a0, a1, a2, a3, a4]; funext i; exact out6_apply _ _ _ _ _ i
    · rw [Reference4Ideal.Read.val_main_v32_eq, a0, a1, a2, a3, a4]; funext i; exact out7_apply _ _ _ _ _ i
    · rw [Reference4Ideal.Read.val_main_v33_eq, a0, a1, a2, a3, a4]; funext i; exact out8_apply _ _ _ _ _ i
    · rw [Reference4Ideal.Read.val_main_v34_eq, a0, a1, a2, a3, a4]; funext i; exact out9_apply _ _ _ _ _ i
    · rw [Reference4Ideal.Read.val_main_v35_eq, a0, a1, a2, a3, a4]; funext i; exact out10_apply _ _ _ _ _ i
    · rw [Reference4Ideal.Read.val_main_v36_eq, a0, a1, a2, a3, a4]; funext i; exact out11_apply _ _ _ _ _ i
    · rw [Reference4Ideal.Read.val_main_v37_eq, a0, a1, a2, a3, a4]; funext i; exact out12_apply _ _ _ _ _ i
    · rw [Reference4Ideal.Read.val_main_v38_eq, a0, a1, a2, a3, a4]; funext i; exact out13_apply _ _ _ _ _ i

end Cert.InProj

end
-- ==== Proof.OutProjPos.lean ====
/- The output projection with its residual, on rows the position embedding is yet to be added to: the kernel and its reference compute the same array. -/
module

public import proofs.«01_k».proof.Proof.OutProj
public import proofs.«01_k».proof.Proof.Gen.Kernel5Ideal.Value
public import proofs.«01_k».proof.Proof.Gen.Reference5Ideal.Read
public import proofs.«01_k».proof.Defs
public import Idealize.ShloMosaic.Lib.Pipeline.ValueKit
public import Idealize.ShloMosaic.Lib.Pointwise

@[expose] public section

set_option maxRecDepth 16384

noncomputable section

namespace Cert.OutProjPos

open Idealize.ShloMosaic Idealize.ShloMosaic.TcCoe Idealize.SL.Sem
open scoped BigOperators

open OutProj (inner out sum_runs)

/-- A row with the position embedding added. -/
def shifted (x p : Fin 1024 → EReal) (d : Fin 1024) : EReal := x d + p d

section Kernel
open Cert.Kernel5Ideal Cert.Kernel5Ideal.Gen

/-- The three products of a block of rows. -/
theorem pay2_apply (v0 : Vec Ideal S1x512x512 .bf16) (v2 : Vec Ideal S512x1024 .bf16) (v5 : Vec Ideal S1x512x256 .bf16)
    (v7 : Vec Ideal S256x1024 .bf16) (v11 : Vec Ideal S1x512x256 .bf16) (v13 : Vec Ideal S256x1024 .bf16) (i : Fin 512) (c : Fin 1024) :
    k0_pay2 v0 v2 v5 v7 v11 v13 (ix2 i c) =
      (∑ k : Fin 512, v0 (ix3 0 i k) * v2 (ix2 k c)) + (∑ k : Fin 256, v5 (ix3 0 i k) * v7 (ix2 k c))
        + ∑ k : Fin 256, v11 (ix3 0 i k) * v13 (ix2 k c) := by
  unfold k0_pay2
  pointwise

/-- The sum of the squares of the product's row. -/
theorem pay6_apply (v0 : Vec Ideal S1x512x512 .bf16) (v2 : Vec Ideal S512x1024 .bf16) (v5 : Vec Ideal S1x512x256 .bf16)
    (v7 : Vec Ideal S256x1024 .bf16) (v11 : Vec Ideal S1x512x256 .bf16) (v13 : Vec Ideal S256x1024 .bf16) (i : Fin 512) :
    k0_pay6 v0 v2 v5 v7 v11 v13 (ix2 i 0) =
      ∑ k : Fin 1024, k0_pay2 v0 v2 v5 v7 v11 v13 (ix2 i k) * k0_pay2 v0 v2 v5 v7 v11 v13 (ix2 i k) := by
  unfold k0_pay6
  generalize k0_pay2 v0 v2 v5 v7 v11 v13 = y
  pointwise

/-- The block's last step. -/
theorem pay1_apply (y x : FVec Ideal S512x1024 .f32) (gate g : FVec Ideal S1x1024 .f32) (ms : FVec Ideal S512x1 .f32) (e : Ideal .f32)
    (i : Fin 512) (c : Fin 1024) :
    k0_pay1 y x gate g ms e (ix3 0 i c) =
      x (ix2 i c) + gate (ix2 0 c) * (y (ix2 i c) * Ideal.rsqrt (Ideal.div (ms (ix2 i 0)) e + FfnSpec.eps) * g (ix2 0 c)) := by
  unfold k0_pay1
  pointwise
  rfl

/-- The rows of the matrix that a product reads. -/
theorem ld1 (w : Vec Ideal S1024x1024 .bf16) (k : Fin 512) (c : Fin 1024) :
    View.ld w r0_1 (ix2 k c) = w (ix2 ⟨k.val, by omega⟩ c) := by
  unfold View.ld; congr 1; funext a; apply Fin.ext
  match a with | ⟨0, _⟩ => simp [ix2] | ⟨1, _⟩ => simp [ix2]
theorem ld3 (w : Vec Ideal S1024x1024 .bf16) (k : Fin 256) (c : Fin 1024) :
    View.ld w r0_3 (ix2 k c) = w (ix2 ⟨512 + k.val, by omega⟩ c) := by
  unfold View.ld; congr 1; funext a; apply Fin.ext
  match a with | ⟨0, _⟩ => simp [ix2] | ⟨1, _⟩ => simp [ix2]
theorem ld4 (w : Vec Ideal S1024x1024 .bf16) (k : Fin 256) (c : Fin 1024) :
    View.ld w r0_4 (ix2 k c) = w (ix2 ⟨768 + k.val, by omega⟩ c) := by
  unfold View.ld; congr 1; funext a; apply Fin.ext
  match a with | ⟨0, _⟩ => simp [ix2] | ⟨1, _⟩ => simp [ix2]

/-- The whole block at an index, from the loads. -/
theorem block_apply (yg : Vec Ideal S1x512x512 .bf16) (yf yc : Vec Ideal S1x512x256 .bf16) (w : Vec Ideal S1024x1024 .bf16)
    (x : Vec Ideal S1x512x1024 .f32) (pos : Vec Ideal S512x1024 .f32) (g : Vec Ideal S1x1024 .f32) (gate : Vec Ideal S1x1x1024 .f32) (i : Fin 512) (c : Fin 1024) :
    out0_8 yg yf yc w x pos g gate (ix3 0 i c) =
      out (fun d => yg (ix3 0 i d)) (fun d => yf (ix3 0 i d)) (fun d => yc (ix3 0 i d)) (fun d => x (ix3 0 i d) + pos (ix2 i d))
        (fun d => gate (ix3 0 0 d)) (fun d => g (ix2 0 d)) (fun k c => w (ix2 k c)) c := by
  unfold out0_8
  have hz3 : (![0, 0, 0] : Fin 3 → ℕ) = fun _ => 0 := by decide
  have hz2 : (![0, 0] : Fin 2 → ℕ) = fun _ => 0 := by decide
  rw [View.canon_unit_zero hz3, View.ld_unit_zero hz3 _ yg, View.ld_unit_zero hz3 _ yf, View.ld_unit_zero hz3 _ yc,
    View.ld_unit_zero hz3 _ x, View.ld_unit_zero hz2 _ pos, View.ld_unit_zero hz2 _ g, View.ld_unit_zero hz3 _ gate]
  rw [pay1_apply, pay6_apply]
  simp only [pay2_apply, ld1, ld3, ld4]
  unfold k0_pay3 k0_pay4 k0_pay5
  pointwise
  rfl

variable (m : (ℓ : Loc nD τ sig) → Buf (Elt Ideal) ℓ) (c : Dev nD)

/-- The result at every index of the array, from the arguments. -/
def result (i : S8x2048x1024.Idx) : EReal :=
  out (fun d => m ((c : Thread nD τ).loc main_arg0) (ix3 (i 0) (i 1) d)) (fun d => m ((c : Thread nD τ).loc main_arg1) (ix3 (i 0) (i 1) d))
    (fun d => m ((c : Thread nD τ).loc main_arg2) (ix3 (i 0) (i 1) d)) (shifted (fun d => m ((c : Thread nD τ).loc main_arg3) (ix3 (i 0) (i 1) d)) (fun d => m ((c : Thread nD τ).loc main_arg7) (ix2 (i 1) d)))
    (fun d => m ((c : Thread nD τ).loc main_arg4) (ix3 (i 0) 0 d)) (fun d => m ((c : Thread nD τ).loc main_arg5) (ix1 d))
    (fun k j => m ((c : Thread nD τ).loc main_arg6) (ix2 k j)) (i 2)

/-- Where the index maps place the blocks of a grid point. -/
theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val / 4 ∧ win0_1.index t 1 = t.val % 4 ∧ win0_1.index t 2 = 0 := by decide +kernel
theorem index2 : ∀ t : Fin grid0.N, win0_2.index t 0 = t.val / 4 ∧ win0_2.index t 1 = t.val % 4 ∧ win0_2.index t 2 = 0 := by decide +kernel
theorem index4 : ∀ t : Fin grid0.N, win0_4.index t 0 = t.val / 4 ∧ win0_4.index t 1 = t.val % 4 ∧ win0_4.index t 2 = 0 := by decide +kernel
theorem index8 : ∀ t : Fin grid0.N, win0_8.index t 0 = t.val / 4 ∧ win0_8.index t 1 = t.val % 4 ∧ win0_8.index t 2 = 0 := by decide +kernel
theorem index7 : ∀ t : Fin grid0.N, win0_7.index t 0 = t.val / 4 ∧ win0_7.index t 1 = 0 ∧ win0_7.index t 2 = 0 := by decide +kernel
theorem index3 : ∀ t : Fin grid0.N, win0_3.index t 0 = 0 ∧ win0_3.index t 1 = 0 := by decide +kernel
theorem index5 : ∀ t : Fin grid0.N, win0_5.index t 0 = t.val % 4 ∧ win0_5.index t 1 = 0 := by decide +kernel
theorem index6 : ∀ t : Fin grid0.N, win0_6.index t 0 = 0 ∧ win0_6.index t 1 = 0 := by decide +kernel

/-- Where an index of the result's block lies in the array. -/
theorem emb8 (t : Fin grid0.N) (i : Fin 512) (j : Fin 1024) :
    (win0_8.blk t).view.emb (ix3 (0 : Fin 1) i j) =
      ix3 (⟨t.val / 4, by have := t.isLt; change t.val < 32 at this; omega⟩ : Fin 8)
        (⟨(t.val % 4) * 512 + i.val, by omega⟩ : Fin 2048) j := by
  have h := index8 t
  blk_ext [h]

/-- The blocks read from the arguments, at an index. -/
theorem read0 (t : Fin grid0.N) (i : Fin 512) (j : Fin 512) :
    iblk m c 0 t (ix3 (0 : Fin 1) i j) = m ((c : Thread nD τ).loc main_arg0)
      (ix3 (⟨t.val / 4, by have := t.isLt; change t.val < 32 at this; omega⟩ : Fin 8)
        (⟨(t.val % 4) * 512 + i.val, by omega⟩ : Fin 2048) j) := by
  have h := index0 t
  blk_ext [iblk, V, h]
theorem read1 (t : Fin grid0.N) (i : Fin 512) (j : Fin 256) :
    iblk m c 1 t (ix3 (0 : Fin 1) i j) = m ((c : Thread nD τ).loc main_arg1)
      (ix3 (⟨t.val / 4, by have := t.isLt; change t.val < 32 at this; omega⟩ : Fin 8)
        (⟨(t.val % 4) * 512 + i.val, by omega⟩ : Fin 2048) j) := by
  have h := index1 t
  blk_ext [iblk, V, h]
theorem read2 (t : Fin grid0.N) (i : Fin 512) (j : Fin 256) :
    iblk m c 2 t (ix3 (0 : Fin 1) i j) = m ((c : Thread nD τ).loc main_arg2)
      (ix3 (⟨t.val / 4, by have := t.isLt; change t.val < 32 at this; omega⟩ : Fin 8)
        (⟨(t.val % 4) * 512 + i.val, by omega⟩ : Fin 2048) j) := by
  have h := index2 t
  blk_ext [iblk, V, h]
theorem read4 (t : Fin grid0.N) (i : Fin 512) (j : Fin 1024) :
    iblk m c 4 t (ix3 (0 : Fin 1) i j) = m ((c : Thread nD τ).loc main_arg3)
      (ix3 (⟨t.val / 4, by have := t.isLt; change t.val < 32 at this; omega⟩ : Fin 8)
        (⟨(t.val % 4) * 512 + i.val, by omega⟩ : Fin 2048) j) := by
  have h := index4 t
  blk_ext [iblk, V, h]
theorem read7 (t : Fin grid0.N) (j : Fin 1024) :
    iblk m c 7 t (ix3 (0 : Fin 1) (0 : Fin 1) j) = m ((c : Thread nD τ).loc main_arg4)
      (ix3 (⟨t.val / 4, by have := t.isLt; change t.val < 32 at this; omega⟩ : Fin 8) (0 : Fin 1) j) := by
  have h := index7 t
  blk_ext [iblk, V, h]
theorem read6 (t : Fin grid0.N) (j : Fin 1024) :
    iblk m c 6 t (ix2 (0 : Fin 1) j) = m ((c : Thread nD τ).loc main_arg5) (ix1 j) := by
  have h := index6 t
  blk_simp [iblk]; entry_read; pointwise
  blk_ext [h]
theorem read3 (t : Fin grid0.N) (i j : Fin 1024) :
    iblk m c 3 t (ix2 i j) = m ((c : Thread nD τ).loc main_arg6) (ix2 i j) := by
  have h := index3 t
  blk_simp [iblk]; entry_read; pointwise
  blk_ext [h]

theorem read5 (t : Fin grid0.N) (i : Fin 512) (j : Fin 1024) :
    iblk m c 5 t (ix2 i j) = m ((c : Thread nD τ).loc main_arg7) (ix2 (⟨(t.val % 4) * 512 + i.val, by omega⟩ : Fin 2048) j) := by
  have h := index5 t
  blk_ext [iblk, V, h]

/-- The block that a grid point writes, at an index. -/
theorem block_eq (t : Fin grid0.N) (y : S1x512x1024.Idx) :
    out0_8 (iblk m c 0 t) (iblk m c 1 t) (iblk m c 2 t) (iblk m c 3 t) (iblk m c 4 t) (iblk m c 5 t) (iblk m c 6 t) (iblk m c 7 t) y
      = result m c ((win0_8.blk t).view.emb y) := by
  obtain ⟨i, j, rfl⟩ : ∃ (i : Fin 512) (j : Fin 1024), y = ix3 (0 : Fin 1) i j :=
    ⟨y 1, y 2, by funext a; match a with | ⟨0, _⟩ => exact Subsingleton.elim (α := Fin 1) _ _ | ⟨1, _⟩ => rfl | ⟨2, _⟩ => rfl⟩
  rw [block_apply, emb8]
  simp only [read0, read1, read2, read3, read4, read5, read6, read7]
  rfl

/-- The result array after the run. -/
theorem array_eq : (dats m 0 c).arrAt 8 cfg0.N = result m c := by
  refine (dats m 0 c).arrAt_eq_of_covers 8 _ (by decide +kernel) fun t hf y => ?_
  blk_simp
  rw [after0_8]
  exact block_eq m c t y

end Kernel

section Reference
open Cert.Reference5Ideal Cert.Reference5Ideal.Gen Cert.Reference5Ideal.Read

variable (yg : (⟨S8x2048x512, .bf16⟩ : BufTy).Contents (Elt Ideal)) (yf yc : (⟨S8x2048x256, .bf16⟩ : BufTy).Contents (Elt Ideal))
  (x : (⟨S8x2048x1024, .f32⟩ : BufTy).Contents (Elt Ideal)) (gate : (⟨S8x1x1024, .f32⟩ : BufTy).Contents (Elt Ideal))
  (g : (⟨S1024, .f32⟩ : BufTy).Contents (Elt Ideal)) (w : (⟨S1024x1024, .f32⟩ : BufTy).Contents (Elt Ideal))
  (pos : (⟨S2048x1024, .f32⟩ : BufTy).Contents (Elt Ideal))

/-- The concatenated row, in its three ranges. -/
theorem cat0 (b : Fin 8) (t : Fin 2048) (k : Fin 512) :
    val_main_v4 (F := Ideal) yg yf yc (ix3 b t ⟨k.val, by omega⟩) = yg (ix3 b t k) := by
  unfold val_main_v4 val_main_v3
  pointwise
theorem cat1 (b : Fin 8) (t : Fin 2048) (k : Fin 256) :
    val_main_v4 (F := Ideal) yg yf yc (ix3 b t ⟨512 + k.val, by omega⟩) = yf (ix3 b t k) := by
  unfold val_main_v4 val_main_v3
  pointwise
theorem cat2 (b : Fin 8) (t : Fin 2048) (k : Fin 256) :
    val_main_v4 (F := Ideal) yg yf yc (ix3 b t ⟨768 + k.val, by omega⟩) = yc (ix3 b t k) := by
  unfold val_main_v4 val_main_v3
  pointwise
  rw [dif_neg (by omega), dif_neg (by omega)]
  congr 2; apply Fin.ext; change 768 + k.val - 512 - 256 = k.val; omega

/-- The product before its normalisation. -/
theorem inner_apply (b : Fin 8) (t : Fin 2048) (c : Fin 1024) :
    val_main_v5 (F := Ideal) yg yf yc w (ix3 b t c) =
      inner (fun d => yg (ix3 b t d)) (fun d => yf (ix3 b t d)) (fun d => yc (ix3 b t d)) (fun k c => w (ix2 k c)) c := by
  have e : val_main_v5 (F := Ideal) yg yf yc w (ix3 b t c) =
      ∑ k : Fin 1024, val_main_v4 (F := Ideal) yg yf yc (ix3 b t k) * w (ix2 k c) := by
    unfold val_main_v5
    generalize val_main_v4 (F := Ideal) yg yf yc = h
    pointwise
  rw [e, sum_runs]
  simp only [cat0, cat1, cat2]
  rfl

/-- The reference's result at an index. -/
theorem out_apply (b : Fin 8) (t : Fin 2048) (c : Fin 1024) :
    val_main_v21 (F := Ideal) yg yf yc x gate g w pos (ix3 b t c) =
      out (fun d => yg (ix3 b t d)) (fun d => yf (ix3 b t d)) (fun d => yc (ix3 b t d)) (fun d => x (ix3 b t d) + pos (ix2 t d))
        (fun d => gate (ix3 b 0 d)) (fun d => g (ix1 d)) (fun k c => w (ix2 k c)) c := by
  unfold out
  have e := fun c => inner_apply yg yf yc w b t c
  unfold val_main_v21 val_main_v20 val_main_v19 val_main_v18 val_main_v17 val_main_v16 val_main_v15 val_main_v14 val_main_v13
    val_main_v12 val_main_v11 val_main_v10 val_main_v9 val_main_v8 val_main_v7 val_main_v6 val_main_v2 val_main_v1 val_main_v0 val_main_cst val_main_cst_0 val_main_cst_1
  generalize val_main_v5 (F := Ideal) yg yf yc w = y at e ⊢
  pointwise
  simp only [e]
  rfl

/-- The reference's result array, from the arguments of a run. -/
theorem reference_eq (i : S8x2048x1024.Idx) :
    val_main_v21 (F := Ideal) yg yf yc x gate g w pos i =
      out (fun d => yg (ix3 (i 0) (i 1) d)) (fun d => yf (ix3 (i 0) (i 1) d)) (fun d => yc (ix3 (i 0) (i 1) d))
        (fun d => x (ix3 (i 0) (i 1) d) + pos (ix2 (i 1) d)) (fun d => gate (ix3 (i 0) 0 d)) (fun d => g (ix1 d)) (fun k c => w (ix2 k c)) (i 2) := by
  have hi : i = ix3 (i 0) (i 1) (i 2) := by
    funext a; match a with | ⟨0, _⟩ => rfl | ⟨1, _⟩ => rfl | ⟨2, _⟩ => rfl
  exact (congrArg _ hi).trans (out_apply yg yf yc x gate g w pos (i 0) (i 1) (i 2))

end Reference

/-- From memories that agree on the arguments the output projection and its reference end with equal results. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => result m c, ?_, ?_⟩
  · refine (θ_run _ _ _).mono (fun r h c => ⟨(h c).1.trans (array_eq m c), (h c).2⟩) (Cert.Kernel5Ideal.Value.run_blocks m ρ)
  · refine (θ_run _ _ _).mono (fun r h c => ⟨(h c).1.trans ?_, (h c).2⟩) (Cert.Reference5Ideal.Value.run (F := Ideal) m' ρ')
    rw [Reference5Ideal.Read.val_main_v21_eq]
    obtain ⟨a0, a1, a2, a3, a4, a5, a6, a7⟩ := hagree c
    rw [a0, a1, a2, a3, a4, a5, a6, a7]
    funext i
    exact reference_eq _ _ _ _ _ _ _ _ i

end Cert.OutProjPos

end
-- ==== Proof.InProjPos.lean ====
/- The input projection of rows the position embedding is yet to be added to: the kernel and its reference compute the same nine arrays. -/
module

public import proofs.«01_k».proof.Proof.InProj
public import proofs.«01_k».proof.Proof.Gen.Kernel6Ideal.Value
public import proofs.«01_k».proof.Proof.Gen.Reference6Ideal.Read
public import proofs.«01_k».proof.Defs
public import Idealize.ShloMosaic.Lib.Pipeline.ValueKit
public import Idealize.ShloMosaic.Lib.Pointwise

@[expose] public section

set_option maxRecDepth 16384

noncomputable section

namespace Cert.InProjPos

open Idealize.ShloMosaic Idealize.ShloMosaic.TcCoe Idealize.SL.Sem
open scoped BigOperators

open InProj (wcol wcol_lo wcol_mid wcol_hi wcol_zero proj sitofp_zero)

/-- A row with the position embedding added. -/
def shifted (x p : Fin 1024 → EReal) (d : Fin 1024) : EReal := x d + p d

section Kernel
open Cert.Kernel6Ideal Cert.Kernel6Ideal.Gen

/-- The modulated row the products read. -/
theorem pay5_apply (v0 : Vec Ideal S1x512x1024 .f32) (p : Vec Ideal S512x1024 .f32) (v2 : Vec Ideal S1x1024 .f32) (v16 v22 : Vec Ideal S1x1x1024 .f32)
    (i : Fin 512) (j : Fin 1024) :
    k0_pay5 v0 p v2 v16 v22 (ix2 i j) =
      FfnSpec.modulated (fun d => v0 (ix3 0 i d) + p (ix2 i d)) (fun d => v2 (ix2 0 d)) (fun d => v16 (ix3 0 0 d)) (fun d => v22 (ix3 0 0 d)) j := by
  unfold k0_pay5
  pointwise
  rfl

/-- The products, one for each result. -/
theorem prod5_apply (v0 : Vec Ideal S1x512x1024 .f32) (p : Vec Ideal S512x1024 .f32) (v2 : Vec Ideal S1x1024 .f32) (v16 v22 : Vec Ideal S1x1x1024 .f32)
    (w : Vec Ideal S1024x256 .bf16) (i : Fin 512) (j : Fin 256) :
    k0_pay7 (k0_pay6 v0 p v2 v16 v22 w) (ix3 0 i j) = ∑ d : Fin 1024, k0_pay5 v0 p v2 v16 v22 (ix2 i d) * w (ix2 d j) := by
  unfold k0_pay7 k0_pay6
  generalize k0_pay5 v0 p v2 v16 v22 = h
  pointwise
theorem prod6_apply (h : FVec Ideal S512x1024 .bf16) (w : Vec Ideal S1024x512 .bf16) (i : Fin 512) (j : Fin 512) :
    k0_pay8 h w (ix3 0 i j) = ∑ d : Fin 1024, h (ix2 i d) * w (ix2 d j) := by
  unfold k0_pay8
  pointwise
theorem prod7_apply (h : FVec Ideal S512x1024 .bf16) (w : Vec Ideal S1024x256 .bf16) (i : Fin 512) (j : Fin 256) :
    k0_pay9 h w (ix3 0 i j) = ∑ d : Fin 1024, h (ix2 i d) * w (ix2 d j) := by
  unfold k0_pay9
  pointwise
theorem prod8_apply (h : FVec Ideal S512x1024 .bf16) (w : Vec Ideal S1024x512 .bf16) (i : Fin 512) (j : Fin 512) :
    k0_pay10 h w (ix3 0 i j) = ∑ d : Fin 1024, h (ix2 i d) * w (ix2 d j) := by
  unfold k0_pay10
  pointwise
theorem prod9_apply (h : FVec Ideal S512x1024 .bf16) (w : Vec Ideal S1024x256 .bf16) (i : Fin 512) (j : Fin 256) :
    k0_pay11 h w (ix3 0 i j) = ∑ d : Fin 1024, h (ix2 i d) * w (ix2 d j) := by
  unfold k0_pay11
  pointwise
theorem prod10_apply (h : FVec Ideal S512x1024 .bf16) (w : Vec Ideal S1024x256 .bf16) (i : Fin 512) (j : Fin 256) :
    k0_pay1 h w (ix3 0 i j) = ∑ d : Fin 1024, h (ix2 i d) * w (ix2 d j) := by
  unfold k0_pay1
  pointwise
theorem prod11_apply (h : FVec Ideal S512x1024 .bf16) (w : Vec Ideal S1024x256 .bf16) (i : Fin 512) (j : Fin 256) :
    k0_pay2 h w (ix3 0 i j) = ∑ d : Fin 1024, h (ix2 i d) * w (ix2 d j) := by
  unfold k0_pay2
  pointwise
theorem prod12_apply (h : FVec Ideal S512x1024 .bf16) (w : Vec Ideal S1024x256 .bf16) (i : Fin 512) (j : Fin 256) :
    k0_pay3 h w (ix3 0 i j) = ∑ d : Fin 1024, h (ix2 i d) * w (ix2 d j) := by
  unfold k0_pay3
  pointwise
theorem prod13_apply (h : FVec Ideal S512x1024 .bf16) (w : Vec Ideal S1024x128 .bf16) (i : Fin 512) (j : Fin 128) :
    k0_pay4 h w (ix3 0 i j) = ∑ d : Fin 1024, h (ix2 i d) * w (ix2 d j) := by
  unfold k0_pay4
  pointwise

/-- The columns of the matrix that a product reads. -/
theorem ld5 (w : Vec Ideal S1024x2688 .bf16) (d : Fin 1024) (j : Fin 256) :
    View.ld w r0_4 (ix2 d j) = w (ix2 d ⟨0 + j.val, by omega⟩) := by
  unfold View.ld; congr 1; funext a; apply Fin.ext
  match a with | ⟨0, _⟩ => simp [ix2] | ⟨1, _⟩ => simp [ix2]
theorem ld6 (w : Vec Ideal S1024x2688 .bf16) (d : Fin 1024) (j : Fin 512) :
    View.ld w r0_6 (ix2 d j) = w (ix2 d ⟨256 + j.val, by omega⟩) := by
  unfold View.ld; congr 1; funext a; apply Fin.ext
  match a with | ⟨0, _⟩ => simp [ix2] | ⟨1, _⟩ => simp [ix2]
theorem ld7 (w : Vec Ideal S1024x2688 .bf16) (d : Fin 1024) (j : Fin 256) :
    View.ld w r0_8 (ix2 d j) = w (ix2 d ⟨768 + j.val, by omega⟩) := by
  unfold View.ld; congr 1; funext a; apply Fin.ext
  match a with | ⟨0, _⟩ => simp [ix2] | ⟨1, _⟩ => simp [ix2]
theorem ld8 (w : Vec Ideal S1024x2688 .bf16) (d : Fin 1024) (j : Fin 512) :
    View.ld w r0_9 (ix2 d j) = w (ix2 d ⟨1024 + j.val, by omega⟩) := by
  unfold View.ld; congr 1; funext a; apply Fin.ext
  match a with | ⟨0, _⟩ => simp [ix2] | ⟨1, _⟩ => simp [ix2]
theorem ld9 (w : Vec Ideal S1024x2688 .bf16) (d : Fin 1024) (j : Fin 256) :
    View.ld w r0_10 (ix2 d j) = w (ix2 d ⟨1536 + j.val, by omega⟩) := by
  unfold View.ld; congr 1; funext a; apply Fin.ext
  match a with | ⟨0, _⟩ => simp [ix2] | ⟨1, _⟩ => simp [ix2]
theorem ld10 (w : Vec Ideal S1024x2688 .bf16) (d : Fin 1024) (j : Fin 256) :
    View.ld w r0_11 (ix2 d j) = w (ix2 d ⟨1792 + j.val, by omega⟩) := by
  unfold View.ld; congr 1; funext a; apply Fin.ext
  match a with | ⟨0, _⟩ => simp [ix2] | ⟨1, _⟩ => simp [ix2]
theorem ld11 (w : Vec Ideal S1024x2688 .bf16) (d : Fin 1024) (j : Fin 256) :
    View.ld w r0_12 (ix2 d j) = w (ix2 d ⟨2048 + j.val, by omega⟩) := by
  unfold View.ld; congr 1; funext a; apply Fin.ext
  match a with | ⟨0, _⟩ => simp [ix2] | ⟨1, _⟩ => simp [ix2]
theorem ld12 (w : Vec Ideal S1024x2688 .bf16) (d : Fin 1024) (j : Fin 256) :
    View.ld w r0_13 (ix2 d j) = w (ix2 d ⟨2304 + j.val, by omega⟩) := by
  unfold View.ld; congr 1; funext a; apply Fin.ext
  match a with | ⟨0, _⟩ => simp [ix2] | ⟨1, _⟩ => simp [ix2]
theorem ld13 (w : Vec Ideal S1024x2688 .bf16) (d : Fin 1024) (j : Fin 128) :
    View.ld w r0_14 (ix2 d j) = w (ix2 d ⟨2560 + j.val, by omega⟩) := by
  unfold View.ld; congr 1; funext a; apply Fin.ext
  match a with | ⟨0, _⟩ => simp [ix2] | ⟨1, _⟩ => simp [ix2]

/-- The blocks at an index, from the loads. -/
theorem block5_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 256) :
    out0_6 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨0 + j.val, by omega⟩) := by
  unfold out0_6
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod5_apply]
  simp only [pay5_apply]
  exact Finset.sum_congr rfl fun d _ => congrArg₂ (· * ·) rfl (ld5 w d j)
theorem block6_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 512) :
    out0_7 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨256 + j.val, by omega⟩) := by
  unfold out0_7 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod6_apply]
  simp only [pay5_apply]
  exact Finset.sum_congr rfl fun d _ => congrArg₂ (· * ·) rfl (ld6 w d j)
theorem block7_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 256) :
    out0_8 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨768 + j.val, by omega⟩) := by
  unfold out0_8 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod7_apply]
  simp only [pay5_apply]
  exact Finset.sum_congr rfl fun d _ => congrArg₂ (· * ·) rfl (ld7 w d j)
theorem block8_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 512) :
    out0_9 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨1024 + j.val, by omega⟩) := by
  unfold out0_9 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod8_apply]
  simp only [pay5_apply]
  exact Finset.sum_congr rfl fun d _ => congrArg₂ (· * ·) rfl (ld8 w d j)
theorem block9_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 256) :
    out0_10 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨1536 + j.val, by omega⟩) := by
  unfold out0_10 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod9_apply]
  simp only [pay5_apply]
  exact Finset.sum_congr rfl fun d _ => congrArg₂ (· * ·) rfl (ld9 w d j)
theorem block10_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 256) :
    out0_11 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨1792 + j.val, by omega⟩) := by
  unfold out0_11 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod10_apply]
  simp only [pay5_apply]
  exact Finset.sum_congr rfl fun d _ => congrArg₂ (· * ·) rfl (ld10 w d j)
theorem block11_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 256) :
    out0_12 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨2048 + j.val, by omega⟩) := by
  unfold out0_12 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod11_apply]
  simp only [pay5_apply]
  exact Finset.sum_congr rfl fun d _ => congrArg₂ (· * ·) rfl (ld11 w d j)
theorem block12_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 256) :
    out0_13 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨2304 + j.val, by omega⟩) := by
  unfold out0_13 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod12_apply]
  simp only [pay5_apply]
  exact Finset.sum_congr rfl fun d _ => congrArg₂ (· * ·) rfl (ld12 w d j)
theorem block13_apply (x : Vec Ideal S1x512x1024 .f32) (p : Vec Ideal S512x1024 .f32) (g : Vec Ideal S1x1024 .f32) (sh sc : Vec Ideal S1x1x1024 .f32)
    (w : Vec Ideal S1024x2688 .bf16) (i : Fin 512) (j : Fin 128) :
    out0_14 x p g sh sc w (ix3 0 i j) = ∑ d : Fin 1024,
      FfnSpec.modulated (fun d => x (ix3 0 i d) + p (ix2 i d)) (fun d => g (ix2 0 d)) (fun d => sc (ix3 0 0 d)) (fun d => sh (ix3 0 0 d)) d
        * w (ix2 d ⟨2560 + j.val, by omega⟩) := by
  unfold out0_14 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ p, View.ld_unit_zero hz2 _ g, View.ld_unit_zero hz3 _ sh,
    View.ld_unit_zero hz3 _ sc, prod13_apply]
  simp only [pay5_apply]
  exact Finset.sum_congr rfl fun d _ => congrArg₂ (· * ·) rfl (ld13 w d j)

variable (m : (ℓ : Loc nD τ sig) → Buf (Elt Ideal) ℓ) (c : Dev nD)

/-- The projection's entries, from the arguments. -/
def entry (b : Fin 8) (t : Fin 2048) (j : Fin 2688) : EReal :=
  proj (shifted (fun d => m ((c : Thread nD τ).loc main_arg0) (ix3 b t d)) (fun d => m ((c : Thread nD τ).loc main_arg5) (ix2 t d))) (fun d => m ((c : Thread nD τ).loc main_arg3) (ix1 d))
    (fun d => m ((c : Thread nD τ).loc main_arg2) (ix3 b 0 d)) (fun d => m ((c : Thread nD τ).loc main_arg1) (ix3 b 0 d))
    (fun d k => m ((c : Thread nD τ).loc main_arg4) (ix2 d k)) j

/-- Where the index maps place the blocks of a grid point. -/
theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val % 4 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val / 4 ∧ win0_3.index t 1 = 0 ∧ win0_3.index t 2 = 0 := by decide +kernel
theorem index4 : ∀ t : Fin grid0.N, win0_4.index t 0 = t.val / 4 ∧ win0_4.index t 1 = 0 ∧ win0_4.index t 2 = 0 := by decide +kernel
theorem index5 : ∀ t : Fin grid0.N, win0_5.index t 0 = 0 ∧ win0_5.index t 1 = 0 := by decide +kernel
theorem index6 : ∀ t : Fin grid0.N, win0_6.index t 0 = t.val / 4 ∧ win0_6.index t 1 = t.val % 4 ∧ win0_6.index t 2 = 0 := by decide +kernel
theorem index7 : ∀ t : Fin grid0.N, win0_7.index t 0 = t.val / 4 ∧ win0_7.index t 1 = t.val % 4 ∧ win0_7.index t 2 = 0 := by decide +kernel
theorem index8 : ∀ t : Fin grid0.N, win0_8.index t 0 = t.val / 4 ∧ win0_8.index t 1 = t.val % 4 ∧ win0_8.index t 2 = 0 := by decide +kernel
theorem index9 : ∀ t : Fin grid0.N, win0_9.index t 0 = t.val / 4 ∧ win0_9.index t 1 = t.val % 4 ∧ win0_9.index t 2 = 0 := by decide +kernel
theorem index10 : ∀ t : Fin grid0.N, win0_10.index t 0 = t.val / 4 ∧ win0_10.index t 1 = t.val % 4 ∧ win0_10.index t 2 = 0 := by decide +kernel
theorem index11 : ∀ t : Fin grid0.N, win0_11.index t 0 = t.val / 4 ∧ win0_11.index t 1 = t.val % 4 ∧ win0_11.index t 2 = 0 := by decide +kernel
theorem index12 : ∀ t : Fin grid0.N, win0_12.index t 0 = t.val / 4 ∧ win0_12.index t 1 = t.val % 4 ∧ win0_12.index t 2 = 0 := by decide +kernel
theorem index13 : ∀ t : Fin grid0.N, win0_13.index t 0 = t.val / 4 ∧ win0_13.index t 1 = t.val % 4 ∧ win0_13.index t 2 = 0 := by decide +kernel
theorem index14 : ∀ t : Fin grid0.N, win0_14.index t 0 = t.val / 4 ∧ win0_14.index t 1 = t.val % 4 ∧ win0_14.index t 2 = 0 := by decide +kernel

/-- The blocks read from the arguments, at an index. -/
theorem read0 (t : Fin grid0.N) (i : Fin 512) (j : Fin 1024) :
    iblk m c 0 t (ix3 (0 : Fin 1) i j) = m ((c : Thread nD τ).loc main_arg0)
      (ix3 (⟨t.val / 4, by have := t.isLt; change t.val < 32 at this; omega⟩ : Fin 8)
        (⟨(t.val % 4) * 512 + i.val, by omega⟩ : Fin 2048) j) := by
  have h := index0 t
  blk_ext [iblk, V, h]
theorem read3 (t : Fin grid0.N) (j : Fin 1024) :
    iblk m c 3 t (ix3 (0 : Fin 1) (0 : Fin 1) j) = m ((c : Thread nD τ).loc main_arg1)
      (ix3 (⟨t.val / 4, by have := t.isLt; change t.val < 32 at this; omega⟩ : Fin 8) (0 : Fin 1) j) := by
  have h := index3 t
  blk_ext [iblk, V, h]
theorem read4 (t : Fin grid0.N) (j : Fin 1024) :
    iblk m c 4 t (ix3 (0 : Fin 1) (0 : Fin 1) j) = m ((c : Thread nD τ).loc main_arg2)
      (ix3 (⟨t.val / 4, by have := t.isLt; change t.val < 32 at this; omega⟩ : Fin 8) (0 : Fin 1) j) := by
  have h := index4 t
  blk_ext [iblk, V, h]
theorem read2 (t : Fin grid0.N) (j : Fin 1024) :
    iblk m c 2 t (ix2 (0 : Fin 1) j) = m ((c : Thread nD τ).loc main_arg3) (ix1 j) := by
  have h := index2 t
  have e : (((win0 2).blk t).view.emb (ix2 (0 : Fin 1) j) : S1x1024.Idx) = ix2 (0 : Fin 1) j := by blk_ext [h]
  blk_simp [iblk]
  simp only [V, hostOps0, hostOps0_1, hostOps0_2, List.flatten_cons, List.flatten_nil, List.append_nil, List.cons_append, List.nil_append]
  entry_read
  rw [e]
  pointwise
theorem read5 (t : Fin grid0.N) (i : Fin 1024) (j : Fin 2688) :
    iblk m c 5 t (ix2 i j) = wcol (fun d k => m ((c : Thread nD τ).loc main_arg4) (ix2 d k)) i j := by
  have h := index5 t
  have e : (((win0 5).blk t).view.emb (ix2 i j) : S1024x2688.Idx) = ix2 i j := by blk_ext [h]
  blk_simp [iblk]
  simp only [V, hostOps0, hostOps0_1, hostOps0_2, List.flatten_cons, List.flatten_nil, List.append_nil, List.cons_append, List.nil_append]
  entry_read
  rw [e]
  pointwise
  by_cases h0 : j.val < 768
  · rw [dif_pos (by omega), dif_pos h0]
    exact (wcol_lo (fun d k => m ((c : Thread nD τ).loc main_arg4) (ix2 d k)) i j ⟨j.val, by omega⟩ h0 rfl).symm
  by_cases h1 : j.val < 2560
  · rw [dif_pos h1, dif_neg h0]
    exact (wcol_mid (fun d k => m ((c : Thread nD τ).loc main_arg4) (ix2 d k)) i j ⟨800 + (j.val - 768), by omega⟩ h0 h1
      (by dsimp only; omega)).symm
  rw [dif_neg h1]
  change pad S1024x128 ![0, 0] ![0, 96] ![0, 0] (extractStridedSlice S1024x32 ![0, 768]
    (m (c, Proc.tc.devRef main_arg4)) slices_S1024x2592_S1024x32_0_768 : FVec Ideal S1024x32 .f32)
    (sitofp .f32 (constantI S_ 32 0#32)) pads_S1024x32_S1024x128_000_0960 h_S_
    (ix2 i (⟨j.val - 2560, by omega⟩ : Fin 128)) = _
  pointwise
  by_cases h2 : j.val < 2592
  · rw [dif_pos (by omega)]
    exact (wcol_hi (fun d k => m ((c : Thread nD τ).loc main_arg4) (ix2 d k)) i j ⟨768 + (j.val - 2560), by omega⟩ h1 h2
      (by dsimp only; omega)).symm
  rw [dif_neg (by omega), wcol_zero _ _ _ h2]
  exact sitofp_zero

theorem read1 (t : Fin grid0.N) (i : Fin 512) (j : Fin 1024) :
    iblk m c 1 t (ix2 i j) = m ((c : Thread nD τ).loc main_arg5) (ix2 (⟨(t.val % 4) * 512 + i.val, by omega⟩ : Fin 2048) j) := by
  have h := index1 t
  blk_ext [iblk, V, h]

/-- Result 1: its block at a grid point, and its array after the run. -/
theorem block5_eq (t : Fin grid0.N) (y : S1x512x256.Idx) :
    out0_6 (iblk m c 0 t) (iblk m c 1 t) (iblk m c 2 t) (iblk m c 3 t) (iblk m c 4 t) (iblk m c 5 t) y =
      (fun i : S8x2048x256.Idx => entry m c (i 0) (i 1) ⟨0 + (i 2).val, by have := (i 2).isLt; change (i 2).val < 256 at this; omega⟩)
        ((win0_6.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_6.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index6 t
    blk_ext [h]
  rw [block5_apply, e]
  simp only [read0, read1, read2, read3, read4, read5]
  rfl
def result5 (i : S8x2048x256.Idx) : EReal :=
  entry m c (i 0) (i 1) ⟨0 + (i 2).val, by have := (i 2).isLt; change (i 2).val < 256 at this; omega⟩
theorem array5_eq : (dats m 0 c).arrAt 6 cfg0.N = result5 m c := by
  refine (dats m 0 c).arrAt_eq_of_covers 6 _ (by decide +kernel) fun t hf y => ?_
  blk_simp
  rw [after0_6]
  exact block5_eq m c t y

/-- Result 2: its block at a grid point, and its array after the run. -/
theorem block6_eq (t : Fin grid0.N) (y : S1x512x512.Idx) :
    out0_7 (iblk m c 0 t) (iblk m c 1 t) (iblk m c 2 t) (iblk m c 3 t) (iblk m c 4 t) (iblk m c 5 t) y =
      (fun i : S8x2048x512.Idx => entry m c (i 0) (i 1) ⟨256 + (i 2).val, by have := (i 2).isLt; change (i 2).val < 512 at this; omega⟩)
        ((win0_7.blk t).view.emb y) := by
  obtain ⟨i, j, rfl⟩ : ∃ (i : Fin 512) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have e : (win0_7.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index7 t
    blk_ext [h]
  rw [block6_apply, e]
  simp only [read0, read1, read2, read3, read4, read5]
  rfl
def result6 (i : S8x2048x512.Idx) : EReal :=
  entry m c (i 0) (i 1) ⟨256 + (i 2).val, by have := (i 2).isLt; change (i 2).val < 512 at this; omega⟩
theorem array6_eq : (dats m 0 c).arrAt 7 cfg0.N = result6 m c := by
  refine (dats m 0 c).arrAt_eq_of_covers 7 _ (by decide +kernel) fun t hf y => ?_
  blk_simp
  rw [after0_7]
  exact block6_eq m c t y

/-- Result 3: its block at a grid point, and its array after the run. -/
theorem block7_eq (t : Fin grid0.N) (y : S1x512x256.Idx) :
    out0_8 (iblk m c 0 t) (iblk m c 1 t) (iblk m c 2 t) (iblk m c 3 t) (iblk m c 4 t) (iblk m c 5 t) y =
      (fun i : S8x2048x256.Idx => entry m c (i 0) (i 1) ⟨768 + (i 2).val, by have := (i 2).isLt; change (i 2).val < 256 at this; omega⟩)
        ((win0_8.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_8.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index8 t
    blk_ext [h]
  rw [block7_apply, e]
  simp only [read0, read1, read2, read3, read4, read5]
  rfl
def result7 (i : S8x2048x256.Idx) : EReal :=
  entry m c (i 0) (i 1) ⟨768 + (i 2).val, by have := (i 2).isLt; change (i 2).val < 256 at this; omega⟩
theorem array7_eq : (dats m 0 c).arrAt 8 cfg0.N = result7 m c := by
  refine (dats m 0 c).arrAt_eq_of_covers 8 _ (by decide +kernel) fun t hf y => ?_
  blk_simp
  rw [after0_8]
  exact block7_eq m c t y

/-- Result 4: its block at a grid point, and its array after the run. -/
theorem block8_eq (t : Fin grid0.N) (y : S1x512x512.Idx) :
    out0_9 (iblk m c 0 t) (iblk m c 1 t) (iblk m c 2 t) (iblk m c 3 t) (iblk m c 4 t) (iblk m c 5 t) y =
      (fun i : S8x2048x512.Idx => entry m c (i 0) (i 1) ⟨1024 + (i 2).val, by have := (i 2).isLt; change (i 2).val < 512 at this; omega⟩)
        ((win0_9.blk t).view.emb y) := by
  obtain ⟨i, j, rfl⟩ : ∃ (i : Fin 512) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have e : (win0_9.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index9 t
    blk_ext [h]
  rw [block8_apply, e]
  simp only [read0, read1, read2, read3, read4, read5]
  rfl
def result8 (i : S8x2048x512.Idx) : EReal :=
  entry m c (i 0) (i 1) ⟨1024 + (i 2).val, by have := (i 2).isLt; change (i 2).val < 512 at this; omega⟩
theorem array8_eq : (dats m 0 c).arrAt 9 cfg0.N = result8 m c := by
  refine (dats m 0 c).arrAt_eq_of_covers 9 _ (by decide +kernel) fun t hf y => ?_
  blk_simp
  rw [after0_9]
  exact block8_eq m c t y

/-- Result 5: its block at a grid point, and its array after the run. -/
theorem block9_eq (t : Fin grid0.N) (y : S1x512x256.Idx) :
    out0_10 (iblk m c 0 t) (iblk m c 1 t) (iblk m c 2 t) (iblk m c 3 t) (iblk m c 4 t) (iblk m c 5 t) y =
      (fun i : S8x2048x256.Idx => entry m c (i 0) (i 1) ⟨1536 + (i 2).val, by have := (i 2).isLt; change (i 2).val < 256 at this; omega⟩)
        ((win0_10.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_10.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index10 t
    blk_ext [h]
  rw [block9_apply, e]
  simp only [read0, read1, read2, read3, read4, read5]
  rfl
def result9 (i : S8x2048x256.Idx) : EReal :=
  entry m c (i 0) (i 1) ⟨1536 + (i 2).val, by have := (i 2).isLt; change (i 2).val < 256 at this; omega⟩
theorem array9_eq : (dats m 0 c).arrAt 10 cfg0.N = result9 m c := by
  refine (dats m 0 c).arrAt_eq_of_covers 10 _ (by decide +kernel) fun t hf y => ?_
  blk_simp
  rw [after0_10]
  exact block9_eq m c t y

/-- Result 6: its block at a grid point, and its array after the run. -/
theorem block10_eq (t : Fin grid0.N) (y : S1x512x256.Idx) :
    out0_11 (iblk m c 0 t) (iblk m c 1 t) (iblk m c 2 t) (iblk m c 3 t) (iblk m c 4 t) (iblk m c 5 t) y =
      (fun i : S8x2048x256.Idx => entry m c (i 0) (i 1) ⟨1792 + (i 2).val, by have := (i 2).isLt; change (i 2).val < 256 at this; omega⟩)
        ((win0_11.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_11.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index11 t
    blk_ext [h]
  rw [block10_apply, e]
  simp only [read0, read1, read2, read3, read4, read5]
  rfl
def result10 (i : S8x2048x256.Idx) : EReal :=
  entry m c (i 0) (i 1) ⟨1792 + (i 2).val, by have := (i 2).isLt; change (i 2).val < 256 at this; omega⟩
theorem array10_eq : (dats m 0 c).arrAt 11 cfg0.N = result10 m c := by
  refine (dats m 0 c).arrAt_eq_of_covers 11 _ (by decide +kernel) fun t hf y => ?_
  blk_simp
  rw [after0_11]
  exact block10_eq m c t y

/-- Result 7: its block at a grid point, and its array after the run. -/
theorem block11_eq (t : Fin grid0.N) (y : S1x512x256.Idx) :
    out0_12 (iblk m c 0 t) (iblk m c 1 t) (iblk m c 2 t) (iblk m c 3 t) (iblk m c 4 t) (iblk m c 5 t) y =
      (fun i : S8x2048x256.Idx => entry m c (i 0) (i 1) ⟨2048 + (i 2).val, by have := (i 2).isLt; change (i 2).val < 256 at this; omega⟩)
        ((win0_12.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_12.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index12 t
    blk_ext [h]
  rw [block11_apply, e]
  simp only [read0, read1, read2, read3, read4, read5]
  rfl
def result11 (i : S8x2048x256.Idx) : EReal :=
  entry m c (i 0) (i 1) ⟨2048 + (i 2).val, by have := (i 2).isLt; change (i 2).val < 256 at this; omega⟩
theorem array11_eq : (dats m 0 c).arrAt 12 cfg0.N = result11 m c := by
  refine (dats m 0 c).arrAt_eq_of_covers 12 _ (by decide +kernel) fun t hf y => ?_
  blk_simp
  rw [after0_12]
  exact block11_eq m c t y

/-- Result 8: its block at a grid point, and its array after the run. -/
theorem block12_eq (t : Fin grid0.N) (y : S1x512x256.Idx) :
    out0_13 (iblk m c 0 t) (iblk m c 1 t) (iblk m c 2 t) (iblk m c 3 t) (iblk m c 4 t) (iblk m c 5 t) y =
      (fun i : S8x2048x256.Idx => entry m c (i 0) (i 1) ⟨2304 + (i 2).val, by have := (i 2).isLt; change (i 2).val < 256 at this; omega⟩)
        ((win0_13.blk t).view.emb y) := by
  obtain ⟨i, j, rfl⟩ : ∃ (i : Fin 512) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_13.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index13 t
    blk_ext [h]
  rw [block12_apply, e]
  simp only [read0, read1, read2, read3, read4, read5]
  rfl
def result12 (i : S8x2048x256.Idx) : EReal :=
  entry m c (i 0) (i 1) ⟨2304 + (i 2).val, by have := (i 2).isLt; change (i 2).val < 256 at this; omega⟩
theorem array12_eq : (dats m 0 c).arrAt 13 cfg0.N = result12 m c := by
  refine (dats m 0 c).arrAt_eq_of_covers 13 _ (by decide +kernel) fun t hf y => ?_
  blk_simp
  rw [after0_13]
  exact block12_eq m c t y

/-- Result 9: its block at a grid point, and its array after the run. -/
theorem block13_eq (t : Fin grid0.N) (y : S1x512x128.Idx) :
    out0_14 (iblk m c 0 t) (iblk m c 1 t) (iblk m c 2 t) (iblk m c 3 t) (iblk m c 4 t) (iblk m c 5 t) y =
      (fun i : S8x2048x128.Idx => entry m c (i 0) (i 1) ⟨2560 + (i 2).val, by have := (i 2).isLt; change (i 2).val < 128 at this; omega⟩)
        ((win0_14.blk t).view.emb y) := by
  obtain ⟨i, j, rfl⟩ : ∃ (i : Fin 512) (j : Fin 128), y = ix3 (0 : Fin 1) i j :=
    ⟨y 1, y 2, by funext a; match a with | ⟨0, _⟩ => exact Subsingleton.elim (α := Fin 1) _ _ | ⟨1, _⟩ => rfl | ⟨2, _⟩ => rfl⟩
  have e : (win0_14.blk t).view.emb (ix3 (0 : Fin 1) i j) =
      ix3 (⟨t.val / 4, by have := t.isLt; change t.val < 32 at this; omega⟩ : Fin 8)
        (⟨(t.val % 4) * 512 + i.val, by omega⟩ : Fin 2048) j := by
    have h := index14 t
    blk_ext [h]
  rw [block13_apply, e]
  simp only [read0, read1, read2, read3, read4, read5]
  rfl
def result13 (i : S8x2048x128.Idx) : EReal :=
  entry m c (i 0) (i 1) ⟨2560 + (i 2).val, by have := (i 2).isLt; change (i 2).val < 128 at this; omega⟩
theorem array13_eq : (dats m 0 c).arrAt 14 cfg0.N = result13 m c := by
  refine (dats m 0 c).arrAt_eq_of_covers 14 _ (by decide +kernel) fun t hf y => ?_
  blk_simp
  rw [after0_14]
  exact block13_eq m c t y

end Kernel

section Reference
open Cert.Reference6Ideal Cert.Reference6Ideal.Gen Cert.Reference6Ideal.Read

variable (x : (⟨S8x2048x1024, .f32⟩ : BufTy).Contents (Elt Ideal)) (sh sc : (⟨S8x1x1024, .f32⟩ : BufTy).Contents (Elt Ideal))
  (g : (⟨S1024, .f32⟩ : BufTy).Contents (Elt Ideal)) (w : (⟨S1024x2592, .f32⟩ : BufTy).Contents (Elt Ideal))
  (pos : (⟨S2048x1024, .f32⟩ : BufTy).Contents (Elt Ideal))

/-- The modulated row. -/
theorem h_apply (b : Fin 8) (t : Fin 2048) (j : Fin 1024) :
    val_main_v21 (F := Ideal) x sh sc g pos (ix3 b t j) = FfnSpec.modulated (fun d => x (ix3 b t d) + pos (ix2 t d)) (fun d => g (ix1 d))
      (fun d => sc (ix3 b 0 d)) (fun d => sh (ix3 b 0 d)) j := by
  unfold val_main_v21 val_main_v20 val_main_v19 val_main_v18 val_main_v17 val_main_v16 val_main_v15 val_main_v14 val_main_v13
    val_main_v12 val_main_v11 val_main_v10 val_main_v9 val_main_v8 val_main_v7 val_main_v6 val_main_v5 val_main_v4 val_main_v3 val_main_v2 val_main_v1 val_main_v0
    val_main_cst val_main_cst_0 val_main_cst_1 val_main_cst_2
  pointwise
  rfl

/-- The product with the whole matrix. -/
theorem p_apply (b : Fin 8) (t : Fin 2048) (j : Fin 2592) :
    val_main_v22 (F := Ideal) x sh sc g w pos (ix3 b t j) = ∑ d : Fin 1024, FfnSpec.modulated (fun d => x (ix3 b t d) + pos (ix2 t d)) (fun d => g (ix1 d))
      (fun d => sc (ix3 b 0 d)) (fun d => sh (ix3 b 0 d)) d * w (ix2 d j) := by
  simp only [← h_apply]
  unfold val_main_v22
  generalize val_main_v21 (F := Ideal) x sh sc g pos = h
  pointwise

/-- Result 1 at an index. -/
theorem out5_apply (i : S8x2048x256.Idx) :
    val_main_v33 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨0 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w pos b t j
  unfold val_main_v33 val_main_v23
  generalize val_main_v22 (F := Ideal) x sh sc g w pos = p at e ⊢
  pointwise
  rw [e]
  exact Finset.sum_congr rfl fun d _ => congrArg₂ (· * ·) rfl
    (wcol_lo (fun d k => w (ix2 d k)) d _ ⟨j.val, by omega⟩ (by dsimp only; omega) rfl).symm

/-- Result 2 at an index. -/
theorem out6_apply (i : S8x2048x512.Idx) :
    val_main_v34 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨256 + (i 2).val, by have := (i 2).isLt; change (i 2).val < 512 at this; omega⟩ := by
  obtain ⟨b, t, j, rfl⟩ : ∃ (b : Fin 8) (t : Fin 2048) (j : Fin 512), i = ix3 b t j :=
    ⟨i 0, i 1, i 2, by funext a; match a with | ⟨0, _⟩ => rfl | ⟨1, _⟩ => rfl | ⟨2, _⟩ => rfl⟩
  have e := fun j => p_apply x sh sc g w pos b t j
  unfold val_main_v34 val_main_v24
  generalize val_main_v22 (F := Ideal) x sh sc g w pos = p at e ⊢
  pointwise
  rw [e]
  exact Finset.sum_congr rfl fun d _ => congrArg₂ (· * ·) rfl
    (wcol_lo (fun d k => w (ix2 d k)) d ⟨256 + j.val, by omega⟩ ⟨256 + j.val, by omega⟩ (by dsimp only; omega) rfl).symm

/-- Result 3 at an index. -/
theorem out7_apply (i : S8x2048x256.Idx) :
    val_main_v35 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨768 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w pos b t j
  unfold val_main_v35 val_main_v26
  generalize val_main_v22 (F := Ideal) x sh sc g w pos = p at e ⊢
  pointwise
  rw [e]
  exact Finset.sum_congr rfl fun d _ => congrArg₂ (· * ·) rfl
    (wcol_mid (fun d k => w (ix2 d k)) d ⟨768 + j.val, by omega⟩ ⟨800 + j.val, by omega⟩
    (by dsimp only; omega) (by dsimp only; omega) (by dsimp only; omega)).symm

/-- Result 4 at an index. -/
theorem out8_apply (i : S8x2048x512.Idx) :
    val_main_v36 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨1024 + (i 2).val, by have := (i 2).isLt; change (i 2).val < 512 at this; omega⟩ := by
  obtain ⟨b, t, j, rfl⟩ : ∃ (b : Fin 8) (t : Fin 2048) (j : Fin 512), i = ix3 b t j :=
    ⟨i 0, i 1, i 2, by funext a; match a with | ⟨0, _⟩ => rfl | ⟨1, _⟩ => rfl | ⟨2, _⟩ => rfl⟩
  have e := fun j => p_apply x sh sc g w pos b t j
  unfold val_main_v36 val_main_v27
  generalize val_main_v22 (F := Ideal) x sh sc g w pos = p at e ⊢
  pointwise
  rw [e]
  exact Finset.sum_congr rfl fun d _ => congrArg₂ (· * ·) rfl
    (wcol_mid (fun d k => w (ix2 d k)) d ⟨1024 + j.val, by omega⟩ ⟨1056 + j.val, by omega⟩
    (by dsimp only; omega) (by dsimp only; omega) (by dsimp only; omega)).symm

/-- Result 5 at an index. -/
theorem out9_apply (i : S8x2048x256.Idx) :
    val_main_v37 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨1536 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w pos b t j
  unfold val_main_v37 val_main_v28
  generalize val_main_v22 (F := Ideal) x sh sc g w pos = p at e ⊢
  pointwise
  rw [e]
  exact Finset.sum_congr rfl fun d _ => congrArg₂ (· * ·) rfl
    (wcol_mid (fun d k => w (ix2 d k)) d ⟨1536 + j.val, by omega⟩ ⟨1568 + j.val, by omega⟩
    (by dsimp only; omega) (by dsimp only; omega) (by dsimp only; omega)).symm

/-- Result 6 at an index. -/
theorem out10_apply (i : S8x2048x256.Idx) :
    val_main_v38 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨1792 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w pos b t j
  unfold val_main_v38 val_main_v29
  generalize val_main_v22 (F := Ideal) x sh sc g w pos = p at e ⊢
  pointwise
  rw [e]
  exact Finset.sum_congr rfl fun d _ => congrArg₂ (· * ·) rfl
    (wcol_mid (fun d k => w (ix2 d k)) d ⟨1792 + j.val, by omega⟩ ⟨1824 + j.val, by omega⟩
    (by dsimp only; omega) (by dsimp only; omega) (by dsimp only; omega)).symm

/-- Result 7 at an index. -/
theorem out11_apply (i : S8x2048x256.Idx) :
    val_main_v39 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨2048 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w pos b t j
  unfold val_main_v39 val_main_v30
  generalize val_main_v22 (F := Ideal) x sh sc g w pos = p at e ⊢
  pointwise
  rw [e]
  exact Finset.sum_congr rfl fun d _ => congrArg₂ (· * ·) rfl
    (wcol_mid (fun d k => w (ix2 d k)) d ⟨2048 + j.val, by omega⟩ ⟨2080 + j.val, by omega⟩
    (by dsimp only; omega) (by dsimp only; omega) (by dsimp only; omega)).symm

/-- Result 8 at an index. -/
theorem out12_apply (i : S8x2048x256.Idx) :
    val_main_v40 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨2304 + (i 2).val, by have := (i 2).isLt; change (i 2).val < 256 at this; omega⟩ := by
  obtain ⟨b, t, j, rfl⟩ : ∃ (b : Fin 8) (t : Fin 2048) (j : Fin 256), i = ix3 b t j :=
    ⟨i 0, i 1, i 2, by funext a; match a with | ⟨0, _⟩ => rfl | ⟨1, _⟩ => rfl | ⟨2, _⟩ => rfl⟩
  have e := fun j => p_apply x sh sc g w pos b t j
  unfold val_main_v40 val_main_v31
  generalize val_main_v22 (F := Ideal) x sh sc g w pos = p at e ⊢
  pointwise
  rw [e]
  exact Finset.sum_congr rfl fun d _ => congrArg₂ (· * ·) rfl
    (wcol_mid (fun d k => w (ix2 d k)) d ⟨2304 + j.val, by omega⟩ ⟨2336 + j.val, by omega⟩
    (by dsimp only; omega) (by dsimp only; omega) (by dsimp only; omega)).symm

/-- Result 9 at an index. -/
theorem out13_apply (i : S8x2048x128.Idx) :
    val_main_v41 (F := Ideal) x sh sc g w pos i = proj (fun d => x (ix3 (i 0) (i 1) d) + pos (ix2 (i 1) d)) (fun d => g (ix1 d))
      (fun d => sc (ix3 (i 0) 0 d)) (fun d => sh (ix3 (i 0) 0 d)) (fun d k => w (ix2 d k))
      ⟨2560 + (i 2).val, by have := (i 2).isLt; change (i 2).val < 128 at this; omega⟩ := by
  obtain ⟨b, t, j, rfl⟩ : ∃ (b : Fin 8) (t : Fin 2048) (j : Fin 128), i = ix3 b t j :=
    ⟨i 0, i 1, i 2, by funext a; match a with | ⟨0, _⟩ => rfl | ⟨1, _⟩ => rfl | ⟨2, _⟩ => rfl⟩
  have e := fun j => p_apply x sh sc g w pos b t j
  unfold val_main_v41 val_main_v32 val_main_v25 val_main_call0_v0 val_main_c
  generalize val_main_v22 (F := Ideal) x sh sc g w pos = p at e ⊢
  pointwise
  unfold proj
  by_cases h : j.val < 32
  · rw [dif_pos h, e]
    exact Finset.sum_congr rfl fun d _ => congrArg₂ (· * ·) rfl
      (wcol_hi (fun d k => w (ix2 d k)) d ⟨2560 + j.val, by omega⟩ ⟨768 + j.val, by omega⟩ (by dsimp only; omega)
        (by dsimp only; omega) (by dsimp only; omega)).symm
  · rw [dif_neg h, sitofp_zero]
    symm
    refine Finset.sum_eq_zero fun d _ => ?_
    rw [wcol_zero _ _ _ (by dsimp only; omega), mul_zero]

end Reference

/-- From memories that agree on the arguments the input projection and its reference end with equal results. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => result5 m c, fun c => result6 m c, fun c => result7 m c, fun c => result8 m c, fun c => result9 m c, fun c => result10 m c,
    fun c => result11 m c, fun c => result12 m c, fun c => result13 m c, ?_, ?_⟩
  · refine (θ_run _ _ _).mono (fun r h c => ?_) (Cert.Kernel6Ideal.Value.run_blocks m ρ)
    obtain ⟨h5, h6, h7, h8, h9, h10, h11, h12, h13, hr⟩ := h c
    exact ⟨h5.trans (array5_eq m c), h6.trans (array6_eq m c), h7.trans (array7_eq m c), h8.trans (array8_eq m c),
      h9.trans (array9_eq m c), h10.trans (array10_eq m c), h11.trans (array11_eq m c), h12.trans (array12_eq m c),
      h13.trans (array13_eq m c), hr⟩
  · refine (θ_run _ _ _).mono (fun r h c => ?_) (Cert.Reference6Ideal.Value.run (F := Ideal) m' ρ')
    obtain ⟨h5, h6, h7, h8, h9, h10, h11, h12, h13, hr⟩ := h c
    obtain ⟨a0, a1, a2, a3, a4, a5⟩ := hagree c
    refine ⟨h5.trans ?_, h6.trans ?_, h7.trans ?_, h8.trans ?_, h9.trans ?_, h10.trans ?_, h11.trans ?_, h12.trans ?_,
      h13.trans ?_, hr⟩
    · rw [Reference6Ideal.Read.val_main_v33_eq, a0, a1, a2, a3, a4, a5]; funext i; exact out5_apply _ _ _ _ _ _ i
    · rw [Reference6Ideal.Read.val_main_v34_eq, a0, a1, a2, a3, a4, a5]; funext i; exact out6_apply _ _ _ _ _ _ i
    · rw [Reference6Ideal.Read.val_main_v35_eq, a0, a1, a2, a3, a4, a5]; funext i; exact out7_apply _ _ _ _ _ _ i
    · rw [Reference6Ideal.Read.val_main_v36_eq, a0, a1, a2, a3, a4, a5]; funext i; exact out8_apply _ _ _ _ _ _ i
    · rw [Reference6Ideal.Read.val_main_v37_eq, a0, a1, a2, a3, a4, a5]; funext i; exact out9_apply _ _ _ _ _ _ i
    · rw [Reference6Ideal.Read.val_main_v38_eq, a0, a1, a2, a3, a4, a5]; funext i; exact out10_apply _ _ _ _ _ _ i
    · rw [Reference6Ideal.Read.val_main_v39_eq, a0, a1, a2, a3, a4, a5]; funext i; exact out11_apply _ _ _ _ _ _ i
    · rw [Reference6Ideal.Read.val_main_v40_eq, a0, a1, a2, a3, a4, a5]; funext i; exact out12_apply _ _ _ _ _ _ i
    · rw [Reference6Ideal.Read.val_main_v41_eq, a0, a1, a2, a3, a4, a5]; funext i; exact out13_apply _ _ _ _ _ _ i

end Cert.InProjPos

end
-- ==== Proof.FfnCtx.lean ====
/- The feed-forward kernel on the context: it and its reference compute the same array. -/
module

public import proofs.«01_k».proof.Proof.FfnSpec
public import proofs.«01_k».proof.Proof.Gen.Kernel7Ideal.Value
public import proofs.«01_k».proof.Proof.Gen.Reference7Ideal.Read
public import proofs.«01_k».proof.Defs
public import Idealize.ShloMosaic.Lib.Pipeline.ValueKit
public import Idealize.ShloMosaic.Lib.Pointwise

@[expose] public section

set_option maxRecDepth 16384

noncomputable section

namespace Cert.FfnCtxKernel

open Cert.Kernel7Ideal Cert.Kernel7Ideal.Gen Idealize.ShloMosaic Idealize.ShloMosaic.TcCoe
open scoped BigOperators

/-- The modulated row the products read. -/
theorem pay3_apply (v0 : Vec Ideal S1x256x1024 .f32) (v2 : Vec Ideal S1x1024 .f32) (v16 v22 : Vec Ideal S1x1x1024 .f32)
    (i : Fin 256) (j : Fin 1024) :
    k0_pay3 v0 v2 v16 v22 (ix2 i j) =
      FfnSpec.modulated (fun d => v0 (ix3 0 i d)) (fun d => v2 (ix2 0 d)) (fun d => v16 (ix3 0 0 d)) (fun d => v22 (ix3 0 0 d)) j := by
  unfold k0_pay3 k0_pay2
  pointwise
  rfl

/-- The first run's gate columns. -/
theorem pay5_apply (v0 : Vec Ideal S1x256x1024 .f32) (v2 : Vec Ideal S1x1024 .f32) (v16 v22 : Vec Ideal S1x1x1024 .f32)
    (w : Vec Ideal S1024x1536 .bf16) (i : Fin 256) (j : Fin 1536) :
    k0_pay5 v0 v2 v16 v22 w (ix2 i j) = ∑ d : Fin 1024, k0_pay3 v0 v2 v16 v22 (ix2 i d) * w (ix2 d j) := by
  unfold k0_pay5
  generalize k0_pay3 v0 v2 v16 v22 = h
  pointwise

/-- The first run's value columns. -/
theorem pay6_apply (v0 : Vec Ideal S1x256x1024 .f32) (v2 : Vec Ideal S1x1024 .f32) (v16 v22 : Vec Ideal S1x1x1024 .f32)
    (w : Vec Ideal S1024x1536 .bf16) (i : Fin 256) (j : Fin 1536) :
    k0_pay6 v0 v2 v16 v22 w (ix2 i j) = ∑ d : Fin 1024, k0_pay3 v0 v2 v16 v22 (ix2 i d) * w (ix2 d j) := by
  unfold k0_pay6
  generalize k0_pay3 v0 v2 v16 v22 = h
  pointwise

/-- The network's output: the two runs of hidden units, one after the other. -/
theorem pay8_apply (h : FVec Ideal S256x1024 .bf16) (a u : FVec Ideal S256x1536 .f32) (wo1 : Vec Ideal S1536x1024 .bf16)
    (wa2 wu2 : Vec Ideal S1024x1280 .bf16) (wo2 : Vec Ideal S1280x1024 .bf16) (i : Fin 256) (c : Fin 1024) :
    k0_pay8 h (k0_pay4 (F := Ideal)) a u (k0_pay7 (F := Ideal)) wo1 wa2 wu2 wo2 (ix2 i c) =
      (∑ k : Fin 1536, FfnSpec.silu (a (ix2 i k)) * u (ix2 i k) * wo1 (ix2 k c))
      + ∑ k : Fin 1280, FfnSpec.hidden (fun d => h (ix2 i d)) (fun d => wa2 (ix2 d k)) (fun d => wu2 (ix2 d k)) * wo2 (ix2 k c) := by
  unfold k0_pay8 k0_pay4 k0_pay7
  pointwise
  simp only [zero_sub, zero_add]
  rfl

/-- What the two runs of hidden units compute, as the network's output on the row. -/
theorem runs_eq_inner (x : Vec Ideal S1x256x1024 .f32) (gpre : Vec Ideal S1x1024 .f32) (sh sc : Vec Ideal S1x1x1024 .f32)
    (win : Vec Ideal S1024x5632 .bf16) (wout : Vec Ideal S2816x1024 .bf16) (i : Fin 256) (c : Fin 1024) :
    k0_pay8 (k0_pay3 x gpre sc sh) (k0_pay4 (F := Ideal)) (k0_pay5 x gpre sc sh (View.ld win r0_3))
        (k0_pay6 x gpre sc sh (View.ld win r0_4)) (k0_pay7 (F := Ideal)) (View.ld wout r0_5) (View.ld win r0_6)
        (View.ld win r0_7) (View.ld wout r0_8) (ix2 i c) =
      FfnSpec.inner (FfnSpec.modulated (fun d => x (ix3 0 i d)) (fun d => gpre (ix2 0 d)) (fun d => sc (ix3 0 0 d)) (fun d => sh (ix3 0 0 d)))
        (fun d k => win (ix2 d ⟨k.val, by omega⟩)) (fun d k => win (ix2 d ⟨2816 + k.val, by omega⟩)) (fun k c => wout (ix2 k c)) c := by
  rw [pay8_apply]
  unfold FfnSpec.inner
  rw [← FfnSpec.sum_two_runs]
  refine congrArg₂ (· + ·) (Finset.sum_congr rfl fun k _ => ?_) (Finset.sum_congr rfl fun k _ => ?_)
  · rw [pay5_apply, pay6_apply]
    simp only [pay3_apply]
    unfold FfnSpec.hidden
    have e : ∀ d : Fin 1024, View.ld win r0_3 (ix2 d k) = win (ix2 d ⟨k.val, by omega⟩) := fun d => by
      unfold View.ld; congr 1; funext a; apply Fin.ext
      match a with | ⟨0, _⟩ => simp [ix2] | ⟨1, _⟩ => simp [ix2]
    have e' : ∀ d : Fin 1024, View.ld win r0_4 (ix2 d k) = win (ix2 d ⟨2816 + k.val, by omega⟩) := fun d => by
      unfold View.ld; congr 1; funext a; apply Fin.ext
      match a with | ⟨0, _⟩ => simp [ix2] | ⟨1, _⟩ => simp [ix2]
    have eo : View.ld wout r0_5 (ix2 k c) = wout (ix2 ⟨k.val, by omega⟩ c) := by
      unfold View.ld; congr 1; funext a; apply Fin.ext
      match a with | ⟨0, _⟩ => simp [ix2] | ⟨1, _⟩ => simp [ix2]
    simp only [e, e', eo]
  · simp only [pay3_apply]
    have e : ∀ d : Fin 1024, View.ld win r0_6 (ix2 d k) = win (ix2 d ⟨1536 + k.val, by omega⟩) := fun d => by
      unfold View.ld; congr 1; funext a; apply Fin.ext
      match a with | ⟨0, _⟩ => simp [ix2] | ⟨1, _⟩ => simp [ix2]
    have e' : ∀ d : Fin 1024, View.ld win r0_7 (ix2 d k) = win (ix2 d ⟨2816 + (1536 + k.val), by omega⟩) := fun d => by
      unfold View.ld; congr 1; funext a; apply Fin.ext
      match a with | ⟨0, _⟩ => simp [ix2] | ⟨1, _⟩ => simp [ix2]; omega
    have eo : View.ld wout r0_8 (ix2 k c) = wout (ix2 ⟨1536 + k.val, by omega⟩ c) := by
      unfold View.ld; congr 1; funext a; apply Fin.ext
      match a with | ⟨0, _⟩ => simp [ix2] | ⟨1, _⟩ => simp [ix2]
    simp only [e, e', eo]

/-- The mean of the squares of the network's output. -/
theorem pay11_apply (h : FVec Ideal S256x1024 .bf16) (z : FVec Ideal S256x1024 .f32) (a u s : FVec Ideal S256x1536 .f32) (wo1 : Vec Ideal S1536x1024 .bf16)
    (wa2 wu2 : Vec Ideal S1024x1280 .bf16) (wo2 : Vec Ideal S1280x1024 .bf16) (i : Fin 256) :
    k0_pay11 h z a u s wo1 wa2 wu2 wo2 (ix2 i 0) =
      Ideal.div (∑ k : Fin 1024, k0_pay8 h z a u s wo1 wa2 wu2 wo2 (ix2 i k) * k0_pay8 h z a u s wo1 wa2 wu2 wo2 (ix2 i k)) FfnSpec.width := by
  unfold k0_pay11
  generalize k0_pay8 h z a u s wo1 wa2 wu2 wo2 = y
  pointwise
  rfl

/-- The block's last step. -/
theorem pay1_apply (x y : FVec Ideal S256x1024 .f32) (gate gpost : FVec Ideal S1x1024 .f32) (ms : FVec Ideal S256x1 .f32)
    (i : Fin 256) (c : Fin 1024) :
    k0_pay1 x y gate gpost ms (ix3 0 i c) =
      x (ix2 i c) + gate (ix2 0 c) * (y (ix2 i c) * Ideal.rsqrt (ms (ix2 i 0) + FfnSpec.eps) * gpost (ix2 0 c)) := by
  unfold k0_pay1
  pointwise
  rfl

/-- The whole block at an index, from the loads. -/
theorem block_apply (x : Vec Ideal S1x256x1024 .f32) (gpre : Vec Ideal S1x1024 .f32) (sh sc gate : Vec Ideal S1x1x1024 .f32)
    (gpost : Vec Ideal S1x1024 .f32) (win : Vec Ideal S1024x5632 .bf16) (wout : Vec Ideal S2816x1024 .bf16)
    (i : Fin 256) (c : Fin 1024) :
    out0_8 x gpre sh sc gate gpost win wout (ix3 0 i c) =
      FfnSpec.out (fun d => x (ix3 0 i d)) (fun d => gpre (ix2 0 d)) (fun d => gpost (ix2 0 d)) (fun d => sh (ix3 0 0 d))
        (fun d => sc (ix3 0 0 d)) (fun d => gate (ix3 0 0 d))
        (fun d k => win (ix2 d ⟨k.val, by omega⟩)) (fun d k => win (ix2 d ⟨2816 + k.val, by omega⟩)) (fun k c => wout (ix2 k c)) c := by
  unfold_out out0_8
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ gpre, View.ld_unit_zero hz3 _ sc,
    View.ld_unit_zero hz3 _ sh, View.ld_unit_zero hz3 _ gate, View.ld_unit_zero hz2 _ gpost]
  rw [pay1_apply, pay11_apply]
  simp only [runs_eq_inner]
  unfold k0_pay2 k0_pay9 k0_pay10
  pointwise
  rfl

end Cert.FfnCtxKernel

namespace Cert.FfnCtxReference

open Cert.Reference7Ideal Cert.Reference7Ideal.Gen Cert.Reference7Ideal.Read Idealize.ShloMosaic Idealize.ShloMosaic.TcCoe
open scoped BigOperators

variable (x : (⟨S8x256x1024, .f32⟩ : BufTy).Contents (Elt Ideal)) (sh sc gate : (⟨S8x1x1024, .f32⟩ : BufTy).Contents (Elt Ideal))
  (gpre gpost : (⟨S1024, .f32⟩ : BufTy).Contents (Elt Ideal)) (win : (⟨S1024x5632, .f32⟩ : BufTy).Contents (Elt Ideal))
  (wout : (⟨S2816x1024, .f32⟩ : BufTy).Contents (Elt Ideal))

/-- The modulated row. -/
theorem h_apply (b : Fin 8) (t : Fin 256) (j : Fin 1024) :
    val_main_v18 (F := Ideal) x sh sc gpre (ix3 b t j) = FfnSpec.modulated (fun d => x (ix3 b t d)) (fun d => gpre (ix1 d))
      (fun d => sc (ix3 b 0 d)) (fun d => sh (ix3 b 0 d)) j := by
  unfold val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1 val_main_cst_2
  pointwise
  rfl

/-- A hidden unit, after silu and the product. -/
theorem hidden_apply (b : Fin 8) (t : Fin 256) (k : Fin 2816) :
    val_main_v23 (F := Ideal) x sh sc gpre win (ix3 b t k) = FfnSpec.hidden (fun d => val_main_v18 (F := Ideal) x sh sc gpre (ix3 b t d))
      (fun d => win (ix2 d ⟨k.val, by omega⟩)) (fun d => win (ix2 d ⟨2816 + k.val, by omega⟩)) := by
  unfold val_main_v23 val_main_v22 val_main_v21 val_main_v20 val_main_call0_v5 val_main_call0_v4 val_main_call0_v3 val_main_call0_v2
    val_main_call0_v1 val_main_call0_v0 val_main_call0_cst val_main_call0_cst_0 val_main_v20 val_main_v19
  generalize val_main_v18 (F := Ideal) x sh sc gpre = h
  pointwise
  unfold FfnSpec.hidden
  rw [← FfnSpec.mul_logistic]
  rfl

/-- The network's output. -/
theorem inner_apply (b : Fin 8) (t : Fin 256) (c : Fin 1024) :
    val_main_v24 (F := Ideal) x sh sc gpre win wout (ix3 b t c) = FfnSpec.inner (fun d => val_main_v18 (F := Ideal) x sh sc gpre (ix3 b t d))
      (fun d k => win (ix2 d ⟨k.val, by omega⟩)) (fun d k => win (ix2 d ⟨2816 + k.val, by omega⟩)) (fun k c => wout (ix2 k c)) c := by
  unfold FfnSpec.inner
  simp only [← hidden_apply]
  unfold val_main_v24
  generalize val_main_v23 (F := Ideal) x sh sc gpre win = h
  pointwise

/-- The reference's result at an index. -/
theorem out_apply (b : Fin 8) (t : Fin 256) (c : Fin 1024) :
    val_main_v40 (F := Ideal) x sh sc gate gpre gpost win wout (ix3 b t c) =
      FfnSpec.out (fun d => x (ix3 b t d)) (fun d => gpre (ix1 d)) (fun d => gpost (ix1 d)) (fun d => sh (ix3 b 0 d))
        (fun d => sc (ix3 b 0 d)) (fun d => gate (ix3 b 0 d))
        (fun d k => win (ix2 d ⟨k.val, by omega⟩)) (fun d k => win (ix2 d ⟨2816 + k.val, by omega⟩)) (fun k c => wout (ix2 k c)) c := by
  unfold FfnSpec.out
  have e := fun c => inner_apply x sh sc gpre win wout b t c
  simp only [h_apply] at e
  unfold val_main_v40 val_main_v39 val_main_v38 val_main_v37 val_main_v36 val_main_v35 val_main_v34 val_main_v33 val_main_v32
    val_main_v31 val_main_v30 val_main_v29 val_main_v28 val_main_v27 val_main_v26 val_main_v25 val_main_cst_3 val_main_cst_4 val_main_cst_5
  generalize val_main_v24 (F := Ideal) x sh sc gpre win wout = y at e ⊢
  pointwise
  simp only [e]
  rfl

end Cert.FfnCtxReference

namespace Cert.FfnCtx

open Idealize.ShloMosaic Idealize.ShloMosaic.TcCoe Idealize.SL.Sem
open scoped BigOperators

section Kernel
open Cert.Kernel7Ideal Cert.Kernel7Ideal.Gen

variable (m : (ℓ : Loc nD τ sig) → Buf (Elt Ideal) ℓ) (c : Dev nD)

/-- The sublayer at every index of the array, from the arguments. -/
def result (i : S8x256x1024.Idx) : EReal :=
  FfnSpec.out (fun d => m ((c : Thread nD τ).loc main_arg0) (ix3 (i 0) (i 1) d)) (fun d => m ((c : Thread nD τ).loc main_arg4) (ix1 d))
    (fun d => m ((c : Thread nD τ).loc main_arg5) (ix1 d)) (fun d => m ((c : Thread nD τ).loc main_arg1) (ix3 (i 0) 0 d))
    (fun d => m ((c : Thread nD τ).loc main_arg2) (ix3 (i 0) 0 d)) (fun d => m ((c : Thread nD τ).loc main_arg3) (ix3 (i 0) 0 d))
    (fun d k => m ((c : Thread nD τ).loc main_arg6) (ix2 d ⟨k.val, by omega⟩))
    (fun d k => m ((c : Thread nD τ).loc main_arg6) (ix2 d ⟨2816 + k.val, by omega⟩))
    (fun k j => m ((c : Thread nD τ).loc main_arg7) (ix2 k j)) (i 2)

/-- Where the index maps place the blocks of a grid point. -/
theorem index0 : ∀ t : Fin grid0.N, win0_0.index t 0 = t.val / 1 ∧ win0_0.index t 1 = t.val % 1 ∧ win0_0.index t 2 = 0 := by decide +kernel
theorem index8 : ∀ t : Fin grid0.N, win0_8.index t 0 = t.val / 1 ∧ win0_8.index t 1 = t.val % 1 ∧ win0_8.index t 2 = 0 := by decide +kernel
theorem index2 : ∀ t : Fin grid0.N, win0_2.index t 0 = t.val / 1 ∧ win0_2.index t 1 = 0 ∧ win0_2.index t 2 = 0 := by decide +kernel
theorem index3 : ∀ t : Fin grid0.N, win0_3.index t 0 = t.val / 1 ∧ win0_3.index t 1 = 0 ∧ win0_3.index t 2 = 0 := by decide +kernel
theorem index4 : ∀ t : Fin grid0.N, win0_4.index t 0 = t.val / 1 ∧ win0_4.index t 1 = 0 ∧ win0_4.index t 2 = 0 := by decide +kernel

theorem index1 : ∀ t : Fin grid0.N, win0_1.index t 0 = 0 ∧ win0_1.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel

/-- Where an index of the result's block lies in the array. -/
theorem emb8 (t : Fin grid0.N) (i : Fin 256) (j : Fin 1024) :
    (win0_8.blk t).view.emb (ix3 (0 : Fin 1) i j) =
      ix3 (⟨t.val / 1, by have := t.isLt; change t.val < 8 at this; omega⟩ : Fin 8)
        (⟨(t.val % 1) * 256 + i.val, by omega⟩ : Fin 256) j := by
  have h8 := index8 t
  blk_ext [h8]

/-- The block read from the first argument, at an index. -/
theorem read0 (t : Fin grid0.N) (i : Fin 256) (j : Fin 1024) :
    iblk m c 0 t (ix3 (0 : Fin 1) i j) = m ((c : Thread nD τ).loc main_arg0)
      (ix3 (⟨t.val / 1, by have := t.isLt; change t.val < 8 at this; omega⟩ : Fin 8)
        (⟨(t.val % 1) * 256 + i.val, by omega⟩ : Fin 256) j) := by
  have h0 := index0 t
  blk_ext [iblk, V, h0]

theorem read2 (t : Fin grid0.N) (j : Fin 1024) :
    iblk m c 2 t (ix3 (0 : Fin 1) (0 : Fin 1) j) = m ((c : Thread nD τ).loc main_arg1)
      (ix3 (⟨t.val / 1, by have := t.isLt; change t.val < 8 at this; omega⟩ : Fin 8) (0 : Fin 1) j) := by
  have h0 := index2 t
  blk_ext [iblk, V, h0]

theorem read3 (t : Fin grid0.N) (j : Fin 1024) :
    iblk m c 3 t (ix3 (0 : Fin 1) (0 : Fin 1) j) = m ((c : Thread nD τ).loc main_arg2)
      (ix3 (⟨t.val / 1, by have := t.isLt; change t.val < 8 at this; omega⟩ : Fin 8) (0 : Fin 1) j) := by
  have h0 := index3 t
  blk_ext [iblk, V, h0]

theorem read4 (t : Fin grid0.N) (j : Fin 1024) :
    iblk m c 4 t (ix3 (0 : Fin 1) (0 : Fin 1) j) = m ((c : Thread nD τ).loc main_arg3)
      (ix3 (⟨t.val / 1, by have := t.isLt; change t.val < 8 at this; omega⟩ : Fin 8) (0 : Fin 1) j) := by
  have h0 := index4 t
  blk_ext [iblk, V, h0]

theorem read1 (t : Fin grid0.N) (j : Fin 1024) :
    iblk m c 1 t (ix2 (0 : Fin 1) j) = m ((c : Thread nD τ).loc main_arg4) (ix1 j) := by
  have h := index1 t
  blk_simp [iblk]; entry_read; pointwise
  blk_ext [h]

theorem read5 (t : Fin grid0.N) (j : Fin 1024) :
    iblk m c 5 t (ix2 (0 : Fin 1) j) = m ((c : Thread nD τ).loc main_arg5) (ix1 j) := by
  have h := index5 t
  blk_simp [iblk]; entry_read; pointwise
  blk_ext [h]

theorem read6 (t : Fin grid0.N) (i : Fin 1024) (j : Fin 5632) :
    iblk m c 6 t (ix2 i j) = m ((c : Thread nD τ).loc main_arg6) (ix2 i j) := by
  have h := index6 t
  blk_simp [iblk]; entry_read; pointwise
  blk_ext [h]

theorem read7 (t : Fin grid0.N) (i : Fin 2816) (j : Fin 1024) :
    iblk m c 7 t (ix2 i j) = m ((c : Thread nD τ).loc main_arg7) (ix2 i j) := by
  have h := index7 t
  blk_simp [iblk]; entry_read; pointwise
  blk_ext [h]

/-- The block that a grid point writes, at an index. -/
theorem block_eq (t : Fin grid0.N) (y : S1x256x1024.Idx) :
    out0_8 (iblk m c 0 t) (iblk m c 1 t) (iblk m c 2 t) (iblk m c 3 t) (iblk m c 4 t) (iblk m c 5 t) (iblk m c 6 t)
      (iblk m c 7 t) y = result m c ((win0_8.blk t).view.emb y) := by
  obtain ⟨i, j, rfl⟩ : ∃ (i : Fin 256) (j : Fin 1024), y = ix3 (0 : Fin 1) i j :=
    ⟨y 1, y 2, by funext a; match a with | ⟨0, _⟩ => exact Subsingleton.elim (α := Fin 1) _ _ | ⟨1, _⟩ => rfl | ⟨2, _⟩ => rfl⟩
  rw [FfnCtxKernel.block_apply, emb8]
  simp only [read0, read1, read2, read3, read4, read5, read6, read7]
  rfl

/-- The result array after the run. -/
theorem array_eq : (dats m 0 c).arrAt 8 cfg0.N = result m c := by
  refine (dats m 0 c).arrAt_eq_of_covers 8 _ (by decide +kernel) fun t hf y => ?_
  blk_simp
  rw [after0_8]
  exact block_eq m c t y

end Kernel

/-- The reference's result array, from the arguments of a run. -/
theorem reference_eq (x sh sc gate gpre gpost win wout) (i : Reference7Ideal.S8x256x1024.Idx) :
    Reference7Ideal.Read.val_main_v40 (F := Ideal) x sh sc gate gpre gpost win wout i =
      FfnSpec.out (fun d => x (ix3 (i 0) (i 1) d)) (fun d => gpre (ix1 d)) (fun d => gpost (ix1 d)) (fun d => sh (ix3 (i 0) 0 d))
        (fun d => sc (ix3 (i 0) 0 d)) (fun d => gate (ix3 (i 0) 0 d))
        (fun d k => win (ix2 d ⟨k.val, by omega⟩)) (fun d k => win (ix2 d ⟨2816 + k.val, by omega⟩)) (fun k c => wout (ix2 k c)) (i 2) := by
  have hi : i = ix3 (i 0) (i 1) (i 2) := by
    funext a; match a with | ⟨0, _⟩ => rfl | ⟨1, _⟩ => rfl | ⟨2, _⟩ => rfl
  exact (congrArg _ hi).trans (FfnCtxReference.out_apply x sh sc gate gpre gpost win wout (i 0) (i 1) (i 2))

/-- From memories that agree on the arguments the feed-forward kernel and its reference end with equal results. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => result m c, ?_, ?_⟩
  · refine (θ_run _ _ _).mono (fun r h c => ⟨(h c).1.trans (array_eq m c), (h c).2⟩) (Cert.Kernel7Ideal.Value.run_blocks m ρ)
  · refine (θ_run _ _ _).mono (fun r h c => ⟨(h c).1.trans ?_, (h c).2⟩) (Cert.Reference7Ideal.Value.run (F := Ideal) m' ρ')
    rw [Reference7Ideal.Read.val_main_v40_eq]
    obtain ⟨a0, a1, a2, a3, a4, a5, a6, a7⟩ := hagree c
    rw [a0, a1, a2, a3, a4, a5, a6, a7]
    funext i
    exact reference_eq _ _ _ _ _ _ _ _ i

end Cert.FfnCtx

end
-- ==== Proof.OutProjCtx.lean ====
/- The output projection of the context with its residual: the kernel and its reference compute the same array. -/
module

public import proofs.«01_k».proof.Proof.OutProj
public import proofs.«01_k».proof.Proof.Gen.Kernel8Ideal.Value
public import proofs.«01_k».proof.Proof.Gen.Reference8Ideal.Read
public import proofs.«01_k».proof.Defs
public import Idealize.ShloMosaic.Lib.Pipeline.ValueKit
public import Idealize.ShloMosaic.Lib.Pointwise

@[expose] public section

set_option maxRecDepth 16384

noncomputable section

namespace Cert.OutProjCtx

open Idealize.ShloMosaic Idealize.ShloMosaic.TcCoe Idealize.SL.Sem
open scoped BigOperators

open Cert.OutProj (inner out)

section Kernel
open Cert.Kernel8Ideal Cert.Kernel8Ideal.Gen

/-- The three products of a block of rows. -/
theorem pay2_apply (v0 : Vec Ideal S1x256x512 .bf16) (v2 : Vec Ideal S512x1024 .bf16) (v5 : Vec Ideal S1x256x256 .bf16)
    (v7 : Vec Ideal S256x1024 .bf16) (v11 : Vec Ideal S1x256x256 .bf16) (v13 : Vec Ideal S256x1024 .bf16) (i : Fin 256) (c : Fin 1024) :
    k0_pay2 v0 v2 v5 v7 v11 v13 (ix2 i c) =
      (∑ k : Fin 512, v0 (ix3 0 i k) * v2 (ix2 k c)) + (∑ k : Fin 256, v5 (ix3 0 i k) * v7 (ix2 k c))
        + ∑ k : Fin 256, v11 (ix3 0 i k) * v13 (ix2 k c) := by
  unfold k0_pay2
  pointwise

/-- The mean of the squares of the product's row. -/
theorem pay6_apply (v0 : Vec Ideal S1x256x512 .bf16) (v2 : Vec Ideal S512x1024 .bf16) (v5 : Vec Ideal S1x256x256 .bf16)
    (v7 : Vec Ideal S256x1024 .bf16) (v11 : Vec Ideal S1x256x256 .bf16) (v13 : Vec Ideal S256x1024 .bf16) (i : Fin 256) :
    k0_pay6 v0 v2 v5 v7 v11 v13 (ix2 i 0) =
      Ideal.div (∑ k : Fin 1024, k0_pay2 v0 v2 v5 v7 v11 v13 (ix2 i k) * k0_pay2 v0 v2 v5 v7 v11 v13 (ix2 i k)) FfnSpec.width := by
  unfold k0_pay6
  generalize k0_pay2 v0 v2 v5 v7 v11 v13 = y
  pointwise
  rfl

/-- The block's last step. -/
theorem pay1_apply (y x : FVec Ideal S256x1024 .f32) (gate g : FVec Ideal S1x1024 .f32) (ms e : FVec Ideal S256x1 .f32)
    (i : Fin 256) (c : Fin 1024) :
    k0_pay1 y x gate g ms e (ix3 0 i c) =
      x (ix2 i c) + gate (ix2 0 c) * (y (ix2 i c) * Ideal.rsqrt (ms (ix2 i 0) + e (ix2 i 0)) * g (ix2 0 c)) := by
  unfold k0_pay1
  pointwise

/-- The rows of the matrix that a product reads. -/
theorem ld1 (w : Vec Ideal S1024x1024 .bf16) (k : Fin 512) (c : Fin 1024) :
    View.ld w r0_1 (ix2 k c) = w (ix2 ⟨k.val, by omega⟩ c) := by
  unfold View.ld; congr 1; funext a; apply Fin.ext
  match a with | ⟨0, _⟩ => simp [ix2] | ⟨1, _⟩ => simp [ix2]
theorem ld3 (w : Vec Ideal S1024x1024 .bf16) (k : Fin 256) (c : Fin 1024) :
    View.ld w r0_3 (ix2 k c) = w (ix2 ⟨512 + k.val, by omega⟩ c) := by
  unfold View.ld; congr 1; funext a; apply Fin.ext
  match a with | ⟨0, _⟩ => simp [ix2] | ⟨1, _⟩ => simp [ix2]
theorem ld4 (w : Vec Ideal S1024x1024 .bf16) (k : Fin 256) (c : Fin 1024) :
    View.ld w r0_4 (ix2 k c) = w (ix2 ⟨768 + k.val, by omega⟩ c) := by
  unfold View.ld; congr 1; funext a; apply Fin.ext
  match a with | ⟨0, _⟩ => simp [ix2] | ⟨1, _⟩ => simp [ix2]

/-- The whole block at an index, from the loads. -/
theorem block_apply (yg : Vec Ideal S1x256x512 .bf16) (yf yc : Vec Ideal S1x256x256 .bf16) (w : Vec Ideal S1024x1024 .bf16)
    (x : Vec Ideal S1x256x1024 .f32) (g : Vec Ideal S1x1024 .f32) (gate : Vec Ideal S1x1x1024 .f32) (i : Fin 256) (c : Fin 1024) :
    out0_7 yg yf yc w x g gate (ix3 0 i c) =
      out (fun d => yg (ix3 0 i d)) (fun d => yf (ix3 0 i d)) (fun d => yc (ix3 0 i d)) (fun d => x (ix3 0 i d))
        (fun d => gate (ix3 0 0 d)) (fun d => g (ix2 0 d)) (fun k c => w (ix2 k c)) c := by
  unfold out0_7
  have hz3 : (![0, 0, 0] : Fin 3 → ℕ) = fun _ => 0 := by decide
  have hz2 : (![0, 0] : Fin 2 → ℕ) = fun _ => 0 := by decide
  rw [View.canon_unit_zero hz3, View.ld_unit_zero hz3 _ yg, View.ld_unit_zero hz3 _ yf, View.ld_unit_zero hz3 _ yc,
    View.ld_unit_zero hz3 _ x, View.ld_unit_zero hz2 _ g, View.ld_unit_zero hz3 _ gate]
  rw [pay1_apply, pay6_apply]
  simp only [pay2_apply, ld1, ld3, ld4]
  unfold k0_pay3 k0_pay4 k0_pay5 k0_pay7
  pointwise
  rfl

variable (m : (ℓ : Loc nD τ sig) → Buf (Elt Ideal) ℓ) (c : Dev nD)

/-- The result at every index of the array, from the arguments. -/
def result (i : S8x256x1024.Idx) : EReal :=
  out (fun d => m ((c : Thread nD τ).loc main_arg0) (ix3 (i 0) (i 1) d)) (fun d => m ((c : Thread nD τ).loc main_arg1) (ix3 (i 0) (i 1) d))
    (fun d => m ((c : Thread nD τ).loc main_arg2) (ix3 (i 0) (i 1) d)) (fun d => m ((c : Thread nD τ).loc main_arg3) (ix3 (i 0) (i 1) d))
    (fun d => m ((c : Thread nD τ).loc main_arg4) (ix3 (i 0) 0 d)) (fun d => m ((c : Thread nD τ).loc main_arg5) (ix1 d))
    (fun k j => m ((c : Thread nD τ).loc main_arg6) (ix2 k j)) (i 2)

/-- Where the index maps place the blocks of a grid point. -/
theorem index0 : ∀ t : Fin grid0.N, win0_0.index t 0 = t.val / 1 ∧ win0_0.index t 1 = t.val % 1 ∧ win0_0.index t 2 = 0 := by decide +kernel
theorem index1 : ∀ t : Fin grid0.N, win0_1.index t 0 = t.val / 1 ∧ win0_1.index t 1 = t.val % 1 ∧ win0_1.index t 2 = 0 := by decide +kernel
theorem index2 : ∀ t : Fin grid0.N, win0_2.index t 0 = t.val / 1 ∧ win0_2.index t 1 = t.val % 1 ∧ win0_2.index t 2 = 0 := by decide +kernel
theorem index4 : ∀ t : Fin grid0.N, win0_4.index t 0 = t.val / 1 ∧ win0_4.index t 1 = t.val % 1 ∧ win0_4.index t 2 = 0 := by decide +kernel
theorem index7 : ∀ t : Fin grid0.N, win0_7.index t 0 = t.val / 1 ∧ win0_7.index t 1 = t.val % 1 ∧ win0_7.index t 2 = 0 := by decide +kernel
theorem index6 : ∀ t : Fin grid0.N, win0_6.index t 0 = t.val / 1 ∧ win0_6.index t 1 = 0 ∧ win0_6.index t 2 = 0 := by decide +kernel
theorem index3 : ∀ t : Fin grid0.N, win0_3.index t 0 = 0 ∧ win0_3.index t 1 = 0 := by decide +kernel
theorem index5 : ∀ t : Fin grid0.N, win0_5.index t 0 = 0 ∧ win0_5.index t 1 = 0 := by decide +kernel

/-- Where an index of the result's block lies in the array. -/
theorem emb7 (t : Fin grid0.N) (i : Fin 256) (j : Fin 1024) :
    (win0_7.blk t).view.emb (ix3 (0 : Fin 1) i j) =
      ix3 (⟨t.val / 1, by have := t.isLt; change t.val < 8 at this; omega⟩ : Fin 8)
        (⟨(t.val % 1) * 256 + i.val, by omega⟩ : Fin 256) j := by
  have h := index7 t
  blk_ext [h]

/-- The blocks read from the arguments, at an index. -/
theorem read0 (t : Fin grid0.N) (i : Fin 256) (j : Fin 512) :
    iblk m c 0 t (ix3 (0 : Fin 1) i j) = m ((c : Thread nD τ).loc main_arg0)
      (ix3 (⟨t.val / 1, by have := t.isLt; change t.val < 8 at this; omega⟩ : Fin 8)
        (⟨(t.val % 1) * 256 + i.val, by omega⟩ : Fin 256) j) := by
  have h := index0 t
  blk_ext [iblk, V, h]
theorem read1 (t : Fin grid0.N) (i : Fin 256) (j : Fin 256) :
    iblk m c 1 t (ix3 (0 : Fin 1) i j) = m ((c : Thread nD τ).loc main_arg1)
      (ix3 (⟨t.val / 1, by have := t.isLt; change t.val < 8 at this; omega⟩ : Fin 8)
        (⟨(t.val % 1) * 256 + i.val, by omega⟩ : Fin 256) j) := by
  have h := index1 t
  blk_ext [iblk, V, h]
theorem read2 (t : Fin grid0.N) (i : Fin 256) (j : Fin 256) :
    iblk m c 2 t (ix3 (0 : Fin 1) i j) = m ((c : Thread nD τ).loc main_arg2)
      (ix3 (⟨t.val / 1, by have := t.isLt; change t.val < 8 at this; omega⟩ : Fin 8)
        (⟨(t.val % 1) * 256 + i.val, by omega⟩ : Fin 256) j) := by
  have h := index2 t
  blk_ext [iblk, V, h]
theorem read4 (t : Fin grid0.N) (i : Fin 256) (j : Fin 1024) :
    iblk m c 4 t (ix3 (0 : Fin 1) i j) = m ((c : Thread nD τ).loc main_arg3)
      (ix3 (⟨t.val / 1, by have := t.isLt; change t.val < 8 at this; omega⟩ : Fin 8)
        (⟨(t.val % 1) * 256 + i.val, by omega⟩ : Fin 256) j) := by
  have h := index4 t
  blk_ext [iblk, V, h]
theorem read6 (t : Fin grid0.N) (j : Fin 1024) :
    iblk m c 6 t (ix3 (0 : Fin 1) (0 : Fin 1) j) = m ((c : Thread nD τ).loc main_arg4)
      (ix3 (⟨t.val / 1, by have := t.isLt; change t.val < 8 at this; omega⟩ : Fin 8) (0 : Fin 1) j) := by
  have h := index6 t
  blk_ext [iblk, V, h]
theorem read5 (t : Fin grid0.N) (j : Fin 1024) :
    iblk m c 5 t (ix2 (0 : Fin 1) j) = m ((c : Thread nD τ).loc main_arg5) (ix1 j) := by
  have h := index5 t
  blk_simp [iblk]; entry_read; pointwise
  blk_ext [h]
theorem read3 (t : Fin grid0.N) (i j : Fin 1024) :
    iblk m c 3 t (ix2 i j) = m ((c : Thread nD τ).loc main_arg6) (ix2 i j) := by
  have h := index3 t
  blk_simp [iblk]; entry_read; pointwise
  blk_ext [h]

/-- The block that a grid point writes, at an index. -/
theorem block_eq (t : Fin grid0.N) (y : S1x256x1024.Idx) :
    out0_7 (iblk m c 0 t) (iblk m c 1 t) (iblk m c 2 t) (iblk m c 3 t) (iblk m c 4 t) (iblk m c 5 t) (iblk m c 6 t) y
      = result m c ((win0_7.blk t).view.emb y) := by
  obtain ⟨i, j, rfl⟩ : ∃ (i : Fin 256) (j : Fin 1024), y = ix3 (0 : Fin 1) i j :=
    ⟨y 1, y 2, by funext a; match a with | ⟨0, _⟩ => exact Subsingleton.elim (α := Fin 1) _ _ | ⟨1, _⟩ => rfl | ⟨2, _⟩ => rfl⟩
  rw [block_apply, emb7]
  simp only [read0, read1, read2, read3, read4, read5, read6]
  rfl

/-- The result array after the run. -/
theorem array_eq : (dats m 0 c).arrAt 7 cfg0.N = result m c := by
  refine (dats m 0 c).arrAt_eq_of_covers 7 _ (by decide +kernel) fun t hf y => ?_
  blk_simp
  rw [after0_7]
  exact block_eq m c t y

end Kernel

section Reference
open Cert.Reference8Ideal Cert.Reference8Ideal.Gen Cert.Reference8Ideal.Read

variable (yg : (⟨S8x256x512, .bf16⟩ : BufTy).Contents (Elt Ideal)) (yf yc : (⟨S8x256x256, .bf16⟩ : BufTy).Contents (Elt Ideal))
  (x : (⟨S8x256x1024, .f32⟩ : BufTy).Contents (Elt Ideal)) (gate : (⟨S8x1x1024, .f32⟩ : BufTy).Contents (Elt Ideal))
  (g : (⟨S1024, .f32⟩ : BufTy).Contents (Elt Ideal)) (w : (⟨S1024x1024, .f32⟩ : BufTy).Contents (Elt Ideal))

/-- The concatenated row, in its three ranges. -/
theorem cat0 (b : Fin 8) (t : Fin 256) (k : Fin 512) :
    val_main_v1 (F := Ideal) yg yf yc (ix3 b t ⟨k.val, by omega⟩) = yg (ix3 b t k) := by
  unfold val_main_v1 val_main_v0
  pointwise
theorem cat1 (b : Fin 8) (t : Fin 256) (k : Fin 256) :
    val_main_v1 (F := Ideal) yg yf yc (ix3 b t ⟨512 + k.val, by omega⟩) = yf (ix3 b t k) := by
  unfold val_main_v1 val_main_v0
  pointwise
theorem cat2 (b : Fin 8) (t : Fin 256) (k : Fin 256) :
    val_main_v1 (F := Ideal) yg yf yc (ix3 b t ⟨768 + k.val, by omega⟩) = yc (ix3 b t k) := by
  unfold val_main_v1 val_main_v0
  pointwise
  rw [dif_neg (by omega), dif_neg (by omega)]
  congr 2; apply Fin.ext; change 768 + k.val - 512 - 256 = k.val; omega

/-- A sum over the 1024 rows of the matrix, in the three runs. -/
theorem sum_runs (f : Fin 1024 → EReal) :
    (∑ k : Fin 1024, f k) = (∑ k : Fin 512, f ⟨k.val, by omega⟩) + (∑ k : Fin 256, f ⟨512 + k.val, by omega⟩)
      + ∑ k : Fin 256, f ⟨768 + k.val, by omega⟩ := by
  refine (Fin.sum_univ_add (a := 768) (b := 256) f).trans ?_
  refine congrArg₂ (· + ·) ((Fin.sum_univ_add (a := 512) (b := 256) _).trans rfl) rfl

/-- The product before its normalisation. -/
theorem inner_apply (b : Fin 8) (t : Fin 256) (c : Fin 1024) :
    val_main_v2 (F := Ideal) yg yf yc w (ix3 b t c) =
      inner (fun d => yg (ix3 b t d)) (fun d => yf (ix3 b t d)) (fun d => yc (ix3 b t d)) (fun k c => w (ix2 k c)) c := by
  have e : val_main_v2 (F := Ideal) yg yf yc w (ix3 b t c) =
      ∑ k : Fin 1024, val_main_v1 (F := Ideal) yg yf yc (ix3 b t k) * w (ix2 k c) := by
    unfold val_main_v2
    generalize val_main_v1 (F := Ideal) yg yf yc = h
    pointwise
  rw [e, sum_runs]
  simp only [cat0, cat1, cat2]
  rfl

/-- The reference's result at an index. -/
theorem out_apply (b : Fin 8) (t : Fin 256) (c : Fin 1024) :
    val_main_v18 (F := Ideal) yg yf yc x gate g w (ix3 b t c) =
      out (fun d => yg (ix3 b t d)) (fun d => yf (ix3 b t d)) (fun d => yc (ix3 b t d)) (fun d => x (ix3 b t d))
        (fun d => gate (ix3 b 0 d)) (fun d => g (ix1 d)) (fun k c => w (ix2 k c)) c := by
  unfold out
  have e := fun c => inner_apply yg yf yc w b t c
  unfold val_main_v18 val_main_v17 val_main_v16 val_main_v15 val_main_v14 val_main_v13 val_main_v12 val_main_v11 val_main_v10
    val_main_v9 val_main_v8 val_main_v7 val_main_v6 val_main_v5 val_main_v4 val_main_v3 val_main_cst val_main_cst_0 val_main_cst_1
  generalize val_main_v2 (F := Ideal) yg yf yc w = y at e ⊢
  pointwise
  simp only [e]
  rfl

/-- The reference's result array, from the arguments of a run. -/
theorem reference_eq (i : S8x256x1024.Idx) :
    val_main_v18 (F := Ideal) yg yf yc x gate g w i =
      out (fun d => yg (ix3 (i 0) (i 1) d)) (fun d => yf (ix3 (i 0) (i 1) d)) (fun d => yc (ix3 (i 0) (i 1) d))
        (fun d => x (ix3 (i 0) (i 1) d)) (fun d => gate (ix3 (i 0) 0 d)) (fun d => g (ix1 d)) (fun k c => w (ix2 k c)) (i 2) := by
  have hi : i = ix3 (i 0) (i 1) (i 2) := by
    funext a; match a with | ⟨0, _⟩ => rfl | ⟨1, _⟩ => rfl | ⟨2, _⟩ => rfl
  exact (congrArg _ hi).trans (out_apply yg yf yc x gate g w (i 0) (i 1) (i 2))

end Reference

/-- From memories that agree on the arguments the output projection and its reference end with equal results. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => result m c, ?_, ?_⟩
  · refine (θ_run _ _ _).mono (fun r h c => ⟨(h c).1.trans (array_eq m c), (h c).2⟩) (Cert.Kernel8Ideal.Value.run_blocks m ρ)
  · refine (θ_run _ _ _).mono (fun r h c => ⟨(h c).1.trans ?_, (h c).2⟩) (Cert.Reference8Ideal.Value.run (F := Ideal) m' ρ')
    rw [Reference8Ideal.Read.val_main_v18_eq]
    obtain ⟨a0, a1, a2, a3, a4, a5, a6⟩ := hagree c
    rw [a0, a1, a2, a3, a4, a5, a6]
    funext i
    exact reference_eq _ _ _ _ _ _ _ i

end Cert.OutProjCtx

end
-- ==== Proof.InProjCtx.lean ====
/- The input projection of the context: the kernel and its reference compute the same nine arrays. -/
module

public import proofs.«01_k».proof.Proof.InProj
public import proofs.«01_k».proof.Proof.Gen.Kernel9Ideal.Value
public import proofs.«01_k».proof.Proof.Gen.Reference9Ideal.Read
public import proofs.«01_k».proof.Defs
public import Idealize.ShloMosaic.Lib.Pipeline.ValueKit
public import Idealize.ShloMosaic.Lib.Pointwise

@[expose] public section

set_option maxRecDepth 16384

noncomputable section

namespace Cert.InProjCtx

open Idealize.ShloMosaic Idealize.ShloMosaic.TcCoe Idealize.SL.Sem
open scoped BigOperators

open Cert.InProj (wcol wcol_lo wcol_mid wcol_hi wcol_zero proj sitofp_zero)

section Kernel
open Cert.Kernel9Ideal Cert.Kernel9Ideal.Gen

/-- The modulated row the products read. -/
theorem pay5_apply (v0 : Vec Ideal S1x256x1024 .f32) (v2 : Vec Ideal S1x1024 .f32) (v16 v22 : Vec Ideal S1x1x1024 .f32)
    (i : Fin 256) (j : Fin 1024) :
    k0_pay5 v0 v2 v16 v22 (ix2 i j) =
      FfnSpec.modulated (fun d => v0 (ix3 0 i d)) (fun d => v2 (ix2 0 d)) (fun d => v16 (ix3 0 0 d)) (fun d => v22 (ix3 0 0 d)) j := by
  unfold k0_pay5
  pointwise
  rfl

/-- The products, one for each result. -/
theorem prod5_apply (v0 : Vec Ideal S1x256x1024 .f32) (v2 : Vec Ideal S1x1024 .f32) (v16 v22 : Vec Ideal S1x1x1024 .f32)
    (w : Vec Ideal S1024x256 .bf16) (i : Fin 256) (j : Fin 256) :
    k0_pay6 v0 v2 v16 v22 w (ix3 0 i j) = ∑ d : Fin 1024, k0_pay5 v0 v2 v16 v22 (ix2 i d) * w (ix2 d j) := by
  unfold k0_pay6
  generalize k0_pay5 v0 v2 v16 v22 = h
  pointwise
theorem prod6_apply (h : FVec Ideal S256x1024 .bf16) (w : Vec Ideal S1024x512 .bf16) (i : Fin 256) (j : Fin 512) :
    k0_pay7 h w (ix3 0 i j) = ∑ d : Fin 1024, h (ix2 i d) * w (ix2 d j) := by
  unfold k0_pay7
  pointwise
theorem prod7_apply (h : FVec Ideal S256x1024 .bf16) (w : Vec Ideal S1024x256 .bf16) (i : Fin 256) (j : Fin 256) :
    k0_pay8 h w (ix3 0 i j) = ∑ d : Fin 1024, h (ix2 i d) * w (ix2 d j) := by
  unfold k0_pay8
  pointwise
theorem prod8_apply (h : FVec Ideal S256x1024 .bf16) (w : Vec Ideal S1024x512 .bf16) (i : Fin 256) (j : Fin 512) :
    k0_pay9 h w (ix3 0 i j) = ∑ d : Fin 1024, h (ix2 i d) * w (ix2 d j) := by
  unfold k0_pay9
  pointwise
theorem prod9_apply (h : FVec Ideal S256x1024 .bf16) (w : Vec Ideal S1024x256 .bf16) (i : Fin 256) (j : Fin 256) :
    k0_pay10 h w (ix3 0 i j) = ∑ d : Fin 1024, h (ix2 i d) * w (ix2 d j) := by
  unfold k0_pay10
  pointwise
theorem prod10_apply (h : FVec Ideal S256x1024 .bf16) (w : Vec Ideal S1024x256 .bf16) (i : Fin 256) (j : Fin 256) :
    k0_pay1 (k0_pay11 h w) (ix3 0 i j) = ∑ d : Fin 1024, h (ix2 i d) * w (ix2 d j) := by
  unfold k0_pay1 k0_pay11
  pointwise
theorem prod11_apply (h : FVec Ideal S256x1024 .bf16) (w : Vec Ideal S1024x256 .bf16) (i : Fin 256) (j : Fin 256) :
    k0_pay2 h w (ix3 0 i j) = ∑ d : Fin 1024, h (ix2 i d) * w (ix2 d j) := by
  unfold k0_pay2
  pointwise
theorem prod12_apply (h : FVec Ideal S256x1024 .bf16) (w : Vec Ideal S1024x256 .bf16) (i : Fin 256) (j : Fin 256) :
    k0_pay3 h w (ix3 0 i j) = ∑ d : Fin 1024, h (ix2 i d) * w (ix2 d j) := by
  unfold k0_pay3
  pointwise
theorem prod13_apply (h : FVec Ideal S256x1024 .bf16) (w : Vec Ideal S1024x128 .bf16) (i : Fin 256) (j : Fin 128) :
    k0_pay4 h w (ix3 0 i j) = ∑ d : Fin 1024, h (ix2 i d) * w (ix2 d j) := by
  unfold k0_pay4
  pointwise

/-- The columns of the matrix that a product reads. -/
theorem ld5 (w : Vec Ideal S1024x2688 .bf16) (d : Fin 1024) (j : Fin 256) :
    View.ld w r0_3 (ix2 d j) = w (ix2 d ⟨0 + j.val, by omega⟩) := by
  unfold View.ld; congr 1; funext a; apply Fin.ext
  match a with | ⟨0, _⟩ => simp [ix2] | ⟨1, _⟩ => simp [ix2]
theorem ld6 (w : Vec Ideal S1024x2688 .bf16) (d : Fin 1024) (j : Fin 512) :
    View.ld w r0_5 (ix2 d j) = w (ix2 d ⟨256 + j.val, by omega⟩) := by
  unfold View.ld; congr 1; funext a; apply Fin.ext
  match a with | ⟨0, _⟩ => simp [ix2] | ⟨1, _⟩ => simp [ix2]
theorem ld7 (w : Vec Ideal S1024x2688 .bf16) (d : Fin 1024) (j : Fin 256) :
    View.ld w r0_7 (ix2 d j) = w (ix2 d ⟨768 + j.val, by omega⟩) := by
  unfold View.ld; congr 1; funext a; apply Fin.ext
  match a with | ⟨0, _⟩ => simp [ix2] | ⟨1, _⟩ => simp [ix2]
theorem ld8 (w : Vec Ideal S1024x2688 .bf16) (d : Fin 1024) (j : Fin 512) :
    View.ld w r0_8 (ix2 d j) = w (ix2 d ⟨1024 + j.val, by omega⟩) := by
  unfold View.ld; congr 1; funext a; apply Fin.ext
  match a with | ⟨0, _⟩ => simp [ix2] | ⟨1, _⟩ => simp [ix2]
theorem ld9 (w : Vec Ideal S1024x2688 .bf16) (d : Fin 1024) (j : Fin 256) :
    View.ld w r0_9 (ix2 d j) = w (ix2 d ⟨1536 + j.val, by omega⟩) := by
  unfold View.ld; congr 1; funext a; apply Fin.ext
  match a with | ⟨0, _⟩ => simp [ix2] | ⟨1, _⟩ => simp [ix2]
theorem ld10 (w : Vec Ideal S1024x2688 .bf16) (d : Fin 1024) (j : Fin 256) :
    View.ld w r0_10 (ix2 d j) = w (ix2 d ⟨1792 + j.val, by omega⟩) := by
  unfold View.ld; congr 1; funext a; apply Fin.ext
  match a with | ⟨0, _⟩ => simp [ix2] | ⟨1, _⟩ => simp [ix2]
theorem ld11 (w : Vec Ideal S1024x2688 .bf16) (d : Fin 1024) (j : Fin 256) :
    View.ld w r0_11 (ix2 d j) = w (ix2 d ⟨2048 + j.val, by omega⟩) := by
  unfold View.ld; congr 1; funext a; apply Fin.ext
  match a with | ⟨0, _⟩ => simp [ix2] | ⟨1, _⟩ => simp [ix2]
theorem ld12 (w : Vec Ideal S1024x2688 .bf16) (d : Fin 1024) (j : Fin 256) :
    View.ld w r0_12 (ix2 d j) = w (ix2 d ⟨2304 + j.val, by omega⟩) := by
  unfold View.ld; congr 1; funext a; apply Fin.ext
  match a with | ⟨0, _⟩ => simp [ix2] | ⟨1, _⟩ => simp [ix2]
theorem ld13 (w : Vec Ideal S1024x2688 .bf16) (d : Fin 1024) (j : Fin 128) :
    View.ld w r0_13 (ix2 d j) = w (ix2 d ⟨2560 + j.val, by omega⟩) := by
  unfold View.ld; congr 1; funext a; apply Fin.ext
  match a with | ⟨0, _⟩ => simp [ix2] | ⟨1, _⟩ => simp [ix2]

/-- The blocks at an index, from the loads. -/
theorem block5_apply (x : Vec Ideal S1x256x1024 .f32) (g : Vec Ideal S1x1024 .f32) (sh sc : Vec Ideal S1x1x1024 .f32)
    (w : Vec Ideal S1024x2688 .bf16) (i : Fin 256) (j : Fin 256) :
    out0_5 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨0 + j.val, by omega⟩) := by
  unfold out0_5
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod5_apply]
  simp only [pay5_apply]
  exact Finset.sum_congr rfl fun d _ => congrArg₂ (· * ·) rfl (ld5 w d j)
theorem block6_apply (x : Vec Ideal S1x256x1024 .f32) (g : Vec Ideal S1x1024 .f32) (sh sc : Vec Ideal S1x1x1024 .f32)
    (w : Vec Ideal S1024x2688 .bf16) (i : Fin 256) (j : Fin 512) :
    out0_6 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨256 + j.val, by omega⟩) := by
  unfold out0_6 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod6_apply]
  simp only [pay5_apply]
  exact Finset.sum_congr rfl fun d _ => congrArg₂ (· * ·) rfl (ld6 w d j)
theorem block7_apply (x : Vec Ideal S1x256x1024 .f32) (g : Vec Ideal S1x1024 .f32) (sh sc : Vec Ideal S1x1x1024 .f32)
    (w : Vec Ideal S1024x2688 .bf16) (i : Fin 256) (j : Fin 256) :
    out0_7 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨768 + j.val, by omega⟩) := by
  unfold out0_7 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod7_apply]
  simp only [pay5_apply]
  exact Finset.sum_congr rfl fun d _ => congrArg₂ (· * ·) rfl (ld7 w d j)
theorem block8_apply (x : Vec Ideal S1x256x1024 .f32) (g : Vec Ideal S1x1024 .f32) (sh sc : Vec Ideal S1x1x1024 .f32)
    (w : Vec Ideal S1024x2688 .bf16) (i : Fin 256) (j : Fin 512) :
    out0_8 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨1024 + j.val, by omega⟩) := by
  unfold out0_8 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod8_apply]
  simp only [pay5_apply]
  exact Finset.sum_congr rfl fun d _ => congrArg₂ (· * ·) rfl (ld8 w d j)
theorem block9_apply (x : Vec Ideal S1x256x1024 .f32) (g : Vec Ideal S1x1024 .f32) (sh sc : Vec Ideal S1x1x1024 .f32)
    (w : Vec Ideal S1024x2688 .bf16) (i : Fin 256) (j : Fin 256) :
    out0_9 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨1536 + j.val, by omega⟩) := by
  unfold out0_9 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod9_apply]
  simp only [pay5_apply]
  exact Finset.sum_congr rfl fun d _ => congrArg₂ (· * ·) rfl (ld9 w d j)
theorem block10_apply (x : Vec Ideal S1x256x1024 .f32) (g : Vec Ideal S1x1024 .f32) (sh sc : Vec Ideal S1x1x1024 .f32)
    (w : Vec Ideal S1024x2688 .bf16) (i : Fin 256) (j : Fin 256) :
    out0_10 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨1792 + j.val, by omega⟩) := by
  unfold out0_10 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod10_apply]
  simp only [pay5_apply]
  exact Finset.sum_congr rfl fun d _ => congrArg₂ (· * ·) rfl (ld10 w d j)
theorem block11_apply (x : Vec Ideal S1x256x1024 .f32) (g : Vec Ideal S1x1024 .f32) (sh sc : Vec Ideal S1x1x1024 .f32)
    (w : Vec Ideal S1024x2688 .bf16) (i : Fin 256) (j : Fin 256) :
    out0_11 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨2048 + j.val, by omega⟩) := by
  unfold out0_11 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod11_apply]
  simp only [pay5_apply]
  exact Finset.sum_congr rfl fun d _ => congrArg₂ (· * ·) rfl (ld11 w d j)
theorem block12_apply (x : Vec Ideal S1x256x1024 .f32) (g : Vec Ideal S1x1024 .f32) (sh sc : Vec Ideal S1x1x1024 .f32)
    (w : Vec Ideal S1024x2688 .bf16) (i : Fin 256) (j : Fin 256) :
    out0_12 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨2304 + j.val, by omega⟩) := by
  unfold out0_12 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod12_apply]
  simp only [pay5_apply]
  exact Finset.sum_congr rfl fun d _ => congrArg₂ (· * ·) rfl (ld12 w d j)
theorem block13_apply (x : Vec Ideal S1x256x1024 .f32) (g : Vec Ideal S1x1024 .f32) (sh sc : Vec Ideal S1x1x1024 .f32)
    (w : Vec Ideal S1024x2688 .bf16) (i : Fin 256) (j : Fin 128) :
    out0_13 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨2560 + j.val, by omega⟩) := by
  unfold out0_13 k0_pay12
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod13_apply]
  simp only [pay5_apply]
  exact Finset.sum_congr rfl fun d _ => congrArg₂ (· * ·) rfl (ld13 w d j)

variable (m : (ℓ : Loc nD τ sig) → Buf (Elt Ideal) ℓ) (c : Dev nD)

/-- The projection's entries, from the arguments. -/
def entry (b : Fin 8) (t : Fin 256) (j : Fin 2688) : EReal :=
  proj (fun d => m ((c : Thread nD τ).loc main_arg0) (ix3 b t d)) (fun d => m ((c : Thread nD τ).loc main_arg3) (ix1 d))
    (fun d => m ((c : Thread nD τ).loc main_arg2) (ix3 b 0 d)) (fun d => m ((c : Thread nD τ).loc main_arg1) (ix3 b 0 d))
    (fun d k => m ((c : Thread nD τ).loc main_arg4) (ix2 d k)) j

/-- Where the index maps place the blocks of a grid point. -/
theorem index0 : ∀ t : Fin grid0.N, win0_0.index t 0 = t.val / 1 ∧ win0_0.index t 1 = t.val % 1 ∧ win0_0.index t 2 = 0 := by decide +kernel
theorem index1 : ∀ t : Fin grid0.N, win0_1.index t 0 = 0 ∧ win0_1.index t 1 = 0 := by decide +kernel
theorem index2 : ∀ t : Fin grid0.N, win0_2.index t 0 = t.val / 1 ∧ win0_2.index t 1 = 0 ∧ win0_2.index t 2 = 0 := by decide +kernel
theorem index3 : ∀ t : Fin grid0.N, win0_3.index t 0 = t.val / 1 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val / 1 ∧ win0_5.index t 1 = t.val % 1 ∧ win0_5.index t 2 = 0 := by decide +kernel
theorem index6 : ∀ t : Fin grid0.N, win0_6.index t 0 = t.val / 1 ∧ win0_6.index t 1 = t.val % 1 ∧ win0_6.index t 2 = 0 := by decide +kernel
theorem index7 : ∀ t : Fin grid0.N, win0_7.index t 0 = t.val / 1 ∧ win0_7.index t 1 = t.val % 1 ∧ win0_7.index t 2 = 0 := by decide +kernel
theorem index8 : ∀ t : Fin grid0.N, win0_8.index t 0 = t.val / 1 ∧ win0_8.index t 1 = t.val % 1 ∧ win0_8.index t 2 = 0 := by decide +kernel
theorem index9 : ∀ t : Fin grid0.N, win0_9.index t 0 = t.val / 1 ∧ win0_9.index t 1 = t.val % 1 ∧ win0_9.index t 2 = 0 := by decide +kernel
theorem index10 : ∀ t : Fin grid0.N, win0_10.index t 0 = t.val / 1 ∧ win0_10.index t 1 = t.val % 1 ∧ win0_10.index t 2 = 0 := by decide +kernel
theorem index11 : ∀ t : Fin grid0.N, win0_11.index t 0 = t.val / 1 ∧ win0_11.index t 1 = t.val % 1 ∧ win0_11.index t 2 = 0 := by decide +kernel
theorem index12 : ∀ t : Fin grid0.N, win0_12.index t 0 = t.val / 1 ∧ win0_12.index t 1 = t.val % 1 ∧ win0_12.index t 2 = 0 := by decide +kernel
theorem index13 : ∀ t : Fin grid0.N, win0_13.index t 0 = t.val / 1 ∧ win0_13.index t 1 = t.val % 1 ∧ win0_13.index t 2 = 0 := by decide +kernel

/-- The blocks read from the arguments, at an index. -/
theorem read0 (t : Fin grid0.N) (i : Fin 256) (j : Fin 1024) :
    iblk m c 0 t (ix3 (0 : Fin 1) i j) = m ((c : Thread nD τ).loc main_arg0)
      (ix3 (⟨t.val / 1, by have := t.isLt; change t.val < 8 at this; omega⟩ : Fin 8)
        (⟨(t.val % 1) * 256 + i.val, by omega⟩ : Fin 256) j) := by
  have h := index0 t
  blk_ext [iblk, V, h]
theorem read2 (t : Fin grid0.N) (j : Fin 1024) :
    iblk m c 2 t (ix3 (0 : Fin 1) (0 : Fin 1) j) = m ((c : Thread nD τ).loc main_arg1)
      (ix3 (⟨t.val / 1, by have := t.isLt; change t.val < 8 at this; omega⟩ : Fin 8) (0 : Fin 1) j) := by
  have h := index2 t
  blk_ext [iblk, V, h]
theorem read3 (t : Fin grid0.N) (j : Fin 1024) :
    iblk m c 3 t (ix3 (0 : Fin 1) (0 : Fin 1) j) = m ((c : Thread nD τ).loc main_arg2)
      (ix3 (⟨t.val / 1, by have := t.isLt; change t.val < 8 at this; omega⟩ : Fin 8) (0 : Fin 1) j) := by
  have h := index3 t
  blk_ext [iblk, V, h]
theorem read1 (t : Fin grid0.N) (j : Fin 1024) :
    iblk m c 1 t (ix2 (0 : Fin 1) j) = m ((c : Thread nD τ).loc main_arg3) (ix1 j) := by
  have h := index1 t
  have e : (((win0 1).blk t).view.emb (ix2 (0 : Fin 1) j) : S1x1024.Idx) = ix2 (0 : Fin 1) j := by blk_ext [h]
  blk_simp [iblk]
  simp only [V, hostOps0, hostOps0_1, hostOps0_2, List.flatten_cons, List.flatten_nil, List.append_nil, List.cons_append, List.nil_append]
  entry_read
  rw [e]
  pointwise
theorem read4 (t : Fin grid0.N) (i : Fin 1024) (j : Fin 2688) :
    iblk m c 4 t (ix2 i j) = wcol (fun d k => m ((c : Thread nD τ).loc main_arg4) (ix2 d k)) i j := by
  have h := index4 t
  have e : (((win0 4).blk t).view.emb (ix2 i j) : S1024x2688.Idx) = ix2 i j := by blk_ext [h]
  blk_simp [iblk]
  simp only [V, hostOps0, hostOps0_1, hostOps0_2, List.flatten_cons, List.flatten_nil, List.append_nil, List.cons_append, List.nil_append]
  entry_read
  rw [e]
  pointwise
  by_cases h0 : j.val < 768
  · rw [dif_pos (by omega), dif_pos h0]
    exact (wcol_lo (fun d k => m ((c : Thread nD τ).loc main_arg4) (ix2 d k)) i j ⟨j.val, by omega⟩ h0 rfl).symm
  by_cases h1 : j.val < 2560
  · rw [dif_pos h1, dif_neg h0]
    exact (wcol_mid (fun d k => m ((c : Thread nD τ).loc main_arg4) (ix2 d k)) i j ⟨800 + (j.val - 768), by omega⟩ h0 h1
      (by dsimp only; omega)).symm
  rw [dif_neg h1]
  change pad S1024x128 ![0, 0] ![0, 96] ![0, 0] (extractStridedSlice S1024x32 ![0, 768]
    (m (c, Proc.tc.devRef main_arg4)) slices_S1024x2592_S1024x32_0_768 : FVec Ideal S1024x32 .f32)
    (sitofp .f32 (constantI S_ 32 0#32)) pads_S1024x32_S1024x128_000_0960 h_S_
    (ix2 i (⟨j.val - 2560, by omega⟩ : Fin 128)) = _
  pointwise
  by_cases h2 : j.val < 2592
  · rw [dif_pos (by omega)]
    exact (wcol_hi (fun d k => m ((c : Thread nD τ).loc main_arg4) (ix2 d k)) i j ⟨768 + (j.val - 2560), by omega⟩ h1 h2
      (by dsimp only; omega)).symm
  rw [dif_neg (by omega), wcol_zero _ _ _ h2]
  exact sitofp_zero

/-- Result 1: its block at a grid point, and its array after the run. -/
theorem block5_eq (t : Fin grid0.N) (y : S1x256x256.Idx) :
    out0_5 (iblk m c 0 t) (iblk m c 1 t) (iblk m c 2 t) (iblk m c 3 t) (iblk m c 4 t) y =
      (fun i : S8x256x256.Idx => entry m c (i 0) (i 1) ⟨0 + (i 2).val, by have := (i 2).isLt; change (i 2).val < 256 at this; omega⟩)
        ((win0_5.blk t).view.emb y) := by
  obtain ⟨i, j, rfl⟩ : ∃ (i : Fin 256) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_5.blk t).view.emb (ix3 (0 : Fin 1) i j) =
      ix3 (⟨t.val / 1, by have := t.isLt; change t.val < 8 at this; omega⟩ : Fin 8)
        (⟨(t.val % 1) * 256 + i.val, by omega⟩ : Fin 256) j := by
    have h := index5 t
    blk_ext [h]
  rw [block5_apply, e]
  simp only [read0, read1, read2, read3, read4]
  rfl
def result5 (i : S8x256x256.Idx) : EReal :=
  entry m c (i 0) (i 1) ⟨0 + (i 2).val, by have := (i 2).isLt; change (i 2).val < 256 at this; omega⟩
theorem array5_eq : (dats m 0 c).arrAt 5 cfg0.N = result5 m c := by
  refine (dats m 0 c).arrAt_eq_of_covers 5 _ (by decide +kernel) fun t hf y => ?_
  blk_simp
  rw [after0_5]
  exact block5_eq m c t y

/-- Result 2: its block at a grid point, and its array after the run. -/
theorem block6_eq (t : Fin grid0.N) (y : S1x256x512.Idx) :
    out0_6 (iblk m c 0 t) (iblk m c 1 t) (iblk m c 2 t) (iblk m c 3 t) (iblk m c 4 t) y =
      (fun i : S8x256x512.Idx => entry m c (i 0) (i 1) ⟨256 + (i 2).val, by have := (i 2).isLt; change (i 2).val < 512 at this; omega⟩)
        ((win0_6.blk t).view.emb y) := by
  obtain ⟨i, j, rfl⟩ : ∃ (i : Fin 256) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have e : (win0_6.blk t).view.emb (ix3 (0 : Fin 1) i j) =
      ix3 (⟨t.val / 1, by have := t.isLt; change t.val < 8 at this; omega⟩ : Fin 8)
        (⟨(t.val % 1) * 256 + i.val, by omega⟩ : Fin 256) j := by
    have h := index6 t
    blk_ext [h]
  rw [block6_apply, e]
  simp only [read0, read1, read2, read3, read4]
  rfl
def result6 (i : S8x256x512.Idx) : EReal :=
  entry m c (i 0) (i 1) ⟨256 + (i 2).val, by have := (i 2).isLt; change (i 2).val < 512 at this; omega⟩
theorem array6_eq : (dats m 0 c).arrAt 6 cfg0.N = result6 m c := by
  refine (dats m 0 c).arrAt_eq_of_covers 6 _ (by decide +kernel) fun t hf y => ?_
  blk_simp
  rw [after0_6]
  exact block6_eq m c t y

/-- Result 3: its block at a grid point, and its array after the run. -/
theorem block7_eq (t : Fin grid0.N) (y : S1x256x256.Idx) :
    out0_7 (iblk m c 0 t) (iblk m c 1 t) (iblk m c 2 t) (iblk m c 3 t) (iblk m c 4 t) y =
      (fun i : S8x256x256.Idx => entry m c (i 0) (i 1) ⟨768 + (i 2).val, by have := (i 2).isLt; change (i 2).val < 256 at this; omega⟩)
        ((win0_7.blk t).view.emb y) := by
  obtain ⟨i, j, rfl⟩ : ∃ (i : Fin 256) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_7.blk t).view.emb (ix3 (0 : Fin 1) i j) =
      ix3 (⟨t.val / 1, by have := t.isLt; change t.val < 8 at this; omega⟩ : Fin 8)
        (⟨(t.val % 1) * 256 + i.val, by omega⟩ : Fin 256) j := by
    have h := index7 t
    blk_ext [h]
  rw [block7_apply, e]
  simp only [read0, read1, read2, read3, read4]
  rfl
def result7 (i : S8x256x256.Idx) : EReal :=
  entry m c (i 0) (i 1) ⟨768 + (i 2).val, by have := (i 2).isLt; change (i 2).val < 256 at this; omega⟩
theorem array7_eq : (dats m 0 c).arrAt 7 cfg0.N = result7 m c := by
  refine (dats m 0 c).arrAt_eq_of_covers 7 _ (by decide +kernel) fun t hf y => ?_
  blk_simp
  rw [after0_7]
  exact block7_eq m c t y

/-- Result 4: its block at a grid point, and its array after the run. -/
theorem block8_eq (t : Fin grid0.N) (y : S1x256x512.Idx) :
    out0_8 (iblk m c 0 t) (iblk m c 1 t) (iblk m c 2 t) (iblk m c 3 t) (iblk m c 4 t) y =
      (fun i : S8x256x512.Idx => entry m c (i 0) (i 1) ⟨1024 + (i 2).val, by have := (i 2).isLt; change (i 2).val < 512 at this; omega⟩)
        ((win0_8.blk t).view.emb y) := by
  obtain ⟨i, j, rfl⟩ : ∃ (i : Fin 256) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have e : (win0_8.blk t).view.emb (ix3 (0 : Fin 1) i j) =
      ix3 (⟨t.val / 1, by have := t.isLt; change t.val < 8 at this; omega⟩ : Fin 8)
        (⟨(t.val % 1) * 256 + i.val, by omega⟩ : Fin 256) j := by
    have h := index8 t
    blk_ext [h]
  rw [block8_apply, e]
  simp only [read0, read1, read2, read3, read4]
  rfl
def result8 (i : S8x256x512.Idx) : EReal :=
  entry m c (i 0) (i 1) ⟨1024 + (i 2).val, by have := (i 2).isLt; change (i 2).val < 512 at this; omega⟩
theorem array8_eq : (dats m 0 c).arrAt 8 cfg0.N = result8 m c := by
  refine (dats m 0 c).arrAt_eq_of_covers 8 _ (by decide +kernel) fun t hf y => ?_
  blk_simp
  rw [after0_8]
  exact block8_eq m c t y

/-- Result 5: its block at a grid point, and its array after the run. -/
theorem block9_eq (t : Fin grid0.N) (y : S1x256x256.Idx) :
    out0_9 (iblk m c 0 t) (iblk m c 1 t) (iblk m c 2 t) (iblk m c 3 t) (iblk m c 4 t) y =
      (fun i : S8x256x256.Idx => entry m c (i 0) (i 1) ⟨1536 + (i 2).val, by have := (i 2).isLt; change (i 2).val < 256 at this; omega⟩)
        ((win0_9.blk t).view.emb y) := by
  obtain ⟨i, j, rfl⟩ : ∃ (i : Fin 256) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_9.blk t).view.emb (ix3 (0 : Fin 1) i j) =
      ix3 (⟨t.val / 1, by have := t.isLt; change t.val < 8 at this; omega⟩ : Fin 8)
        (⟨(t.val % 1) * 256 + i.val, by omega⟩ : Fin 256) j := by
    have h := index9 t
    blk_ext [h]
  rw [block9_apply, e]
  simp only [read0, read1, read2, read3, read4]
  rfl
def result9 (i : S8x256x256.Idx) : EReal :=
  entry m c (i 0) (i 1) ⟨1536 + (i 2).val, by have := (i 2).isLt; change (i 2).val < 256 at this; omega⟩
theorem array9_eq : (dats m 0 c).arrAt 9 cfg0.N = result9 m c := by
  refine (dats m 0 c).arrAt_eq_of_covers 9 _ (by decide +kernel) fun t hf y => ?_
  blk_simp
  rw [after0_9]
  exact block9_eq m c t y

/-- Result 6: its block at a grid point, and its array after the run. -/
theorem block10_eq (t : Fin grid0.N) (y : S1x256x256.Idx) :
    out0_10 (iblk m c 0 t) (iblk m c 1 t) (iblk m c 2 t) (iblk m c 3 t) (iblk m c 4 t) y =
      (fun i : S8x256x256.Idx => entry m c (i 0) (i 1) ⟨1792 + (i 2).val, by have := (i 2).isLt; change (i 2).val < 256 at this; omega⟩)
        ((win0_10.blk t).view.emb y) := by
  obtain ⟨i, j, rfl⟩ : ∃ (i : Fin 256) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_10.blk t).view.emb (ix3 (0 : Fin 1) i j) =
      ix3 (⟨t.val / 1, by have := t.isLt; change t.val < 8 at this; omega⟩ : Fin 8)
        (⟨(t.val % 1) * 256 + i.val, by omega⟩ : Fin 256) j := by
    have h := index10 t
    blk_ext [h]
  rw [block10_apply, e]
  simp only [read0, read1, read2, read3, read4]
  rfl
def result10 (i : S8x256x256.Idx) : EReal :=
  entry m c (i 0) (i 1) ⟨1792 + (i 2).val, by have := (i 2).isLt; change (i 2).val < 256 at this; omega⟩
theorem array10_eq : (dats m 0 c).arrAt 10 cfg0.N = result10 m c := by
  refine (dats m 0 c).arrAt_eq_of_covers 10 _ (by decide +kernel) fun t hf y => ?_
  blk_simp
  rw [after0_10]
  exact block10_eq m c t y

/-- Result 7: its block at a grid point, and its array after the run. -/
theorem block11_eq (t : Fin grid0.N) (y : S1x256x256.Idx) :
    out0_11 (iblk m c 0 t) (iblk m c 1 t) (iblk m c 2 t) (iblk m c 3 t) (iblk m c 4 t) y =
      (fun i : S8x256x256.Idx => entry m c (i 0) (i 1) ⟨2048 + (i 2).val, by have := (i 2).isLt; change (i 2).val < 256 at this; omega⟩)
        ((win0_11.blk t).view.emb y) := by
  obtain ⟨i, j, rfl⟩ : ∃ (i : Fin 256) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_11.blk t).view.emb (ix3 (0 : Fin 1) i j) =
      ix3 (⟨t.val / 1, by have := t.isLt; change t.val < 8 at this; omega⟩ : Fin 8)
        (⟨(t.val % 1) * 256 + i.val, by omega⟩ : Fin 256) j := by
    have h := index11 t
    blk_ext [h]
  rw [block11_apply, e]
  simp only [read0, read1, read2, read3, read4]
  rfl
def result11 (i : S8x256x256.Idx) : EReal :=
  entry m c (i 0) (i 1) ⟨2048 + (i 2).val, by have := (i 2).isLt; change (i 2).val < 256 at this; omega⟩
theorem array11_eq : (dats m 0 c).arrAt 11 cfg0.N = result11 m c := by
  refine (dats m 0 c).arrAt_eq_of_covers 11 _ (by decide +kernel) fun t hf y => ?_
  blk_simp
  rw [after0_11]
  exact block11_eq m c t y

/-- Result 8: its block at a grid point, and its array after the run. -/
theorem block12_eq (t : Fin grid0.N) (y : S1x256x256.Idx) :
    out0_12 (iblk m c 0 t) (iblk m c 1 t) (iblk m c 2 t) (iblk m c 3 t) (iblk m c 4 t) y =
      (fun i : S8x256x256.Idx => entry m c (i 0) (i 1) ⟨2304 + (i 2).val, by have := (i 2).isLt; change (i 2).val < 256 at this; omega⟩)
        ((win0_12.blk t).view.emb y) := by
  obtain ⟨i, j, rfl⟩ : ∃ (i : Fin 256) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_12.blk t).view.emb (ix3 (0 : Fin 1) i j) =
      ix3 (⟨t.val / 1, by have := t.isLt; change t.val < 8 at this; omega⟩ : Fin 8)
        (⟨(t.val % 1) * 256 + i.val, by omega⟩ : Fin 256) j := by
    have h := index12 t
    blk_ext [h]
  rw [block12_apply, e]
  simp only [read0, read1, read2, read3, read4]
  rfl
def result12 (i : S8x256x256.Idx) : EReal :=
  entry m c (i 0) (i 1) ⟨2304 + (i 2).val, by have := (i 2).isLt; change (i 2).val < 256 at this; omega⟩
theorem array12_eq : (dats m 0 c).arrAt 12 cfg0.N = result12 m c := by
  refine (dats m 0 c).arrAt_eq_of_covers 12 _ (by decide +kernel) fun t hf y => ?_
  blk_simp
  rw [after0_12]
  exact block12_eq m c t y

/-- Result 9: its block at a grid point, and its array after the run. -/
theorem block13_eq (t : Fin grid0.N) (y : S1x256x128.Idx) :
    out0_13 (iblk m c 0 t) (iblk m c 1 t) (iblk m c 2 t) (iblk m c 3 t) (iblk m c 4 t) y =
      (fun i : S8x256x128.Idx => entry m c (i 0) (i 1) ⟨2560 + (i 2).val, by have := (i 2).isLt; change (i 2).val < 128 at this; omega⟩)
        ((win0_13.blk t).view.emb y) := by
  obtain ⟨i, j, rfl⟩ : ∃ (i : Fin 256) (j : Fin 128), y = ix3 (0 : Fin 1) i j :=
    ⟨y 1, y 2, by funext a; match a with | ⟨0, _⟩ => exact Subsingleton.elim (α := Fin 1) _ _ | ⟨1, _⟩ => rfl | ⟨2, _⟩ => rfl⟩
  have e : (win0_13.blk t).view.emb (ix3 (0 : Fin 1) i j) =
      ix3 (⟨t.val / 1, by have := t.isLt; change t.val < 8 at this; omega⟩ : Fin 8)
        (⟨(t.val % 1) * 256 + i.val, by omega⟩ : Fin 256) j := by
    have h := index13 t
    blk_ext [h]
  rw [block13_apply, e]
  simp only [read0, read1, read2, read3, read4]
  rfl
def result13 (i : S8x256x128.Idx) : EReal :=
  entry m c (i 0) (i 1) ⟨2560 + (i 2).val, by have := (i 2).isLt; change (i 2).val < 128 at this; omega⟩
theorem array13_eq : (dats m 0 c).arrAt 13 cfg0.N = result13 m c := by
  refine (dats m 0 c).arrAt_eq_of_covers 13 _ (by decide +kernel) fun t hf y => ?_
  blk_simp
  rw [after0_13]
  exact block13_eq m c t y

end Kernel

section Reference
open Cert.Reference9Ideal Cert.Reference9Ideal.Gen Cert.Reference9Ideal.Read

variable (x : (⟨S8x256x1024, .f32⟩ : BufTy).Contents (Elt Ideal)) (sh sc : (⟨S8x1x1024, .f32⟩ : BufTy).Contents (Elt Ideal))
  (g : (⟨S1024, .f32⟩ : BufTy).Contents (Elt Ideal)) (w : (⟨S1024x2592, .f32⟩ : BufTy).Contents (Elt Ideal))

/-- The modulated row. -/
theorem h_apply (b : Fin 8) (t : Fin 256) (j : Fin 1024) :
    val_main_v18 (F := Ideal) x sh sc g (ix3 b t j) = FfnSpec.modulated (fun d => x (ix3 b t d)) (fun d => g (ix1 d))
      (fun d => sc (ix3 b 0 d)) (fun d => sh (ix3 b 0 d)) j := by
  unfold val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1 val_main_cst_2
  pointwise
  rfl

/-- The product with the whole matrix. -/
theorem p_apply (b : Fin 8) (t : Fin 256) (j : Fin 2592) :
    val_main_v19 (F := Ideal) x sh sc g w (ix3 b t j) = ∑ d : Fin 1024, FfnSpec.modulated (fun d => x (ix3 b t d)) (fun d => g (ix1 d))
      (fun d => sc (ix3 b 0 d)) (fun d => sh (ix3 b 0 d)) d * w (ix2 d j) := by
  simp only [← h_apply]
  unfold val_main_v19
  generalize val_main_v18 (F := Ideal) x sh sc g = h
  pointwise

/-- Result 1 at an index. -/
theorem out5_apply (i : S8x256x256.Idx) :
    val_main_v30 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨0 + (i 2).val, by have := (i 2).isLt; change (i 2).val < 256 at this; omega⟩ := by
  obtain ⟨b, t, j, rfl⟩ : ∃ (b : Fin 8) (t : Fin 256) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v30 val_main_v20
  generalize val_main_v19 (F := Ideal) x sh sc g w = p at e ⊢
  pointwise
  rw [e]
  exact Finset.sum_congr rfl fun d _ => congrArg₂ (· * ·) rfl
    (wcol_lo (fun d k => w (ix2 d k)) d _ ⟨j.val, by omega⟩ (by dsimp only; omega) rfl).symm

/-- Result 2 at an index. -/
theorem out6_apply (i : S8x256x512.Idx) :
    val_main_v31 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨256 + (i 2).val, by have := (i 2).isLt; change (i 2).val < 512 at this; omega⟩ := by
  obtain ⟨b, t, j, rfl⟩ : ∃ (b : Fin 8) (t : Fin 256) (j : Fin 512), i = ix3 b t j :=
    ⟨i 0, i 1, i 2, by funext a; match a with | ⟨0, _⟩ => rfl | ⟨1, _⟩ => rfl | ⟨2, _⟩ => rfl⟩
  have e := fun j => p_apply x sh sc g w b t j
  unfold val_main_v31 val_main_v21
  generalize val_main_v19 (F := Ideal) x sh sc g w = p at e ⊢
  pointwise
  rw [e]
  exact Finset.sum_congr rfl fun d _ => congrArg₂ (· * ·) rfl
    (wcol_lo (fun d k => w (ix2 d k)) d ⟨256 + j.val, by omega⟩ ⟨256 + j.val, by omega⟩ (by dsimp only; omega) rfl).symm

/-- Result 3 at an index. -/
theorem out7_apply (i : S8x256x256.Idx) :
    val_main_v32 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨768 + (i 2).val, by have := (i 2).isLt; change (i 2).val < 256 at this; omega⟩ := by
  obtain ⟨b, t, j, rfl⟩ : ∃ (b : Fin 8) (t : Fin 256) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v32 val_main_v23
  generalize val_main_v19 (F := Ideal) x sh sc g w = p at e ⊢
  pointwise
  rw [e]
  exact Finset.sum_congr rfl fun d _ => congrArg₂ (· * ·) rfl
    (wcol_mid (fun d k => w (ix2 d k)) d ⟨768 + j.val, by omega⟩ ⟨800 + j.val, by omega⟩
    (by dsimp only; omega) (by dsimp only; omega) (by dsimp only; omega)).symm

/-- Result 4 at an index. -/
theorem out8_apply (i : S8x256x512.Idx) :
    val_main_v33 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨1024 + (i 2).val, by have := (i 2).isLt; change (i 2).val < 512 at this; omega⟩ := by
  obtain ⟨b, t, j, rfl⟩ : ∃ (b : Fin 8) (t : Fin 256) (j : Fin 512), i = ix3 b t j :=
    ⟨i 0, i 1, i 2, by funext a; match a with | ⟨0, _⟩ => rfl | ⟨1, _⟩ => rfl | ⟨2, _⟩ => rfl⟩
  have e := fun j => p_apply x sh sc g w b t j
  unfold val_main_v33 val_main_v24
  generalize val_main_v19 (F := Ideal) x sh sc g w = p at e ⊢
  pointwise
  rw [e]
  exact Finset.sum_congr rfl fun d _ => congrArg₂ (· * ·) rfl
    (wcol_mid (fun d k => w (ix2 d k)) d ⟨1024 + j.val, by omega⟩ ⟨1056 + j.val, by omega⟩
    (by dsimp only; omega) (by dsimp only; omega) (by dsimp only; omega)).symm

/-- Result 5 at an index. -/
theorem out9_apply (i : S8x256x256.Idx) :
    val_main_v34 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨1536 + (i 2).val, by have := (i 2).isLt; change (i 2).val < 256 at this; omega⟩ := by
  obtain ⟨b, t, j, rfl⟩ : ∃ (b : Fin 8) (t : Fin 256) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v34 val_main_v25
  generalize val_main_v19 (F := Ideal) x sh sc g w = p at e ⊢
  pointwise
  rw [e]
  exact Finset.sum_congr rfl fun d _ => congrArg₂ (· * ·) rfl
    (wcol_mid (fun d k => w (ix2 d k)) d ⟨1536 + j.val, by omega⟩ ⟨1568 + j.val, by omega⟩
    (by dsimp only; omega) (by dsimp only; omega) (by dsimp only; omega)).symm

/-- Result 6 at an index. -/
theorem out10_apply (i : S8x256x256.Idx) :
    val_main_v35 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨1792 + (i 2).val, by have := (i 2).isLt; change (i 2).val < 256 at this; omega⟩ := by
  obtain ⟨b, t, j, rfl⟩ : ∃ (b : Fin 8) (t : Fin 256) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v35 val_main_v26
  generalize val_main_v19 (F := Ideal) x sh sc g w = p at e ⊢
  pointwise
  rw [e]
  exact Finset.sum_congr rfl fun d _ => congrArg₂ (· * ·) rfl
    (wcol_mid (fun d k => w (ix2 d k)) d ⟨1792 + j.val, by omega⟩ ⟨1824 + j.val, by omega⟩
    (by dsimp only; omega) (by dsimp only; omega) (by dsimp only; omega)).symm

/-- Result 7 at an index. -/
theorem out11_apply (i : S8x256x256.Idx) :
    val_main_v36 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨2048 + (i 2).val, by have := (i 2).isLt; change (i 2).val < 256 at this; omega⟩ := by
  obtain ⟨b, t, j, rfl⟩ : ∃ (b : Fin 8) (t : Fin 256) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v36 val_main_v27
  generalize val_main_v19 (F := Ideal) x sh sc g w = p at e ⊢
  pointwise
  rw [e]
  exact Finset.sum_congr rfl fun d _ => congrArg₂ (· * ·) rfl
    (wcol_mid (fun d k => w (ix2 d k)) d ⟨2048 + j.val, by omega⟩ ⟨2080 + j.val, by omega⟩
    (by dsimp only; omega) (by dsimp only; omega) (by dsimp only; omega)).symm

/-- Result 8 at an index. -/
theorem out12_apply (i : S8x256x256.Idx) :
    val_main_v37 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨2304 + (i 2).val, by have := (i 2).isLt; change (i 2).val < 256 at this; omega⟩ := by
  obtain ⟨b, t, j, rfl⟩ : ∃ (b : Fin 8) (t : Fin 256) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v37 val_main_v28
  generalize val_main_v19 (F := Ideal) x sh sc g w = p at e ⊢
  pointwise
  rw [e]
  exact Finset.sum_congr rfl fun d _ => congrArg₂ (· * ·) rfl
    (wcol_mid (fun d k => w (ix2 d k)) d ⟨2304 + j.val, by omega⟩ ⟨2336 + j.val, by omega⟩
    (by dsimp only; omega) (by dsimp only; omega) (by dsimp only; omega)).symm

/-- Result 9 at an index. -/
theorem out13_apply (i : S8x256x128.Idx) :
    val_main_v38 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨2560 + (i 2).val, by have := (i 2).isLt; change (i 2).val < 128 at this; omega⟩ := by
  obtain ⟨b, t, j, rfl⟩ : ∃ (b : Fin 8) (t : Fin 256) (j : Fin 128), i = ix3 b t j :=
    ⟨i 0, i 1, i 2, by funext a; match a with | ⟨0, _⟩ => rfl | ⟨1, _⟩ => rfl | ⟨2, _⟩ => rfl⟩
  have e := fun j => p_apply x sh sc g w b t j
  unfold val_main_v38 val_main_v29 val_main_v22 val_main_call0_v0 val_main_c
  generalize val_main_v19 (F := Ideal) x sh sc g w = p at e ⊢
  pointwise
  unfold proj
  by_cases h : j.val < 32
  · rw [dif_pos h, e]
    exact Finset.sum_congr rfl fun d _ => congrArg₂ (· * ·) rfl
      (wcol_hi (fun d k => w (ix2 d k)) d ⟨2560 + j.val, by omega⟩ ⟨768 + j.val, by omega⟩ (by dsimp only; omega)
        (by dsimp only; omega) (by dsimp only; omega)).symm
  · rw [dif_neg h, sitofp_zero]
    symm
    refine Finset.sum_eq_zero fun d _ => ?_
    rw [wcol_zero _ _ _ (by dsimp only; omega), mul_zero]

end Reference

/-- From memories that agree on the arguments the input projection and its reference end with equal results. -/
theorem algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => result5 m c, fun c => result6 m c, fun c => result7 m c, fun c => result8 m c, fun c => result9 m c, fun c => result10 m c,
    fun c => result11 m c, fun c => result12 m c, fun c => result13 m c, ?_, ?_⟩
  · refine (θ_run _ _ _).mono (fun r h c => ?_) (Cert.Kernel9Ideal.Value.run_blocks m ρ)
    obtain ⟨h5, h6, h7, h8, h9, h10, h11, h12, h13, hr⟩ := h c
    exact ⟨h5.trans (array5_eq m c), h6.trans (array6_eq m c), h7.trans (array7_eq m c), h8.trans (array8_eq m c),
      h9.trans (array9_eq m c), h10.trans (array10_eq m c), h11.trans (array11_eq m c), h12.trans (array12_eq m c),
      h13.trans (array13_eq m c), hr⟩
  · refine (θ_run _ _ _).mono (fun r h c => ?_) (Cert.Reference9Ideal.Value.run (F := Ideal) m' ρ')
    obtain ⟨h5, h6, h7, h8, h9, h10, h11, h12, h13, hr⟩ := h c
    obtain ⟨a0, a1, a2, a3, a4⟩ := hagree c
    refine ⟨h5.trans ?_, h6.trans ?_, h7.trans ?_, h8.trans ?_, h9.trans ?_, h10.trans ?_, h11.trans ?_, h12.trans ?_,
      h13.trans ?_, hr⟩
    · rw [Reference9Ideal.Read.val_main_v30_eq, a0, a1, a2, a3, a4]; funext i; exact out5_apply _ _ _ _ _ i
    · rw [Reference9Ideal.Read.val_main_v31_eq, a0, a1, a2, a3, a4]; funext i; exact out6_apply _ _ _ _ _ i
    · rw [Reference9Ideal.Read.val_main_v32_eq, a0, a1, a2, a3, a4]; funext i; exact out7_apply _ _ _ _ _ i
    · rw [Reference9Ideal.Read.val_main_v33_eq, a0, a1, a2, a3, a4]; funext i; exact out8_apply _ _ _ _ _ i
    · rw [Reference9Ideal.Read.val_main_v34_eq, a0, a1, a2, a3, a4]; funext i; exact out9_apply _ _ _ _ _ i
    · rw [Reference9Ideal.Read.val_main_v35_eq, a0, a1, a2, a3, a4]; funext i; exact out10_apply _ _ _ _ _ i
    · rw [Reference9Ideal.Read.val_main_v36_eq, a0, a1, a2, a3, a4]; funext i; exact out11_apply _ _ _ _ _ i
    · rw [Reference9Ideal.Read.val_main_v37_eq, a0, a1, a2, a3, a4]; funext i; exact out12_apply _ _ _ _ _ i
    · rw [Reference9Ideal.Read.val_main_v38_eq, a0, a1, a2, a3, a4]; funext i; exact out13_apply _ _ _ _ _ i

end Cert.InProjCtx

end
-- ==== Proof.InProjState.lean ====
/- The input projection that the context's states read: the kernel and its reference compute the same three arrays. -/
module

public import proofs.«01_k».proof.Proof.InProj
public import proofs.«01_k».proof.Proof.Gen.Kernel10Ideal.Value
public import proofs.«01_k».proof.Proof.Gen.Reference10Ideal.Read
public import proofs.«01_k».proof.Defs
public import Idealize.ShloMosaic.Lib.Pipeline.ValueKit
public import Idealize.ShloMosaic.Lib.Pointwise

@[expose] public section

set_option maxRecDepth 16384

noncomputable section

namespace Cert.InProjState

open Idealize.ShloMosaic Idealize.ShloMosaic.TcCoe Idealize.SL.Sem
open scoped BigOperators
open Cert.InProj (sitofp_zero)

/-- The matrix's first 800 columns — the keys', the values' and the gates' low-rank factors' — followed by columns of zeros. -/
def scol (w : Fin 1024 → Fin 2592 → EReal) (d : Fin 1024) (j : Fin 896) : EReal :=
  if h : j.val < 800 then w d ⟨j.val, by omega⟩ else 0

theorem scol_lo (w : Fin 1024 → Fin 2592 → EReal) (d : Fin 1024) (j : Fin 896) (k : Fin 2592) (h : j.val < 800) (hk : k.val = j.val) :
    scol w d j = w d k := by
  unfold scol; rw [dif_pos h]; exact congrArg (w d) (Fin.ext hk.symm)
theorem scol_zero (w : Fin 1024 → Fin 2592 → EReal) (d : Fin 1024) (j : Fin 896) (h : ¬ j.val < 800) : scol w d j = 0 := by
  unfold scol; rw [dif_neg h]

/-- One entry of the projection. -/
def proj (x g sc sh : Fin 1024 → EReal) (w : Fin 1024 → Fin 2592 → EReal) (j : Fin 896) : EReal :=
  ∑ d : Fin 1024, FfnSpec.modulated x g sc sh d * scol w d j

section Kernel
open Cert.Kernel10Ideal Cert.Kernel10Ideal.Gen

/-- The modulated row the products read. -/
theorem pay5_apply (v0 : Vec Ideal S1x256x1024 .f32) (v2 : Vec Ideal S1x1024 .f32) (v16 v22 : Vec Ideal S1x1x1024 .f32)
    (i : Fin 256) (j : Fin 1024) :
    k0_pay3 v0 v2 v16 v22 (ix2 i j) =
      FfnSpec.modulated (fun d => v0 (ix3 0 i d)) (fun d => v2 (ix2 0 d)) (fun d => v16 (ix3 0 0 d)) (fun d => v22 (ix3 0 0 d)) j := by
  unfold k0_pay3
  pointwise
  rfl

/-- The products, one for each result. -/
theorem prod5_apply (v0 : Vec Ideal S1x256x1024 .f32) (v2 : Vec Ideal S1x1024 .f32) (v16 v22 : Vec Ideal S1x1x1024 .f32)
    (w : Vec Ideal S1024x256 .bf16) (i : Fin 256) (j : Fin 256) :
    k0_pay4 v0 v2 v16 v22 w (ix3 0 i j) = ∑ d : Fin 1024, k0_pay3 v0 v2 v16 v22 (ix2 i d) * w (ix2 d j) := by
  unfold k0_pay4
  generalize k0_pay3 v0 v2 v16 v22 = h
  pointwise
theorem prod6_apply (h : FVec Ideal S256x1024 .bf16) (w : Vec Ideal S1024x512 .bf16) (i : Fin 256) (j : Fin 512) :
    k0_pay1 h w (ix3 0 i j) = ∑ d : Fin 1024, h (ix2 i d) * w (ix2 d j) := by
  unfold k0_pay1
  pointwise
theorem prod7_apply (h : FVec Ideal S256x1024 .bf16) (w : Vec Ideal S1024x128 .bf16) (i : Fin 256) (j : Fin 128) :
    k0_pay2 h w (ix3 0 i j) = ∑ d : Fin 1024, h (ix2 i d) * w (ix2 d j) := by
  unfold k0_pay2
  pointwise

/-- The columns of the matrix that a product reads. -/
theorem ld5 (w : Vec Ideal S1024x896 .bf16) (d : Fin 1024) (j : Fin 256) :
    View.ld w r0_3 (ix2 d j) = w (ix2 d ⟨0 + j.val, by omega⟩) := by
  unfold View.ld; congr 1; funext a; apply Fin.ext
  match a with | ⟨0, _⟩ => simp [ix2] | ⟨1, _⟩ => simp [ix2]
theorem ld6 (w : Vec Ideal S1024x896 .bf16) (d : Fin 1024) (j : Fin 512) :
    View.ld w r0_5 (ix2 d j) = w (ix2 d ⟨256 + j.val, by omega⟩) := by
  unfold View.ld; congr 1; funext a; apply Fin.ext
  match a with | ⟨0, _⟩ => simp [ix2] | ⟨1, _⟩ => simp [ix2]
theorem ld7 (w : Vec Ideal S1024x896 .bf16) (d : Fin 1024) (j : Fin 128) :
    View.ld w r0_7 (ix2 d j) = w (ix2 d ⟨768 + j.val, by omega⟩) := by
  unfold View.ld; congr 1; funext a; apply Fin.ext
  match a with | ⟨0, _⟩ => simp [ix2] | ⟨1, _⟩ => simp [ix2]

/-- The blocks at an index, from the loads. -/
theorem block5_apply (x : Vec Ideal S1x256x1024 .f32) (g : Vec Ideal S1x1024 .f32) (sh sc : Vec Ideal S1x1x1024 .f32)
    (w : Vec Ideal S1024x896 .bf16) (i : Fin 256) (j : Fin 256) :
    out0_5 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨0 + j.val, by omega⟩) := by
  unfold out0_5
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod5_apply]
  simp only [pay5_apply]
  exact Finset.sum_congr rfl fun d _ => congrArg₂ (· * ·) rfl (ld5 w d j)
theorem block6_apply (x : Vec Ideal S1x256x1024 .f32) (g : Vec Ideal S1x1024 .f32) (sh sc : Vec Ideal S1x1x1024 .f32)
    (w : Vec Ideal S1024x896 .bf16) (i : Fin 256) (j : Fin 512) :
    out0_6 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨256 + j.val, by omega⟩) := by
  unfold out0_6 k0_pay5
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod6_apply]
  simp only [pay5_apply]
  exact Finset.sum_congr rfl fun d _ => congrArg₂ (· * ·) rfl (ld6 w d j)
theorem block7_apply (x : Vec Ideal S1x256x1024 .f32) (g : Vec Ideal S1x1024 .f32) (sh sc : Vec Ideal S1x1x1024 .f32)
    (w : Vec Ideal S1024x896 .bf16) (i : Fin 256) (j : Fin 128) :
    out0_7 x g sh sc w (ix3 0 i j) = ∑ d : Fin 1024,
      FfnSpec.modulated (fun d => x (ix3 0 i d)) (fun d => g (ix2 0 d)) (fun d => sc (ix3 0 0 d)) (fun d => sh (ix3 0 0 d)) d
        * w (ix2 d ⟨768 + j.val, by omega⟩) := by
  unfold out0_7 k0_pay5
  have hz3 : (![0, 0, 0] : Fin 3 → ℕ) = fun _ => 0 := by decide
  have hz2 : (![0, 0] : Fin 2 → ℕ) = fun _ => 0 := by decide
  rw [View.canon_unit_zero hz3, View.ld_unit_zero hz3 _ x, View.ld_unit_zero hz2 _ g, View.ld_unit_zero hz3 _ sh,
    View.ld_unit_zero hz3 _ sc, prod7_apply]
  simp only [pay5_apply]
  exact Finset.sum_congr rfl fun d _ => congrArg₂ (· * ·) rfl (ld7 w d j)

variable (m : (ℓ : Loc nD τ sig) → Buf (Elt Ideal) ℓ) (c : Dev nD)

/-- The projection's entries, from the arguments. -/
def entry (b : Fin 8) (t : Fin 256) (j : Fin 896) : EReal :=
  proj (fun d => m ((c : Thread nD τ).loc main_arg0) (ix3 b t d)) (fun d => m ((c : Thread nD τ).loc main_arg3) (ix1 d))
    (fun d => m ((c : Thread nD τ).loc main_arg2) (ix3 b 0 d)) (fun d => m ((c : Thread nD τ).loc main_arg1) (ix3 b 0 d))
    (fun d k => m ((c : Thread nD τ).loc main_arg4) (ix2 d k)) j

/-- Where the index maps place the blocks of a grid point. -/
theorem index0 : ∀ t : Fin grid0.N, win0_0.index t 0 = t.val / 1 ∧ win0_0.index t 1 = t.val % 1 ∧ win0_0.index t 2 = 0 := by decide +kernel
theorem index1 : ∀ t : Fin grid0.N, win0_1.index t 0 = 0 ∧ win0_1.index t 1 = 0 := by decide +kernel
theorem index2 : ∀ t : Fin grid0.N, win0_2.index t 0 = t.val / 1 ∧ win0_2.index t 1 = 0 ∧ win0_2.index t 2 = 0 := by decide +kernel
theorem index3 : ∀ t : Fin grid0.N, win0_3.index t 0 = t.val / 1 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val / 1 ∧ win0_5.index t 1 = t.val % 1 ∧ win0_5.index t 2 = 0 := by decide +kernel
theorem index6 : ∀ t : Fin grid0.N, win0_6.index t 0 = t.val / 1 ∧ win0_6.index t 1 = t.val % 1 ∧ win0_6.index t 2 = 0 := by decide +kernel
theorem index7 : ∀ t : Fin grid0.N, win0_7.index t 0 = t.val / 1 ∧ win0_7.index t 1 = t.val % 1 ∧ win0_7.index t 2 = 0 := by decide +kernel

/-- The blocks read from the arguments, at an index. -/
theorem read0 (t : Fin grid0.N) (i : Fin 256) (j : Fin 1024) :
    iblk m c 0 t (ix3 (0 : Fin 1) i j) = m ((c : Thread nD τ).loc main_arg0)
      (ix3 (⟨t.val / 1, by have := t.isLt; change t.val < 8 at this; omega⟩ : Fin 8)
        (⟨(t.val % 1) * 256 + i.val, by omega⟩ : Fin 256) j) := by
  have h := index0 t
  blk_ext [iblk, V, h]
theorem read2 (t : Fin grid0.N) (j : Fin 1024) :
    iblk m c 2 t (ix3 (0 : Fin 1) (0 : Fin 1) j) = m ((c : Thread nD τ).loc main_arg1)
      (ix3 (⟨t.val / 1, by have := t.isLt; change t.val < 8 at this; omega⟩ : Fin 8) (0 : Fin 1) j) := by
  have h := index2 t
  blk_ext [iblk, V, h]
theorem read3 (t : Fin grid0.N) (j : Fin 1024) :
    iblk m c 3 t (ix3 (0 : Fin 1) (0 : Fin 1) j) = m ((c : Thread nD τ).loc main_arg2)
      (ix3 (⟨t.val / 1, by have := t.isLt; change t.val < 8 at this; omega⟩ : Fin 8) (0 : Fin 1) j) := by
  have h := index3 t
  blk_ext [iblk, V, h]
theorem read1 (t : Fin grid0.N) (j : Fin 1024) :
    iblk m c 1 t (ix2 (0 : Fin 1) j) = m ((c : Thread nD τ).loc main_arg3) (ix1 j) := by
  have h := index1 t
  have e : (((win0 1).blk t).view.emb (ix2 (0 : Fin 1) j) : S1x1024.Idx) = ix2 (0 : Fin 1) j := by blk_ext [h]
  blk_simp [iblk]
  simp only [V, hostOps0, hostOps0_1, hostOps0_2, List.flatten_cons, List.flatten_nil, List.append_nil, List.cons_append, List.nil_append]
  entry_read
  rw [e]
  pointwise
theorem read4 (t : Fin grid0.N) (i : Fin 1024) (j : Fin 896) :
    iblk m c 4 t (ix2 i j) = scol (fun d k => m ((c : Thread nD τ).loc main_arg4) (ix2 d k)) i j := by
  have h := index4 t
  have e : (((win0 4).blk t).view.emb (ix2 i j) : S1024x896.Idx) = ix2 i j := by blk_ext [h]
  blk_simp [iblk]
  simp only [V, hostOps0, hostOps0_1, hostOps0_2, List.flatten_cons, List.flatten_nil, List.append_nil, List.cons_append, List.nil_append]
  entry_read
  rw [e]
  pointwise
  by_cases h0 : j.val < 768
  · rw [dif_pos h0, dif_pos (by omega)]
    change concatenate S1024x2560 1 [⟨S1024x768, (extractStridedSlice S1024x768 ![0, 0]
        (m (c, Proc.tc.devRef main_arg4)) slices_S1024x2592_S1024x768_0_0 : FVec Ideal S1024x768 .f32)⟩,
      ⟨S1024x1792, (extractStridedSlice S1024x1792 ![0, 800]
        (m (c, Proc.tc.devRef main_arg4)) slices_S1024x2592_S1024x1792_0_800 : FVec Ideal S1024x1792 .f32)⟩]
      concatenates_S1024x768_S1024x1792_S1024x2560_d1 (ix2 i (⟨j.val, by omega⟩ : Fin 2560)) = _
    pointwise
    rw [dif_pos h0]
    exact (scol_lo (fun d k => m ((c : Thread nD τ).loc main_arg4) (ix2 d k)) i j ⟨j.val, by omega⟩ (by omega) rfl).symm
  rw [dif_neg h0]
  change pad S1024x128 ![0, 0] ![0, 96] ![0, 0] (extractStridedSlice S1024x32 ![0, 768]
    (m (c, Proc.tc.devRef main_arg4)) slices_S1024x2592_S1024x32_0_768 : FVec Ideal S1024x32 .f32)
    (sitofp .f32 (constantI S_ 32 0#32)) pads_S1024x32_S1024x128_000_0960 h_S_
    (ix2 i (⟨j.val - 768, by omega⟩ : Fin 128)) = _
  pointwise
  by_cases h2 : j.val < 800
  · rw [dif_pos (by omega)]
    exact (scol_lo (fun d k => m ((c : Thread nD τ).loc main_arg4) (ix2 d k)) i j ⟨768 + (j.val - 768), by omega⟩ h2
      (by dsimp only; omega)).symm
  rw [dif_neg (by omega), scol_zero _ _ _ h2]
  exact sitofp_zero

/-- Result 1: its block at a grid point, and its array after the run. -/
theorem block5_eq (t : Fin grid0.N) (y : S1x256x256.Idx) :
    out0_5 (iblk m c 0 t) (iblk m c 1 t) (iblk m c 2 t) (iblk m c 3 t) (iblk m c 4 t) y =
      (fun i : S8x256x256.Idx => entry m c (i 0) (i 1) ⟨0 + (i 2).val, by have := (i 2).isLt; change (i 2).val < 256 at this; omega⟩)
        ((win0_5.blk t).view.emb y) := by
  obtain ⟨i, j, rfl⟩ : ∃ (i : Fin 256) (j : Fin 256), y = ix3 (0 : Fin 1) i j :=
    ⟨y 1, y 2, by funext a; match a with | ⟨0, _⟩ => exact Subsingleton.elim (α := Fin 1) _ _ | ⟨1, _⟩ => rfl | ⟨2, _⟩ => rfl⟩
  have e : (win0_5.blk t).view.emb (ix3 (0 : Fin 1) i j) =
      ix3 (⟨t.val / 1, by have := t.isLt; change t.val < 8 at this; omega⟩ : Fin 8)
        (⟨(t.val % 1) * 256 + i.val, by omega⟩ : Fin 256) j := by
    have h := index5 t
    blk_ext [h]
  rw [block5_apply, e]
  simp only [read0, read1, read2, read3, read4]
  rfl
def result5 (i : S8x256x256.Idx) : EReal :=
  entry m c (i 0) (i 1) ⟨0 + (i 2).val, by have := (i 2).isLt; change (i 2).val < 256 at this; omega⟩
theorem array5_eq : (dats m 0 c).arrAt 5 cfg0.N = result5 m c := by
  refine (dats m 0 c).arrAt_eq_of_covers 5 _ (by decide +kernel) fun t hf y => ?_
  blk_simp
  rw [after0_5]
  exact block5_eq m c t y

/-- Result 2: its block at a grid point, and its array after the run. -/
theorem block6_eq (t : Fin grid0.N) (y : S1x256x512.Idx) :
    out0_6 (iblk m c 0 t) (iblk m c 1 t) (iblk m c 2 t) (iblk m c 3 t) (iblk m c 4 t) y =
      (fun i : S8x256x512.Idx => entry m c (i 0) (i 1) ⟨256 + (i 2).val, by have := (i 2).isLt; change (i 2).val < 512 at this; omega⟩)
        ((win0_6.blk t).view.emb y) := by
  obtain ⟨i, j, rfl⟩ : ∃ (i : Fin 256) (j : Fin 512), y = ix3 (0 : Fin 1) i j :=
    ⟨y 1, y 2, by funext a; match a with | ⟨0, _⟩ => exact Subsingleton.elim (α := Fin 1) _ _ | ⟨1, _⟩ => rfl | ⟨2, _⟩ => rfl⟩
  have e : (win0_6.blk t).view.emb (ix3 (0 : Fin 1) i j) =
      ix3 (⟨t.val / 1, by have := t.isLt; change t.val < 8 at this; omega⟩ : Fin 8)
        (⟨(t.val % 1) * 256 + i.val, by omega⟩ : Fin 256) j := by
    have h := index6 t
    blk_ext [h]
  rw [block6_apply, e]
  simp only [read0, read1, read2, read3, read4]
  rfl
def result6 (i : S8x256x512.Idx) : EReal :=
  entry m c (i 0) (i 1) ⟨256 + (i 2).val, by have := (i 2).isLt; change (i 2).val < 512 at this; omega⟩
theorem array6_eq : (dats m 0 c).arrAt 6 cfg0.N = result6 m c := by
  refine (dats m 0 c).arrAt_eq_of_covers 6 _ (by decide +kernel) fun t hf y => ?_
  blk_simp
  rw [after0_6]
  exact block6_eq m c t y

/-- Result 3: its block at a grid point, and its array after the run. -/
theorem block7_eq (t : Fin grid0.N) (y : S1x256x128.Idx) :
    out0_7 (iblk m c 0 t) (iblk m c 1 t) (iblk m c 2 t) (iblk m c 3 t) (iblk m c 4 t) y =
      (fun i : S8x256x128.Idx => entry m c (i 0) (i 1) ⟨768 + (i 2).val, by have := (i 2).isLt; change (i 2).val < 128 at this; omega⟩)
        ((win0_7.blk t).view.emb y) := by
  obtain ⟨i, j, rfl⟩ : ∃ (i : Fin 256) (j : Fin 128), y = ix3 (0 : Fin 1) i j :=
    ⟨y 1, y 2, by funext a; match a with | ⟨0, _⟩ => exact Subsingleton.elim (α := Fin 1) _ _ | ⟨1, _⟩ => rfl | ⟨2, _⟩ => rfl⟩
  have e : (win0_7.blk t).view.emb (ix3 (0 : Fin 1) i j) =
      ix3 (⟨t.val / 1, by have := t.isLt; change t.val < 8 at this; omega⟩ : Fin 8)
        (⟨(t.val % 1) * 256 + i.val, by omega⟩ : Fin 256) j := by
    have h := index7 t
    blk_ext [h]
  rw [block7_apply, e]
  simp only [read0, read1, read2, read3, read4]
  rfl
def result7 (i : S8x256x128.Idx) : EReal :=
  entry m c (i 0) (i 1) ⟨768 + (i 2).val, by have := (i 2).isLt; change (i 2).val < 128 at this; omega⟩
theorem array7_eq : (dats m 0 c).arrAt 7 cfg0.N = result7 m c := by
  refine (dats m 0 c).arrAt_eq_of_covers 7 _ (by decide +kernel) fun t hf y => ?_
  blk_simp
  rw [after0_7]
  exact block7_eq m c t y

end Kernel

section Reference
open Cert.Reference10Ideal Cert.Reference10Ideal.Gen Cert.Reference10Ideal.Read

variable (x : (⟨S8x256x1024, .f32⟩ : BufTy).Contents (Elt Ideal)) (sh sc : (⟨S8x1x1024, .f32⟩ : BufTy).Contents (Elt Ideal))
  (g : (⟨S1024, .f32⟩ : BufTy).Contents (Elt Ideal)) (w : (⟨S1024x2592, .f32⟩ : BufTy).Contents (Elt Ideal))

/-- The modulated row. -/
theorem h_apply (b : Fin 8) (t : Fin 256) (j : Fin 1024) :
    val_main_v18 (F := Ideal) x sh sc g (ix3 b t j) = FfnSpec.modulated (fun d => x (ix3 b t d)) (fun d => g (ix1 d))
      (fun d => sc (ix3 b 0 d)) (fun d => sh (ix3 b 0 d)) j := by
  unfold val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1 val_main_cst_2
  pointwise
  rfl

/-- The product with the matrix's first 800 columns. -/
theorem p_apply (b : Fin 8) (t : Fin 256) (j : Fin 800) :
    val_main_v20 (F := Ideal) x sh sc g w (ix3 b t j) = ∑ d : Fin 1024, FfnSpec.modulated (fun d => x (ix3 b t d)) (fun d => g (ix1 d))
      (fun d => sc (ix3 b 0 d)) (fun d => sh (ix3 b 0 d)) d * w (ix2 d ⟨j.val, by omega⟩) := by
  simp only [← h_apply]
  unfold val_main_v20 val_main_v19
  generalize val_main_v18 (F := Ideal) x sh sc g = h
  pointwise

/-- Result 1 at an index. -/
theorem out5_apply (i : S8x256x256.Idx) :
    val_main_v25 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨0 + (i 2).val, by have := (i 2).isLt; change (i 2).val < 256 at this; omega⟩ := by
  obtain ⟨b, t, j, rfl⟩ : ∃ (b : Fin 8) (t : Fin 256) (j : Fin 256), i = ix3 b t j :=
    ⟨i 0, i 1, i 2, by funext a; match a with | ⟨0, _⟩ => rfl | ⟨1, _⟩ => rfl | ⟨2, _⟩ => rfl⟩
  have e := fun j => p_apply x sh sc g w b t j
  unfold val_main_v25 val_main_v21
  generalize val_main_v20 (F := Ideal) x sh sc g w = p at e ⊢
  pointwise
  rw [e]
  exact Finset.sum_congr rfl fun d _ => congrArg₂ (· * ·) rfl
    (scol_lo (fun d k => w (ix2 d k)) d _ _ (by dsimp only; omega) (by dsimp only)).symm

/-- Result 2 at an index. -/
theorem out6_apply (i : S8x256x512.Idx) :
    val_main_v26 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨256 + (i 2).val, by have := (i 2).isLt; change (i 2).val < 512 at this; omega⟩ := by
  obtain ⟨b, t, j, rfl⟩ : ∃ (b : Fin 8) (t : Fin 256) (j : Fin 512), i = ix3 b t j :=
    ⟨i 0, i 1, i 2, by funext a; match a with | ⟨0, _⟩ => rfl | ⟨1, _⟩ => rfl | ⟨2, _⟩ => rfl⟩
  have e := fun j => p_apply x sh sc g w b t j
  unfold val_main_v26 val_main_v22
  generalize val_main_v20 (F := Ideal) x sh sc g w = p at e ⊢
  pointwise
  rw [e]
  exact Finset.sum_congr rfl fun d _ => congrArg₂ (· * ·) rfl
    (scol_lo (fun d k => w (ix2 d k)) d _ _ (by dsimp only; omega) (by dsimp only)).symm

/-- Result 3 at an index. -/
theorem out7_apply (i : S8x256x128.Idx) :
    val_main_v27 (F := Ideal) x sh sc g w i = proj (fun d => x (ix3 (i 0) (i 1) d)) (fun d => g (ix1 d))
      (fun d => sc (ix3 (i 0) 0 d)) (fun d => sh (ix3 (i 0) 0 d)) (fun d k => w (ix2 d k))
      ⟨768 + (i 2).val, by have := (i 2).isLt; change (i 2).val < 128 at this; omega⟩ := by
  obtain ⟨b, t, j, rfl⟩ : ∃ (b : Fin 8) (t : Fin 256) (j : Fin 128), i = ix3 b t j :=
    ⟨i 0, i 1, i 2, by funext a; match a with | ⟨0, _⟩ => rfl | ⟨1, _⟩ => rfl | ⟨2, _⟩ => rfl⟩
  have e := fun j => p_apply x sh sc g w b t j
  unfold val_main_v27 val_main_v24 val_main_v23 val_main_call0_v0 val_main_c
  generalize val_main_v20 (F := Ideal) x sh sc g w = p at e ⊢
  pointwise
  unfold proj
  by_cases h : j.val < 32
  · rw [dif_pos h, e]
    exact Finset.sum_congr rfl fun d _ => congrArg₂ (· * ·) rfl
      (scol_lo (fun d k => w (ix2 d k)) d ⟨768 + j.val, by omega⟩ ⟨768 + j.val, by omega⟩ (by dsimp only; omega) rfl).symm
  · rw [dif_neg h, sitofp_zero]
    symm
    refine Finset.sum_eq_zero fun d _ => ?_
    rw [scol_zero _ _ _ (by dsimp only; omega), mul_zero]

end Reference

/-- From memories that agree on the arguments the context's input projection for the states and its reference end with equal results. -/
theorem algebraic : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => result5 m c, fun c => result6 m c, fun c => result7 m c, ?_, ?_⟩
  · refine (θ_run _ _ _).mono (fun r h c => ?_) (Cert.Kernel10Ideal.Value.run_blocks m ρ)
    obtain ⟨h5, h6, h7, hr⟩ := h c
    exact ⟨h5.trans (array5_eq m c), h6.trans (array6_eq m c), h7.trans (array7_eq m c), hr⟩
  · refine (θ_run _ _ _).mono (fun r h c => ?_) (Cert.Reference10Ideal.Value.run (F := Ideal) m' ρ')
    obtain ⟨h5, h6, h7, hr⟩ := h c
    obtain ⟨a0, a1, a2, a3, a4⟩ := hagree c
    refine ⟨h5.trans ?_, h6.trans ?_, h7.trans ?_, hr⟩
    · rw [Reference10Ideal.Read.val_main_v25_eq, a0, a1, a2, a3, a4]; funext i; exact out5_apply _ _ _ _ _ i
    · rw [Reference10Ideal.Read.val_main_v26_eq, a0, a1, a2, a3, a4]; funext i; exact out6_apply _ _ _ _ _ i
    · rw [Reference10Ideal.Read.val_main_v27_eq, a0, a1, a2, a3, a4]; funext i; exact out7_apply _ _ _ _ _ i

end Cert.InProjState

end
-- ==== Proof.Modulation.lean ====
/- The modulation vectors: the kernel and its reference compute the same array. -/
module

public import proofs.«01_k».proof.Proof.FfnSpec
public import proofs.«01_k».proof.Proof.Gen.Kernel11Ideal.Value
public import proofs.«01_k».proof.Proof.Gen.Reference11Ideal.Read
public import proofs.«01_k».proof.Defs
public import Idealize.ShloMosaic.Lib.Pipeline.ValueKit
public import Idealize.ShloMosaic.Lib.Pointwise

@[expose] public section

set_option maxRecDepth 16384

noncomputable section

namespace Cert.Modulation

open Idealize.ShloMosaic Idealize.ShloMosaic.TcCoe Idealize.SL.Sem
open scoped BigOperators

/-- One entry of a modulation vector: the conditioning row through silu, times a column, plus the bias. -/
def entry (x w : Fin 1024 → EReal) (b : EReal) : EReal := (∑ d : Fin 1024, FfnSpec.silu (x d) * w d) + b

section Kernel
open Cert.Kernel11Ideal Cert.Kernel11Ideal.Gen

/-- The block's value. -/
theorem pay1_apply (x : Vec Ideal S16x1024 .f32) (w : Vec Ideal S1x1024x1536 .f32) (b : Vec Ideal S1x1x1536 .f32)
    (i : Fin 16) (j : Fin 1536) :
    k0_pay1 x w b (ix3 0 i j) = entry (fun d => x (ix2 i d)) (fun d => w (ix3 0 d j)) (b (ix3 0 0 j)) := by
  unfold k0_pay1
  pointwise
  simp only [zero_sub, zero_add]
  rfl

/-- The block at an index, from the loads. -/
theorem block_apply (x : Vec Ideal S16x1024 .f32) (w : Vec Ideal S1x1024x1536 .f32) (b : Vec Ideal S1x1x1536 .f32)
    (i : Fin 16) (j : Fin 1536) :
    out0_3 x w b (ix3 0 i j) = entry (fun d => x (ix2 i d)) (fun d => w (ix3 0 d j)) (b (ix3 0 0 j)) := by
  unfold out0_3
  have hz3 : (![0, 0, 0] : Fin 3 → ℕ) = fun _ => 0 := by decide
  have hz2 : (![0, 0] : Fin 2 → ℕ) = fun _ => 0 := by decide
  rw [View.canon_unit_zero hz3, View.ld_unit_zero hz2 _ x, View.ld_unit_zero hz3 _ w, View.ld_unit_zero hz3 _ b, pay1_apply]

variable (m : (ℓ : Loc nD τ sig) → Buf (Elt Ideal) ℓ) (c : Dev nD)

/-- The result array, from the arguments. -/
def result (i : S2x16x6144.Idx) : EReal :=
  entry (fun d => m ((c : Thread nD τ).loc main_arg0) (ix2 (i 1) d)) (fun d => m ((c : Thread nD τ).loc main_arg1) (ix3 (i 0) d (i 2)))
    (m ((c : Thread nD τ).loc main_arg2) (ix2 (i 0) (i 2)))

/-- Where the index maps place the blocks of a grid point. -/
theorem index0 : ∀ t : Fin grid0.N, win0_0.index t 0 = 0 ∧ win0_0.index t 1 = 0 := by decide +kernel
theorem index1 : ∀ t : Fin grid0.N, win0_1.index t 0 = t.val / 4 ∧ win0_1.index t 1 = 0 ∧ win0_1.index t 2 = t.val % 4 := by decide +kernel
theorem index2 : ∀ t : Fin grid0.N, win0_2.index t 0 = t.val / 4 ∧ win0_2.index t 1 = 0 ∧ win0_2.index t 2 = t.val % 4 := by decide +kernel
theorem index3 : ∀ t : Fin grid0.N, win0_3.index t 0 = t.val / 4 ∧ win0_3.index t 1 = 0 ∧ win0_3.index t 2 = t.val % 4 := by decide +kernel

/-- The index in the result of an index in its block. -/
theorem emb3 (t : Fin grid0.N) (i : Fin 16) (j : Fin 1536) :
    (win0_3.blk t).view.emb (ix3 (0 : Fin 1) i j) =
      ix3 (⟨t.val / 4, by have := t.isLt; change t.val < 8 at this; omega⟩ : Fin 2) i
        (⟨(t.val % 4) * 1536 + j.val, by omega⟩ : Fin 6144) := by
  have h := index3 t
  blk_ext [h]

/-- The blocks read from the arguments, at an index. -/
theorem read0 (t : Fin grid0.N) (i : Fin 16) (j : Fin 1024) :
    iblk m c 0 t (ix2 i j) = m ((c : Thread nD τ).loc main_arg0) (ix2 i j) := by
  have h := index0 t
  blk_ext [iblk, V, h]
theorem read1 (t : Fin grid0.N) (i : Fin 1024) (j : Fin 1536) :
    iblk m c 1 t (ix3 (0 : Fin 1) i j) = m ((c : Thread nD τ).loc main_arg1)
      (ix3 (⟨t.val / 4, by have := t.isLt; change t.val < 8 at this; omega⟩ : Fin 2) i
        (⟨(t.val % 4) * 1536 + j.val, by omega⟩ : Fin 6144)) := by
  have h := index1 t
  blk_ext [iblk, V, h]
theorem read2 (t : Fin grid0.N) (j : Fin 1536) :
    iblk m c 2 t (ix3 (0 : Fin 1) (0 : Fin 1) j) = m ((c : Thread nD τ).loc main_arg2)
      (ix2 (⟨t.val / 4, by have := t.isLt; change t.val < 8 at this; omega⟩ : Fin 2)
        (⟨(t.val % 4) * 1536 + j.val, by omega⟩ : Fin 6144)) := by
  have h := index2 t
  have e : (((win0 2).blk t).view.emb (ix3 (0 : Fin 1) (0 : Fin 1) j) : S2x1x6144.Idx) =
      ix3 (⟨t.val / 4, by have := t.isLt; change t.val < 8 at this; omega⟩ : Fin 2) (0 : Fin 1)
        (⟨(t.val % 4) * 1536 + j.val, by omega⟩ : Fin 6144) := by blk_ext [h]
  blk_simp [iblk]
  simp only [V, hostOps0, List.flatten_cons, List.flatten_nil, List.append_nil, List.cons_append, List.nil_append]
  entry_read
  rw [e]
  pointwise

/-- The block that a grid point writes, at an index. -/
theorem block_eq (t : Fin grid0.N) (y : S1x16x1536.Idx) :
    out0_3 (iblk m c 0 t) (iblk m c 1 t) (iblk m c 2 t) y = result m c ((win0_3.blk t).view.emb y) := by
  obtain ⟨i, j, rfl⟩ : ∃ (i : Fin 16) (j : Fin 1536), y = ix3 (0 : Fin 1) i j :=
    ⟨y 1, y 2, by funext a; match a with | ⟨0, _⟩ => exact Subsingleton.elim (α := Fin 1) _ _ | ⟨1, _⟩ => rfl | ⟨2, _⟩ => rfl⟩
  rw [block_apply, emb3]
  simp only [read0, read1, read2]
  rfl

/-- The result array after the run. -/
theorem array_eq : (dats m 0 c).arrAt 3 cfg0.N = result m c := by
  refine (dats m 0 c).arrAt_eq_of_covers 3 _ (by decide +kernel) fun t hf y => ?_
  blk_simp
  rw [after0_3]
  exact block_eq m c t y

end Kernel

section Reference
open Cert.Reference11Ideal Cert.Reference11Ideal.Gen Cert.Reference11Ideal.Read

variable (x : (⟨S16x1024, .f32⟩ : BufTy).Contents (Elt Ideal)) (w : (⟨S2x1024x6144, .f32⟩ : BufTy).Contents (Elt Ideal))
  (b : (⟨S2x6144, .f32⟩ : BufTy).Contents (Elt Ideal))

/-- A conditioning row through silu. -/
theorem silu0_apply (i : Fin 16) (d : Fin 1024) : val_main_v0 (F := Ideal) x (ix2 i d) = FfnSpec.silu (x (ix2 i d)) := by
  unfold val_main_v0 val_main_call0_v5 val_main_call0_v4 val_main_call0_v3 val_main_call0_v2 val_main_call0_v1 val_main_call0_v0
    val_main_call0_cst val_main_call0_cst_0
  pointwise
  rw [← FfnSpec.mul_logistic]
  rfl
theorem silu1_apply (i : Fin 16) (d : Fin 1024) : val_main_v9 (F := Ideal) x (ix2 i d) = FfnSpec.silu (x (ix2 i d)) := by
  unfold val_main_v9 val_main_call1_v5 val_main_call1_v4 val_main_call1_v3 val_main_call1_v2 val_main_call1_v1 val_main_call1_v0
    val_main_call1_cst val_main_call1_cst_0
  pointwise
  rw [← FfnSpec.mul_logistic]
  rfl

/-- The two layers' vectors. -/
theorem layer0_apply (i : Fin 16) (j : Fin 6144) :
    val_main_v18 (F := Ideal) x w b (ix3 0 i j) = entry (fun d => x (ix2 i d)) (fun d => w (ix3 0 d j)) (b (ix2 0 j)) := by
  unfold entry
  simp only [← silu0_apply]
  unfold val_main_v18 val_main_v8 val_main_v7 val_main_v6 val_main_v5 val_main_v4 val_main_v3 val_main_v2 val_main_v1
  generalize val_main_v0 (F := Ideal) x = h
  pointwise
theorem layer1_apply (i : Fin 16) (j : Fin 6144) :
    val_main_v19 (F := Ideal) x w b (ix3 0 i j) = entry (fun d => x (ix2 i d)) (fun d => w (ix3 1 d j)) (b (ix2 1 j)) := by
  unfold entry
  simp only [← silu1_apply]
  unfold val_main_v19 val_main_v17 val_main_v16 val_main_v15 val_main_v14 val_main_v13 val_main_v12 val_main_v11 val_main_v10
  generalize val_main_v9 (F := Ideal) x = h
  pointwise

/-- The reference's result at an index. -/
theorem reference_eq (i : S2x16x6144.Idx) :
    val_main_v20 (F := Ideal) x w b i = entry (fun d => x (ix2 (i 1) d)) (fun d => w (ix3 (i 0) d (i 2))) (b (ix2 (i 0) (i 2))) := by
  obtain ⟨l, r, j, rfl⟩ : ∃ (l : Fin 2) (r : Fin 16) (j : Fin 6144), i = ix3 l r j :=
    ⟨i 0, i 1, i 2, by funext a; match a with | ⟨0, _⟩ => rfl | ⟨1, _⟩ => rfl | ⟨2, _⟩ => rfl⟩
  have e0 := layer0_apply x w b r j
  have e1 := layer1_apply x w b r j
  unfold val_main_v20
  generalize val_main_v18 (F := Ideal) x w b = p at e0 ⊢
  generalize val_main_v19 (F := Ideal) x w b = q at e1 ⊢
  match l with
  | ⟨0, _⟩ => pointwise; exact e0
  | ⟨1, _⟩ => pointwise; exact e1

end Reference

/-- From memories that agree on the arguments the modulation and its reference end with equal results. -/
theorem algebraic : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => result m c, ?_, ?_⟩
  · refine (θ_run _ _ _).mono (fun r h c => ⟨(h c).1.trans (array_eq m c), (h c).2⟩) (Cert.Kernel11Ideal.Value.run_blocks m ρ)
  · refine (θ_run _ _ _).mono (fun r h c => ⟨(h c).1.trans ?_, (h c).2⟩) (Cert.Reference11Ideal.Value.run (F := Ideal) m' ρ')
    rw [Reference11Ideal.Read.val_main_v20_eq]
    obtain ⟨a0, a1, a2⟩ := hagree c
    rw [a0, a1, a2]
    funext i
    exact reference_eq _ _ _ i

end Cert.Modulation

end
-- ==== Proof.FourConv.lean ====
/- The Fourier and convolution branches: the kernel and its reference compute the same arrays. -/
module

public import proofs.«01_k».proof.Proof.FfnSpec
public import proofs.«01_k».proof.Proof.Gen.Kernel12Ideal.Value
public import proofs.«01_k».proof.Proof.Gen.Reference12Ideal.Read
public import proofs.«01_k».proof.Defs
public import Idealize.ShloMosaic.Lib.Pipeline.ValueKit
public import Idealize.ShloMosaic.Lib.Pointwise
public import Idealize.ShloMosaic.Lib.VecWindow
public import Idealize.ShloMosaic.Lib.KernelVsHost

@[expose] public section

set_option maxRecDepth 16384

noncomputable section

namespace Cert.FourConv

open Idealize.ShloMosaic Idealize.ShloMosaic.TcCoe Idealize.SL.Sem
open scoped BigOperators

/-- One entry of the Fourier branch: the transform over the channels by `ch`, then over the positions by the row `p`. The first half of each
table holds the cosines and the second half the sines. -/
def four (u : Fin 2048 → Fin 256 → EReal) (ch : Fin 256 → Fin 512 → EReal) (p : Fin 4096 → EReal) (w : Fin 256) : EReal :=
  (∑ k : Fin 2048, p ⟨k.val, by omega⟩ * ∑ d : Fin 256, u k d * ch d ⟨w.val, by omega⟩)
    + ∑ k : Fin 2048, p ⟨2048 + k.val, by omega⟩ * ∑ d : Fin 256, u k d * ch d ⟨256 + w.val, by omega⟩

/-- One channel of the convolution branch at position `t`: a gated convolution with three taps, zero past the two ends. -/
def conv (bg z : Fin 2048 → EReal) (cw : Fin 3 → EReal) (cb : EReal) (t : Fin 2048) : EReal :=
  bg t * (cw 0 * (if t.val = 0 then 0 else z ⟨t.val - 1, by omega⟩) + cw 1 * z t
    + cw 2 * (if h : t.val = 2047 then 0 else z ⟨t.val + 1, by omega⟩) + cb)

/-- A choice by the comparison of two positions. -/
theorem select_eq (n k : Nat) (hn : n < 2048) (hk : k < 2048) (a b : EReal) :
    Scalar.select (IntOp.cmpi .eq (BitVec.ofNat 32 n) (BitVec.ofNat 32 k)) a b = if n = k then a else b := by
  have e : (BitVec.ofNat 32 n = BitVec.ofNat 32 k) ↔ n = k := by
    rw [← BitVec.toNat_inj, BitVec.toNat_ofNat, BitVec.toNat_ofNat]; omega
  by_cases h : n = k
  · simp [Scalar.select, IntOp.cmpi, h]
  · have e' : (BitVec.ofNat 32 n == BitVec.ofNat 32 k) = false := beq_eq_false_iff_ne.2 fun q => h (e.1 q)
    simp [Scalar.select, IntOp.cmpi, h, e']

section Kernel
open Cert.Kernel12Ideal Cert.Kernel12Ideal.Gen

/-- The product over the channels, its two halves. -/
theorem pay3_apply (v0 : Vec Ideal S1x2048x256 .bf16) (v2 : Vec Ideal S256x512 .bf16) (i : Fin 2048) (w : Fin 256) :
    k0_pay3 v0 v2 (ix2 i w) = ∑ d : Fin 256, v0 (ix3 0 i d) * v2 (ix2 d ⟨w.val, by omega⟩) := by
  unfold k0_pay3 k0_pay2
  pointwise
theorem pay4_apply (v0 : Vec Ideal S1x2048x256 .bf16) (v2 : Vec Ideal S256x512 .bf16) (i : Fin 2048) (w : Fin 256) :
    k0_pay4 v0 v2 (ix2 i w) = ∑ d : Fin 256, v0 (ix3 0 i d) * v2 (ix2 d ⟨256 + w.val, by omega⟩) := by
  unfold k0_pay4 k0_pay2
  pointwise

/-- The product over the positions of one of the four runs of rows. -/
theorem pay5_apply (v14 : Vec Ideal S512x4096 .bf16) (v15 : Vec Ideal S4096x256 .bf16) (i : Fin 512) (w : Fin 256) :
    k0_pay5 v14 v15 (ix3 0 i w) = ∑ k : Fin 4096, v14 (ix2 i k) * v15 (ix2 k w) := by
  unfold k0_pay5
  pointwise

/-- The convolution's last step. -/
theorem pay1_apply (v48 v54 v57 v58 : FVec Ideal S2048x256 .f32) (v60 v63 v67 v71 : Vec Ideal S1x256 .f32) (v75 : Vec Ideal S1x2048x256 .bf16)
    (t : Fin 2048) (w : Fin 256) :
    k0_pay1 v48 v54 k0_pay11 v57 v58 v60 v63 v67 v71 v75 (ix3 0 t w) =
      v75 (ix3 0 t w) * (v60 (ix2 0 w) * v54 (ix2 t w) + v63 (ix2 0 w) * v48 (ix2 t w)
        + v67 (ix2 0 w) * (if t.val = 2047 then v58 (ix2 t w) else v57 (ix2 t w)) + v71 (ix2 0 w)) := by
  unfold k0_pay1 k0_pay11
  pointwise
  rw [show (2047#32 : BitVec 32) = BitVec.ofNat 32 2047 from rfl, select_eq _ _ t.isLt (by omega)]

theorem pay9_apply (v42 v45 : Vec Ideal S1x2048x256 .bf16) (t : Fin 2048) (w : Fin 256) :
    k0_pay9 v42 v45 (ix2 t w) = v42 (ix3 0 t w) * v45 (ix3 0 t w) := by
  unfold k0_pay9
  pointwise
theorem pay10_apply (v42 v45 : Vec Ideal S1x2048x256 .bf16) (t : Fin 2048) (w : Fin 256) :
    k0_pay10 v42 v45 (ix2 t w) = if t.val = 0 then 0 else v42 (ix3 0 ⟨t.val - 1, by omega⟩ w) * v45 (ix3 0 ⟨t.val - 1, by omega⟩ w) := by
  unfold k0_pay10
  have e : ¬ t.val = 0 → dynamicRotate 0 1#32 none (k0_pay9 v42 v45) rotates_S2048x256_d0 (ix2 t w)
      = k0_pay9 v42 v45 (ix2 (⟨t.val - 1, by omega⟩ : Fin 2048) w) := fun h =>
    dynamicRotate_apply (s := S2048x256) _ _ _ _ _ _ fun b => by
      match b with
      | ⟨0, _⟩ => simp [ix2]; omega
      | ⟨1, _⟩ => simp [ix2]
  generalize dynamicRotate 0 1#32 none (k0_pay9 v42 v45) rotates_S2048x256_d0 = r at e ⊢
  pointwise
  rw [show (0#32 : BitVec 32) = BitVec.ofNat 32 0 from rfl, select_eq _ _ t.isLt (by omega)]
  by_cases h : t.val = 0
  · rw [if_pos h, if_pos h]
  · rw [if_neg h, if_neg h, e h, pay9_apply]
theorem pay12_apply (v42 v45 : Vec Ideal S1x2048x256 .bf16) (t : Fin 2048) (w : Fin 256) (h : ¬ t.val = 2047) :
    k0_pay12 v42 v45 (ix2 t w) = v42 (ix3 0 ⟨t.val + 1, by omega⟩ w) * v45 (ix3 0 ⟨t.val + 1, by omega⟩ w) := by
  unfold k0_pay12
  refine (dynamicRotate_apply (s := S2048x256) _ _ _ _ _ (ix2 (⟨t.val + 1, by omega⟩ : Fin 2048) w) fun b => ?_).trans (pay9_apply _ _ _ _)
  match b with
  | ⟨0, _⟩ => simp [ix2]; omega
  | ⟨1, _⟩ => simp [ix2]
theorem pay13_apply (t : Fin 2048) (w : Fin 256) : k0_pay13 (F := Ideal) (ix2 t w) = 0 := by
  unfold k0_pay13
  pointwise

variable (m : (ℓ : Loc nD τ sig) → Buf (Elt Ideal) ℓ) (c : Dev nD)

/-- Four runs of 512 rows, written one after another, read back. -/
theorem read_four (f : Fin 2048 → Fin 256 → EReal) (p0 p1 p2 p3 : S1x512x256.Idx → Elt Ideal .bf16)
    (h0 : ∀ (j : Fin 512) (w : Fin 256), p0 (ix3 0 j w) = f ⟨j.val, by omega⟩ w)
    (h1 : ∀ (j : Fin 512) (w : Fin 256), p1 (ix3 0 j w) = f ⟨512 + j.val, by omega⟩ w)
    (h2 : ∀ (j : Fin 512) (w : Fin 256), p2 (ix3 0 j w) = f ⟨1024 + j.val, by omega⟩ w)
    (h3 : ∀ (j : Fin 512) (w : Fin 256), p3 (ix3 0 j w) = f ⟨1536 + j.val, by omega⟩ w) (i : Fin 2048) (w : Fin 256) :
    View.read (Elt Ideal) VO0_8 (VO0_8.writes (Elt Ideal) VO0_8.junk
      [⟨Rect.unit ![0, 1536, 0] ![1, 512, 256] inb_S1x2048x256_S1x512x256_0_1536_0, p3⟩,
       ⟨Rect.unit ![0, 1024, 0] ![1, 512, 256] inb_S1x2048x256_S1x512x256_0_1024_0, p2⟩,
       ⟨Rect.unit ![0, 512, 0] ![1, 512, 256] inb_S1x2048x256_S1x512x256_0_512_0, p1⟩,
       ⟨Rect.unit ![0, 0, 0] ![1, 512, 256] inb_S1x2048x256_S1x512x256_0_0_0, p0⟩]) (ix3 0 i w) = f i w := by
  have key : ∀ (o : Nat) (x : S1x2048x256.Idx → Elt Ideal .bf16) (p : S1x512x256.Idx → Elt Ideal .bf16),
      VecWindow.put (s := S1x2048x256) x ![0, o, 0] ![1, 512, 256] p (ix3 0 i w)
        = if h : o ≤ i.val ∧ i.val < o + 512 then p (ix3 0 ⟨i.val - o, by omega⟩ w) else x (ix3 0 i w) := fun o x p => by
    unfold VecWindow.put
    by_cases h : o ≤ i.val ∧ i.val < o + 512
    · rw [dif_pos h, dif_pos (by
        intro a
        match a with
        | ⟨0, _⟩ => simp [ix3]
        | ⟨1, _⟩ => exact h
        | ⟨2, _⟩ => exact ⟨Nat.zero_le _, by have := w.isLt; simpa [ix3] using this⟩)]
      refine congrArg p (funext fun a => ?_)
      match a with | ⟨0, _⟩ => rfl | ⟨1, _⟩ => rfl | ⟨2, _⟩ => rfl
    · rw [dif_neg h, dif_neg fun h' => h (h' 1)]
  simp only [View.read_writes_cons_put _ _ _ _ _ rfl, key]
  by_cases a3 : 1536 ≤ i.val
  · rw [dif_pos ⟨a3, by omega⟩, h3]; congr 1; apply Fin.ext; simp; omega
  by_cases a2 : 1024 ≤ i.val
  · rw [dif_neg (by omega), dif_pos ⟨a2, by omega⟩, h2]; congr 1; apply Fin.ext; simp; omega
  by_cases a1 : 512 ≤ i.val
  · rw [dif_neg (by omega), dif_neg (by omega), dif_pos ⟨a1, by omega⟩, h1]; congr 1; apply Fin.ext; simp; omega
  · rw [dif_neg (by omega), dif_neg (by omega), dif_neg (by omega), dif_pos ⟨by omega, by omega⟩, h0]; rfl

/-- The scratch array after its two stores: the first half of the product over the channels, then the second. -/
theorem scratch_apply (t : Fin grid0.N) (x0 : Vec Ideal S1x2048x256 .bf16) (x6 : Vec Ideal S256x512 .bf16) (k : Fin 4096) (w : Fin 256) :
    kernelRun0_A.sl.v15 c (ms0_0 t) (hs0_0 t) (ms0_6 t) (hs0_6 t) scM0_0 x0 x6 (ix2 k w) =
      if h : k.val < 2048 then k0_pay3 x0 x6 (ix2 ⟨k.val, h⟩ w) else k0_pay4 x0 x6 (ix2 ⟨k.val - 2048, by omega⟩ w) := by
  have e0 : View.readAt (Elt Ideal) (ms0_0 t).view (Rect.unit ![0, 0, 0] S1x2048x256.size inb_S1x2048x256_S1x2048x256_0_0_0).toLoadRect
      ((hs0_0 t).unread x0) = x0 := (View.readAt_full _ _ _).trans ((hs0_0 t).read_unread x0)
  have e6 : View.readAt (Elt Ideal) (ms0_6 t).view (Rect.unit ![0, 0] S256x512.size inb_S256x512_S256x512_0_0).toLoadRect
      ((hs0_6 t).unread x6) = x6 := (View.readAt_full _ _ _).trans ((hs0_6 t).read_unread x6)
  have key : ∀ (o : Nat) (x : S4096x256.Idx → Elt Ideal .bf16) (p : S2048x256.Idx → Elt Ideal .bf16),
      VecWindow.put (s := S4096x256) x ![o, 0] S2048x256.size p (ix2 k w)
        = if h : o ≤ k.val ∧ k.val < o + 2048 then p (ix2 ⟨k.val - o, by omega⟩ w) else x (ix2 k w) := fun o x p => by
    unfold VecWindow.put
    by_cases h : o ≤ k.val ∧ k.val < o + 2048
    · rw [dif_pos h, dif_pos (by
        intro a
        match a with
        | ⟨0, _⟩ => exact h
        | ⟨1, _⟩ => exact ⟨Nat.zero_le _, by have := w.isLt; simpa [ix2] using this⟩)]
      refine congrArg p (funext fun a => ?_)
      match a with | ⟨0, _⟩ => rfl | ⟨1, _⟩ => rfl
    · rw [dif_neg h, dif_neg fun h' => h (h' 0)]
  unfold kernelRun0_A.sl.v15 kernelRun0_A.sl.HS0_2 View.readCov
  rw [View.readAt_full, e0, e6]
  simp only [View.read_writes_cons_put _ _ _ _ _ rfl, key]
  by_cases h : k.val < 2048
  · rw [dif_neg (by omega), dif_pos ⟨by omega, by omega⟩, dif_pos h]; rfl
  · rw [dif_pos ⟨by omega, by omega⟩, dif_neg h]

/-- A run of 512 rows of the second table. -/
theorem rows_apply (t : Fin grid0.N) (x7 : Vec Ideal S2048x4096 .bf16) (o : Nat) (inb) (i : Fin 512) (k : Fin 4096) (h : o + i.val < 2048) :
    View.readAt (Elt Ideal) (ms0_7 t).view (Rect.unit (s := S2048x4096) ![o, 0] S512x4096.size inb).toLoadRect ((hs0_7 t).unread x7) (ix2 i k)
      = x7 (ix2 ⟨o + i.val, h⟩ k) := by
  rw [View.readAt_unit _ _ _ rfl inb]
  unfold VecWindow.window
  rw [(hs0_7 t).read_unread x7]
  refine congrArg x7 (funext fun a => Fin.ext ?_)
  match a with
  | ⟨0, _⟩ => simp [Rect.unit, Rect.emb, ix2]
  | ⟨1, _⟩ => simp [Rect.unit, Rect.emb, ix2]

/-- One run of the Fourier branch's rows. -/
theorem run_apply (t : Fin grid0.N) (x0 : Vec Ideal S1x2048x256 .bf16) (x6 : Vec Ideal S256x512 .bf16) (x7 : Vec Ideal S2048x4096 .bf16)
    (o : Nat) (inb) (i : Fin 512) (w : Fin 256) (h : o + i.val < 2048) :
    k0_pay5 (View.readAt (Elt Ideal) (ms0_7 t).view (Rect.unit (s := S2048x4096) ![o, 0] S512x4096.size inb).toLoadRect ((hs0_7 t).unread x7))
      (kernelRun0_A.sl.v15 c (ms0_0 t) (hs0_0 t) (ms0_6 t) (hs0_6 t) scM0_0 x0 x6) (ix3 0 i w) =
      four (fun k d => x0 (ix3 0 k d)) (fun d e => x6 (ix2 d e)) (fun k => x7 (ix2 ⟨o + i.val, h⟩ k)) w := by
  rw [pay5_apply]
  simp only [rows_apply t x7 o inb i _ h, scratch_apply]
  refine (Fin.sum_univ_add (a := 2048) (b := 2048) _).trans ?_
  unfold four
  refine congrArg₂ (· + ·) (Finset.sum_congr rfl fun k _ => ?_) (Finset.sum_congr rfl fun k _ => ?_)
  · rw [dif_pos (show (Fin.castAdd 2048 k).val < 2048 from k.isLt), pay3_apply]; rfl
  · rw [dif_neg (show ¬ (Fin.natAdd 2048 k).val < 2048 by simp), pay4_apply]
    have e : (⟨(Fin.natAdd 2048 k).val - 2048, by simp⟩ : Fin 2048) = k := Fin.ext (by simp)
    simp only [e]; rfl

/-- The block of the Fourier branch that a grid point writes. -/
theorem block8 (t : Fin grid0.N) (i : Fin 2048) (w : Fin 256) :
    (outsAt0 m c t).1 (ix3 0 i w) = four (fun k d => iblk m c 0 t (ix3 0 k d)) (fun d e => iblk m c 6 t (ix2 d e))
      (fun k => iblk m c 7 t (ix2 i k)) w := by
  unfold outsAt0 out0_A_8 kernelRun0_A
  dsimp only
  refine read_four (fun i w => four (fun k d => iblk m c 0 t (ix3 0 k d)) (fun d e => iblk m c 6 t (ix2 d e))
    (fun k => iblk m c 7 t (ix2 i k)) w) _ _ _ _ (fun j w => ?_) (fun j w => ?_) (fun j w => ?_) (fun j w => ?_) i w
  · refine (run_apply c t _ _ _ 0 _ j w (by omega)).trans ?_
    simp only [Nat.zero_add]
  · exact run_apply c t _ _ _ 512 _ j w (by omega)
  · exact run_apply c t _ _ _ 1024 _ j w (by omega)
  · exact run_apply c t _ _ _ 1536 _ j w (by omega)

/-- The block of the convolution branch that a grid point writes. -/
theorem block9 (t : Fin grid0.N) (i : Fin 2048) (w : Fin 256) :
    (outsAt0 m c t).2 (ix3 0 i w) = conv (fun k => iblk m c 1 t (ix3 0 k w))
      (fun k => (fun a b : EReal => a * b) (iblk m c 2 t (ix3 0 k w)) (iblk m c 3 t (ix3 0 k w))) (fun k => iblk m c 4 t (ix2 k w)) (iblk m c 5 t (ix2 0 w)) i := by
  unfold outsAt0 out0_A_9 kernelRun0_A
  dsimp only
  have e : ∀ (o : Nat) (inb) (h : o < 3), View.readAt (Elt Ideal) (ms0_4 t).view (Rect.unit (s := S3x256) ![o, 0] S1x256.size inb).toLoadRect
      ((hs0_4 t).unread (iblk m c 4 t)) (ix2 0 w) = iblk m c 4 t (ix2 ⟨o, h⟩ w) := fun o inb h => by
    rw [View.readAt_unit _ _ _ rfl inb]
    unfold VecWindow.window
    rw [(hs0_4 t).read_unread]
    refine congrArg (iblk m c 4 t) (funext fun a => Fin.ext ?_)
    match a with
    | ⟨0, _⟩ => simp [Rect.unit, Rect.emb, ix2]
    | ⟨1, _⟩ => simp [Rect.unit, Rect.emb, ix2]
  have e1 : View.readAt (Elt Ideal) (ms0_1 t).view (Rect.unit ![0, 0, 0] S1x2048x256.size inb_S1x2048x256_S1x2048x256_0_0_0).toLoadRect
      ((hs0_1 t).unread (iblk m c 1 t)) = iblk m c 1 t := (View.readAt_full _ _ _).trans ((hs0_1 t).read_unread _)
  have e2 : View.readAt (Elt Ideal) (ms0_2 t).view (Rect.unit ![0, 0, 0] S1x2048x256.size inb_S1x2048x256_S1x2048x256_0_0_0).toLoadRect
      ((hs0_2 t).unread (iblk m c 2 t)) = iblk m c 2 t := (View.readAt_full _ _ _).trans ((hs0_2 t).read_unread _)
  have e3 : View.readAt (Elt Ideal) (ms0_3 t).view (Rect.unit ![0, 0, 0] S1x2048x256.size inb_S1x2048x256_S1x2048x256_0_0_0).toLoadRect
      ((hs0_3 t).unread (iblk m c 3 t)) = iblk m c 3 t := (View.readAt_full _ _ _).trans ((hs0_3 t).read_unread _)
  have e5 : View.readAt (Elt Ideal) (ms0_5 t).view (Rect.unit ![0, 0] S1x256.size inb_S1x256_S1x256_0_0).toLoadRect
      ((hs0_5 t).unread (iblk m c 5 t)) = iblk m c 5 t := (View.readAt_full _ _ _).trans ((hs0_5 t).read_unread _)
  refine (congrFun (View.read_writes_full (s := S1x2048x256) VO0_9 _ _ _ _) _).trans ((pay1_apply _ _ _ _ _ _ _ _ _ i w).trans ?_)
  unfold kernelRun0_A.sl.r kernelRun0_A.sl.r_1 kernelRun0_A.sl.r_2
  rw [e1, e2, e3, e5, e 0 _ (by omega), e 1 _ (by omega), e 2 _ (by omega), pay9_apply, pay10_apply, pay13_apply]
  unfold conv
  by_cases h : i.val = 2047
  · simp only [h, if_true, dif_pos]; rfl
  · rw [if_neg h, dif_neg h, pay12_apply _ _ _ _ h]; rfl

/-- The two results at every index of their arrays, from the arguments. -/
def result8 (i : S8x2048x256.Idx) : EReal :=
  four (fun k d => m ((c : Thread nD τ).loc main_arg0) (ix3 (i 0) k d)) (fun d e => m ((c : Thread nD τ).loc main_arg6) (ix2 d e))
    (fun k => m ((c : Thread nD τ).loc main_arg7) (ix2 (i 1) k)) (i 2)
def result9 (i : S8x2048x256.Idx) : EReal :=
  conv (fun k => m ((c : Thread nD τ).loc main_arg1) (ix3 (i 0) k (i 2)))
    (fun k => (fun a b : EReal => a * b) (m ((c : Thread nD τ).loc main_arg2) (ix3 (i 0) k (i 2))) (m ((c : Thread nD τ).loc main_arg3) (ix3 (i 0) k (i 2))))
    (fun k => m ((c : Thread nD τ).loc main_arg4) (ix2 k (i 2))) (m ((c : Thread nD τ).loc main_arg5) (ix1 (i 2))) (i 1)

/-- Where the index maps place the blocks of a grid point. -/
theorem index0 : ∀ t : Fin grid0.N, win0_0.index t 0 = t.val ∧ win0_0.index t 1 = 0 ∧ win0_0.index t 2 = 0 := by decide +kernel
theorem index1 : ∀ t : Fin grid0.N, win0_1.index t 0 = t.val ∧ win0_1.index t 1 = 0 ∧ win0_1.index t 2 = 0 := by decide +kernel
theorem index2 : ∀ t : Fin grid0.N, win0_2.index t 0 = t.val ∧ win0_2.index t 1 = 0 ∧ win0_2.index t 2 = 0 := by decide +kernel
theorem index3 : ∀ t : Fin grid0.N, win0_3.index t 0 = t.val ∧ win0_3.index t 1 = 0 ∧ win0_3.index t 2 = 0 := by decide +kernel
theorem index8 : ∀ t : Fin grid0.N, win0_8.index t 0 = t.val ∧ win0_8.index t 1 = 0 ∧ win0_8.index t 2 = 0 := by decide +kernel
theorem index9 : ∀ t : Fin grid0.N, win0_9.index t 0 = t.val ∧ win0_9.index t 1 = 0 ∧ win0_9.index t 2 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel

/-- Where an index of a result's block lies in the array. -/
theorem emb8 (t : Fin grid0.N) (i : Fin 2048) (j : Fin 256) :
    (win0_8.blk t).view.emb (ix3 (0 : Fin 1) i j) = ix3 (⟨t.val, t.isLt⟩ : Fin 8) i j := by
  have h := index8 t
  blk_ext [h]
theorem emb9 (t : Fin grid0.N) (i : Fin 2048) (j : Fin 256) :
    (win0_9.blk t).view.emb (ix3 (0 : Fin 1) i j) = ix3 (⟨t.val, t.isLt⟩ : Fin 8) i j := by
  have h := index9 t
  blk_ext [h]

/-- The blocks read from the arguments, at an index. -/
theorem read0 (t : Fin grid0.N) (i : Fin 2048) (j : Fin 256) :
    iblk m c 0 t (ix3 (0 : Fin 1) i j) = m ((c : Thread nD τ).loc main_arg0) (ix3 (⟨t.val, t.isLt⟩ : Fin 8) i j) := by
  have h := index0 t
  blk_ext [iblk, V, h]
theorem read1 (t : Fin grid0.N) (i : Fin 2048) (j : Fin 256) :
    iblk m c 1 t (ix3 (0 : Fin 1) i j) = m ((c : Thread nD τ).loc main_arg1) (ix3 (⟨t.val, t.isLt⟩ : Fin 8) i j) := by
  have h := index1 t
  blk_ext [iblk, V, h]
theorem read2 (t : Fin grid0.N) (i : Fin 2048) (j : Fin 256) :
    iblk m c 2 t (ix3 (0 : Fin 1) i j) = m ((c : Thread nD τ).loc main_arg2) (ix3 (⟨t.val, t.isLt⟩ : Fin 8) i j) := by
  have h := index2 t
  blk_ext [iblk, V, h]
theorem read3 (t : Fin grid0.N) (i : Fin 2048) (j : Fin 256) :
    iblk m c 3 t (ix3 (0 : Fin 1) i j) = m ((c : Thread nD τ).loc main_arg3) (ix3 (⟨t.val, t.isLt⟩ : Fin 8) i j) := by
  have h := index3 t
  blk_ext [iblk, V, h]
theorem read4 (t : Fin grid0.N) (i : Fin 3) (j : Fin 256) :
    iblk m c 4 t (ix2 i j) = m ((c : Thread nD τ).loc main_arg4) (ix2 i j) := by
  have h := index4 t
  blk_ext [iblk, V, h]
theorem read6 (t : Fin grid0.N) (i : Fin 256) (j : Fin 512) :
    iblk m c 6 t (ix2 i j) = m ((c : Thread nD τ).loc main_arg6) (ix2 i j) := by
  have h := index6 t
  blk_ext [iblk, V, h]
theorem read7 (t : Fin grid0.N) (i : Fin 2048) (j : Fin 4096) :
    iblk m c 7 t (ix2 i j) = m ((c : Thread nD τ).loc main_arg7) (ix2 i j) := by
  have h := index7 t
  blk_ext [iblk, V, h]
theorem read5 (t : Fin grid0.N) (j : Fin 256) :
    iblk m c 5 t (ix2 (0 : Fin 1) j) = m ((c : Thread nD τ).loc main_arg5) (ix1 j) := by
  have h := index5 t
  blk_simp [iblk]; entry_read; pointwise
  blk_ext [h]

/-- An index of a block. -/
theorem idx_eq (y : S1x2048x256.Idx) : y = ix3 (0 : Fin 1) (y 1) (y 2) := by
  funext a; match a with | ⟨0, _⟩ => exact Subsingleton.elim (α := Fin 1) _ _ | ⟨1, _⟩ => rfl | ⟨2, _⟩ => rfl

/-- The two result arrays after the run. -/
theorem array8_eq : (dats m 0 c).arrAt 8 cfg0.N = result8 m c := by
  refine (dats m 0 c).arrAt_eq_of_covers 8 _ (by decide +kernel) fun t hf y => ?_
  blk_simp
  rw [after0_8]
  obtain ⟨i, j, rfl⟩ : ∃ (i : Fin 2048) (j : Fin 256), y = ix3 (0 : Fin 1) i j := ⟨_, _, idx_eq y⟩
  rw [emb8]
  refine (block8 m c t i j).trans ?_
  simp only [read0, read6, read7]
  rfl
theorem array9_eq : (dats m 0 c).arrAt 9 cfg0.N = result9 m c := by
  refine (dats m 0 c).arrAt_eq_of_covers 9 _ (by decide +kernel) fun t hf y => ?_
  blk_simp
  rw [after0_9]
  obtain ⟨i, j, rfl⟩ : ∃ (i : Fin 2048) (j : Fin 256), y = ix3 (0 : Fin 1) i j := ⟨_, _, idx_eq y⟩
  rw [emb9]
  refine (block9 m c t i j).trans ?_
  simp only [read1, read2, read3, read4, read5]
  rfl

end Kernel

section Reference
open Cert.Reference12Ideal Cert.Reference12Ideal.Gen Cert.Reference12Ideal.Read

variable (uf bg cg uc : (⟨S8x2048x256, .bf16⟩ : BufTy).Contents (Elt Ideal)) (cw : (⟨S3x256, .f32⟩ : BufTy).Contents (Elt Ideal))
  (cb : (⟨S256, .f32⟩ : BufTy).Contents (Elt Ideal)) (ch : (⟨S256x512, .bf16⟩ : BufTy).Contents (Elt Ideal))
  (ps : (⟨S2048x4096, .bf16⟩ : BufTy).Contents (Elt Ideal))

/-- The reference's Fourier branch at an index. -/
theorem four_apply (b : Fin 8) (t : Fin 2048) (w : Fin 256) :
    val_main_v43 (F := Ideal) uf ch ps (ix3 b t w) =
      four (fun k d => uf (ix3 b k d)) (fun d e => ch (ix2 d e)) (fun k => ps (ix2 t k)) w := by
  unfold four
  have e5 (k : Fin 2048) : val_main_v5 (F := Ideal) uf ch (ix3 b k w) = ∑ d : Fin 256, uf (ix3 b k d) * ch (ix2 d ⟨w.val, by omega⟩) := by
    unfold val_main_v5 val_main_v4 val_main_v1 val_main_v0
    pointwise
  have e10 (k : Fin 2048) : val_main_v10 (F := Ideal) uf ch (ix3 b k w) = ∑ d : Fin 256, uf (ix3 b k d) * ch (ix2 d ⟨256 + w.val, by omega⟩) := by
    unfold val_main_v10 val_main_v9 val_main_v1 val_main_v0
    pointwise
  unfold val_main_v43 val_main_v13 val_main_v12 val_main_v11 val_main_v8 val_main_v7 val_main_v6 val_main_v3 val_main_v2
  generalize val_main_v5 (F := Ideal) uf ch = y at e5 ⊢
  generalize val_main_v10 (F := Ideal) uf ch = z at e10 ⊢
  pointwise
  simp only [e5, e10]
  exact congrArg₂ (· + ·) (Finset.sum_congr rfl fun k _ => mul_comm _ _) (Finset.sum_congr rfl fun k _ => mul_comm _ _)

/-- The padded product of the convolution branch, inside and at its two ends. -/
theorem pad_apply (b : Fin 8) (s : Fin 2050) (w : Fin 256) :
    val_main_v18 (F := Ideal) cg uc (ix3 b s w) =
      if h : 1 ≤ s.val ∧ s.val ≤ 2048 then cg (ix3 b ⟨s.val - 1, by omega⟩ w) * uc (ix3 b ⟨s.val - 1, by omega⟩ w) else 0 := by
  unfold val_main_v18 val_main_v17 val_main_v16 val_main_v15 val_main_call0_v0 val_main_c
  pointwise
  by_cases h : 1 ≤ s.val ∧ s.val ≤ 2048
  · rw [dif_pos ⟨h.1, by omega⟩, dif_pos h]
  · rw [dif_neg (by omega), dif_neg h]
    exact (congrArg (fun n : ℤ => ((n : ℝ) : EReal)) (by decide : (0#32 : BitVec 32).toInt = 0)).trans (by simp)

/-- The reference's convolution branch at an index. -/
theorem conv_apply (b : Fin 8) (t : Fin 2048) (w : Fin 256) :
    val_main_v44 (F := Ideal) bg cg uc cw cb (ix3 b t w) =
      conv (fun k => bg (ix3 b k w)) (fun k => (fun a b : EReal => a * b) (cg (ix3 b k w)) (uc (ix3 b k w))) (fun k => cw (ix2 k w)) (cb (ix1 w)) t := by
  have e := pad_apply cg uc b
  unfold val_main_v44 val_main_v42 val_main_v41 val_main_v40 val_main_v39 val_main_v38 val_main_v37 val_main_v36 val_main_v35 val_main_v34
    val_main_v33 val_main_v32 val_main_v31 val_main_v30 val_main_v29 val_main_v28 val_main_v27 val_main_v26 val_main_v25 val_main_v24
    val_main_v23 val_main_v22 val_main_v21 val_main_v20 val_main_v19 val_main_v14
  generalize val_main_v18 (F := Ideal) cg uc = z at e ⊢
  pointwise
  simp only [e]
  have e0 : (if h : 1 ≤ t.val ∧ t.val ≤ 2048 then cg (ix3 b ⟨t.val - 1, by omega⟩ w) * uc (ix3 b ⟨t.val - 1, by omega⟩ w) else (0 : EReal))
      = if t.val = 0 then 0 else cg (ix3 b ⟨t.val - 1, by omega⟩ w) * uc (ix3 b ⟨t.val - 1, by omega⟩ w) := by
    by_cases h : t.val = 0
    · rw [dif_neg (by omega), if_pos h]
    · rw [dif_pos ⟨by omega, by omega⟩, if_neg h]
  have i1 : (⟨1 + t.val - 1, by omega⟩ : Fin 2048) = t := Fin.ext (by simp)
  unfold conv
  rw [e0, dif_pos ⟨by omega, by omega⟩, i1]
  by_cases h : t.val = 2047
  · rw [dif_neg (by omega), dif_pos h]
  · have i2 : (⟨2 + t.val - 1, by omega⟩ : Fin 2048) = ⟨t.val + 1, by omega⟩ := Fin.ext (by simp; omega)
    rw [dif_pos ⟨by omega, by omega⟩, dif_neg h, i2]

end Reference

/-- From memories that agree on the arguments the two branches and their reference end with equal results. -/
theorem algebraic : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => result8 m c, fun c => result9 m c, ?_, ?_⟩
  · refine (θ_run _ _ _).mono (fun r h c => ?_) (Cert.Kernel12Ideal.Value.run_blocks m ρ)
    obtain ⟨h8, h9, hr⟩ := h c
    exact ⟨h8.trans (array8_eq m c), h9.trans (array9_eq m c), hr⟩
  · refine (θ_run _ _ _).mono (fun r h c => ?_) (Cert.Reference12Ideal.Value.run (F := Ideal) m' ρ')
    obtain ⟨h8, h9, hr⟩ := h c
    obtain ⟨a0, a1, a2, a3, a4, a5, a6, a7⟩ := hagree c
    have hi (i : Cert.Reference12Ideal.S8x2048x256.Idx) : i = ix3 (i 0) (i 1) (i 2) := by
      funext a; match a with | ⟨0, _⟩ => rfl | ⟨1, _⟩ => rfl | ⟨2, _⟩ => rfl
    refine ⟨h8.trans ?_, h9.trans ?_, hr⟩
    · rw [Reference12Ideal.Read.val_main_v43_eq, a0, a6, a7]
      funext i
      exact (congrArg _ (hi i)).trans (four_apply _ _ _ (i 0) (i 1) (i 2))
    · rw [Reference12Ideal.Read.val_main_v44_eq, a1, a2, a3, a4, a5]
      funext i
      exact (congrArg _ (hi i)).trans (conv_apply _ _ _ _ _ (i 0) (i 1) (i 2))

end Cert.FourConv

end
-- ==== Proof.lean ====
/- The certificate: each program runs, leaves its arguments unchanged and its semaphores at zero, the idealized
   kernels are the kernels, and the attention, the feed-forward network, the output projection and the input projection
   compute the same arrays as their references. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel5
public import proofs.«01_k».proof.Proof.Gen.Kernel3.Skeleton
public import proofs.«01_k».proof.Proof.Gen.Kernel5.Skeleton
public import proofs.«01_k».proof.Proof.Gen.Kernel3.Launch
public import proofs.«01_k».proof.Proof.Gen.Kernel5.Launch
public import proofs.«01_k».proof.Proof.Gen.Kernel3.Points
public import proofs.«01_k».proof.Proof.Gen.Kernel5.Points
public import proofs.«01_k».proof.Proof.Gen.Kernel3.Frame
public import proofs.«01_k».proof.Proof.Gen.Kernel5.Frame
public import proofs.«01_k».proof.Proof.Gen.Kernel3Ideal
public import proofs.«01_k».proof.Proof.Gen.Kernel5Ideal
public import proofs.«01_k».proof.Proof.Gen.Kernel3Ideal.Skeleton
public import proofs.«01_k».proof.Proof.Gen.Kernel5Ideal.Skeleton
public import proofs.«01_k».proof.Proof.Gen.Kernel3Ideal.Launch
public import proofs.«01_k».proof.Proof.Gen.Kernel5Ideal.Launch
public import proofs.«01_k».proof.Proof.Gen.Kernel3Ideal.Points
public import proofs.«01_k».proof.Proof.Gen.Kernel5Ideal.Points
public import proofs.«01_k».proof.Proof.Gen.Kernel3Ideal.Frame
public import proofs.«01_k».proof.Proof.Gen.Kernel5Ideal.Frame
public import proofs.«01_k».proof.Proof.Gen.Kernel3Ideal.Value
public import proofs.«01_k».proof.Proof.Gen.Kernel5Ideal.Value
public import proofs.«01_k».proof.Proof.Gen.Reference3Ideal
public import proofs.«01_k».proof.Proof.Gen.Reference5Ideal
public import proofs.«01_k».proof.Proof.Gen.Reference3Ideal.Run
public import proofs.«01_k».proof.Proof.Gen.Reference5Ideal.Run
public import proofs.«01_k».proof.Proof.Gen.Reference3Ideal.Read
public import proofs.«01_k».proof.Proof.Gen.Reference5Ideal.Read
public import proofs.«01_k».proof.Proof.Gen.Kernel4
public import proofs.«01_k».proof.Proof.Gen.Kernel6
public import proofs.«01_k».proof.Proof.Gen.Kernel4.Skeleton
public import proofs.«01_k».proof.Proof.Gen.Kernel6.Skeleton
public import proofs.«01_k».proof.Proof.Gen.Kernel4.Launch
public import proofs.«01_k».proof.Proof.Gen.Kernel6.Launch
public import proofs.«01_k».proof.Proof.Gen.Kernel4.Points
public import proofs.«01_k».proof.Proof.Gen.Kernel6.Points
public import proofs.«01_k».proof.Proof.Gen.Kernel4.Frame
public import proofs.«01_k».proof.Proof.Gen.Kernel6.Frame
public import proofs.«01_k».proof.Proof.Gen.Kernel4Ideal
public import proofs.«01_k».proof.Proof.Gen.Kernel6Ideal
public import proofs.«01_k».proof.Proof.Gen.Kernel4Ideal.Skeleton
public import proofs.«01_k».proof.Proof.Gen.Kernel6Ideal.Skeleton
public import proofs.«01_k».proof.Proof.Gen.Kernel4Ideal.Launch
public import proofs.«01_k».proof.Proof.Gen.Kernel6Ideal.Launch
public import proofs.«01_k».proof.Proof.Gen.Kernel4Ideal.Points
public import proofs.«01_k».proof.Proof.Gen.Kernel6Ideal.Points
public import proofs.«01_k».proof.Proof.Gen.Kernel4Ideal.Frame
public import proofs.«01_k».proof.Proof.Gen.Kernel6Ideal.Frame
public import proofs.«01_k».proof.Proof.Gen.Kernel4Ideal.Value
public import proofs.«01_k».proof.Proof.Gen.Kernel6Ideal.Value
public import proofs.«01_k».proof.Proof.Gen.Reference4Ideal
public import proofs.«01_k».proof.Proof.Gen.Reference6Ideal
public import proofs.«01_k».proof.Proof.Gen.Reference4Ideal.Run
public import proofs.«01_k».proof.Proof.Gen.Reference6Ideal.Run
public import proofs.«01_k».proof.Proof.Gen.Reference4Ideal.Read
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel11
public import proofs.«01_k».proof.Proof.Gen.Kernel12
public import proofs.«01_k».proof.Proof.Gen.Kernel10.Skeleton
public import proofs.«01_k».proof.Proof.Gen.Kernel11.Skeleton
public import proofs.«01_k».proof.Proof.Gen.Kernel12.Skeleton
public import proofs.«01_k».proof.Proof.Gen.Kernel10.Launch
public import proofs.«01_k».proof.Proof.Gen.Kernel11.Launch
public import proofs.«01_k».proof.Proof.Gen.Kernel12.Launch
public import proofs.«01_k».proof.Proof.Gen.Kernel10.Points
public import proofs.«01_k».proof.Proof.Gen.Kernel11.Points
public import proofs.«01_k».proof.Proof.Gen.Kernel12.Points
public import proofs.«01_k».proof.Proof.Gen.Kernel10.Frame
public import proofs.«01_k».proof.Proof.Gen.Kernel11.Frame
public import proofs.«01_k».proof.Proof.Gen.Kernel12.Frame
public import proofs.«01_k».proof.Proof.Gen.Kernel10Ideal
public import proofs.«01_k».proof.Proof.Gen.Kernel11Ideal
public import proofs.«01_k».proof.Proof.Gen.Kernel12Ideal
public import proofs.«01_k».proof.Proof.Gen.Kernel10Ideal.Skeleton
public import proofs.«01_k».proof.Proof.Gen.Kernel11Ideal.Skeleton
public import proofs.«01_k».proof.Proof.Gen.Kernel12Ideal.Skeleton
public import proofs.«01_k».proof.Proof.Gen.Kernel10Ideal.Launch
public import proofs.«01_k».proof.Proof.Gen.Kernel11Ideal.Launch
public import proofs.«01_k».proof.Proof.Gen.Kernel12Ideal.Launch
public import proofs.«01_k».proof.Proof.Gen.Kernel10Ideal.Points
public import proofs.«01_k».proof.Proof.Gen.Kernel11Ideal.Points
public import proofs.«01_k».proof.Proof.Gen.Kernel12Ideal.Points
public import proofs.«01_k».proof.Proof.Gen.Kernel10Ideal.Frame
public import proofs.«01_k».proof.Proof.Gen.Kernel11Ideal.Frame
public import proofs.«01_k».proof.Proof.Gen.Kernel12Ideal.Frame
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Reference10Ideal
public import proofs.«01_k».proof.Proof.Gen.Reference11Ideal
public import proofs.«01_k».proof.Proof.Gen.Reference12Ideal
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference10Ideal.Read
public import proofs.«01_k».proof.Proof.Gen.Reference11Ideal.Read
public import proofs.«01_k».proof.Proof.Gen.Reference12Ideal.Read
public import proofs.«01_k».proof.Proof.KernelFrame
public import proofs.«01_k».proof.Proof.KernelIdealFrame
public import proofs.«01_k».proof.Proof.GlaAlgebraic
public import proofs.«01_k».proof.Proof.FfnAlgebraic
public import proofs.«01_k».proof.Proof.OutProj
public import proofs.«01_k».proof.Proof.InProj
public import proofs.«01_k».proof.Proof.OutProjPos
public import proofs.«01_k».proof.Proof.InProjPos
public import proofs.«01_k».proof.Proof.FfnCtx
public import proofs.«01_k».proof.Proof.OutProjCtx
public import proofs.«01_k».proof.Proof.InProjCtx
public import proofs.«01_k».proof.Proof.InProjState
public import proofs.«01_k».proof.Proof.Modulation
public import proofs.«01_k».proof.Proof.FourConv
public import Idealize.ShloMosaic.Adequacy
public import Idealize.ShloMosaic.Init

@[expose] public section

noncomputable section

namespace Cert.Proof

open Idealize.ShloMosaic Idealize.SL.Sem

/-- The attention's reference runs, leaves its arguments unchanged and every semaphore counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward sublayer's reference runs, leaves its arguments unchanged and every semaphore counter at zero. -/
theorem reference2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output projection's reference runs, leaves its arguments unchanged and every semaphore counter at zero. -/
theorem reference3_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection's reference runs, leaves its arguments unchanged and every semaphore counter at zero. -/
theorem reference4_frame : Cert.quiescent_Reference4Ideal (hReference4Ideal := Cert.Reference4Ideal.Gen.facts) := fun m ρ _ =>
  (θ_run Cert.Reference4Ideal.defs _ _).mono (fun r h => ⟨fun c => (h c).2.2.2.2.2.2.2.2.2, sem_eq_zero_of_no_sems (by decide) r.2⟩)
    (Cert.Reference4Ideal.Value.run (F := Ideal) m ρ)

/-- The output projection's reference with the position embedding runs, leaves its arguments unchanged and every semaphore counter at zero. -/
theorem reference5_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The input projection's reference with the position embedding runs, leaves its arguments unchanged and every semaphore counter at zero. -/
theorem reference6_frame : Cert.quiescent_Reference6Ideal (hReference6Ideal := Cert.Reference6Ideal.Gen.facts) := fun m ρ _ =>
  (θ_run Cert.Reference6Ideal.defs _ _).mono (fun r h => ⟨fun c => (h c).2.2.2.2.2.2.2.2.2, sem_eq_zero_of_no_sems (by decide) r.2⟩)
    (Cert.Reference6Ideal.Value.run (F := Ideal) m ρ)

/-- The feed-forward sublayer's reference over the context runs, leaves its arguments unchanged and every semaphore counter at zero. -/
theorem reference7_frame : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The output projection's reference over the context runs, leaves its arguments unchanged and every semaphore counter at zero. -/
theorem reference8_frame : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The input projection's reference over the context runs, leaves its arguments unchanged and every semaphore counter at zero. -/
theorem reference9_frame : Cert.quiescent_Reference9Ideal (hReference9Ideal := Cert.Reference9Ideal.Gen.facts) := fun m ρ _ =>
  (θ_run Cert.Reference9Ideal.defs _ _).mono (fun r h => ⟨fun c => (h c).2.2.2.2.2.2.2.2.2, sem_eq_zero_of_no_sems (by decide) r.2⟩)
    (Cert.Reference9Ideal.Value.run (F := Ideal) m ρ)

/-- The reference of the context's last input projection runs, leaves its arguments unchanged and every semaphore counter at zero. -/
theorem reference10_frame : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The modulation's reference runs, leaves its arguments unchanged and every semaphore counter at zero. -/
theorem reference11_frame : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The Fourier and convolution branches' reference runs, leaves its arguments unchanged and every semaphore counter at zero. -/
theorem reference12_frame : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    fun m ρ _ => Cert.KernelFrame.frame m ρ, fun m ρ _ => Cert.KernelIdealFrame.frame m ρ, reference_frame,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    trivial, Cert.GlaAlgebraic.algebraic, trivial, Cert.FfnAlgebraic.algebraic, trivial, Cert.OutProj.algebraic, trivial, Cert.InProj.algebraic,
    trivial, Cert.OutProjPos.algebraic, trivial, Cert.InProjPos.algebraic,
    trivial, Cert.FfnCtx.algebraic, trivial, Cert.OutProjCtx.algebraic, trivial, Cert.InProjCtx.algebraic,
    trivial, Cert.InProjState.algebraic,
    trivial, Cert.Modulation.algebraic, trivial, Cert.FourConv.algebraic⟩

end Cert.Proof

end
